-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v22_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v59_0)) (v1 : (c : Dev Cert.Kernel6Ideal.nD) → Buf (Elt Ideal) ((c.tc : Thread Cert.Kernel6Ideal.nD Cert.Kernel6Ideal.τ).loc Cert.Kernel6Ideal.main_v59_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v59_0) = v0 c
          ∧ r.2.mem ((c.tc : Thread Cert.Kernel6Ideal.nD Cert.Kernel6Ideal.τ).loc Cert.Kernel6Ideal.main_v59_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v97) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8192x15360 : Shape := ⟨2, ![8192, 15360]⟩
abbrev S1x8x256 : Shape := ⟨3, ![1, 8, 256]⟩
abbrev S8x256 : Shape := ⟨2, ![8, 256]⟩
abbrev S8x1x256 : Shape := ⟨3, ![8, 1, 256]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8192x2048 : Shape := ⟨2, ![8192, 2048]⟩
abbrev S4x8x256x256 : Shape := ⟨4, ![4, 8, 256, 256]⟩
abbrev S128x1024 : Shape := ⟨2, ![128, 1024]⟩
abbrev S4x128x128 : Shape := ⟨3, ![4, 128, 128]⟩
abbrev S4x128x1 : Shape := ⟨3, ![4, 128, 1]⟩
abbrev S4x1x1 : Shape := ⟨3, ![4, 1, 1]⟩
abbrev S4x1x256 : Shape := ⟨3, ![4, 1, 256]⟩
abbrev S1x4x256x256 : Shape := ⟨4, ![1, 4, 256, 256]⟩
abbrev S3x128x1024 : Shape := ⟨3, ![3, 128, 1024]⟩
abbrev S128x256 : Shape := ⟨2, ![128, 256]⟩
abbrev S1x1x256x256 : Shape := ⟨4, ![1, 1, 256, 256]⟩
abbrev S256x256 : Shape := ⟨2, ![256, 256]⟩
abbrev S1x128x1 : Shape := ⟨3, ![1, 128, 1]⟩
abbrev S1x1x1 : Shape := ⟨3, ![1, 1, 1]⟩
abbrev S1x1 : Shape := ⟨2, ![1, 1]⟩
abbrev S1x1x256 : Shape := ⟨3, ![1, 1, 256]⟩
abbrev S1x256 : Shape := ⟨2, ![1, 256]⟩

abbrev nBuf : Space → Nat
  | .hbm => 80
  | .vmem => 23
  | .smem => 0
  | _ => 0

abbrev bufTy : (tb : Table) → Fin (tcTables nBuf tb) → BufTy
  | .hbm, ⟨0, _⟩ => ⟨S8192x15360, .bf16⟩
  | .hbm, ⟨1, _⟩ => ⟨S1x8x256, .f32⟩
  | .hbm, ⟨2, _⟩ => ⟨S8x256, .f32⟩
  | .hbm, ⟨3, _⟩ => ⟨S8x1x256, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .i1⟩
  | .hbm, ⟨18, _⟩ => ⟨S128x1, .f32⟩
  | .hbm, ⟨19, _⟩ => ⟨S1x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .i1⟩
  | .hbm, ⟨26, _⟩ => ⟨S128x1, .i1⟩
  | .hbm, ⟨27, _⟩ => ⟨S128x128, .i1⟩
  | .hbm, ⟨28, _⟩ => ⟨S128x128, .i1⟩
  | .hbm, ⟨29, _⟩ => ⟨S1x128, .i1⟩
  | .hbm, ⟨30, _⟩ => ⟨S128x128, .i1⟩
  | .hbm, ⟨31, _⟩ => ⟨S128x128, .i1⟩
  | .hbm, ⟨32, _⟩ => ⟨S8x1x1, .f32⟩
  | .hbm, ⟨33, _⟩ => ⟨S_, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S1x128x128, .f32⟩
  | .hbm, ⟨38, _⟩ => ⟨S8x128x128, .f32⟩
  | .hbm, ⟨39, _⟩ => ⟨S8x128x128, .f32⟩
  | .hbm, ⟨40, _⟩ => ⟨S8x128x128, .f32⟩
  | .hbm, ⟨41, _⟩ => ⟨S8x128x128, .f32⟩
  | .hbm, ⟨42, _⟩ => ⟨S_, .f32⟩
  | .hbm, ⟨43, _⟩ => ⟨S_, .f32⟩
  | .hbm, ⟨44, _⟩ => ⟨S8x128x128, .i1⟩
  | .hbm, ⟨45, _⟩ => ⟨S8x128x128, .f32⟩
  | .hbm, ⟨46, _⟩ => ⟨S8x128x128, .f32⟩
  | .hbm, ⟨47, _⟩ => ⟨S8x1, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S8x128, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S1x128, .i1⟩
  | .hbm, ⟨57, _⟩ => ⟨S8x1, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S8x128, .f32⟩
  | .hbm, ⟨63, _⟩ => ⟨S8x128, .f32⟩
  | .hbm, ⟨64, _⟩ => ⟨S8x128, .f32⟩
  | .hbm, ⟨65, _⟩ => ⟨S8x128, .f32⟩
  | .hbm, ⟨66, _⟩ => ⟨S_, .f32⟩
  | .hbm, ⟨67, _⟩ => ⟨S_, .f32⟩
  | .hbm, ⟨68, _⟩ => ⟨S8x128, .i1⟩
  | .hbm, ⟨69, _⟩ => ⟨S8x128, .f32⟩
  | .hbm, ⟨70, _⟩ => ⟨S8x128, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S8x128x1, .f32⟩
  | .hbm, ⟨76, _⟩ => ⟨S8x128x1, .f32⟩
  | .hbm, ⟨77, _⟩ => ⟨S8x1x1, .f32⟩
  | .hbm, ⟨78, _⟩ => ⟨S8192x2048, .bf16⟩
  | .hbm, ⟨79, _⟩ => ⟨S4x8x256x256, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S4x128x128, .f32⟩
  | .local _ .vmem, ⟨9, _⟩ => ⟨S4x128x128, .f32⟩
  | .local _ .vmem, ⟨10, _⟩ => ⟨S4x128x1, .f32⟩
  | .local _ .vmem, ⟨11, _⟩ => ⟨S4x128x1, .f32⟩
  | .local _ .vmem, ⟨12, _⟩ => ⟨S4x128x1, .f32⟩
  | .local _ .vmem, ⟨13, _⟩ => ⟨S4x128x1, .f32⟩
  | .local _ .vmem, ⟨14, _⟩ => ⟨S4x1x1, .f32⟩
  | .local _ .vmem, ⟨15, _⟩ => ⟨S4x1x1, .f32⟩
  | .local _ .vmem, ⟨16, _⟩ => ⟨S4x1x256, .f32⟩
  | .local _ .vmem, ⟨17, _⟩ => ⟨S4x1x256, .f32⟩
  | .local _ .vmem, ⟨18, _⟩ => ⟨S128x1024, .bf16⟩
  | .local _ .vmem, ⟨19, _⟩ => ⟨S128x1024, .bf16⟩
  | .local _ .vmem, ⟨20, _⟩ => ⟨S1x4x256x256, .f32⟩
  | .local _ .vmem, ⟨21, _⟩ => ⟨S1x4x256x256, .f32⟩
  | .local _ .vmem, ⟨22, _⟩ => ⟨S3x128x1024, .f32⟩
  | _, _ => ⟨S8192x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58_0 : Ref sig .tc := ⟨.hbm, 78, rfl⟩
abbrev main_v58_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8192x15360 : Shape := ⟨2, ![8192, 15360]⟩
abbrev S1x8x256 : Shape := ⟨3, ![1, 8, 256]⟩
abbrev S8192x2048 : Shape := ⟨2, ![8192, 2048]⟩
abbrev S8 : Shape := ⟨1, ![8]⟩
abbrev S_ : Shape := ⟨0, ![]⟩
abbrev S4x8x256x256 : Shape := ⟨4, ![4, 8, 256, 256]⟩
abbrev S4x16x128x8x256 : Shape := ⟨5, ![4, 16, 128, 8, 256]⟩
abbrev S16x4x128x8x256 : Shape := ⟨5, ![16, 4, 128, 8, 256]⟩
abbrev S1x4x128x8x256 : Shape := ⟨5, ![1, 4, 128, 8, 256]⟩
abbrev S4x128x8x256 : Shape := ⟨4, ![4, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S4x8x128x128 : Shape := ⟨4, ![4, 8, 128, 128]⟩
abbrev S1x8x128x128 : Shape := ⟨4, ![1, 8, 128, 128]⟩
abbrev S4x8x256x128 : Shape := ⟨4, ![4, 8, 256, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S4x2048x8x256 : Shape := ⟨4, ![4, 2048, 8, 256]⟩
abbrev S4x2048x8 : Shape := ⟨3, ![4, 2048, 8]⟩
abbrev S4x2048x8x1 : Shape := ⟨4, ![4, 2048, 8, 1]⟩
abbrev S8x256 : Shape := ⟨2, ![8, 256]⟩
abbrev S1x1x8x256 : Shape := ⟨4, ![1, 1, 8, 256]⟩
abbrev S4x2048x2048 : Shape := ⟨3, ![4, 2048, 2048]⟩

abbrev nBuf : Space → Nat
  | .hbm => 175
  | .vmem => 0
  | .smem => 0
  | _ => 0

abbrev hbmTy0_0 (i : Nat) : BufTy := match i % 128 with
  | 0 => ⟨S8192x15360, .bf16⟩
  | 1 => ⟨S1x8x256, .f32⟩
  | 2 => ⟨S8192x2048, .bf16⟩
  | 3 => ⟨S8192x2048, .f32⟩
  | 4 => ⟨S8192x2048, .bf16⟩
  | 5 => ⟨S8192x2048, .f32⟩
  | 6 => ⟨S8192x2048, .bf16⟩
  | 7 => ⟨S8192x2048, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S8, .f32⟩
  | 17 => ⟨S8, .f32⟩
  | 18 => ⟨S_, .f32⟩
  | 19 => ⟨S4x8x256x256, .f32⟩
  | 20 => ⟨S4x16x128x8x256, .f32⟩
  | 21 => ⟨S16x4x128x8x256, .f32⟩
  | 22 => ⟨S4x16x128x8x256, .f32⟩
  | 23 => ⟨S16x4x128x8x256, .f32⟩
  | 24 => ⟨S4x16x128x8x256, .f32⟩
  | 25 => ⟨S16x4x128x8x256, .f32⟩
  | 26 => ⟨S_, .f32⟩
  | 27 => ⟨S16x4x128x8x256, .f32⟩
  | 28 => ⟨S_, .i32⟩
  | 29 => ⟨S16x4x128x8x256, .f32⟩
  | 30 => ⟨S16x4x128x8x256, .f32⟩
  | 31 => ⟨S16x4x128x8x256, .f32⟩
  | 32 => ⟨S8, .f32⟩
  | 33 => ⟨S_, .i32⟩
  | 34 => ⟨S4x8x256x256, .f32⟩
  | 35 => ⟨S16x4x128x8x256, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x4x128x8x256, .f32⟩
  | 43 => ⟨S4x128x8x256, .f32⟩
  | 44 => ⟨S_, .i32⟩
  | 45 => ⟨S_, .i32⟩
  | 46 => ⟨S_, .i32⟩
  | 47 => ⟨S_, .i32⟩
  | 48 => ⟨S1x4x128x8x256, .f32⟩
  | 49 => ⟨S4x128x8x256, .f32⟩
  | 50 => ⟨S_, .i32⟩
  | 51 => ⟨S_, .i32⟩
  | 52 => ⟨S_, .i32⟩
  | 53 => ⟨S_, .i32⟩
  | 54 => ⟨S1x4x128x8x256, .f32⟩
  | 55 => ⟨S4x128x8x256, .f32⟩
  | 56 => ⟨S128, .f32⟩
  | 57 => ⟨S128x1, .f32⟩
  | 58 => ⟨S1x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .i1⟩
  | 65 => ⟨S8x1x1, .f32⟩
  | 66 => ⟨S_, .f32⟩
  | 67 => ⟨S_, .f32⟩
  | 68 => ⟨S128x128, .f32⟩
  | 69 => ⟨S128x128, .f32⟩
  | 70 => ⟨S1x128x128, .f32⟩
  | 71 => ⟨S8x128x128, .f32⟩
  | 72 => ⟨S8x128x128, .f32⟩
  | 73 => ⟨S8x128x128, .f32⟩
  | 74 => ⟨S8x128x128, .f32⟩
  | 75 => ⟨S_, .f32⟩
  | 76 => ⟨S_, .f32⟩
  | 77 => ⟨S8x128x128, .i1⟩
  | 78 => ⟨S8x128x128, .f32⟩
  | 79 => ⟨S8x128x128, .f32⟩
  | 80 => ⟨S4x8x128x128, .f32⟩
  | 81 => ⟨S1x8x128x128, .f32⟩
  | 82 => ⟨S4x8x128x128, .f32⟩
  | 83 => ⟨S4x8x128x128, .f32⟩
  | 84 => ⟨S4x8x256x128, .f32⟩
  | 85 => ⟨S4x128x8x256, .f32⟩
  | 86 => ⟨S1x8, .f32⟩
  | 87 => ⟨S128x1, .f32⟩
  | 88 => ⟨S_, .f32⟩
  | 89 => ⟨S128x1, .f32⟩
  | 90 => ⟨S128x1, .f32⟩
  | 91 => ⟨S128x8, .f32⟩
  | 92 => ⟨S128x8, .f32⟩
  | 93 => ⟨S128x8, .f32⟩
  | 94 => ⟨S128x8, .f32⟩
  | 95 => ⟨S4x8x256x128, .f32⟩
  | 96 => ⟨S4x128x8x256, .f32⟩
  | 97 => ⟨S1x128x8x1, .f32⟩
  | 98 => ⟨S4x128x8x256, .f32⟩
  | 99 => ⟨S4x128x8x256, .f32⟩
  | 100 => ⟨S1x8, .f32⟩
  | 101 => ⟨S128x1, .f32⟩
  | 102 => ⟨S_, .f32⟩
  | 103 => ⟨S128x1, .f32⟩
  | 104 => ⟨S128x1, .f32⟩
  | 105 => ⟨S128x8, .f32⟩
  | 106 => ⟨S128x8, .f32⟩
  | 107 => ⟨S128x8, .f32⟩
  | 108 => ⟨S128x8, .f32⟩
  | 109 => ⟨S_, .f32⟩
  | 110 => ⟨S8, .f32⟩
  | 111 => ⟨S8, .f32⟩
  | 112 => ⟨S8, .f32⟩
  | 113 => ⟨S1x8x1x1, .f32⟩
  | 114 => ⟨S4x8x256x256, .f32⟩
  | 115 => ⟨S4x8x256x256, .f32⟩
  | 116 => ⟨S1x128x8x1, .f32⟩
  | 117 => ⟨S4x128x8x256, .f32⟩
  | 118 => ⟨S4x128x8x256, .f32⟩
  | 119 => ⟨S4x8x256x256, .f32⟩
  | 120 => ⟨S4x8x256x256, .f32⟩
  | 121 => ⟨S4x128x8x256, .f32⟩
  | 122 => ⟨S1x4x128x8x256, .f32⟩
  | 123 => ⟨S_, .i32⟩
  | 124 => ⟨S_, .i32⟩
  | 125 => ⟨S_, .i32⟩
  | 126 => ⟨S_, .i32⟩
  | 127 => ⟨S16x4x128x8x256, .f32⟩
  | _ => ⟨S8192x15360, .bf16⟩

abbrev hbmTy0_1 (i : Nat) : BufTy := match i % 128 with
  | 0 => ⟨S_, .i32⟩
  | 1 => ⟨S_, .i32⟩
  | 2 => ⟨S4x16x128x8x256, .f32⟩
  | 3 => ⟨S4x2048x8x256, .f32⟩
  | 4 => ⟨S_, .f32⟩
  | 5 => ⟨S4x2048x8, .f32⟩
  | 6 => ⟨S4x2048x8x1, .f32⟩
  | 7 => ⟨S_, .f32⟩
  | 8 => ⟨S4x2048x8x1, .f32⟩
  | 9 => ⟨S4x2048x8x1, .f32⟩
  | 10 => ⟨S4x2048x8x256, .f32⟩
  | 11 => ⟨S4x2048x8x256, .f32⟩
  | 12 => ⟨S4x2048x8x256, .f32⟩
  | 13 => ⟨S_, .f32⟩
  | 14 => ⟨S4x2048x8, .f32⟩
  | 15 => ⟨S4x2048x8x1, .f32⟩
  | 16 => ⟨S_, .f32⟩
  | 17 => ⟨S4x2048x8x1, .f32⟩
  | 18 => ⟨S4x2048x8x1, .f32⟩
  | 19 => ⟨S4x2048x8x256, .f32⟩
  | 20 => ⟨S4x2048x8x256, .f32⟩
  | 21 => ⟨S_, .f32⟩
  | 22 => ⟨S4x2048x8x1, .f32⟩
  | 23 => ⟨S4x2048x8x1, .f32⟩
  | 24 => ⟨S4x2048x8x1, .f32⟩
  | 25 => ⟨S4x2048x8x256, .f32⟩
  | 26 => ⟨S4x2048x8x256, .f32⟩
  | 27 => ⟨S8x256, .f32⟩
  | 28 => ⟨S1x1x8x256, .f32⟩
  | 29 => ⟨S4x2048x8x256, .f32⟩
  | 30 => ⟨S4x2048x8x256, .f32⟩
  | 31 => ⟨S4x2048x2048, .f32⟩
  | 32 => ⟨S8192x2048, .bf16⟩
  | 33 => ⟨S8192x2048, .f32⟩
  | 34 => ⟨S4x2048x2048, .f32⟩
  | 35 => ⟨S4x2048x2048, .f32⟩
  | 36 => ⟨S4x2048x2048, .f32⟩
  | 37 => ⟨S_, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S4x2048x2048, .f32⟩
  | 45 => ⟨S8192x2048, .f32⟩
  | 46 => ⟨S8192x2048, .bf16⟩
  | _ => ⟨S8192x15360, .bf16⟩

abbrev hbmTy (i : Nat) : BufTy := match i / 128 with
  | 0 => hbmTy0_0 i
  | 1 => hbmTy0_1 i
  | _ => ⟨S8192x15360, .bf16⟩

abbrev bufTy : (tb : Table) → Fin (tcTables nBuf tb) → BufTy
  | .hbm, ⟨i, _⟩ => hbmTy i
  | _, _ => ⟨S8192x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_c : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev main_v22_5 : Ref sig .tc := ⟨.hbm, 34, rfl⟩
abbrev main_v22_6 : Ref sig .tc := ⟨.hbm, 35, rfl⟩
abbrev main_while0c_c_14 : Ref sig .tc := ⟨.hbm, 36, rfl⟩
abbrev main_while0c_v55 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v0 : Ref sig .tc := ⟨.hbm, 42, rfl⟩
abbrev main_while0b_v55 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v56 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v57 : Ref sig .tc := ⟨.hbm, 55, rfl⟩
abbrev main_while0b_v58 : Ref sig .tc := ⟨.hbm, 56, rfl⟩
abbrev main_while0b_v59 : Ref sig .tc := ⟨.hbm, 57, rfl⟩
abbrev main_while0b_v60 : Ref sig .tc := ⟨.hbm, 58, rfl⟩
abbrev main_while0b_v61 : Ref sig .tc := ⟨.hbm, 59, rfl⟩
abbrev main_while0b_v62 : Ref sig .tc := ⟨.hbm, 60, rfl⟩
abbrev main_while0b_v63 : Ref sig .tc := ⟨.hbm, 61, rfl⟩
abbrev main_while0b_cst_14 : Ref sig .tc := ⟨.hbm, 62, rfl⟩
abbrev main_while0b_v64 : Ref sig .tc := ⟨.hbm, 63, rfl⟩
abbrev main_while0b_v65 : Ref sig .tc := ⟨.hbm, 64, rfl⟩
abbrev main_while0b_v66 : Ref sig .tc := ⟨.hbm, 65, rfl⟩
abbrev main_while0b_cst_15 : Ref sig .tc := ⟨.hbm, 66, rfl⟩
abbrev main_while0b_call3_v0 : Ref sig .tc := ⟨.hbm, 67, rfl⟩
abbrev main_while0b_call3_v1 : Ref sig .tc := ⟨.hbm, 68, rfl⟩
abbrev main_while0b_v67 : Ref sig .tc := ⟨.hbm, 69, rfl⟩
abbrev main_while0b_v68 : Ref sig .tc := ⟨.hbm, 70, rfl⟩
abbrev main_while0b_v69 : Ref sig .tc := ⟨.hbm, 71, rfl⟩
abbrev main_while0b_v70 : Ref sig .tc := ⟨.hbm, 72, rfl⟩
abbrev main_while0b_v71 : Ref sig .tc := ⟨.hbm, 73, rfl⟩
abbrev main_while0b_v72 : Ref sig .tc := ⟨.hbm, 74, rfl⟩
abbrev main_while0b_cst_16 : Ref sig .tc := ⟨.hbm, 75, rfl⟩
abbrev main_while0b_call4_v0 : Ref sig .tc := ⟨.hbm, 76, rfl⟩
abbrev main_while0b_call4_v1 : Ref sig .tc := ⟨.hbm, 77, rfl⟩
abbrev main_while0b_call4_v2 : Ref sig .tc := ⟨.hbm, 78, rfl⟩
abbrev main_while0b_v73 : Ref sig .tc := ⟨.hbm, 79, rfl⟩
abbrev main_while0b_v74 : Ref sig .tc := ⟨.hbm, 80, rfl⟩
abbrev main_while0b_v75 : Ref sig .tc := ⟨.hbm, 81, rfl⟩
abbrev main_while0b_v76 : Ref sig .tc := ⟨.hbm, 82, rfl⟩
abbrev main_while0b_v77 : Ref sig .tc := ⟨.hbm, 83, rfl⟩
abbrev main_while0b_v78 : Ref sig .tc := ⟨.hbm, 84, rfl⟩
abbrev main_while0b_v79 : Ref sig .tc := ⟨.hbm, 85, rfl⟩
abbrev main_while0b_v80 : Ref sig .tc := ⟨.hbm, 86, rfl⟩
abbrev main_while0b_v81 : Ref sig .tc := ⟨.hbm, 87, rfl⟩
abbrev main_while0b_cst_17 : Ref sig .tc := ⟨.hbm, 88, rfl⟩
abbrev main_while0b_v82 : Ref sig .tc := ⟨.hbm, 89, rfl⟩
abbrev main_while0b_v83 : Ref sig .tc := ⟨.hbm, 90, rfl⟩
abbrev main_while0b_v84 : Ref sig .tc := ⟨.hbm, 91, rfl⟩
abbrev main_while0b_v85 : Ref sig .tc := ⟨.hbm, 92, rfl⟩
abbrev main_while0b_v86 : Ref sig .tc := ⟨.hbm, 93, rfl⟩
abbrev main_while0b_v87 : Ref sig .tc := ⟨.hbm, 94, rfl⟩
abbrev main_while0b_v88 : Ref sig .tc := ⟨.hbm, 95, rfl⟩
abbrev main_while0b_v89 : Ref sig .tc := ⟨.hbm, 96, rfl⟩
abbrev main_while0b_v90 : Ref sig .tc := ⟨.hbm, 97, rfl⟩
abbrev main_while0b_v91 : Ref sig .tc := ⟨.hbm, 98, rfl⟩
abbrev main_while0b_v92 : Ref sig .tc := ⟨.hbm, 99, rfl⟩
abbrev main_while0b_v93 : Ref sig .tc := ⟨.hbm, 100, rfl⟩
abbrev main_while0b_v94 : Ref sig .tc := ⟨.hbm, 101, rfl⟩
abbrev main_while0b_cst_18 : Ref sig .tc := ⟨.hbm, 102, rfl⟩
abbrev main_while0b_v95 : Ref sig .tc := ⟨.hbm, 103, rfl⟩
abbrev main_while0b_v96 : Ref sig .tc := ⟨.hbm, 104, rfl⟩
abbrev main_while0b_v97 : Ref sig .tc := ⟨.hbm, 105, rfl⟩
abbrev main_while0b_v98 : Ref sig .tc := ⟨.hbm, 106, rfl⟩
abbrev main_while0b_v99 : Ref sig .tc := ⟨.hbm, 107, rfl⟩
abbrev main_while0b_v100 : Ref sig .tc := ⟨.hbm, 108, rfl⟩
abbrev main_while0b_cst_19 : Ref sig .tc := ⟨.hbm, 109, rfl⟩
abbrev main_while0b_v101 : Ref sig .tc := ⟨.hbm, 110, rfl⟩
abbrev main_while0b_v102 : Ref sig .tc := ⟨.hbm, 111, rfl⟩
abbrev main_while0b_v103 : Ref sig .tc := ⟨.hbm, 112, rfl⟩
abbrev main_while0b_v104 : Ref sig .tc := ⟨.hbm, 113, rfl⟩
abbrev main_while0b_v105 : Ref sig .tc := ⟨.hbm, 114, rfl⟩
abbrev main_while0b_v106 : Ref sig .tc := ⟨.hbm, 115, rfl⟩
abbrev main_while0b_v107 : Ref sig .tc := ⟨.hbm, 116, rfl⟩
abbrev main_while0b_v108 : Ref sig .tc := ⟨.hbm, 117, rfl⟩
abbrev main_while0b_v109 : Ref sig .tc := ⟨.hbm, 118, rfl⟩
abbrev main_while0b_v110 : Ref sig .tc := ⟨.hbm, 119, rfl⟩
abbrev main_while0b_v111 : Ref sig .tc := ⟨.hbm, 120, rfl⟩
abbrev main_while0b_v112 : Ref sig .tc := ⟨.hbm, 121, rfl⟩
abbrev main_while0b_call5_v0 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_v113 : Ref sig .tc := ⟨.hbm, 127, rfl⟩
abbrev main_while0b_c_20 : Ref sig .tc := ⟨.hbm, 128, rfl⟩
abbrev main_while0b_v114 : Ref sig .tc := ⟨.hbm, 129, rfl⟩
abbrev main_v23 : Ref sig .tc := ⟨.hbm, 130, rfl⟩
abbrev main_v24 : Ref sig .tc := ⟨.hbm, 131, rfl⟩
abbrev main_cst_3 : Ref sig .tc := ⟨.hbm, 132, rfl⟩
abbrev main_v25 : Ref sig .tc := ⟨.hbm, 133, rfl⟩
abbrev main_v26 : Ref sig .tc := ⟨.hbm, 134, rfl⟩
abbrev main_cst_4 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_cst_5 : Ref sig .tc := ⟨.hbm, 141, rfl⟩
abbrev main_v32 : Ref sig .tc := ⟨.hbm, 142, rfl⟩
abbrev main_v33 : Ref sig .tc := ⟨.hbm, 143, rfl⟩
abbrev main_cst_6 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_cst_7 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_call6_v0 : Ref sig .tc := ⟨.hbm, 163, rfl⟩
abbrev main_call6_v1 : Ref sig .tc := ⟨.hbm, 164, rfl⟩
abbrev main_call6_cst : Ref sig .tc := ⟨.hbm, 165, rfl⟩
abbrev main_call6_v2 : Ref sig .tc := ⟨.hbm, 166, rfl⟩
abbrev main_call6_v3 : Ref sig .tc := ⟨.hbm, 167, rfl⟩
abbrev main_call6_cst_0 : Ref sig .tc := ⟨.hbm, 168, rfl⟩
abbrev main_call6_v4 : Ref sig .tc := ⟨.hbm, 169, rfl⟩
abbrev main_call6_v5 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S4x2048x2048 : Shape := ⟨3, ![4, 2048, 2048]⟩
abbrev S8192x15360 : Shape := ⟨2, ![8192, 15360]⟩
abbrev S8192x2048 : Shape := ⟨2, ![8192, 2048]⟩
abbrev S8192x1024 : Shape := ⟨2, ![8192, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x2048 : Shape := ⟨2, ![2048, 2048]⟩
abbrev S1024x2048 : Shape := ⟨2, ![1024, 2048]⟩
abbrev S2048 : Shape := ⟨1, ![2048]⟩
abbrev S256x2048 : Shape := ⟨2, ![256, 2048]⟩
abbrev S256x1024 : Shape := ⟨2, ![256, 1024]⟩
abbrev S2048x512 : Shape := ⟨2, ![2048, 512]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 22
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S8192x15360, .bf16⟩
  | .hbm, ⟨2, _⟩ => ⟨S8192x2048, .bf16⟩
  | .hbm, ⟨3, _⟩ => ⟨S8192x1024, .bf16⟩
  | .hbm, ⟨4, _⟩ => ⟨S1x2048x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S1024x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x2048x2048 : Shape := ⟨3, ![4, 2048, 2048]⟩
abbrev S8192x15360 : Shape := ⟨2, ![8192, 15360]⟩
abbrev S8192x2048 : Shape := ⟨2, ![8192, 2048]⟩
abbrev S8192x1024 : Shape := ⟨2, ![8192, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x2048 : Shape := ⟨2, ![2048, 2048]⟩
abbrev S1024x2048 : Shape := ⟨2, ![1024, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x15360, .bf16⟩
  | .hbm, ⟨2, _⟩ => ⟨S8192x2048, .bf16⟩
  | .hbm, ⟨3, _⟩ => ⟨S8192x1024, .bf16⟩
  | .hbm, ⟨4, _⟩ => ⟨S1x2048x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S8192x2048, .f32⟩
  | .hbm, ⟨15, _⟩ => ⟨S2048x2048, .f32⟩
  | .hbm, ⟨16, _⟩ => ⟨S8192x2048, .f32⟩
  | .hbm, ⟨17, _⟩ => ⟨S8192x1024, .f32⟩
  | .hbm, ⟨18, _⟩ => ⟨S1024x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S2048x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel3.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S2048x512 : Shape := ⟨2, ![2048, 512]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S1x2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_34 : BitVec 32 := 0#32
  let v53 : BitVec 1 := Scalar.cmpi .ne v52 c0_i32_34
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048x15360 : Shape := ⟨3, ![1, 2048, 15360]⟩
abbrev S8192x2048 : Shape := ⟨2, ![8192, 2048]⟩
abbrev S2048 : Shape := ⟨1, ![2048]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S2048x15360 : Shape := ⟨2, ![2048, 15360]⟩
abbrev S8192x15360 : Shape := ⟨2, ![8192, 15360]⟩
abbrev S8192x1024 : Shape := ⟨2, ![8192, 1024]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩

abbrev nBuf : Space → Nat
  | .hbm => 25
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S1x2048x15360, .f32⟩
  | .hbm, ⟨2, _⟩ => ⟨S8192x2048, .f32⟩
  | .hbm, ⟨3, _⟩ => ⟨S2048, .i32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S2048, .f32⟩
  | .hbm, ⟨13, _⟩ => ⟨S2048x1, .f32⟩
  | .hbm, ⟨14, _⟩ => ⟨S1x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x15360, .f32⟩
  | .hbm, ⟨21, _⟩ => ⟨S2048x15360, .bf16⟩
  | .hbm, ⟨22, _⟩ => ⟨S8192x15360, .bf16⟩
  | .hbm, ⟨23, _⟩ => ⟨S8192x1024, .f32⟩
  | .hbm, ⟨24, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 30], ![false, false]⟩

def k0_cond2 (i : grid0.Coords) : BitVec 1 :=
  let arg1 : BitVec 32 := BitVec.ofNat 32 (i 1).val
  let c8_i32 : BitVec 32 := 8#32
  let v7 : BitVec 1 := Scalar.cmpi .slt arg1 c8_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32_5 : BitVec 32 := 8#32
  let v10 : BitVec 1 := Scalar.cmpi .sge arg1 c8_i32_5
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c18_i32 : BitVec 32 := 18#32
  let v13 : BitVec 1 := Scalar.cmpi .sge arg1 c18_i32
  let c20_i32 : BitVec 32 := 20#32
  let v14 : BitVec 1 := Scalar.cmpi .slt arg1 c20_i32
  let v15 : BitVec 1 := Scalar.andi v13 v14
  let v16 : BitVec 32 := Scalar.extui v15
  let c0_i32_7 : BitVec 32 := 0#32
  let v17 : BitVec 1 := Scalar.cmpi .ne v16 c0_i32_7
  v17

def k0_cond5 (i : grid0.Coords) : BitVec 1 :=
  let arg1 : BitVec 32 := BitVec.ofNat 32 (i 1).val
  let c20_i32_8 : BitVec 32 := 20#32
  let v18 : BitVec 1 := Scalar.cmpi .sge arg1 c20_i32_8
  let c22_i32 : BitVec 32 := 22#32
  let v19 : BitVec 1 := Scalar.cmpi .slt arg1 c22_i32
  let v20 : BitVec 1 := Scalar.andi v18 v19
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.subi arg1 c18_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x2048x2048 : Shape := ⟨3, ![4, 2048, 2048]⟩
abbrev S1x2048x15360 : Shape := ⟨3, ![1, 2048, 15360]⟩
abbrev S2048x15360 : Shape := ⟨2, ![2048, 15360]⟩
abbrev S4x2048x15360 : Shape := ⟨3, ![4, 2048, 15360]⟩
abbrev S2048 : Shape := ⟨1, ![2048]⟩
abbrev S4x2048x8x256 : Shape := ⟨4, ![4, 2048, 8, 256]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x8x128 : Shape := ⟨4, ![4, 2048, 8, 128]⟩
abbrev S4x2048x11264 : Shape := ⟨3, ![4, 2048, 11264]⟩
abbrev S8192x15360 : Shape := ⟨2, ![8192, 15360]⟩
abbrev S4x2048x1024 : Shape := ⟨3, ![4, 2048, 1024]⟩
abbrev S8192x1024 : Shape := ⟨2, ![8192, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x15360, .f32⟩
  | .hbm, ⟨2, _⟩ => ⟨S2048x15360, .f32⟩
  | .hbm, ⟨3, _⟩ => ⟨S4x2048x15360, .f32⟩
  | .hbm, ⟨4, _⟩ => ⟨S2048, .i32⟩
  | .hbm, ⟨5, _⟩ => ⟨S4x2048x2048, .f32⟩
  | .hbm, ⟨6, _⟩ => ⟨S4x2048x8x256, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S2048, .f32⟩
  | .hbm, ⟨16, _⟩ => ⟨S2048x1, .f32⟩
  | .hbm, ⟨17, _⟩ => ⟨S1x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S1x2048x1x128, .f32⟩
  | .hbm, ⟨23, _⟩ => ⟨S2048x128, .f32⟩
  | .hbm, ⟨24, _⟩ => ⟨S1x2048x1x128, .f32⟩
  | .hbm, ⟨25, _⟩ => ⟨S4x2048x8x128, .f32⟩
  | .hbm, ⟨26, _⟩ => ⟨S4x2048x8x128, .f32⟩
  | .hbm, ⟨27, _⟩ => ⟨S4x2048x8x128, .f32⟩
  | .hbm, ⟨28, _⟩ => ⟨S4x2048x8x128, .f32⟩
  | .hbm, ⟨29, _⟩ => ⟨S4x2048x8x128, .f32⟩
  | .hbm, ⟨30, _⟩ => ⟨S4x2048x8x128, .f32⟩
  | .hbm, ⟨31, _⟩ => ⟨S4x2048x8x128, .f32⟩
  | .hbm, ⟨32, _⟩ => ⟨S4x2048x8x128, .f32⟩
  | .hbm, ⟨33, _⟩ => ⟨S4x2048x8x128, .f32⟩
  | .hbm, ⟨34, _⟩ => ⟨S4x2048x8x128, .f32⟩
  | .hbm, ⟨35, _⟩ => ⟨S4x2048x8x128, .f32⟩
  | .hbm, ⟨36, _⟩ => ⟨S4x2048x8x128, .f32⟩
  | .hbm, ⟨37, _⟩ => ⟨S4x2048x8x256, .f32⟩
  | .hbm, ⟨38, _⟩ => ⟨S4x2048x2048, .f32⟩
  | .hbm, ⟨39, _⟩ => ⟨S4x2048x8x256, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S2048, .f32⟩
  | .hbm, ⟨49, _⟩ => ⟨S2048x1, .f32⟩
  | .hbm, ⟨50, _⟩ => ⟨S1x128, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S2048x128, .f32⟩
  | .hbm, ⟨55, _⟩ => ⟨S1x2048x1x128, .f32⟩
  | .hbm, ⟨56, _⟩ => ⟨S2048x128, .f32⟩
  | .hbm, ⟨57, _⟩ => ⟨S1x2048x1x128, .f32⟩
  | .hbm, ⟨58, _⟩ => ⟨S4x2048x8x128, .f32⟩
  | .hbm, ⟨59, _⟩ => ⟨S4x2048x8x128, .f32⟩
  | .hbm, ⟨60, _⟩ => ⟨S4x2048x8x128, .f32⟩
  | .hbm, ⟨61, _⟩ => ⟨S4x2048x8x128, .f32⟩
  | .hbm, ⟨62, _⟩ => ⟨S4x2048x8x128, .f32⟩
  | .hbm, ⟨63, _⟩ => ⟨S4x2048x8x128, .f32⟩
  | .hbm, ⟨64, _⟩ => ⟨S4x2048x8x128, .f32⟩
  | .hbm, ⟨65, _⟩ => ⟨S4x2048x8x128, .f32⟩
  | .hbm, ⟨66, _⟩ => ⟨S4x2048x8x128, .f32⟩
  | .hbm, ⟨67, _⟩ => ⟨S4x2048x8x128, .f32⟩
  | .hbm, ⟨68, _⟩ => ⟨S4x2048x8x128, .f32⟩
  | .hbm, ⟨69, _⟩ => ⟨S4x2048x8x128, .f32⟩
  | .hbm, ⟨70, _⟩ => ⟨S4x2048x8x256, .f32⟩
  | .hbm, ⟨71, _⟩ => ⟨S_, .f32⟩
  | .hbm, ⟨72, _⟩ => ⟨S4x2048x8x256, .f32⟩
  | .hbm, ⟨73, _⟩ => ⟨S4x2048x8x256, .f32⟩
  | .hbm, ⟨74, _⟩ => ⟨S4x2048x2048, .f32⟩
  | .hbm, ⟨75, _⟩ => ⟨S4x2048x2048, .f32⟩
  | .hbm, ⟨76, _⟩ => ⟨S4x2048x11264, .f32⟩
  | .hbm, ⟨77, _⟩ => ⟨S4x2048x15360, .f32⟩
  | .hbm, ⟨78, _⟩ => ⟨S8192x15360, .f32⟩
  | .hbm, ⟨79, _⟩ => ⟨S8192x15360, .bf16⟩
  | .hbm, ⟨80, _⟩ => ⟨S4x2048x1024, .f32⟩
  | .hbm, ⟨81, _⟩ => ⟨S8192x1024, .f32⟩
  | .hbm, ⟨82, _⟩ => ⟨S4x2048x1024, .f32⟩
  | .hbm, ⟨83, _⟩ => ⟨S8192x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_cst_3 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩

abbrev nD : Nat := 1
abbrev τ : Topo := Topo.v7x

variable {F : FTy → Type} [FloatOps F]
-- ==== Kernel5.lean ====
abbrev S32x8x2048 : Shape := ⟨3, ![32, 8, 2048]⟩
abbrev S1x2048x15360 : Shape := ⟨3, ![1, 2048, 15360]⟩
abbrev S256x2048 : Shape := ⟨2, ![256, 2048]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S128 : Shape := ⟨1, ![128]⟩
abbrev S256x1 : Shape := ⟨2, ![256, 1]⟩
abbrev S1x128 : Shape := ⟨2, ![1, 128]⟩
abbrev S256x128 : Shape := ⟨2, ![256, 128]⟩
abbrev S2048x15360 : Shape := ⟨2, ![2048, 15360]⟩
abbrev S256x15360 : Shape := ⟨2, ![256, 15360]⟩
abbrev S256x1024 : Shape := ⟨2, ![256, 1024]⟩
abbrev S2048x512 : Shape := ⟨2, ![2048, 512]⟩
abbrev S256x512 : Shape := ⟨2, ![256, 512]⟩

abbrev nBuf : Space → Nat
  | .hbm => 31
  | .vmem => 12
  | .smem => 0
  | _ => 0

abbrev bufTy : (tb : Table) → Fin (tcTables nBuf tb) → BufTy
  | .hbm, ⟨0, _⟩ => ⟨S32x8x2048, .f32⟩
  | .hbm, ⟨1, _⟩ => ⟨S1x2048x15360, .f32⟩
  | .hbm, ⟨2, _⟩ => ⟨S256x2048, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S32x8, .i32⟩
  | .hbm, ⟨9, _⟩ => ⟨S256, .i32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S256, .f32⟩
  | .hbm, ⟨19, _⟩ => ⟨S256x1, .f32⟩
  | .hbm, ⟨20, _⟩ => ⟨S1x128, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S2048x15360, .f32⟩
  | .hbm, ⟨27, _⟩ => ⟨S2048x15360, .bf16⟩
  | .hbm, ⟨28, _⟩ => ⟨S256x15360, .f32⟩
  | .hbm, ⟨29, _⟩ => ⟨S256x1024, .f32⟩
  | .hbm, ⟨30, _⟩ => ⟨S256x1024, .f32⟩
  | .local _ .vmem, ⟨0, _⟩ => ⟨S256x2048, .f32⟩
  | .local _ .vmem, ⟨1, _⟩ => ⟨S2048x512, .bf16⟩
  | .local _ .vmem, ⟨2, _⟩ => ⟨S2048x512, .bf16⟩
  | .local _ .vmem, ⟨3, _⟩ => ⟨S256x128, .f32⟩
  | .local _ .vmem, ⟨4, _⟩ => ⟨S256x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 30], ![false, false]⟩

def k0_cond2 (i : grid0.Coords) : BitVec 1 :=
  let arg1 : BitVec 32 := BitVec.ofNat 32 (i 1).val
  let c8_i32 : BitVec 32 := 8#32
  let v7 : BitVec 1 := Scalar.cmpi .slt arg1 c8_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32_5 : BitVec 32 := 8#32
  let v10 : BitVec 1 := Scalar.cmpi .sge arg1 c8_i32_5
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c18_i32 : BitVec 32 := 18#32
  let v13 : BitVec 1 := Scalar.cmpi .sge arg1 c18_i32
  let c20_i32 : BitVec 32 := 20#32
  let v14 : BitVec 1 := Scalar.cmpi .slt arg1 c20_i32
  let v15 : BitVec 1 := Scalar.andi v13 v14
  let v16 : BitVec 32 := Scalar.extui v15
  let c0_i32_7 : BitVec 32 := 0#32
  let v17 : BitVec 1 := Scalar.cmpi .ne v16 c0_i32_7
  v17

def k0_cond5 (i : grid0.Coords) : BitVec 1 :=
  let arg1 : BitVec 32 := BitVec.ofNat 32 (i 1).val
  let c20_i32_8 : BitVec 32 := 20#32
  let v18 : BitVec 1 := Scalar.cmpi .sge arg1 c20_i32_8
  let c22_i32 : BitVec 32 := 22#32
  let v19 : BitVec 1 := Scalar.cmpi .slt arg1 c22_i32
  let v20 : BitVec 1 := Scalar.andi v18 v19
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.subi arg1 c18_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S32x8x2048 : Shape := ⟨3, ![32, 8, 2048]⟩
abbrev S1x2048x15360 : Shape := ⟨3, ![1, 2048, 15360]⟩
abbrev S2048x15360 : Shape := ⟨2, ![2048, 15360]⟩
abbrev S32x8x15360 : Shape := ⟨3, ![32, 8, 15360]⟩
abbrev S8 : Shape := ⟨1, ![8]⟩
abbrev S_ : Shape := ⟨0, ![]⟩
abbrev S32x8x8x256 : Shape := ⟨4, ![32, 8, 8, 256]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S32x8x8x128 : Shape := ⟨4, ![32, 8, 8, 128]⟩
abbrev S32x8x11264 : Shape := ⟨3, ![32, 8, 11264]⟩
abbrev S256x15360 : Shape := ⟨2, ![256, 15360]⟩
abbrev S32x8x1024 : Shape := ⟨3, ![32, 8, 1024]⟩
abbrev S256x1024 : Shape := ⟨2, ![256, 1024]⟩

abbrev nBuf : Space → Nat
  | .hbm => 86
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048x15360, .f32⟩
  | .hbm, ⟨2, _⟩ => ⟨S2048x15360, .f32⟩
  | .hbm, ⟨3, _⟩ => ⟨S32x8x15360, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S32x8x2048, .f32⟩
  | .hbm, ⟨9, _⟩ => ⟨S32x8x8x256, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S8, .f32⟩
  | .hbm, ⟨19, _⟩ => ⟨S8x1, .f32⟩
  | .hbm, ⟨20, _⟩ => ⟨S1x128, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S8x128, .f32⟩
  | .hbm, ⟨25, _⟩ => ⟨S1x8x1x128, .f32⟩
  | .hbm, ⟨26, _⟩ => ⟨S8x128, .f32⟩
  | .hbm, ⟨27, _⟩ => ⟨S1x8x1x128, .f32⟩
  | .hbm, ⟨28, _⟩ => ⟨S32x8x8x128, .f32⟩
  | .hbm, ⟨29, _⟩ => ⟨S32x8x8x128, .f32⟩
  | .hbm, ⟨30, _⟩ => ⟨S32x8x8x128, .f32⟩
  | .hbm, ⟨31, _⟩ => ⟨S32x8x8x128, .f32⟩
  | .hbm, ⟨32, _⟩ => ⟨S32x8x8x128, .f32⟩
  | .hbm, ⟨33, _⟩ => ⟨S32x8x8x128, .f32⟩
  | .hbm, ⟨34, _⟩ => ⟨S32x8x8x128, .f32⟩
  | .hbm, ⟨35, _⟩ => ⟨S32x8x8x128, .f32⟩
  | .hbm, ⟨36, _⟩ => ⟨S32x8x8x128, .f32⟩
  | .hbm, ⟨37, _⟩ => ⟨S32x8x8x128, .f32⟩
  | .hbm, ⟨38, _⟩ => ⟨S32x8x8x128, .f32⟩
  | .hbm, ⟨39, _⟩ => ⟨S32x8x8x128, .f32⟩
  | .hbm, ⟨40, _⟩ => ⟨S32x8x8x256, .f32⟩
  | .hbm, ⟨41, _⟩ => ⟨S32x8x2048, .f32⟩
  | .hbm, ⟨42, _⟩ => ⟨S32x8x8x256, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S8, .f32⟩
  | .hbm, ⟨52, _⟩ => ⟨S8x1, .f32⟩
  | .hbm, ⟨53, _⟩ => ⟨S1x128, .f32⟩
  | .hbm, ⟨54, _⟩ => ⟨S8x128, .f32⟩
  | .hbm, ⟨55, _⟩ => ⟨S8x128, .f32⟩
  | .hbm, ⟨56, _⟩ => ⟨S8x128, .f32⟩
  | .hbm, ⟨57, _⟩ => ⟨S8x128, .f32⟩
  | .hbm, ⟨58, _⟩ => ⟨S1x8x1x128, .f32⟩
  | .hbm, ⟨59, _⟩ => ⟨S8x128, .f32⟩
  | .hbm, ⟨60, _⟩ => ⟨S1x8x1x128, .f32⟩
  | .hbm, ⟨61, _⟩ => ⟨S32x8x8x128, .f32⟩
  | .hbm, ⟨62, _⟩ => ⟨S32x8x8x128, .f32⟩
  | .hbm, ⟨63, _⟩ => ⟨S32x8x8x128, .f32⟩
  | .hbm, ⟨64, _⟩ => ⟨S32x8x8x128, .f32⟩
  | .hbm, ⟨65, _⟩ => ⟨S32x8x8x128, .f32⟩
  | .hbm, ⟨66, _⟩ => ⟨S32x8x8x128, .f32⟩
  | .hbm, ⟨67, _⟩ => ⟨S32x8x8x128, .f32⟩
  | .hbm, ⟨68, _⟩ => ⟨S32x8x8x128, .f32⟩
  | .hbm, ⟨69, _⟩ => ⟨S32x8x8x128, .f32⟩
  | .hbm, ⟨70, _⟩ => ⟨S32x8x8x128, .f32⟩
  | .hbm, ⟨71, _⟩ => ⟨S32x8x8x128, .f32⟩
  | .hbm, ⟨72, _⟩ => ⟨S32x8x8x128, .f32⟩
  | .hbm, ⟨73, _⟩ => ⟨S32x8x8x256, .f32⟩
  | .hbm, ⟨74, _⟩ => ⟨S_, .f32⟩
  | .hbm, ⟨75, _⟩ => ⟨S32x8x8x256, .f32⟩
  | .hbm, ⟨76, _⟩ => ⟨S32x8x8x256, .f32⟩
  | .hbm, ⟨77, _⟩ => ⟨S32x8x2048, .f32⟩
  | .hbm, ⟨78, _⟩ => ⟨S32x8x2048, .f32⟩
  | .hbm, ⟨79, _⟩ => ⟨S32x8x11264, .f32⟩
  | .hbm, ⟨80, _⟩ => ⟨S32x8x15360, .f32⟩
  | .hbm, ⟨81, _⟩ => ⟨S256x15360, .f32⟩
  | .hbm, ⟨82, _⟩ => ⟨S32x8x1024, .f32⟩
  | .hbm, ⟨83, _⟩ => ⟨S256x1024, .f32⟩
  | .hbm, ⟨84, _⟩ => ⟨S32x8x1024, .f32⟩
  | .hbm, ⟨85, _⟩ => ⟨S256x1024, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩

abbrev nD : Nat := 1
abbrev τ : Topo := Topo.v7x

variable {F : FTy → Type} [FloatOps F]
-- ==== Kernel6.lean ====
abbrev S256x15360 : Shape := ⟨2, ![256, 15360]⟩
abbrev S1x32x8x256x256 : Shape := ⟨5, ![1, 32, 8, 256, 256]⟩
abbrev S1x8x256 : Shape := ⟨3, ![1, 8, 256]⟩
abbrev S8x256 : Shape := ⟨2, ![8, 256]⟩
abbrev S8x1x256 : Shape := ⟨3, ![8, 1, 256]⟩
abbrev S32x8x256x256 : Shape := ⟨4, ![32, 8, 256, 256]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S256x2048 : Shape := ⟨2, ![256, 2048]⟩
abbrev S8x2048 : Shape := ⟨2, ![8, 2048]⟩
abbrev S1x8x256x256 : Shape := ⟨4, ![1, 8, 256, 256]⟩
abbrev S3x128x2048 : Shape := ⟨3, ![3, 128, 2048]⟩
abbrev S128x2048 : Shape := ⟨2, ![128, 2048]⟩
abbrev S1x128x2048 : Shape := ⟨3, ![1, 128, 2048]⟩
abbrev S1x8x2048 : Shape := ⟨3, ![1, 8, 2048]⟩
abbrev S128x256 : Shape := ⟨2, ![128, 256]⟩
abbrev S1x1x256x256 : Shape := ⟨4, ![1, 1, 256, 256]⟩
abbrev S256x256 : Shape := ⟨2, ![256, 256]⟩
abbrev S1x128x1 : Shape := ⟨3, ![1, 128, 1]⟩
abbrev S1x1x1 : Shape := ⟨3, ![1, 1, 1]⟩
abbrev S1x1 : Shape := ⟨2, ![1, 1]⟩
abbrev S1x1x256 : Shape := ⟨3, ![1, 1, 256]⟩
abbrev S1x256 : Shape := ⟨2, ![1, 256]⟩

abbrev nBuf : Space → Nat
  | .hbm => 82
  | .vmem => 20
  | .smem => 0
  | _ => 0

abbrev bufTy : (tb : Table) → Fin (tcTables nBuf tb) → BufTy
  | .hbm, ⟨0, _⟩ => ⟨S256x15360, .f32⟩
  | .hbm, ⟨1, _⟩ => ⟨S1x32x8x256x256, .f32⟩
  | .hbm, ⟨2, _⟩ => ⟨S1x8x256, .f32⟩
  | .hbm, ⟨3, _⟩ => ⟨S8x256, .f32⟩
  | .hbm, ⟨4, _⟩ => ⟨S8x1x256, .f32⟩
  | .hbm, ⟨5, _⟩ => ⟨S32x8x256x256, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .i1⟩
  | .hbm, ⟨20, _⟩ => ⟨S128x1, .f32⟩
  | .hbm, ⟨21, _⟩ => ⟨S1x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .i1⟩
  | .hbm, ⟨28, _⟩ => ⟨S128x1, .i1⟩
  | .hbm, ⟨29, _⟩ => ⟨S128x128, .i1⟩
  | .hbm, ⟨30, _⟩ => ⟨S128x128, .i1⟩
  | .hbm, ⟨31, _⟩ => ⟨S1x128, .i1⟩
  | .hbm, ⟨32, _⟩ => ⟨S128x128, .i1⟩
  | .hbm, ⟨33, _⟩ => ⟨S128x128, .i1⟩
  | .hbm, ⟨34, _⟩ => ⟨S8x1x1, .f32⟩
  | .hbm, ⟨35, _⟩ => ⟨S_, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S1x128x128, .f32⟩
  | .hbm, ⟨40, _⟩ => ⟨S8x128x128, .f32⟩
  | .hbm, ⟨41, _⟩ => ⟨S8x128x128, .f32⟩
  | .hbm, ⟨42, _⟩ => ⟨S8x128x128, .f32⟩
  | .hbm, ⟨43, _⟩ => ⟨S8x128x128, .f32⟩
  | .hbm, ⟨44, _⟩ => ⟨S_, .f32⟩
  | .hbm, ⟨45, _⟩ => ⟨S_, .f32⟩
  | .hbm, ⟨46, _⟩ => ⟨S8x128x128, .i1⟩
  | .hbm, ⟨47, _⟩ => ⟨S8x128x128, .f32⟩
  | .hbm, ⟨48, _⟩ => ⟨S8x128x128, .f32⟩
  | .hbm, ⟨49, _⟩ => ⟨S8x1, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S8x128, .f32⟩
  | .hbm, ⟨55, _⟩ => ⟨S8x128, .f32⟩
  | .hbm, ⟨56, _⟩ => ⟨S8x128, .f32⟩
  | .hbm, ⟨57, _⟩ => ⟨S8x128, .f32⟩
  | .hbm, ⟨58, _⟩ => ⟨S1x128, .i1⟩
  | .hbm, ⟨59, _⟩ => ⟨S8x1, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S8x128, .f32⟩
  | .hbm, ⟨65, _⟩ => ⟨S8x128, .f32⟩
  | .hbm, ⟨66, _⟩ => ⟨S8x128, .f32⟩
  | .hbm, ⟨67, _⟩ => ⟨S8x128, .f32⟩
  | .hbm, ⟨68, _⟩ => ⟨S_, .f32⟩
  | .hbm, ⟨69, _⟩ => ⟨S_, .f32⟩
  | .hbm, ⟨70, _⟩ => ⟨S8x128, .i1⟩
  | .hbm, ⟨71, _⟩ => ⟨S8x128, .f32⟩
  | .hbm, ⟨72, _⟩ => ⟨S8x128, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S8x128x1, .f32⟩
  | .hbm, ⟨78, _⟩ => ⟨S8x128x1, .f32⟩
  | .hbm, ⟨79, _⟩ => ⟨S8x1x1, .f32⟩
  | .hbm, ⟨80, _⟩ => ⟨S256x2048, .f32⟩
  | .hbm, ⟨81, _⟩ => ⟨S32x8x256x256, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S1x8x256x256, .f32⟩
  | .local _ .vmem, ⟨9, _⟩ => ⟨S1x8x256x256, .f32⟩
  | .local _ .vmem, ⟨10, _⟩ => ⟨S8x128x128, .f32⟩
  | .local _ .vmem, ⟨11, _⟩ => ⟨S8x128x1, .f32⟩
  | .local _ .vmem, ⟨12, _⟩ => ⟨S8x128x1, .f32⟩
  | .local _ .vmem, ⟨13, _⟩ => ⟨S8x1x1, .f32⟩
  | .local _ .vmem, ⟨14, _⟩ => ⟨S8x1x256, .f32⟩
  | .local _ .vmem, ⟨15, _⟩ => ⟨S8x2048, .f32⟩
  | .local _ .vmem, ⟨16, _⟩ => ⟨S8x2048, .f32⟩
  | .local _ .vmem, ⟨17, _⟩ => ⟨S1x8x256x256, .f32⟩
  | .local _ .vmem, ⟨18, _⟩ => ⟨S1x8x256x256, .f32⟩
  | .local _ .vmem, ⟨19, _⟩ => ⟨S3x128x2048, .f32⟩
  | _, _ => ⟨S256x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59_0 : Ref sig .tc := ⟨.hbm, 80, rfl⟩
abbrev main_v59_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1_i32_0 : BitVec 32 := 1#32
  let v2 : BitVec 32 := Scalar.addi c1_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x8x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference6Ideal.lean ====
abbrev S256x15360 : Shape := ⟨2, ![256, 15360]⟩
abbrev S1x32x8x256x256 : Shape := ⟨5, ![1, 32, 8, 256, 256]⟩
abbrev S1x8x256 : Shape := ⟨3, ![1, 8, 256]⟩
abbrev S256x2048 : Shape := ⟨2, ![256, 2048]⟩
abbrev S32x8x8x256 : Shape := ⟨4, ![32, 8, 8, 256]⟩
abbrev S32x8x256x256 : Shape := ⟨4, ![32, 8, 256, 256]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x1x1 : Shape := ⟨3, ![8, 1, 1]⟩
abbrev S1x8x8 : Shape := ⟨3, ![1, 8, 8]⟩
abbrev S8x8x8 : Shape := ⟨3, ![8, 8, 8]⟩
abbrev S32x8x8x8 : Shape := ⟨4, ![32, 8, 8, 8]⟩
abbrev S1x8x8x8 : Shape := ⟨4, ![1, 8, 8, 8]⟩
abbrev S32x8x256x8 : Shape := ⟨4, ![32, 8, 256, 8]⟩
abbrev S1x8x8x1 : Shape := ⟨4, ![1, 8, 8, 1]⟩
abbrev S1x8x1x1 : Shape := ⟨4, ![1, 8, 1, 1]⟩
abbrev S32x8x8 : Shape := ⟨3, ![32, 8, 8]⟩
abbrev S32x8x8x1 : Shape := ⟨4, ![32, 8, 8, 1]⟩
abbrev S8x256 : Shape := ⟨2, ![8, 256]⟩
abbrev S1x1x8x256 : Shape := ⟨4, ![1, 1, 8, 256]⟩
abbrev S32x8x2048 : Shape := ⟨3, ![32, 8, 2048]⟩

abbrev nBuf : Space → Nat
  | .hbm => 127
  | .vmem => 0
  | .smem => 0
  | _ => 0

abbrev bufTy : (tb : Table) → Fin (tcTables nBuf tb) → BufTy
  | .hbm, ⟨0, _⟩ => ⟨S256x15360, .f32⟩
  | .hbm, ⟨1, _⟩ => ⟨S1x32x8x256x256, .f32⟩
  | .hbm, ⟨2, _⟩ => ⟨S1x8x256, .f32⟩
  | .hbm, ⟨3, _⟩ => ⟨S256x2048, .f32⟩
  | .hbm, ⟨4, _⟩ => ⟨S32x8x8x256, .f32⟩
  | .hbm, ⟨5, _⟩ => ⟨S256x2048, .f32⟩
  | .hbm, ⟨6, _⟩ => ⟨S32x8x8x256, .f32⟩
  | .hbm, ⟨7, _⟩ => ⟨S256x2048, .f32⟩
  | .hbm, ⟨8, _⟩ => ⟨S32x8x8x256, .f32⟩
  | .hbm, ⟨9, _⟩ => ⟨S32x8x256x256, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8x1, .f32⟩
  | .hbm, ⟨22, _⟩ => ⟨S1x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S_, .f32⟩
  | .hbm, ⟨27, _⟩ => ⟨S8x8, .f32⟩
  | .hbm, ⟨28, _⟩ => ⟨S8x8, .i1⟩
  | .hbm, ⟨29, _⟩ => ⟨S8x1x1, .f32⟩
  | .hbm, ⟨30, _⟩ => ⟨S_, .f32⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S8x8x8, .f32⟩
  | .hbm, ⟨36, _⟩ => ⟨S8x8x8, .f32⟩
  | .hbm, ⟨37, _⟩ => ⟨S8x8x8, .f32⟩
  | .hbm, ⟨38, _⟩ => ⟨S8x8x8, .f32⟩
  | .hbm, ⟨39, _⟩ => ⟨S_, .f32⟩
  | .hbm, ⟨40, _⟩ => ⟨S_, .f32⟩
  | .hbm, ⟨41, _⟩ => ⟨S8x8x8, .i1⟩
  | .hbm, ⟨42, _⟩ => ⟨S8x8x8, .f32⟩
  | .hbm, ⟨43, _⟩ => ⟨S8x8x8, .f32⟩
  | .hbm, ⟨44, _⟩ => ⟨S32x8x8x8, .f32⟩
  | .hbm, ⟨45, _⟩ => ⟨S1x8x8x8, .f32⟩
  | .hbm, ⟨46, _⟩ => ⟨S32x8x8x8, .f32⟩
  | .hbm, ⟨47, _⟩ => ⟨S32x8x8x8, .f32⟩
  | .hbm, ⟨48, _⟩ => ⟨S32x8x256x8, .f32⟩
  | .hbm, ⟨49, _⟩ => ⟨S32x8x8x256, .f32⟩
  | .hbm, ⟨50, _⟩ => ⟨S1x8, .f32⟩
  | .hbm, ⟨51, _⟩ => ⟨S8x1, .f32⟩
  | .hbm, ⟨52, _⟩ => ⟨S_, .f32⟩
  | .hbm, ⟨53, _⟩ => ⟨S8x1, .f32⟩
  | .hbm, ⟨54, _⟩ => ⟨S8x1, .f32⟩
  | .hbm, ⟨55, _⟩ => ⟨S8x8, .f32⟩
  | .hbm, ⟨56, _⟩ => ⟨S8x8, .f32⟩
  | .hbm, ⟨57, _⟩ => ⟨S8x8, .f32⟩
  | .hbm, ⟨58, _⟩ => ⟨S8x8, .f32⟩
  | .hbm, ⟨59, _⟩ => ⟨S32x8x256x8, .f32⟩
  | .hbm, ⟨60, _⟩ => ⟨S32x8x8x256, .f32⟩
  | .hbm, ⟨61, _⟩ => ⟨S1x8x8x1, .f32⟩
  | .hbm, ⟨62, _⟩ => ⟨S32x8x8x256, .f32⟩
  | .hbm, ⟨63, _⟩ => ⟨S32x8x8x256, .f32⟩
  | .hbm, ⟨64, _⟩ => ⟨S1x8, .f32⟩
  | .hbm, ⟨65, _⟩ => ⟨S8x1, .f32⟩
  | .hbm, ⟨66, _⟩ => ⟨S_, .f32⟩
  | .hbm, ⟨67, _⟩ => ⟨S8x1, .f32⟩
  | .hbm, ⟨68, _⟩ => ⟨S8x1, .f32⟩
  | .hbm, ⟨69, _⟩ => ⟨S8x8, .f32⟩
  | .hbm, ⟨70, _⟩ => ⟨S8x8, .f32⟩
  | .hbm, ⟨71, _⟩ => ⟨S8x8, .f32⟩
  | .hbm, ⟨72, _⟩ => ⟨S8x8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S1x8x1x1, .f32⟩
  | .hbm, ⟨78, _⟩ => ⟨S32x8x256x256, .f32⟩
  | .hbm, ⟨79, _⟩ => ⟨S32x8x256x256, .f32⟩
  | .hbm, ⟨80, _⟩ => ⟨S1x8x8x1, .f32⟩
  | .hbm, ⟨81, _⟩ => ⟨S32x8x8x256, .f32⟩
  | .hbm, ⟨82, _⟩ => ⟨S32x8x8x256, .f32⟩
  | .hbm, ⟨83, _⟩ => ⟨S32x8x256x256, .f32⟩
  | .hbm, ⟨84, _⟩ => ⟨S32x8x256x256, .f32⟩
  | .hbm, ⟨85, _⟩ => ⟨S32x8x8x256, .f32⟩
  | .hbm, ⟨86, _⟩ => ⟨S_, .f32⟩
  | .hbm, ⟨87, _⟩ => ⟨S32x8x8, .f32⟩
  | .hbm, ⟨88, _⟩ => ⟨S32x8x8x1, .f32⟩
  | .hbm, ⟨89, _⟩ => ⟨S_, .f32⟩
  | .hbm, ⟨90, _⟩ => ⟨S32x8x8x1, .f32⟩
  | .hbm, ⟨91, _⟩ => ⟨S32x8x8x1, .f32⟩
  | .hbm, ⟨92, _⟩ => ⟨S32x8x8x256, .f32⟩
  | .hbm, ⟨93, _⟩ => ⟨S32x8x8x256, .f32⟩
  | .hbm, ⟨94, _⟩ => ⟨S32x8x8x256, .f32⟩
  | .hbm, ⟨95, _⟩ => ⟨S_, .f32⟩
  | .hbm, ⟨96, _⟩ => ⟨S32x8x8, .f32⟩
  | .hbm, ⟨97, _⟩ => ⟨S32x8x8x1, .f32⟩
  | .hbm, ⟨98, _⟩ => ⟨S_, .f32⟩
  | .hbm, ⟨99, _⟩ => ⟨S32x8x8x1, .f32⟩
  | .hbm, ⟨100, _⟩ => ⟨S32x8x8x1, .f32⟩
  | .hbm, ⟨101, _⟩ => ⟨S32x8x8x256, .f32⟩
  | .hbm, ⟨102, _⟩ => ⟨S32x8x8x256, .f32⟩
  | .hbm, ⟨103, _⟩ => ⟨S_, .f32⟩
  | .hbm, ⟨104, _⟩ => ⟨S32x8x8x1, .f32⟩
  | .hbm, ⟨105, _⟩ => ⟨S32x8x8x1, .f32⟩
  | .hbm, ⟨106, _⟩ => ⟨S32x8x8x1, .f32⟩
  | .hbm, ⟨107, _⟩ => ⟨S32x8x8x256, .f32⟩
  | .hbm, ⟨108, _⟩ => ⟨S32x8x8x256, .f32⟩
  | .hbm, ⟨109, _⟩ => ⟨S8x256, .f32⟩
  | .hbm, ⟨110, _⟩ => ⟨S1x1x8x256, .f32⟩
  | .hbm, ⟨111, _⟩ => ⟨S32x8x8x256, .f32⟩
  | .hbm, ⟨112, _⟩ => ⟨S32x8x8x256, .f32⟩
  | .hbm, ⟨113, _⟩ => ⟨S32x8x2048, .f32⟩
  | .hbm, ⟨114, _⟩ => ⟨S256x2048, .f32⟩
  | .hbm, ⟨115, _⟩ => ⟨S32x8x2048, .f32⟩
  | .hbm, ⟨116, _⟩ => ⟨S32x8x2048, .f32⟩
  | .hbm, ⟨117, _⟩ => ⟨S32x8x2048, .f32⟩
  | .hbm, ⟨118, _⟩ => ⟨S_, .f32⟩
  | .hbm, ⟨119, _⟩ => ⟨S32x8x2048, .f32⟩
  | .hbm, ⟨120, _⟩ => ⟨S32x8x2048, .f32⟩
  | .hbm, ⟨121, _⟩ => ⟨S_, .f32⟩
  | .hbm, ⟨122, _⟩ => ⟨S32x8x2048, .f32⟩
  | .hbm, ⟨123, _⟩ => ⟨S32x8x2048, .f32⟩
  | .hbm, ⟨124, _⟩ => ⟨S32x8x2048, .f32⟩
  | .hbm, ⟨125, _⟩ => ⟨S32x8x2048, .f32⟩
  | .hbm, ⟨126, _⟩ => ⟨S256x2048, .f32⟩
  | _, _ => ⟨S256x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_call2_v0 : Ref sig .tc := ⟨.hbm, 116, rfl⟩
abbrev main_call2_v1 : Ref sig .tc := ⟨.hbm, 117, rfl⟩
abbrev main_call2_cst : Ref sig .tc := ⟨.hbm, 118, rfl⟩
abbrev main_call2_v2 : Ref sig .tc := ⟨.hbm, 119, rfl⟩
abbrev main_call2_v3 : Ref sig .tc := ⟨.hbm, 120, rfl⟩
abbrev main_call2_cst_0 : Ref sig .tc := ⟨.hbm, 121, rfl⟩
abbrev main_call2_v4 : Ref sig .tc := ⟨.hbm, 122, rfl⟩
abbrev main_call2_v5 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== Kernel7.lean ====
abbrev S32x8x2048 : Shape := ⟨3, ![32, 8, 2048]⟩
abbrev S256x15360 : Shape := ⟨2, ![256, 15360]⟩
abbrev S256x2048 : Shape := ⟨2, ![256, 2048]⟩
abbrev S256x1024 : Shape := ⟨2, ![256, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x2048 : Shape := ⟨2, ![2048, 2048]⟩
abbrev S1024x2048 : Shape := ⟨2, ![1024, 2048]⟩
abbrev S2048 : Shape := ⟨1, ![2048]⟩
abbrev S2048x512 : Shape := ⟨2, ![2048, 512]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 22
  | .vmem => 15
  | .smem => 0
  | _ => 0

abbrev bufTy : (tb : Table) → Fin (tcTables nBuf tb) → BufTy
  | .hbm, ⟨0, _⟩ => ⟨S32x8x2048, .f32⟩
  | .hbm, ⟨1, _⟩ => ⟨S256x15360, .f32⟩
  | .hbm, ⟨2, _⟩ => ⟨S256x2048, .f32⟩
  | .hbm, ⟨3, _⟩ => ⟨S256x1024, .f32⟩
  | .hbm, ⟨4, _⟩ => ⟨S1x2048x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S256x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S256x2048, .f32⟩
  | .hbm, ⟨21, _⟩ => ⟨S256x2048, .bf16⟩
  | .local _ .vmem, ⟨0, _⟩ => ⟨S256x2048, .f32⟩
  | .local _ .vmem, ⟨1, _⟩ => ⟨S256x1024, .f32⟩
  | .local _ .vmem, ⟨2, _⟩ => ⟨S2048x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x2048, .bf16⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference7Ideal.lean ====
abbrev S32x8x2048 : Shape := ⟨3, ![32, 8, 2048]⟩
abbrev S256x15360 : Shape := ⟨2, ![256, 15360]⟩
abbrev S256x2048 : Shape := ⟨2, ![256, 2048]⟩
abbrev S256x1024 : Shape := ⟨2, ![256, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x2048 : Shape := ⟨2, ![2048, 2048]⟩
abbrev S1024x2048 : Shape := ⟨2, ![1024, 2048]⟩
abbrev S_ : Shape := ⟨0, ![]⟩
abbrev S2048 : Shape := ⟨1, ![2048]⟩
abbrev S256 : Shape := ⟨1, ![256]⟩
abbrev S256x1 : Shape := ⟨2, ![256, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S256x15360, .f32⟩
  | .hbm, ⟨2, _⟩ => ⟨S256x2048, .f32⟩
  | .hbm, ⟨3, _⟩ => ⟨S256x1024, .f32⟩
  | .hbm, ⟨4, _⟩ => ⟨S1x2048x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S2048x2048, .f32⟩
  | .hbm, ⟨13, _⟩ => ⟨S256x2048, .f32⟩
  | .hbm, ⟨14, _⟩ => ⟨S1024x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S2048x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x2048, .f32⟩
  | .hbm, ⟨59, _⟩ => ⟨S256x2048, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x2048, .f32⟩
  | .hbm, ⟨65, _⟩ => ⟨S256x2048, .f32⟩
  | .hbm, ⟨66, _⟩ => ⟨S1x2048, .f32⟩
  | .hbm, ⟨67, _⟩ => ⟨S256x2048, .f32⟩
  | .hbm, ⟨68, _⟩ => ⟨S256x2048, .f32⟩
  | .hbm, ⟨69, _⟩ => ⟨S1x2048, .f32⟩
  | .hbm, ⟨70, _⟩ => ⟨S256x2048, .f32⟩
  | .hbm, ⟨71, _⟩ => ⟨S256x2048, .f32⟩
  | .hbm, ⟨72, _⟩ => ⟨S256x2048, .bf16⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel8.lean ====
abbrev S256x2048 : Shape := ⟨2, ![256, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S2048x1024 : Shape := ⟨2, ![2048, 1024]⟩
abbrev S1024x2048 : Shape := ⟨2, ![1024, 2048]⟩
abbrev S2048x512 : Shape := ⟨2, ![2048, 512]⟩
abbrev S256x512 : Shape := ⟨2, ![256, 512]⟩
abbrev S256x1024 : Shape := ⟨2, ![256, 1024]⟩
abbrev S1024x512 : Shape := ⟨2, ![1024, 512]⟩
abbrev S256 : Shape := ⟨1, ![256]⟩
abbrev S256x1 : Shape := ⟨2, ![256, 1]⟩

abbrev nBuf : Space → Nat
  | .hbm => 15
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S1x2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S256x2048, .f32⟩
  | .local _ .vmem, ⟨0, _⟩ => ⟨S256x2048, .f32⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_34 : BitVec 32 := 0#32
  let v53 : BitVec 1 := Scalar.cmpi .ne v52 c0_i32_34
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference8Ideal.lean ====
abbrev S256x2048 : Shape := ⟨2, ![256, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S256x8192 : Shape := ⟨2, ![256, 8192]⟩
abbrev S_ : Shape := ⟨0, ![]⟩
abbrev S8192x2048 : Shape := ⟨2, ![8192, 2048]⟩
abbrev S2048 : Shape := ⟨1, ![2048]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S1x2048, .f32⟩
  | .hbm, ⟨6, _⟩ => ⟨S256x2048, .f32⟩
  | .hbm, ⟨7, _⟩ => ⟨S2048x8192, .f32⟩
  | .hbm, ⟨8, _⟩ => ⟨S256x8192, .f32⟩
  | .hbm, ⟨9, _⟩ => ⟨S_, .f32⟩
  | .hbm, ⟨10, _⟩ => ⟨S256x8192, .f32⟩
  | .hbm, ⟨11, _⟩ => ⟨S256x8192, .f32⟩
  | .hbm, ⟨12, _⟩ => ⟨S256x8192, .f32⟩
  | .hbm, ⟨13, _⟩ => ⟨S8192x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x2048, .f32⟩
  | .hbm, ⟨43, _⟩ => ⟨S256x2048, .f32⟩
  | .hbm, ⟨44, _⟩ => ⟨S1x2048, .f32⟩
  | .hbm, ⟨45, _⟩ => ⟨S256x2048, .f32⟩
  | .hbm, ⟨46, _⟩ => ⟨S256x2048, .f32⟩
  | .hbm, ⟨47, _⟩ => ⟨S1x2048, .f32⟩
  | .hbm, ⟨48, _⟩ => ⟨S256x2048, .f32⟩
  | .hbm, ⟨49, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.RetSpec.lean ====
/- Chunked retention over the extended reals, written without any program: one head's state update and output on one
   chunk, the group norm over a head and the silu gate. -/
module

public import Idealize.ShloMosaic.Lib.Pointwise

@[expose] public section

noncomputable section

namespace Cert.Own.Ret

open Idealize.ShloMosaic

/-- A matrix of extended reals. -/
abbrev Mat (a b : ℕ) := Fin a → Fin b → EReal

/-- A head's state after a chunk: the old state decayed by `g`, plus the chunk's keys (decayed by `kd`) against its values. -/
def headS (k v : Mat 128 256) (kd : Fin 128 → EReal) (g : EReal) (s : Mat 256 256) : Mat 256 256 :=
  fun d e => g * s d e + ∑ j : Fin 128, k j d * kd j * v j e

/-- A head's output on a chunk: the decayed scores against the values, plus the queries against the state (decayed by `qd`). -/
def headO (q k v : Mat 128 256) (dec : Mat 128 128) (qd : Fin 128 → EReal) (s : Mat 256 256) : Mat 128 256 :=
  fun i e => (∑ j : Fin 128, (∑ d : Fin 256, q i d * k j d) * dec i j * v j e) + (∑ d : Fin 256, q i d * s d e) * qd i

/-- The mean of a row of 256. -/
def mean (o : Fin 256 → EReal) : EReal := Ideal.div (∑ e, o e) (Ideal.ofBits .f32 0x43800000#32)

/-- A row of a head normalised over the head, times its gain, times the gate `g · 1/(1 + exp(-g))`. -/
def gnorm (o gain g : Fin 256 → EReal) : Fin 256 → EReal := fun e =>
  (o e - mean o) * Ideal.rsqrt (mean (fun x => (o x - mean o) * (o x - mean o)) + Ideal.ofBits .f32 0x3727C5AC#32) * gain e
    * (g e * Ideal.div 1 (1 + Ideal.exp (-g e)))

/-! ## The tables of a head, and the whole recurrence over the chunks of a sequence -/

/-- A count, read as a float. -/
def num (n : ℕ) : EReal := FloatOps.sitofp (F := Ideal) .f32 (BitVec.ofNat 32 n)

/-- The logarithm of a head's decay rate, `log(1 - 2^(-5-h))`, the power of two an exponential of a rounded multiple of `log 2`. -/
def lg (h : Fin 8) : EReal :=
  Ideal.log1p (-Ideal.exp (Ideal.ofBits .f32 0x3F317218#32 * (Ideal.ofBits .f32 0xC0A00000#32 - num h)))

/-- The decay from position `j` to position `i` of a chunk: nothing from a later position. -/
def decT (h : Fin 8) : Mat 128 128 := fun i j =>
  if 0 ≤ num i - num j then Ideal.exp (lg h * if 0 ≤ num i - num j then num i - num j else 0) else 0

/-- The decay of the state as position `i` sees it. -/
def qdT (h : Fin 8) (i : Fin 128) : EReal := Ideal.exp (lg h * (num i + 1))

/-- The decay of position `i`'s key at the end of the chunk. -/
def kdT (h : Fin 8) (i : Fin 128) : EReal := Ideal.exp (lg h * (Ideal.ofBits .f32 0x42FE0000#32 - num i))

/-- The decay of the state over a whole chunk. -/
def gcT (h : Fin 8) : EReal := Ideal.exp (lg h * Ideal.ofBits .f32 0x43000000#32)

/-- The shape of the projected rows: 4 sequences of 2048 rows. -/
abbrev ZS : Shape := ⟨2, ![8192, 15360]⟩

/-- One head of one chunk: part 0 the queries, 1 the keys, 2 the values, 3 the gates; sequence `b`, chunk `n`, head `h`. -/
def zcut (Z : ZS.Idx → EReal) (p b : Fin 4) (n : Fin 16) (h : Fin 8) : Mat 128 256 := fun i d =>
  Z (ix2 ⟨2048 * b.val + 128 * n.val + i.val, by omega⟩ ⟨2048 * p.val + 256 * h.val + d.val, by omega⟩)

/-- The number of a chunk of the sequence. -/
def chunk (n : ℕ) : Fin 16 := ⟨n % 16, Nat.mod_lt _ (by decide)⟩

/-- A head's state after `n` chunks, from nothing. -/
def stN (Z : ZS.Idx → EReal) (b : Fin 4) (h : Fin 8) : ℕ → Mat 256 256
  | 0 => fun _ _ => 0
  | n + 1 => headS (zcut Z 1 b (chunk n) h) (zcut Z 2 b (chunk n) h) (kdT h) (gcT h) (stN Z b h n)

/-- A head's output on chunk `n`. -/
def outN (Z : ZS.Idx → EReal) (b : Fin 4) (h : Fin 8) (n : ℕ) : Mat 128 256 :=
  headO (zcut Z 0 b (chunk n) h) (zcut Z 1 b (chunk n) h) (zcut Z 2 b (chunk n) h) (decT h) (qdT h) (stN Z b h n)

/-- A head's normalised and gated output on chunk `n`. -/
def yN (Z : ZS.Idx → EReal) (g : (⟨3, ![1, 8, 256]⟩ : Shape).Idx → EReal) (b : Fin 4) (h : Fin 8) (n : ℕ) : Mat 128 256 := fun i =>
  gnorm (outN Z b h n i) (fun e => g (ix3 0 h e)) (zcut Z 3 b (chunk n) h i)

/-- The whole result: row `2048 b + 128 n + i`, column `256 h + e`. -/
def resY (Z : ZS.Idx → EReal) (g : (⟨3, ![1, 8, 256]⟩ : Shape).Idx → EReal) : (⟨2, ![8192, 2048]⟩ : Shape).Idx → EReal := fun x =>
  yN Z g ⟨(x 0).val / 2048, by have : (x 0).val < 8192 := (x 0).isLt; omega⟩ ⟨(x 1).val / 256, by have : (x 1).val < 2048 := (x 1).isLt; omega⟩
    ((x 0).val / 128 % 16) ⟨(x 0).val % 128, Nat.mod_lt _ (by decide)⟩ ⟨(x 1).val % 256, Nat.mod_lt _ (by decide)⟩

/-- The states after the sixteen chunks. -/
def resS (Z : ZS.Idx → EReal) : (⟨4, ![4, 8, 256, 256]⟩ : Shape).Idx → EReal := fun x => stN Z (x 0) (x 1) 16 (x 2) (x 3)

theorem resY_at (Z : ZS.Idx → EReal) (g) (b : Fin 4) (n : Fin 16) (i : Fin 128) (h : Fin 8) (e : Fin 256) (r : Fin 8192) (q : Fin 2048)
    (hr : r.val = 2048 * b.val + 128 * n.val + i.val) (hq : q.val = 256 * h.val + e.val) : resY Z g (ix2 r q) = yN Z g b h n.val i e := by
  show yN Z g ⟨r.val / 2048, _⟩ ⟨q.val / 256, _⟩ (r.val / 128 % 16) ⟨r.val % 128, _⟩ ⟨q.val % 256, _⟩ = _
  congr 1 <;> first | omega | exact Fin.ext (by dsimp only; omega)

/-- Equal places of the projected rows. -/
theorem z_ix (Z : ZS.Idx → EReal) {r r' : Fin 8192} {q q' : Fin 15360} (hr : r.val = r'.val) (hq : q.val = q'.val) : Z (ix2 r q) = Z (ix2 r' q') := by
  rw [Fin.ext hr, Fin.ext hq]

theorem chunk_val (n : Fin 16) : chunk n.val = n := Fin.ext (Nat.mod_eq_of_lt n.isLt)

/-- A position of a chunk is below the chunk's length, as floats too. -/
theorem num_lt (i : Fin 128) : num i < Ideal.ofBits .f32 0x43000000#32 := by
  have h1 : Ideal.ofBits .f32 0x43000000#32 = ((128 : ℝ) : EReal) := by
    simp [Ideal.ofBits, Ideal.ieee, -EReal.coe_mul]; norm_num
  have h2 : (BitVec.ofNat 32 i.val).toInt = (i.val : ℤ) := by
    rw [BitVec.toInt_eq_toNat_of_lt] <;> simp <;> omega
  rw [h1]
  show (((BitVec.ofNat 32 i.val).toInt : ℝ) : EReal) < _
  rw [h2]
  have : (i.val : ℝ) < 128 := by exact_mod_cast i.isLt
  exact_mod_cast this

end Cert.Own.Ret

end
-- ==== Proof.RetPay.lean ====
/- The retention kernel's stored values read at an index: each head's state update, output and gated group norm are the
   ones of `RetSpec`, at the head's 256 columns. -/
module

public import proofs.«01_k».proof.Proof.RetSpec
public import proofs.«01_k».proof.Proof.Gen.KernelIdeal.Skeleton

@[expose] public section

set_option maxRecDepth 16384

noncomputable section

namespace Cert.KernelIdeal.Val

open Cert.KernelIdeal Cert.KernelIdeal.Gen Idealize.ShloMosaic Cert.Own.Ret

/-- Column `e` of head `h` in a block of four heads. -/
def hcol (h : Fin 4) (e : Fin 256) : Fin 1024 := ⟨256 * h.val + e.val, by omega⟩

theorem hcol_0 (e : Fin 256) : hcol 0 e = ⟨e.val, by omega⟩ := Fin.ext (by simp [hcol])
theorem hcol_1 (e : Fin 256) : hcol 1 e = ⟨256 + e.val, by omega⟩ := Fin.ext (by simp [hcol])
theorem hcol_2 (e : Fin 256) : hcol 2 e = ⟨512 + e.val, by omega⟩ := Fin.ext (by simp [hcol])
theorem hcol_3 (e : Fin 256) : hcol 3 e = ⟨768 + e.val, by omega⟩ := Fin.ext (by simp [hcol])

/-- The 128 × 256 part of head `h`. -/
def cut (h : Fin 4) (v : Vec Ideal S128x1024 .bf16) : Mat 128 256 := fun i d => v (ix2 i (hcol h d))

/-- A 1 × 128 × 128 block as a matrix. -/
def sq (v : Vec Ideal S1x128x128 .f32) : Mat 128 128 := fun i j => v (ix3 0 i j)
/-- A 1 × 128 × 1 block as a column. -/
def colv (v : Vec Ideal S1x128x1 .f32) : Fin 128 → EReal := fun i => v (ix3 0 i 0)
/-- A 1 × 1 × 256 × 256 block as a matrix. -/
def stv (v : Vec Ideal S1x1x256x256 .f32) : Mat 256 256 := fun d e => v (ix4 0 0 d e)
/-- A 1 × 1 × 256 block as a row. -/
def rowv (v : Vec Ideal S1x1x256 .f32) : Fin 256 → EReal := fun e => v (ix3 0 0 e)

variable (v3 v4 v5 v6 : Vec Ideal S128x1024 .bf16) (s : Vec Ideal S1x1x256x256 .f32) (dec : Vec Ideal S1x128x128 .f32)
  (qd kd : Vec Ideal S1x128x1 .f32) (gc : Vec Ideal S1x1x1 .f32) (gain : Vec Ideal S1x1x256 .f32)
  (o : FVec Ideal S128x256 .f32)

/-- The first head's output before its norm. -/
theorem o0 (i : Fin 128) (e : Fin 256) :
    k0_pay6 v3 v4 v5 s dec qd (ix2 i e) = headO (cut 0 v3) (cut 0 v4) (cut 0 v5) (sq dec) (colv qd) (stv s) i e := by
  pointwise [k0_pay6, k0_pay3, k0_pay4, k0_pay5]
  simp only [headO, cut, sq, colv, stv, rowv, hcol_0]

/-- The second head's output before its norm. -/
theorem o1 (i : Fin 128) (e : Fin 256) :
    k0_pay15 v3 v4 v5 s dec qd (ix2 i e) = headO (cut 1 v3) (cut 1 v4) (cut 1 v5) (sq dec) (colv qd) (stv s) i e := by
  pointwise [k0_pay15, k0_pay12, k0_pay13, k0_pay14]
  simp only [headO, cut, sq, colv, stv, rowv, hcol_1]

/-- The third head's output less its mean. -/
theorem o2 (i : Fin 128) (e : Fin 256) :
    k0_pay24 (k0_pay19 v3) (k0_pay20 v4) (k0_pay21 v5) (k0_pay22 s) dec qd (ix2 i e)
      = headO (cut 2 v3) (cut 2 v4) (cut 2 v5) (sq dec) (colv qd) (stv s) i e
        - mean (headO (cut 2 v3) (cut 2 v4) (cut 2 v5) (sq dec) (colv qd) (stv s) i) := by
  pointwise [k0_pay24, k0_pay19, k0_pay20, k0_pay21, k0_pay22]
  simp only [mean, headO, cut, sq, colv, stv, hcol_2]

/-- The first head's new state. -/
theorem s0 (d e : Fin 256) :
    k0_pay8 (k0_pay4 v5) (k0_pay5 s) (k0_pay7 v4 kd) gc (ix4 0 0 d e) = headS (cut 0 v4) (cut 0 v5) (colv kd) (gc (ix3 0 0 0)) (stv s) d e := by
  pointwise [k0_pay8, k0_pay3, k0_pay4, k0_pay5, k0_pay7]
  simp only [headS, cut, sq, colv, stv, rowv, hcol_0]

/-- The second head's new state. -/
theorem s1 (d e : Fin 256) :
    k0_pay17 (k0_pay16 v4 v5 s kd gc) (ix4 0 0 d e) = headS (cut 1 v4) (cut 1 v5) (colv kd) (gc (ix3 0 0 0)) (stv s) d e := by
  pointwise [k0_pay17, k0_pay16, k0_pay12, k0_pay13, k0_pay14]
  simp only [headS, cut, sq, colv, stv, rowv, hcol_1]

/-- The third head's new state. -/
theorem s2 (d e : Fin 256) :
    k0_pay23 (k0_pay20 v4) (k0_pay21 v5) (k0_pay22 s) kd gc (ix4 0 0 d e) = headS (cut 2 v4) (cut 2 v5) (colv kd) (gc (ix3 0 0 0)) (stv s) d e := by
  pointwise [k0_pay23, k0_pay20, k0_pay21, k0_pay22]
  simp only [headS, cut, sq, colv, stv, rowv, hcol_2]

/-- The fourth head's new state. -/
theorem s3 (d e : Fin 256) :
    k0_pay33 (k0_pay28 v4) (k0_pay29 v5) (k0_pay30 s) kd gc (ix4 0 0 d e) = headS (cut 3 v4) (cut 3 v5) (colv kd) (gc (ix3 0 0 0)) (stv s) d e := by
  pointwise [k0_pay33, k0_pay28, k0_pay29, k0_pay30]
  simp only [headS, cut, sq, colv, stv, rowv, hcol_3]

/-- The first head's stored result. -/
theorem n0 (i : Fin 128) (e : Fin 256) :
    k0_pay11 (k0_pay9 o gain) (k0_pay10 v6) (ix2 i e) = gnorm (fun x => o (ix2 i x)) (rowv gain) (cut 0 v6 i) e := by
  pointwise [k0_pay11, k0_pay9, k0_pay10]
  simp only [gnorm, mean, cut, sq, colv, stv, rowv, hcol_0, zero_sub]

/-- The second head's stored result. -/
theorem n1 (i : Fin 128) (e : Fin 256) :
    k0_pay18 v6 o gain (ix2 i e) = gnorm (fun x => o (ix2 i x)) (rowv gain) (cut 1 v6 i) e := by
  pointwise [k0_pay18]
  simp only [gnorm, mean, cut, sq, colv, stv, rowv, hcol_1, zero_sub]

/-- The third head's stored result over a centred row and the sum of its squares. -/
theorem n2' (c : FVec Ideal S128x256 .f32) (w : FVec Ideal S128 .f32) (i : Fin 128) (e : Fin 256) :
    k0_pay26 v6 c w gain (ix2 i e) = c (ix2 i e) * Ideal.rsqrt (Ideal.div (w (ix1 i)) (Ideal.ofBits .f32 0x43800000#32)
        + Ideal.ofBits .f32 0x3727C5AC#32) * rowv gain e
      * (cut 2 v6 i e * Ideal.div 1 (1 + Ideal.exp (-cut 2 v6 i e))) := by
  pointwise [k0_pay26]
  simp only [cut, rowv, hcol_2, zero_sub]

/-- The fourth head's stored result over its normalised row. -/
theorem n3' (c : FVec Ideal S128x256 .f32) (i : Fin 128) (e : Fin 256) :
    k0_pay1 v6 c (k0_pay35 gain) (ix2 i e) = c (ix2 i e) * rowv gain e
      * (cut 3 v6 i e * Ideal.div 1 (1 + Ideal.exp (-cut 3 v6 i e))) := by
  pointwise [k0_pay1, k0_pay35]
  simp only [cut, rowv, hcol_3, zero_sub]

/-- The fourth head's normalised row. -/
theorem o3 (i : Fin 128) (e : Fin 256) :
    k0_pay34 (k0_pay31 v3 v4 v5 dec) (k0_pay32 v3 s) qd (ix2 i e)
      = (headO (cut 3 v3) (cut 3 v4) (cut 3 v5) (sq dec) (colv qd) (stv s) i e
        - mean (headO (cut 3 v3) (cut 3 v4) (cut 3 v5) (sq dec) (colv qd) (stv s) i))
        * Ideal.rsqrt (mean (fun x => (headO (cut 3 v3) (cut 3 v4) (cut 3 v5) (sq dec) (colv qd) (stv s) i x
          - mean (headO (cut 3 v3) (cut 3 v4) (cut 3 v5) (sq dec) (colv qd) (stv s) i))
          * (headO (cut 3 v3) (cut 3 v4) (cut 3 v5) (sq dec) (colv qd) (stv s) i x
          - mean (headO (cut 3 v3) (cut 3 v4) (cut 3 v5) (sq dec) (colv qd) (stv s) i)))
          + Ideal.ofBits .f32 0x3727C5AC#32) := by
  pointwise [k0_pay34, k0_pay31, k0_pay32, k0_pay27, k0_pay28, k0_pay29, k0_pay30]
  simp only [mean, headO, cut, sq, colv, stv, hcol_3]

/-- The third head's sum of squares. -/
theorem w2 (a b c : FVec Ideal S128x256 .bf16) (st : FVec Ideal S256x256 .f32) (i : Fin 128) :
    k0_pay25 a b c st dec qd (ix1 i)
      = ∑ x : Fin 256, k0_pay24 a b c st dec qd (ix2 i x) * k0_pay24 a b c st dec qd (ix2 i x) := by
  pointwise [k0_pay25]

/-- What the body stores for head 0. -/
theorem on0 (i : Fin 128) (e : Fin 256) :
    k0_pay11 (k0_pay9 (k0_pay6 v3 v4 v5 s dec qd) gain) (k0_pay10 v6) (ix2 i e)
      = gnorm (headO (cut 0 v3) (cut 0 v4) (cut 0 v5) (sq dec) (colv qd) (stv s) i) (rowv gain) (cut 0 v6 i) e := by
  rw [n0]
  simp only [o0]

/-- What the body stores for head 1. -/
theorem on1 (i : Fin 128) (e : Fin 256) :
    k0_pay18 v6 (k0_pay15 v3 v4 v5 s dec qd) gain (ix2 i e)
      = gnorm (headO (cut 1 v3) (cut 1 v4) (cut 1 v5) (sq dec) (colv qd) (stv s) i) (rowv gain) (cut 1 v6 i) e := by
  rw [n1]
  simp only [o1]

/-- What the body stores for head 2. -/
theorem on2 (i : Fin 128) (e : Fin 256) :
    k0_pay26 v6 (k0_pay24 (k0_pay19 v3) (k0_pay20 v4) (k0_pay21 v5) (k0_pay22 s) dec qd)
        (k0_pay25 (k0_pay19 v3) (k0_pay20 v4) (k0_pay21 v5) (k0_pay22 s) dec qd) gain (ix2 i e)
      = gnorm (headO (cut 2 v3) (cut 2 v4) (cut 2 v5) (sq dec) (colv qd) (stv s) i) (rowv gain) (cut 2 v6 i) e := by
  rw [n2', w2]
  simp only [o2]
  rfl

/-- What the body stores for head 3. -/
theorem on3 (i : Fin 128) (e : Fin 256) :
    k0_pay1 v6 (k0_pay34 (k0_pay31 v3 v4 v5 dec) (k0_pay32 v3 s) qd) (k0_pay35 gain) (ix2 i e)
      = gnorm (headO (cut 3 v3) (cut 3 v4) (cut 3 v5) (sq dec) (colv qd) (stv s) i) (rowv gain) (cut 3 v6 i) e := by
  rw [n3', o3]
  rfl

end Cert.KernelIdeal.Val

end
-- ==== Proof.RetBlock.lean ====
/- The retention kernel's two output blocks after a grid point, read at an index: over the blocks the point stages and
   the state the point found (zero at a sequence's first chunk). -/
module

public import proofs.«01_k».proof.Proof.RetPay
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem Cert.Own.Ret
open Idealize.ShloMosaic.Pipeline (Dat)

/-- A list of stores read where its last store wrote. -/
theorem canon_hit {Val : EltTy → Type} [∀ e, Nonempty (Val e)] {S : Shape} {e : EltTy} {off size : Fin S.rank → ℕ}
    {inb : ∀ a, off a + size a ≤ S.size a} {w : (Rect.unit off size inb).shape.Idx → Val e}
    {L : List (View.Piece Val S e)} {y : S.Idx} (x : (Rect.unit off size inb).shape.Idx)
    (hx : ∀ a, (y a).val = off a + (x a).val) : View.canon (⟨Rect.unit off size inb, w⟩ :: L) y = w x := by
  have hy : y = (Rect.unit off size inb).emb x :=
    funext fun a => Fin.ext ((hx a).trans (Rect.idx_unit_val off size inb x a).symm)
  rw [hy]
  exact View.canon_cons_emb _ w L x

/-- A list of stores read off its last store's rectangle. -/
theorem canon_miss {Val : EltTy → Type} [∀ e, Nonempty (Val e)] {S : Shape} {e : EltTy} {off size : Fin S.rank → ℕ}
    {inb : ∀ a, off a + size a ≤ S.size a} {w : (Rect.unit off size inb).shape.Idx → Val e}
    {L : List (View.Piece Val S e)} {y : S.Idx} (a : Fin S.rank)
    (ha : (y a).val < off a ∨ off a + size a ≤ (y a).val) :
    View.canon (⟨Rect.unit off size inb, w⟩ :: L) y = View.canon L y := by
  refine View.canon_cons_of_not_mem _ L fun h => ?_
  have h' := (Rect.mem_set_unit (s := S) (off := off) (size := size) (inb := inb) (i := y)).mp h a
  omega

section loads
variable {Val : EltTy → Type} {e : EltTy}

theorem ld3 {n0 n1 n2 k1 k2 : ℕ} (X : (⟨3, ![n0, n1, n2]⟩ : Shape).Idx → Val e) (h : ℕ)
    (inb : ∀ a, (![h, 0, 0] : Fin 3 → ℕ) a + (![1, k1, k2] : Fin 3 → ℕ) a ≤ (⟨3, ![n0, n1, n2]⟩ : Shape).size a)
    (a : Fin 1) (i : Fin k1) (j : Fin k2) :
    View.ld X (Rect.unit (s := ⟨3, ![n0, n1, n2]⟩) ![h, 0, 0] ![1, k1, k2] inb) (ix3 a i j)
      = X (ix3 ⟨h, inb 0⟩ ⟨i.val, lt_of_lt_of_le i.isLt (by simpa using inb 1)⟩ ⟨j.val, lt_of_lt_of_le j.isLt (by simpa using inb 2)⟩) :=
  View.ld_unit_apply_of _ _ _ _ _ _ fun b => by
    match b with
    | ⟨0, _⟩ => show h = h + a.val; omega
    | ⟨1, _⟩ => show i.val = 0 + i.val; omega
    | ⟨2, _⟩ => show j.val = 0 + j.val; omega

theorem ld4 {n0 n1 n2 n3 k2 k3 : ℕ} (X : (⟨4, ![n0, n1, n2, n3]⟩ : Shape).Idx → Val e) (h : ℕ)
    (inb : ∀ a, (![0, h, 0, 0] : Fin 4 → ℕ) a + (![1, 1, k2, k3] : Fin 4 → ℕ) a ≤ (⟨4, ![n0, n1, n2, n3]⟩ : Shape).size a)
    (a b : Fin 1) (i : Fin k2) (j : Fin k3) :
    View.ld X (Rect.unit (s := ⟨4, ![n0, n1, n2, n3]⟩) ![0, h, 0, 0] ![1, 1, k2, k3] inb) (ix4 a b i j)
      = X (ix4 ⟨0, inb 0⟩ ⟨h, inb 1⟩ ⟨i.val, lt_of_lt_of_le i.isLt (by simpa using inb 2)⟩ ⟨j.val, lt_of_lt_of_le j.isLt (by simpa using inb 3)⟩) :=
  View.ld_unit_apply_of _ _ _ _ _ _ fun c => by
    match c with
    | ⟨0, _⟩ => show 0 = 0 + a.val; omega
    | ⟨1, _⟩ => show h = h + b.val; omega
    | ⟨2, _⟩ => show i.val = 0 + i.val; omega
    | ⟨3, _⟩ => show j.val = 0 + j.val; omega

end loads

/-- One head's state, loaded from the block of four. -/
theorem stv_ld (X : Vec Ideal S1x4x256x256 .f32) (h : ℕ) (inb) (d e : Fin 256) :
    stv (View.ld X (Rect.unit ![0, h, 0, 0] ![1, 1, 256, 256] inb)) d e = X (ix4 0 ⟨h, inb 1⟩ d e) := by
  unfold stv
  exact ld4 ..

/-- Two heads' states over equal decays and equal old states. -/
theorem headS_congr {k v : Mat 128 256} {kd kd' : Fin 128 → EReal} {g g' : EReal} {s s' : Mat 256 256}
    (h1 : kd = kd') (h2 : g = g') (h3 : s = s') (d e : Fin 256) : headS k v kd g s d e = headS k v kd' g' s' d e := by
  rw [h1, h2, h3]

/-- Two heads' results over equal tables and equal old states. -/
theorem on_congr {q k v : Mat 128 256} {dec dec' : Mat 128 128} {qd qd' : Fin 128 → EReal} {s s' : Mat 256 256}
    {ga ga' : Fin 256 → EReal} {g : Mat 128 256} (h1 : dec = dec') (h2 : qd = qd') (h3 : s = s') (h4 : ga = ga')
    (i : Fin 128) (e : Fin 256) :
    gnorm (headO q k v dec qd s i) ga (g i) e = gnorm (headO q k v dec' qd' s' i) ga' (g i) e := by
  rw [h1, h2, h3, h4]

variable (m : (ℓ : Loc nD τ sig) → Buf (Elt Ideal) ℓ) (c : Dev nD)

/-- The state block a grid point finds: zero where a sequence begins, else what the point before left. -/
def found (t : Fin cfg0.N) : Vec Ideal S1x4x256x256 .f32 :=
  if t.val % 16 = 0 then k0_pay2 (F := Ideal) else (outsAt0 m c (t.val - 1) (Nat.lt_of_le_of_lt (Nat.sub_le _ _) t.isLt)).2

/-- A head's state after the point. -/
def stAt (t : Fin cfg0.N) (h : Fin 4) : Mat 256 256 :=
  headS (cut h (iblk m c 1 t)) (cut h (iblk m c 2 t)) (fun j => (iblk m c 6 t : Vec Ideal S4x128x1 .f32) (ix3 h j 0))
    ((iblk m c 7 t : Vec Ideal S4x1x1 .f32) (ix3 h 0 0)) (fun d e => found m c t (ix4 0 h d e))

/-- A head's stored result at the point. -/
def onAt (t : Fin cfg0.N) (h : Fin 4) : Mat 128 256 := fun i =>
  gnorm (headO (cut h (iblk m c 0 t)) (cut h (iblk m c 1 t)) (cut h (iblk m c 2 t))
      (fun i j => (iblk m c 4 t : Vec Ideal S4x128x128 .f32) (ix3 h i j))
      (fun i => (iblk m c 5 t : Vec Ideal S4x128x1 .f32) (ix3 h i 0)) (fun d e => found m c t (ix4 0 h d e)) i)
    (fun e => (iblk m c 8 t : Vec Ideal S4x1x256 .f32) (ix3 h 0 e)) (cut h (iblk m c 3 t) i)

theorem stA0 (t : Fin cfg0.N) (h0 : t.val % 16 = 0) (d e : Fin 256) :
    (outsAt0 m c t.val t.isLt).2 (ix4 0 0 d e) = stAt m c t 0 d e := by
  rw [outsAt0_A m c t h0]
  frame_out
  simp (disch := decide) only [↓ View.readCov_skip, ↓ View.readCov_cons_toLoadRect, ↓ View.readCov_fill]
  rw [canon_miss 1 (Or.inl (show 0 < 3 by decide))]
  rw [canon_miss 1 (Or.inl (show 0 < 2 by decide))]
  rw [canon_miss 1 (Or.inl (show 0 < 1 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s0, stAt]
  simp only [found, if_pos h0]
  exact headS_congr (funext fun j => ld3 ..) (ld3 ..) (funext fun d => funext fun e => stv_ld ..) d e

theorem onA0 (t : Fin cfg0.N) (h0 : t.val % 16 = 0) (i : Fin 128) (e : Fin 256) :
    (outsAt0 m c t.val t.isLt).1 (ix2 i (hcol 0 e)) = onAt m c t 0 i e := by
  rw [outsAt0_A m c t h0]
  frame_out
  simp (disch := decide) only [↓ View.readCov_skip, ↓ View.readCov_cons_toLoadRect, ↓ View.readCov_fill]
  rw [canon_miss 1 (Or.inl (show 0 + e.val < 768 by omega))]
  rw [canon_miss 1 (Or.inl (show 0 + e.val < 512 by omega))]
  rw [canon_miss 1 (Or.inl (show 0 + e.val < 256 by omega))]
  rw [canon_hit (ix2 i e) (fun a => by
    match a with
    | ⟨0, _⟩ => exact (Nat.zero_add _).symm
    | ⟨1, _⟩ => rfl)]
  rw [on0, onAt]
  simp only [found, if_pos h0]
  exact on_congr (funext fun i => funext fun j => ld3 ..) (funext fun j => ld3 ..)
    (funext fun d => funext fun e => stv_ld ..) (funext fun e => ld3 ..) i e

theorem stA1 (t : Fin cfg0.N) (h0 : t.val % 16 = 0) (d e : Fin 256) :
    (outsAt0 m c t.val t.isLt).2 (ix4 0 1 d e) = stAt m c t 1 d e := by
  rw [outsAt0_A m c t h0]
  frame_out
  simp (disch := decide) only [↓ View.readCov_skip, ↓ View.readCov_cons_toLoadRect, ↓ View.readCov_fill]
  rw [canon_miss 1 (Or.inl (show 1 < 3 by decide))]
  rw [canon_miss 1 (Or.inl (show 1 < 2 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s1, stAt]
  simp only [found, if_pos h0]
  exact headS_congr (funext fun j => ld3 ..) (ld3 ..) (funext fun d => funext fun e => stv_ld ..) d e

theorem onA1 (t : Fin cfg0.N) (h0 : t.val % 16 = 0) (i : Fin 128) (e : Fin 256) :
    (outsAt0 m c t.val t.isLt).1 (ix2 i (hcol 1 e)) = onAt m c t 1 i e := by
  rw [outsAt0_A m c t h0]
  frame_out
  simp (disch := decide) only [↓ View.readCov_skip, ↓ View.readCov_cons_toLoadRect, ↓ View.readCov_fill]
  rw [canon_miss 1 (Or.inl (show 256 + e.val < 768 by omega))]
  rw [canon_miss 1 (Or.inl (show 256 + e.val < 512 by omega))]
  rw [canon_hit (ix2 i e) (fun a => by
    match a with
    | ⟨0, _⟩ => exact (Nat.zero_add _).symm
    | ⟨1, _⟩ => rfl)]
  rw [on1, onAt]
  simp only [found, if_pos h0]
  exact on_congr (funext fun i => funext fun j => ld3 ..) (funext fun j => ld3 ..)
    (funext fun d => funext fun e => stv_ld ..) (funext fun e => ld3 ..) i e

theorem stA2 (t : Fin cfg0.N) (h0 : t.val % 16 = 0) (d e : Fin 256) :
    (outsAt0 m c t.val t.isLt).2 (ix4 0 2 d e) = stAt m c t 2 d e := by
  rw [outsAt0_A m c t h0]
  frame_out
  simp (disch := decide) only [↓ View.readCov_skip, ↓ View.readCov_cons_toLoadRect, ↓ View.readCov_fill]
  rw [canon_miss 1 (Or.inl (show 2 < 3 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s2, stAt]
  simp only [found, if_pos h0]
  exact headS_congr (funext fun j => ld3 ..) (ld3 ..) (funext fun d => funext fun e => stv_ld ..) d e

theorem onA2 (t : Fin cfg0.N) (h0 : t.val % 16 = 0) (i : Fin 128) (e : Fin 256) :
    (outsAt0 m c t.val t.isLt).1 (ix2 i (hcol 2 e)) = onAt m c t 2 i e := by
  rw [outsAt0_A m c t h0]
  frame_out
  simp (disch := decide) only [↓ View.readCov_skip, ↓ View.readCov_cons_toLoadRect, ↓ View.readCov_fill]
  rw [canon_miss 1 (Or.inl (show 512 + e.val < 768 by omega))]
  rw [canon_hit (ix2 i e) (fun a => by
    match a with
    | ⟨0, _⟩ => exact (Nat.zero_add _).symm
    | ⟨1, _⟩ => rfl)]
  rw [on2, onAt]
  simp only [found, if_pos h0]
  exact on_congr (funext fun i => funext fun j => ld3 ..) (funext fun j => ld3 ..)
    (funext fun d => funext fun e => stv_ld ..) (funext fun e => ld3 ..) i e

theorem stA3 (t : Fin cfg0.N) (h0 : t.val % 16 = 0) (d e : Fin 256) :
    (outsAt0 m c t.val t.isLt).2 (ix4 0 3 d e) = stAt m c t 3 d e := by
  rw [outsAt0_A m c t h0]
  frame_out
  simp (disch := decide) only [↓ View.readCov_skip, ↓ View.readCov_cons_toLoadRect, ↓ View.readCov_fill]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s3, stAt]
  simp only [found, if_pos h0]
  exact headS_congr (funext fun j => ld3 ..) (ld3 ..) (funext fun d => funext fun e => stv_ld ..) d e

theorem onA3 (t : Fin cfg0.N) (h0 : t.val % 16 = 0) (i : Fin 128) (e : Fin 256) :
    (outsAt0 m c t.val t.isLt).1 (ix2 i (hcol 3 e)) = onAt m c t 3 i e := by
  rw [outsAt0_A m c t h0]
  frame_out
  simp (disch := decide) only [↓ View.readCov_skip, ↓ View.readCov_cons_toLoadRect, ↓ View.readCov_fill]
  rw [canon_hit (ix2 i e) (fun a => by
    match a with
    | ⟨0, _⟩ => exact (Nat.zero_add _).symm
    | ⟨1, _⟩ => rfl)]
  rw [on3, onAt]
  simp only [found, if_pos h0]
  exact on_congr (funext fun i => funext fun j => ld3 ..) (funext fun j => ld3 ..)
    (funext fun d => funext fun e => stv_ld ..) (funext fun e => ld3 ..) i e

theorem stB0 (t : Fin cfg0.N) (h0 : ¬t.val % 16 = 0) (d e : Fin 256) :
    (outsAt0 m c t.val t.isLt).2 (ix4 0 0 d e) = stAt m c t 0 d e := by
  rw [outsAt0_B m c t h0]
  frame_out
  rw [canon_miss 1 (Or.inl (show 0 < 3 by decide))]
  rw [canon_miss 1 (Or.inl (show 0 < 2 by decide))]
  rw [canon_miss 1 (Or.inl (show 0 < 1 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s0, stAt]
  simp only [found, if_neg h0]
  exact headS_congr (funext fun j => ld3 ..) (ld3 ..) (funext fun d => funext fun e => stv_ld ..) d e

theorem onB0 (t : Fin cfg0.N) (h0 : ¬t.val % 16 = 0) (i : Fin 128) (e : Fin 256) :
    (outsAt0 m c t.val t.isLt).1 (ix2 i (hcol 0 e)) = onAt m c t 0 i e := by
  rw [outsAt0_B m c t h0]
  frame_out
  rw [canon_miss 1 (Or.inl (show 0 + e.val < 768 by omega))]
  rw [canon_miss 1 (Or.inl (show 0 + e.val < 512 by omega))]
  rw [canon_miss 1 (Or.inl (show 0 + e.val < 256 by omega))]
  rw [canon_hit (ix2 i e) (fun a => by
    match a with
    | ⟨0, _⟩ => exact (Nat.zero_add _).symm
    | ⟨1, _⟩ => rfl)]
  rw [on0, onAt]
  simp only [found, if_neg h0]
  exact on_congr (funext fun i => funext fun j => ld3 ..) (funext fun j => ld3 ..)
    (funext fun d => funext fun e => stv_ld ..) (funext fun e => ld3 ..) i e

theorem stB1 (t : Fin cfg0.N) (h0 : ¬t.val % 16 = 0) (d e : Fin 256) :
    (outsAt0 m c t.val t.isLt).2 (ix4 0 1 d e) = stAt m c t 1 d e := by
  rw [outsAt0_B m c t h0]
  frame_out
  rw [canon_miss 1 (Or.inl (show 1 < 3 by decide))]
  rw [canon_miss 1 (Or.inl (show 1 < 2 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s1, stAt]
  simp only [found, if_neg h0]
  exact headS_congr (funext fun j => ld3 ..) (ld3 ..) (funext fun d => funext fun e => stv_ld ..) d e

theorem onB1 (t : Fin cfg0.N) (h0 : ¬t.val % 16 = 0) (i : Fin 128) (e : Fin 256) :
    (outsAt0 m c t.val t.isLt).1 (ix2 i (hcol 1 e)) = onAt m c t 1 i e := by
  rw [outsAt0_B m c t h0]
  frame_out
  rw [canon_miss 1 (Or.inl (show 256 + e.val < 768 by omega))]
  rw [canon_miss 1 (Or.inl (show 256 + e.val < 512 by omega))]
  rw [canon_hit (ix2 i e) (fun a => by
    match a with
    | ⟨0, _⟩ => exact (Nat.zero_add _).symm
    | ⟨1, _⟩ => rfl)]
  rw [on1, onAt]
  simp only [found, if_neg h0]
  exact on_congr (funext fun i => funext fun j => ld3 ..) (funext fun j => ld3 ..)
    (funext fun d => funext fun e => stv_ld ..) (funext fun e => ld3 ..) i e

theorem stB2 (t : Fin cfg0.N) (h0 : ¬t.val % 16 = 0) (d e : Fin 256) :
    (outsAt0 m c t.val t.isLt).2 (ix4 0 2 d e) = stAt m c t 2 d e := by
  rw [outsAt0_B m c t h0]
  frame_out
  rw [canon_miss 1 (Or.inl (show 2 < 3 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s2, stAt]
  simp only [found, if_neg h0]
  exact headS_congr (funext fun j => ld3 ..) (ld3 ..) (funext fun d => funext fun e => stv_ld ..) d e

theorem onB2 (t : Fin cfg0.N) (h0 : ¬t.val % 16 = 0) (i : Fin 128) (e : Fin 256) :
    (outsAt0 m c t.val t.isLt).1 (ix2 i (hcol 2 e)) = onAt m c t 2 i e := by
  rw [outsAt0_B m c t h0]
  frame_out
  rw [canon_miss 1 (Or.inl (show 512 + e.val < 768 by omega))]
  rw [canon_hit (ix2 i e) (fun a => by
    match a with
    | ⟨0, _⟩ => exact (Nat.zero_add _).symm
    | ⟨1, _⟩ => rfl)]
  rw [on2, onAt]
  simp only [found, if_neg h0]
  exact on_congr (funext fun i => funext fun j => ld3 ..) (funext fun j => ld3 ..)
    (funext fun d => funext fun e => stv_ld ..) (funext fun e => ld3 ..) i e

theorem stB3 (t : Fin cfg0.N) (h0 : ¬t.val % 16 = 0) (d e : Fin 256) :
    (outsAt0 m c t.val t.isLt).2 (ix4 0 3 d e) = stAt m c t 3 d e := by
  rw [outsAt0_B m c t h0]
  frame_out
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  rw [s3, stAt]
  simp only [found, if_neg h0]
  exact headS_congr (funext fun j => ld3 ..) (ld3 ..) (funext fun d => funext fun e => stv_ld ..) d e

theorem onB3 (t : Fin cfg0.N) (h0 : ¬t.val % 16 = 0) (i : Fin 128) (e : Fin 256) :
    (outsAt0 m c t.val t.isLt).1 (ix2 i (hcol 3 e)) = onAt m c t 3 i e := by
  rw [outsAt0_B m c t h0]
  frame_out
  rw [canon_hit (ix2 i e) (fun a => by
    match a with
    | ⟨0, _⟩ => exact (Nat.zero_add _).symm
    | ⟨1, _⟩ => rfl)]
  rw [on3, onAt]
  simp only [found, if_neg h0]
  exact on_congr (funext fun i => funext fun j => ld3 ..) (funext fun j => ld3 ..)
    (funext fun d => funext fun e => stv_ld ..) (funext fun e => ld3 ..) i e

/-- After a grid point the state block holds, head by head, the updated states. -/
theorem st_pt (t : Fin cfg0.N) (h : Fin 4) (d e : Fin 256) :
    (outsAt0 m c t.val t.isLt).2 (ix4 0 h d e) = stAt m c t h d e := by
  by_cases h0 : t.val % 16 = 0
  · match h with
    | 0 => exact stA0 m c t h0 d e
    | 1 => exact stA1 m c t h0 d e
    | 2 => exact stA2 m c t h0 d e
    | 3 => exact stA3 m c t h0 d e
  · match h with
    | 0 => exact stB0 m c t h0 d e
    | 1 => exact stB1 m c t h0 d e
    | 2 => exact stB2 m c t h0 d e
    | 3 => exact stB3 m c t h0 d e

/-- After a grid point the result block holds, head by head, the gated norms. -/
theorem on_pt (t : Fin cfg0.N) (h : Fin 4) (i : Fin 128) (e : Fin 256) :
    (outsAt0 m c t.val t.isLt).1 (ix2 i (hcol h e)) = onAt m c t h i e := by
  by_cases h0 : t.val % 16 = 0
  · match h with
    | 0 => exact onA0 m c t h0 i e
    | 1 => exact onA1 m c t h0 i e
    | 2 => exact onA2 m c t h0 i e
    | 3 => exact onA3 m c t h0 i e
  · match h with
    | 0 => exact onB0 m c t h0 i e
    | 1 => exact onB1 m c t h0 i e
    | 2 => exact onB2 m c t h0 i e
    | 3 => exact onB3 m c t h0 i e

end Cert.KernelIdeal.Val

end
-- ==== Proof.RetKernel.lean ====
/- The retention kernel, read: what it stages at a grid point are the blocks of one sequence, one group of four heads and one
   chunk; its states over the chunks of a sequence are the recurrence's, and so are its two result arrays. -/
module

public import proofs.«01_k».proof.Proof.RetBlock
public import proofs.«01_k».proof.Proof.Gen.KernelIdeal.Value

@[expose] public section

set_option maxRecDepth 16384

noncomputable section

namespace Cert.KernelIdeal.Val

open Idealize.ShloMosaic Idealize.ShloMosaic.TcCoe Idealize.SL.Sem
open Cert.KernelIdeal Cert.KernelIdeal.Gen Cert.Own.Ret

variable (m : (ℓ : Loc nD τ sig) → Buf (Elt Ideal) ℓ) (c : Dev nD)

/-- The kernel's first argument: the projected rows. -/
abbrev zA : ZS.Idx → EReal := m ((c.tc : Thread nD τ).loc main_arg0)

/-- The kernel's second argument: the gains. -/
abbrev gA : (⟨3, ![1, 8, 256]⟩ : Shape).Idx → EReal := m ((c.tc : Thread nD τ).loc main_arg1)

/-! ## The tables the host computes -/

theorem gain_eq (h : Fin 8) (e : Fin 256) : (V m c main_v1 : S8x1x256.Idx → EReal) (ix3 h 0 e) = gA m c (ix3 0 h e) := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise

theorem gc_eq (h : Fin 8) : (V m c main_v57 : S8x1x1.Idx → EReal) (ix3 h 0 0) = gcT h := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise
  rfl

theorem qd_eq (h : Fin 8) (i : Fin 128) : (V m c main_v55 : S8x128x1.Idx → EReal) (ix3 h i 0) = qdT h i := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise
  rfl

/-- Every row of the chunk is live, so the mask of dead rows changes no key's decay. -/
theorem kd_eq (h : Fin 8) (i : Fin 128) : (V m c main_v56 : S8x128x1.Idx → EReal) (ix3 h i 0) = kdT h i := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_cast, cast_eq, id]
  pointwise
  have hi := num_lt i
  unfold num at hi
  rw [if_pos hi]
  rfl

/-- … and the causal mask is the comparison alone. -/
theorem dec_eq (h : Fin 8) (i j : Fin 128) : (V m c main_v33 : S8x128x128.Idx → EReal) (ix3 h i j) = decT h i j := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_cast, cast_eq, id]
  pointwise
  have hi := num_lt i
  have hj := num_lt j
  unfold num at hi hj
  rw [decide_eq_true hi, decide_eq_true hj]
  unfold decT num
  by_cases hc : 0 ≤ (FloatOps.sitofp (F := Ideal) .f32 (BitVec.ofNat 32 i.val) : EReal) - FloatOps.sitofp (F := Ideal) .f32 (BitVec.ofNat 32 j.val)
  · rw [decide_eq_true hc, if_pos hc, if_pos hc]
    rfl
  · rw [decide_eq_false hc, if_neg hc]
    rfl

/-! ## The blocks of a grid point -/

/-- The sequence, the chunk and a head of a grid point. -/
def sB (t : Fin cfg0.N) : Fin 4 := ⟨t.val / 32, by have h : t.val < 128 := lt_of_lt_of_eq t.isLt N_0; omega⟩
def cB (t : Fin cfg0.N) : Fin 16 := ⟨t.val % 16, Nat.mod_lt _ (by decide)⟩
def hB (t : Fin cfg0.N) (h : Fin 4) : Fin 8 := ⟨4 * (t.val / 16 % 2) + h.val, by omega⟩

theorem wz : ∀ t : Fin grid0.N,
    (win0_0.index t 0 = 16 * (t.val / 32) + t.val % 16 ∧ win0_0.index t 1 = t.val / 16 % 2)
    ∧ (win0_1.index t 0 = 16 * (t.val / 32) + t.val % 16 ∧ win0_1.index t 1 = 2 + t.val / 16 % 2)
    ∧ (win0_2.index t 0 = 16 * (t.val / 32) + t.val % 16 ∧ win0_2.index t 1 = 4 + t.val / 16 % 2)
    ∧ (win0_3.index t 0 = 16 * (t.val / 32) + t.val % 16 ∧ win0_3.index t 1 = 6 + t.val / 16 % 2)
    ∧ (win0_9.index t 0 = 16 * (t.val / 32) + t.val % 16 ∧ win0_9.index t 1 = t.val / 16 % 2) := by
  decide +kernel

theorem wt : ∀ t : Fin grid0.N,
    (win0_4.index t 0 = t.val / 16 % 2 ∧ win0_4.index t 1 = 0 ∧ win0_4.index t 2 = 0)
    ∧ (win0_5.index t 0 = t.val / 16 % 2 ∧ win0_5.index t 1 = 0 ∧ win0_5.index t 2 = 0)
    ∧ (win0_6.index t 0 = t.val / 16 % 2 ∧ win0_6.index t 1 = 0 ∧ win0_6.index t 2 = 0)
    ∧ (win0_7.index t 0 = t.val / 16 % 2 ∧ win0_7.index t 1 = 0 ∧ win0_7.index t 2 = 0)
    ∧ (win0_8.index t 0 = t.val / 16 % 2 ∧ win0_8.index t 1 = 0 ∧ win0_8.index t 2 = 0)
    ∧ (win0_10.index t 0 = t.val / 32 ∧ win0_10.index t 1 = t.val / 16 % 2 ∧ win0_10.index t 2 = 0 ∧ win0_10.index t 3 = 0) := by
  decide +kernel

theorem blk_q (t : Fin cfg0.N) (h : Fin 4) : cut h (iblk m c 0 t) = zcut (zA m c) 0 (sB t) (cB t) (hB t h) := by
  funext i d
  unfold cut zcut iblk
  rw [View.read_apply, show V m c (Pipeline.arrRef spec0 0) = V m c main_arg0 from rfl, V_main_arg0]
  show zA m c _ = _
  congr 1
  funext a
  refine Fin.ext ?_
  have hw := wz t
  match a with
  | ⟨0, _⟩ =>
    show win0_0.index t 0 * 128 + 1 * i.val = 2048 * (t.val / 32) + 128 * (t.val % 16) + i.val
    omega
  | ⟨1, _⟩ =>
    show win0_0.index t 1 * 1024 + 1 * (256 * h.val + d.val) = 2048 * 0 + 256 * (4 * (t.val / 16 % 2) + h.val) + d.val
    omega

theorem blk_k (t : Fin cfg0.N) (h : Fin 4) : cut h (iblk m c 1 t) = zcut (zA m c) 1 (sB t) (cB t) (hB t h) := by
  funext i d
  unfold cut zcut iblk
  rw [View.read_apply, show V m c (Pipeline.arrRef spec0 1) = V m c main_arg0 from rfl, V_main_arg0]
  show zA m c _ = _
  congr 1
  funext a
  refine Fin.ext ?_
  have hw := wz t
  match a with
  | ⟨0, _⟩ =>
    show win0_1.index t 0 * 128 + 1 * i.val = 2048 * (t.val / 32) + 128 * (t.val % 16) + i.val
    omega
  | ⟨1, _⟩ =>
    show win0_1.index t 1 * 1024 + 1 * (256 * h.val + d.val) = 2048 * 1 + 256 * (4 * (t.val / 16 % 2) + h.val) + d.val
    omega

theorem blk_v (t : Fin cfg0.N) (h : Fin 4) : cut h (iblk m c 2 t) = zcut (zA m c) 2 (sB t) (cB t) (hB t h) := by
  funext i d
  unfold cut zcut iblk
  rw [View.read_apply, show V m c (Pipeline.arrRef spec0 2) = V m c main_arg0 from rfl, V_main_arg0]
  show zA m c _ = _
  congr 1
  funext a
  refine Fin.ext ?_
  have hw := wz t
  match a with
  | ⟨0, _⟩ =>
    show win0_2.index t 0 * 128 + 1 * i.val = 2048 * (t.val / 32) + 128 * (t.val % 16) + i.val
    omega
  | ⟨1, _⟩ =>
    show win0_2.index t 1 * 1024 + 1 * (256 * h.val + d.val) = 2048 * 2 + 256 * (4 * (t.val / 16 % 2) + h.val) + d.val
    omega

theorem blk_g (t : Fin cfg0.N) (h : Fin 4) : cut h (iblk m c 3 t) = zcut (zA m c) 3 (sB t) (cB t) (hB t h) := by
  funext i d
  unfold cut zcut iblk
  rw [View.read_apply, show V m c (Pipeline.arrRef spec0 3) = V m c main_arg0 from rfl, V_main_arg0]
  show zA m c _ = _
  congr 1
  funext a
  refine Fin.ext ?_
  have hw := wz t
  match a with
  | ⟨0, _⟩ =>
    show win0_3.index t 0 * 128 + 1 * i.val = 2048 * (t.val / 32) + 128 * (t.val % 16) + i.val
    omega
  | ⟨1, _⟩ =>
    show win0_3.index t 1 * 1024 + 1 * (256 * h.val + d.val) = 2048 * 3 + 256 * (4 * (t.val / 16 % 2) + h.val) + d.val
    omega

theorem blk_dec (t : Fin cfg0.N) (h : Fin 4) (i j : Fin 128) : (iblk m c 4 t : S4x128x128.Idx → EReal) (ix3 h i j) = decT (hB t h) i j := by
  rw [← dec_eq m c (hB t h) i j]
  unfold iblk
  rw [View.read_apply]
  show (V m c main_v33 : S8x128x128.Idx → EReal) _ = _
  congr 1
  funext a
  refine Fin.ext ?_
  have hw := wt t
  match a with
  | ⟨0, _⟩ =>
    show win0_4.index t 0 * 4 + 1 * h.val = 4 * (t.val / 16 % 2) + h.val
    omega
  | ⟨1, _⟩ =>
    show win0_4.index t 1 * 128 + 1 * i.val = i.val
    omega
  | ⟨2, _⟩ =>
    show win0_4.index t 2 * 128 + 1 * j.val = j.val
    omega

theorem blk_qd (t : Fin cfg0.N) (h : Fin 4) (i : Fin 128) : (iblk m c 5 t : S4x128x1.Idx → EReal) (ix3 h i 0) = qdT (hB t h) i := by
  rw [← qd_eq m c (hB t h) i]
  unfold iblk
  rw [View.read_apply]
  show (V m c main_v55 : S8x128x1.Idx → EReal) _ = _
  congr 1
  funext a
  refine Fin.ext ?_
  have hw := wt t
  match a with
  | ⟨0, _⟩ =>
    show win0_5.index t 0 * 4 + 1 * h.val = 4 * (t.val / 16 % 2) + h.val
    omega
  | ⟨1, _⟩ =>
    show win0_5.index t 1 * 128 + 1 * i.val = i.val
    omega
  | ⟨2, _⟩ =>
    show win0_5.index t 2 * 1 + 1 * 0 = 0
    omega

theorem blk_kd (t : Fin cfg0.N) (h : Fin 4) (i : Fin 128) : (iblk m c 6 t : S4x128x1.Idx → EReal) (ix3 h i 0) = kdT (hB t h) i := by
  rw [← kd_eq m c (hB t h) i]
  unfold iblk
  rw [View.read_apply]
  show (V m c main_v56 : S8x128x1.Idx → EReal) _ = _
  congr 1
  funext a
  refine Fin.ext ?_
  have hw := wt t
  match a with
  | ⟨0, _⟩ =>
    show win0_6.index t 0 * 4 + 1 * h.val = 4 * (t.val / 16 % 2) + h.val
    omega
  | ⟨1, _⟩ =>
    show win0_6.index t 1 * 128 + 1 * i.val = i.val
    omega
  | ⟨2, _⟩ =>
    show win0_6.index t 2 * 1 + 1 * 0 = 0
    omega

theorem blk_gc (t : Fin cfg0.N) (h : Fin 4)  : (iblk m c 7 t : S4x1x1.Idx → EReal) (ix3 h 0 0) = gcT (hB t h) := by
  rw [← gc_eq m c (hB t h)]
  unfold iblk
  rw [View.read_apply]
  show (V m c main_v57 : S8x1x1.Idx → EReal) _ = _
  congr 1
  funext a
  refine Fin.ext ?_
  have hw := wt t
  match a with
  | ⟨0, _⟩ =>
    show win0_7.index t 0 * 4 + 1 * h.val = 4 * (t.val / 16 % 2) + h.val
    omega
  | ⟨1, _⟩ =>
    show win0_7.index t 1 * 1 + 1 * 0 = 0
    omega
  | ⟨2, _⟩ =>
    show win0_7.index t 2 * 1 + 1 * 0 = 0
    omega

theorem blk_gain (t : Fin cfg0.N) (h : Fin 4) (e : Fin 256) : (iblk m c 8 t : S4x1x256.Idx → EReal) (ix3 h 0 e) = gA m c (ix3 0 (hB t h) e) := by
  rw [← gain_eq m c (hB t h) e]
  unfold iblk
  rw [View.read_apply]
  show (V m c main_v1 : S8x1x256.Idx → EReal) _ = _
  congr 1
  funext a
  refine Fin.ext ?_
  have hw := wt t
  match a with
  | ⟨0, _⟩ =>
    show win0_8.index t 0 * 4 + 1 * h.val = 4 * (t.val / 16 % 2) + h.val
    omega
  | ⟨1, _⟩ =>
    show win0_8.index t 1 * 1 + 1 * 0 = 0
    omega
  | ⟨2, _⟩ =>
    show win0_8.index t 2 * 256 + 1 * e.val = e.val
    omega

/-! ## The states and the results -/

/-- What a grid point finds and leaves in its four heads' states. -/
theorem st_eq : ∀ (n : ℕ) (hn : n < cfg0.N) (h : Fin 4) (d e : Fin 256),
    found m c ⟨n, hn⟩ (ix4 0 h d e) = stN (zA m c) (sB ⟨n, hn⟩) (hB ⟨n, hn⟩ h) (n % 16) d e := by
  intro n
  induction n with
  | zero =>
    intro hn h d e
    show (if 0 % 16 = 0 then k0_pay2 (F := Ideal) else _) _ = (0 : EReal)
    rw [if_pos rfl]
    unfold k0_pay2
    pointwise
  | succ n ih =>
    intro hn h d e
    have hN : cfg0.N = 128 := N_0
    by_cases h0 : (n + 1) % 16 = 0
    · unfold found
      rw [if_pos h0, h0]
      show k0_pay2 (F := Ideal) _ = (0 : EReal)
      unfold k0_pay2
      pointwise
    · unfold found
      rw [if_neg h0]
      refine (st_pt m c ⟨n, Nat.lt_of_succ_lt hn⟩ h d e).trans ?_
      have hs : sB ⟨n, Nat.lt_of_succ_lt hn⟩ = sB ⟨n + 1, hn⟩ := Fin.ext (by show n / 32 = (n + 1) / 32; omega)
      have hh : hB ⟨n, Nat.lt_of_succ_lt hn⟩ h = hB ⟨n + 1, hn⟩ h := Fin.ext (by show 4 * (n / 16 % 2) + h.val = 4 * ((n + 1) / 16 % 2) + h.val; omega)
      have hc : (n + 1) % 16 = n % 16 + 1 := by omega
      rw [hc, ← hs, ← hh]
      unfold stAt
      rw [blk_k, blk_v]
      show headS _ _ _ _ _ d e = headS _ _ _ _ _ d e
      rw [show chunk (n % 16) = cB ⟨n, Nat.lt_of_succ_lt hn⟩ from Fin.ext (Nat.mod_mod _ _)]
      exact headS_congr (funext fun j => blk_kd m c _ h j) (blk_gc m c _ h) (funext fun d => funext fun e => ih _ h d e) d e

/-- What a grid point leaves in its four heads' states. -/
theorem st_out (t : Fin cfg0.N) (h : Fin 4) (d e : Fin 256) :
    (outsAt0 m c t.val t.isLt).2 (ix4 0 h d e) = stN (zA m c) (sB t) (hB t h) (t.val % 16 + 1) d e := by
  rw [st_pt]
  unfold stAt
  rw [blk_k, blk_v]
  show headS _ _ _ _ _ d e = headS _ _ _ _ _ d e
  rw [show chunk (t.val % 16) = cB t from Fin.ext (Nat.mod_mod _ _)]
  exact headS_congr (funext fun j => blk_kd m c _ h j) (blk_gc m c _ h) (funext fun d => funext fun e => st_eq m c t.val t.isLt h d e) d e

/-- What a grid point leaves in its result block. -/
theorem on_out (t : Fin cfg0.N) (h : Fin 4) (i : Fin 128) (e : Fin 256) :
    (outsAt0 m c t.val t.isLt).1 (ix2 i (hcol h e)) = yN (zA m c) (gA m c) (sB t) (hB t h) (t.val % 16) i e := by
  rw [on_pt]
  unfold onAt yN outN
  rw [blk_q, blk_k, blk_v, blk_g, show chunk (t.val % 16) = cB t from Fin.ext (Nat.mod_mod _ _)]
  exact on_congr (funext fun i => funext fun j => blk_dec m c t h i j) (funext fun i => blk_qd m c t h i)
    (funext fun d => funext fun e => st_eq m c t.val t.isLt h d e) (funext fun e => blk_gain m c t h e) i e

theorem flushed_y (t : Fin cfg0.N) (hf : (cfg0.win 9).flush t = true) :
    (dats m 0 c).flushed 9 t = ((cfg0.win 9).blk t).view.read (Elt Ideal) (resY (zA m c) (gA m c)) := by
  rw [Value.flushed9]
  funext x
  obtain ⟨i, q, rfl⟩ : ∃ (i : Fin 128) (q : Fin 1024), x = ix2 i q := ⟨x 0, x 1, eq_ix2 x⟩
  rw [View.read_apply]
  show (outsAt0 m c t.val t.isLt).1 (ix2 i q) = resY (zA m c) (gA m c) _
  have hq : q = hcol ⟨q.val / 256, by omega⟩ ⟨q.val % 256, Nat.mod_lt _ (by decide)⟩ := Fin.ext (by show q.val = 256 * (q.val / 256) + q.val % 256; omega)
  have hw := wz t
  have hN : t.val < 128 := lt_of_lt_of_eq t.isLt N_0
  conv_lhs => rw [hq]
  rw [on_out]
  refine (resY_at _ _ (sB t) (cB t) i (hB t ⟨q.val / 256, by omega⟩) ⟨q.val % 256, Nat.mod_lt _ (by decide)⟩ _ _ ?_ ?_).symm
  · show win0_9.index t 0 * 128 + 1 * i.val = 2048 * (t.val / 32) + 128 * (t.val % 16) + i.val
    omega
  · show win0_9.index t 1 * 1024 + 1 * q.val = 256 * (4 * (t.val / 16 % 2) + q.val / 256) + q.val % 256
    omega

theorem final_y : (dats m 0 c).arrAt 9 cfg0.N = resY (zA m c) (gA m c) :=
  (dats m 0 c).arrAt_eq_of_cover 9 (resY (zA m c) (gA m c)) (flushed_y m c) fun x => by
    obtain ⟨r, q, rfl⟩ : ∃ (r : Fin 8192) (q : Fin 2048), x = ix2 r q := ⟨x 0, x 1, eq_ix2 x⟩
    have hN : cfg0.N = 128 := N_0
    obtain ⟨t, ht⟩ : ∃ t : Fin cfg0.N, t.val = 32 * (r.val / 2048) + 16 * (q.val / 1024) + r.val / 128 % 16 := ⟨⟨_, by omega⟩, rfl⟩
    have hw := wz t
    refine ⟨t, flush0_9 t, ?_⟩
    show ix2 r q ∈ ((View.whole main_v58_0).slice (win0_9.rect t)).set
    rw [View.set_slice_whole, Rect.mem_set_unit]
    intro a
    match a with
    | ⟨0, _⟩ =>
      show win0_9.index t 0 * 128 ≤ r.val ∧ r.val < win0_9.index t 0 * 128 + 128
      omega
    | ⟨1, _⟩ =>
      show win0_9.index t 1 * 1024 ≤ q.val ∧ q.val < win0_9.index t 1 * 1024 + 1024
      omega

theorem flushed_s (t : Fin cfg0.N) (hf : (cfg0.win 10).flush t = true) :
    (dats m 0 c).flushed 10 t = ((cfg0.win 10).blk t).view.read (Elt Ideal) (resS (zA m c)) := by
  rw [Value.flushed10]
  funext x
  obtain ⟨a, h, d, e, rfl⟩ : ∃ (a : Fin 1) (h : Fin 4) (d e : Fin 256), x = ix4 a h d e := ⟨x 0, x 1, x 2, x 3, eq_ix4 x⟩
  obtain rfl : a = 0 := Subsingleton.elim _ _
  rw [View.read_apply]
  show (outsAt0 m c t.val t.isLt).2 (ix4 0 h d e) = resS (zA m c) _
  have hw := wt t
  have hl : t.val % 16 + 1 = 16 := by have := (flush0_10 t).mp hf; omega
  rw [st_out, hl]
  have he : ((cfg0.win 10).blk t).view.emb (ix4 0 h d e) = (ix4 (sB t) (hB t h) d e : S4x8x256x256.Idx) := by
    refine (funext fun a => Fin.ext ?_ : (ix4 (sB t) (hB t h) d e : S4x8x256x256.Idx) = _).symm
    match a with
    | ⟨0, _⟩ =>
      show t.val / 32 = win0_10.index t 0 * 1 + 1 * 0
      omega
    | ⟨1, _⟩ =>
      show 4 * (t.val / 16 % 2) + h.val = win0_10.index t 1 * 4 + 1 * h.val
      omega
    | ⟨2, _⟩ =>
      show d.val = win0_10.index t 2 * 256 + 1 * d.val
      omega
    | ⟨3, _⟩ =>
      show e.val = win0_10.index t 3 * 256 + 1 * e.val
      omega
  rw [he]
  rfl

theorem final_s : (dats m 0 c).arrAt 10 cfg0.N = resS (zA m c) :=
  (dats m 0 c).arrAt_eq_of_cover 10 (resS (zA m c)) (flushed_s m c) fun x => by
    obtain ⟨b, h, d, e, rfl⟩ : ∃ (b : Fin 4) (h : Fin 8) (d e : Fin 256), x = ix4 b h d e := ⟨x 0, x 1, x 2, x 3, eq_ix4 x⟩
    have hN : cfg0.N = 128 := N_0
    obtain ⟨t, ht⟩ : ∃ t : Fin cfg0.N, t.val = 32 * b.val + 16 * (h.val / 4) + 15 := ⟨⟨_, by omega⟩, rfl⟩
    have hw := wt t
    refine ⟨t, (flush0_10 t).mpr (by omega), ?_⟩
    show ix4 b h d e ∈ ((View.whole main_v58_1).slice (win0_10.rect t)).set
    rw [View.set_slice_whole, Rect.mem_set_unit]
    intro a
    match a with
    | ⟨0, _⟩ =>
      show win0_10.index t 0 * 1 ≤ b.val ∧ b.val < win0_10.index t 0 * 1 + 1
      omega
    | ⟨1, _⟩ =>
      show win0_10.index t 1 * 4 ≤ h.val ∧ h.val < win0_10.index t 1 * 4 + 4
      omega
    | ⟨2, _⟩ =>
      show win0_10.index t 2 * 256 ≤ d.val ∧ d.val < win0_10.index t 2 * 256 + 256
      omega
    | ⟨3, _⟩ =>
      show win0_10.index t 3 * 256 ≤ e.val ∧ e.val < win0_10.index t 3 * 256 + 256
      omega

/-- The kernel's run: both results as the recurrence's, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v58_0) = resY (zA m c) (gA m c)
      ∧ r.2.mem ((c.tc : Thread nD τ).loc main_v58_1) = resS (zA m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_y m c), (h c).2.1.trans (final_s m c), (h c).2.2.1, (h c).2.2.2⟩)
    (Value.run_blocks m ρ)

end Cert.KernelIdeal.Val

end
-- ==== Proof.RefRun.lean ====
/- The reference's run, over the step function of one trip of its loop. A valuation HOLDS a state when the carried buffers
   have the state's fields, the loop's constants have the set-up values and the counter has the trip's number. Each lemma reads one
   value of a trip at such a valuation; together they say that one trip keeps holding, with the step function applied, and
   the last theorem says what the whole run leaves: the fields of the state after sixteen steps. -/
module

public import proofs.«01_k».proof.Proof.Gen.ReferenceIdeal.Run
public import proofs.«01_k».proof.Proof.Gen.ReferenceIdeal.Step

@[expose] public section

set_option maxRecDepth 8192

noncomputable section

namespace Cert.Own.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The contents of a value of the program. -/
abbrev Ct (F : FTy → Type) (r : Ref sig .tc) : Type := (Proc.devRef .tc r : DevRef τ sig).ty.Contents (Elt F)

variable (V0 : Valuation τ sig (Elt F)) (s : State F) (j : ℕ)

/-- The valuation holds the state, the set-up values and the trip's number. -/
structure Holds : Prop where
  f_5 : V0 (Proc.devRef .tc main_v22_5) = s.main_v22_5
  f_6 : V0 (Proc.devRef .tc main_v22_6) = s.main_v22_6
  f_0 : V0 (Proc.devRef .tc main_v22_0) = s.main_v22_0
  f_1 : V0 (Proc.devRef .tc main_v22_1) = s.main_v22_1
  f_2 : V0 (Proc.devRef .tc main_v22_2) = s.main_v22_2
  n_4 : V0 (Proc.devRef .tc main_v22_4) = constantI S_ 32 (BitVec.ofNat 32 j)
  k_3 : V0 (Proc.devRef .tc main_v22_3) = Cert.ReferenceIdeal.Step.K_main_v13 (F := F)

variable {V0 s j}

theorem al_0 (h : Holds V0 s j) : (constantI S_ 32 0#32 : Ct F main_while0b_call0_c) = Step.b0 j s := by
  unfold Step.b0
  rfl
theorem al_1 (h : Holds V0 s j) : (constantI S_ 32 0#32 : Ct F main_while0b_call0_c_0) = Step.b1 j s := by
  unfold Step.b1
  rfl
theorem al_2 (h : Holds V0 s j) : (constantI S_ 32 0#32 : Ct F main_while0b_call0_c_1) = Step.b2 j s := by
  unfold Step.b2
  rfl
theorem al_3 (h : Holds V0 s j) : (constantI S_ 32 0#32 : Ct F main_while0b_call0_c_2) = Step.b3 j s := by
  unfold Step.b3
  rfl
theorem al_4 (h : Holds V0 s j) : (Host.dynamicSlice S1x4x128x8x256 (V0 (Proc.devRef .tc main_v22_0)) (fun k => (((![V0 (Proc.devRef .tc main_v22_4), constantI S_ 32 0#32, constantI S_ 32 0#32, constantI S_ 32 0#32, constantI S_ 32 0#32] : Fin 5 → (⟨S_, .i32⟩ : BufTy).Contents (Elt F))) k (Shape.Idx.first h_S_)).toInt) sliceFits_S16x4x128x8x256_S1x4x128x8x256 : Ct F main_while0b_call0_v0) = Step.b4 j s := by
  unfold Step.b4
  rw [← al_0 h, ← al_1 h, ← al_2 h, ← al_3 h, h.f_0, h.n_4]
  try rfl
theorem al_5 (h : Holds V0 s j) : (res_main_while0b_v55 V0 : Ct F main_while0b_v55) = Step.b5 j s := by
  unfold res_main_while0b_v55 Step.b5
  rw [← al_4 h]
  try rfl
theorem al_6 (h : Holds V0 s j) : (constantI S_ 32 0#32 : Ct F main_while0b_call1_c) = Step.b6 j s := by
  unfold Step.b6
  rfl
theorem al_7 (h : Holds V0 s j) : (constantI S_ 32 0#32 : Ct F main_while0b_call1_c_0) = Step.b7 j s := by
  unfold Step.b7
  rfl
theorem al_8 (h : Holds V0 s j) : (constantI S_ 32 0#32 : Ct F main_while0b_call1_c_1) = Step.b8 j s := by
  unfold Step.b8
  rfl
theorem al_9 (h : Holds V0 s j) : (constantI S_ 32 0#32 : Ct F main_while0b_call1_c_2) = Step.b9 j s := by
  unfold Step.b9
  rfl
theorem al_10 (h : Holds V0 s j) : (Host.dynamicSlice S1x4x128x8x256 (V0 (Proc.devRef .tc main_v22_1)) (fun k => (((![V0 (Proc.devRef .tc main_v22_4), constantI S_ 32 0#32, constantI S_ 32 0#32, constantI S_ 32 0#32, constantI S_ 32 0#32] : Fin 5 → (⟨S_, .i32⟩ : BufTy).Contents (Elt F))) k (Shape.Idx.first h_S_)).toInt) sliceFits_S16x4x128x8x256_S1x4x128x8x256 : Ct F main_while0b_call1_v0) = Step.b10 j s := by
  unfold Step.b10
  rw [← al_6 h, ← al_7 h, ← al_8 h, ← al_9 h, h.f_1, h.n_4]
  try rfl
theorem al_11 (h : Holds V0 s j) : (res_main_while0b_v56 V0 : Ct F main_while0b_v56) = Step.b11 j s := by
  unfold res_main_while0b_v56 Step.b11
  rw [← al_10 h]
  try rfl
theorem al_12 (h : Holds V0 s j) : (constantI S_ 32 0#32 : Ct F main_while0b_call2_c) = Step.b12 j s := by
  unfold Step.b12
  rfl
theorem al_13 (h : Holds V0 s j) : (constantI S_ 32 0#32 : Ct F main_while0b_call2_c_0) = Step.b13 j s := by
  unfold Step.b13
  rfl
theorem al_14 (h : Holds V0 s j) : (constantI S_ 32 0#32 : Ct F main_while0b_call2_c_1) = Step.b14 j s := by
  unfold Step.b14
  rfl
theorem al_15 (h : Holds V0 s j) : (constantI S_ 32 0#32 : Ct F main_while0b_call2_c_2) = Step.b15 j s := by
  unfold Step.b15
  rfl
theorem al_16 (h : Holds V0 s j) : (Host.dynamicSlice S1x4x128x8x256 (V0 (Proc.devRef .tc main_v22_2)) (fun k => (((![V0 (Proc.devRef .tc main_v22_4), constantI S_ 32 0#32, constantI S_ 32 0#32, constantI S_ 32 0#32, constantI S_ 32 0#32] : Fin 5 → (⟨S_, .i32⟩ : BufTy).Contents (Elt F))) k (Shape.Idx.first h_S_)).toInt) sliceFits_S16x4x128x8x256_S1x4x128x8x256 : Ct F main_while0b_call2_v0) = Step.b16 j s := by
  unfold Step.b16
  rw [← al_12 h, ← al_13 h, ← al_14 h, ← al_15 h, h.f_2, h.n_4]
  try rfl
theorem al_17 (h : Holds V0 s j) : (res_main_while0b_v57 V0 : Ct F main_while0b_v57) = Step.b17 j s := by
  unfold res_main_while0b_v57 Step.b17
  rw [← al_16 h]
  try rfl
theorem al_18 (h : Holds V0 s j) : (res_main_while0b_v58 V0 : Ct F main_while0b_v58) = Step.b18 j s := by
  unfold res_main_while0b_v58 Step.b18
  rfl
theorem al_19 (h : Holds V0 s j) : (broadcastInDim S128x1 ![0] bcast_S128_S128x1_0 (res_main_while0b_v58 V0) : Ct F main_while0b_v59) = Step.b19 j s := by
  unfold Step.b19
  rw [← al_18 h]
  try rfl
theorem al_20 (h : Holds V0 s j) : (broadcastInDim S1x128 ![1] bcast_S128_S1x128_1 (res_main_while0b_v58 V0) : Ct F main_while0b_v60) = Step.b20 j s := by
  unfold Step.b20
  rw [← al_18 h]
  try rfl
theorem al_21 (h : Holds V0 s j) : (broadcastInDim S128x128 ![0, 1] bcast_S128x1_S128x128_0_1 (broadcastInDim S128x1 ![0] bcast_S128_S128x1_0 (res_main_while0b_v58 V0)) : Ct F main_while0b_v61) = Step.b21 j s := by
  unfold Step.b21
  rw [← al_19 h]
  try rfl
theorem al_22 (h : Holds V0 s j) : (broadcastInDim S128x128 ![0, 1] bcast_S1x128_S128x128_0_1 (broadcastInDim S1x128 ![1] bcast_S128_S1x128_1 (res_main_while0b_v58 V0)) : Ct F main_while0b_v62) = Step.b22 j s := by
  unfold Step.b22
  rw [← al_20 h]
  try rfl
theorem al_23 (h : Holds V0 s j) : (res_main_while0b_v63 V0 : Ct F main_while0b_v63) = Step.b23 j s := by
  unfold res_main_while0b_v63 Step.b23
  rw [← al_21 h, ← al_22 h]
  try rfl
theorem al_24 (h : Holds V0 s j) : (constant S_ .f32 0x00000000#32 : Ct F main_while0b_cst_14) = Step.b24 j s := by
  unfold Step.b24
  rfl
theorem al_25 (h : Holds V0 s j) : (broadcastInDim S128x128 ![] bcast_S_S128x128 (constant S_ .f32 0x00000000#32) : Ct F main_while0b_v64) = Step.b25 j s := by
  unfold Step.b25
  rw [← al_24 h]
  try rfl
theorem al_26 (h : Holds V0 s j) : (res_main_while0b_v65 V0 : Ct F main_while0b_v65) = Step.b26 j s := by
  unfold res_main_while0b_v65 Step.b26
  rw [← al_23 h, ← al_25 h]
  try rfl
theorem al_27 (h : Holds V0 s j) : (broadcastInDim S8x1x1 ![0] bcast_S8_S8x1x1_0 (V0 (Proc.devRef .tc main_v22_3)) : Ct F main_while0b_v66) = Step.b27 j s := by
  unfold Step.b27
  rw [h.k_3]
  try rfl
theorem al_28 (h : Holds V0 s j) : (constant S_ .f32 0x00000000#32 : Ct F main_while0b_cst_15) = Step.b28 j s := by
  unfold Step.b28
  rfl
theorem al_29 (h : Holds V0 s j) : (id (constant S_ .f32 0x00000000#32) : Ct F main_while0b_call3_v0) = Step.b29 j s := by
  unfold Step.b29
  rw [← al_28 h]
  try rfl
theorem al_30 (h : Holds V0 s j) : (broadcastInDim S128x128 ![] bcast_S_S128x128 (id (constant S_ .f32 0x00000000#32)) : Ct F main_while0b_call3_v1) = Step.b30 j s := by
  unfold Step.b30
  rw [← al_29 h]
  try rfl
theorem al_31 (h : Holds V0 s j) : (select (res_main_while0b_v65 V0) (res_main_while0b_v63 V0) (broadcastInDim S128x128 ![] bcast_S_S128x128 (id (constant S_ .f32 0x00000000#32))) : Ct F main_while0b_v67) = Step.b31 j s := by
  unfold Step.b31
  rw [← al_26 h, ← al_23 h, ← al_30 h]
  try rfl
theorem al_32 (h : Holds V0 s j) : (broadcastInDim S1x128x128 ![1, 2] bcast_S128x128_S1x128x128_1_2 (select (res_main_while0b_v65 V0) (res_main_while0b_v63 V0) (broadcastInDim S128x128 ![] bcast_S_S128x128 (id (constant S_ .f32 0x00000000#32)))) : Ct F main_while0b_v68) = Step.b32 j s := by
  unfold Step.b32
  rw [← al_31 h]
  try rfl
theorem al_33 (h : Holds V0 s j) : (broadcastInDim S8x128x128 ![0, 1, 2] bcast_S8x1x1_S8x128x128_0_1_2 (broadcastInDim S8x1x1 ![0] bcast_S8_S8x1x1_0 (V0 (Proc.devRef .tc main_v22_3))) : Ct F main_while0b_v69) = Step.b33 j s := by
  unfold Step.b33
  rw [← al_27 h]
  try rfl
theorem al_34 (h : Holds V0 s j) : (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32))))) : Ct F main_while0b_v70) = Step.b34 j s := by
  unfold Step.b34
  rw [← al_32 h]
  try rfl
theorem al_35 (h : Holds V0 s j) : (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))) : Ct F main_while0b_v71) = Step.b35 j s := by
  unfold Step.b35
  rw [← al_33 h, ← al_34 h]
  try rfl
theorem al_36 (h : Holds V0 s j) : (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32))))))) : Ct F main_while0b_v72) = Step.b36 j s := by
  unfold Step.b36
  rw [← al_35 h]
  try rfl
theorem al_37 (h : Holds V0 s j) : (constant S_ .f32 0x00000000#32 : Ct F main_while0b_cst_16) = Step.b37 j s := by
  unfold Step.b37
  rfl
theorem al_38 (h : Holds V0 s j) : (id (constant S_ .f32 0x00000000#32) : Ct F main_while0b_call4_v0) = Step.b38 j s := by
  unfold Step.b38
  rw [← al_37 h]
  try rfl
theorem al_39 (h : Holds V0 s j) : (broadcastInDim S8x128x128 ![1, 2] bcast_S128x128_S8x128x128_1_2 (res_main_while0b_v65 V0) : Ct F main_while0b_call4_v1) = Step.b39 j s := by
  unfold Step.b39
  rw [← al_26 h]
  try rfl
theorem al_40 (h : Holds V0 s j) : (broadcastInDim S8x128x128 ![] bcast_S_S8x128x128 (id (constant S_ .f32 0x00000000#32)) : Ct F main_while0b_call4_v2) = Step.b40 j s := by
  unfold Step.b40
  rw [← al_38 h]
  try rfl
theorem al_41 (h : Holds V0 s j) : (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32))) : Ct F main_while0b_v73) = Step.b41 j s := by
  unfold Step.b41
  rw [← al_39 h, ← al_36 h, ← al_40 h]
  try rfl
theorem al_42 (h : Holds V0 s j) : (Host.dotGeneral dot_S4x128x8x256_S4x128x8x256_S4x8x128x128_3_3_1_1_02_02 none (res_main_while0b_v55 V0) (res_main_while0b_v56 V0) : Ct F main_while0b_v74) = Step.b42 j s := by
  unfold Step.b42
  rw [← al_5 h, ← al_11 h]
  try rfl
theorem al_43 (h : Holds V0 s j) : (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32)))) : Ct F main_while0b_v75) = Step.b43 j s := by
  unfold Step.b43
  rw [← al_41 h]
  try rfl
theorem al_44 (h : Holds V0 s j) : (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32))))) : Ct F main_while0b_v76) = Step.b44 j s := by
  unfold Step.b44
  rw [← al_43 h]
  try rfl
theorem al_45 (h : Holds V0 s j) : (mulf (Host.dotGeneral dot_S4x128x8x256_S4x128x8x256_S4x8x128x128_3_3_1_1_02_02 none (res_main_while0b_v55 V0) (res_main_while0b_v56 V0)) (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32)))))) : Ct F main_while0b_v77) = Step.b45 j s := by
  unfold Step.b45
  rw [← al_42 h, ← al_44 h]
  try rfl
theorem al_46 (h : Holds V0 s j) : (Host.dotGeneral dot_S4x128x8x256_S4x8x128x128_S4x8x256x128_1_3_3_2_02_01 none (res_main_while0b_v57 V0) (mulf (Host.dotGeneral dot_S4x128x8x256_S4x128x8x256_S4x8x128x128_3_3_1_1_02_02 none (res_main_while0b_v55 V0) (res_main_while0b_v56 V0)) (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32))))))) : Ct F main_while0b_v78) = Step.b46 j s := by
  unfold Step.b46
  rw [← al_17 h, ← al_45 h]
  try rfl
theorem al_47 (h : Holds V0 s j) : (transpose S4x128x8x256 [0, 3, 1, 2] (Host.dotGeneral dot_S4x128x8x256_S4x8x128x128_S4x8x256x128_1_3_3_2_02_01 none (res_main_while0b_v57 V0) (mulf (Host.dotGeneral dot_S4x128x8x256_S4x128x8x256_S4x8x128x128_3_3_1_1_02_02 none (res_main_while0b_v55 V0) (res_main_while0b_v56 V0)) (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32)))))))) transposes_S4x8x256x128_S4x128x8x256_0_3_1_2 : Ct F main_while0b_v79) = Step.b47 j s := by
  unfold Step.b47
  rw [← al_46 h]
  try rfl
theorem al_48 (h : Holds V0 s j) : (broadcastInDim S1x8 ![1] bcast_S8_S1x8_1 (V0 (Proc.devRef .tc main_v22_3)) : Ct F main_while0b_v80) = Step.b48 j s := by
  unfold Step.b48
  rw [h.k_3]
  try rfl
theorem al_49 (h : Holds V0 s j) : (broadcastInDim S128x1 ![0] bcast_S128_S128x1_0 (res_main_while0b_v58 V0) : Ct F main_while0b_v81) = Step.b49 j s := by
  unfold Step.b49
  rw [← al_18 h]
  try rfl
theorem al_50 (h : Holds V0 s j) : (constant S_ .f32 0x3F800000#32 : Ct F main_while0b_cst_17) = Step.b50 j s := by
  unfold Step.b50
  rfl
theorem al_51 (h : Holds V0 s j) : (broadcastInDim S128x1 ![] bcast_S_S128x1 (constant S_ .f32 0x3F800000#32) : Ct F main_while0b_v82) = Step.b51 j s := by
  unfold Step.b51
  rw [← al_50 h]
  try rfl
theorem al_52 (h : Holds V0 s j) : (addf (broadcastInDim S128x1 ![0] bcast_S128_S128x1_0 (res_main_while0b_v58 V0)) (broadcastInDim S128x1 ![] bcast_S_S128x1 (constant S_ .f32 0x3F800000#32)) : Ct F main_while0b_v83) = Step.b52 j s := by
  unfold Step.b52
  rw [← al_49 h, ← al_51 h]
  try rfl
theorem al_53 (h : Holds V0 s j) : (broadcastInDim S128x8 ![0, 1] bcast_S1x8_S128x8_0_1 (broadcastInDim S1x8 ![1] bcast_S8_S1x8_1 (V0 (Proc.devRef .tc main_v22_3))) : Ct F main_while0b_v84) = Step.b53 j s := by
  unfold Step.b53
  rw [← al_48 h]
  try rfl
theorem al_54 (h : Holds V0 s j) : (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32))) : Ct F main_while0b_v85) = Step.b54 j s := by
  unfold Step.b54
  rw [← al_52 h]
  try rfl
theorem al_55 (h : Holds V0 s j) : (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32)))) : Ct F main_while0b_v86) = Step.b55 j s := by
  unfold Step.b55
  rw [← al_53 h, ← al_54 h]
  try rfl
theorem al_56 (h : Holds V0 s j) : (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32))))) : Ct F main_while0b_v87) = Step.b56 j s := by
  unfold Step.b56
  rw [← al_55 h]
  try rfl
theorem al_57 (h : Holds V0 s j) : (Host.dotGeneral dot_S4x8x256x256_S4x128x8x256_S4x8x256x128_2_3_3_1_01_02 none (V0 (Proc.devRef .tc main_v22_5)) (res_main_while0b_v55 V0) : Ct F main_while0b_v88) = Step.b57 j s := by
  unfold Step.b57
  rw [← al_5 h, h.f_5]
  try rfl
theorem al_58 (h : Holds V0 s j) : (transpose S4x128x8x256 [0, 3, 1, 2] (Host.dotGeneral dot_S4x8x256x256_S4x128x8x256_S4x8x256x128_2_3_3_1_01_02 none (V0 (Proc.devRef .tc main_v22_5)) (res_main_while0b_v55 V0)) transposes_S4x8x256x128_S4x128x8x256_0_3_1_2 : Ct F main_while0b_v89) = Step.b58 j s := by
  unfold Step.b58
  rw [← al_57 h]
  try rfl
theorem al_59 (h : Holds V0 s j) : (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32)))))) : Ct F main_while0b_v90) = Step.b59 j s := by
  unfold Step.b59
  rw [← al_56 h]
  try rfl
theorem al_60 (h : Holds V0 s j) : (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32))))))) : Ct F main_while0b_v91) = Step.b60 j s := by
  unfold Step.b60
  rw [← al_59 h]
  try rfl
theorem al_61 (h : Holds V0 s j) : (mulf (transpose S4x128x8x256 [0, 3, 1, 2] (Host.dotGeneral dot_S4x8x256x256_S4x128x8x256_S4x8x256x128_2_3_3_1_01_02 none (V0 (Proc.devRef .tc main_v22_5)) (res_main_while0b_v55 V0)) transposes_S4x8x256x128_S4x128x8x256_0_3_1_2) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32)))))))) : Ct F main_while0b_v92) = Step.b61 j s := by
  unfold Step.b61
  rw [← al_58 h, ← al_60 h]
  try rfl
theorem al_62 (h : Holds V0 s j) : (broadcastInDim S1x8 ![1] bcast_S8_S1x8_1 (V0 (Proc.devRef .tc main_v22_3)) : Ct F main_while0b_v93) = Step.b62 j s := by
  unfold Step.b62
  rw [h.k_3]
  try rfl
theorem al_63 (h : Holds V0 s j) : (broadcastInDim S128x1 ![0] bcast_S128_S128x1_0 (res_main_while0b_v58 V0) : Ct F main_while0b_v94) = Step.b63 j s := by
  unfold Step.b63
  rw [← al_18 h]
  try rfl
theorem al_64 (h : Holds V0 s j) : (constant S_ .f32 0x42FE0000#32 : Ct F main_while0b_cst_18) = Step.b64 j s := by
  unfold Step.b64
  rfl
theorem al_65 (h : Holds V0 s j) : (broadcastInDim S128x1 ![] bcast_S_S128x1 (constant S_ .f32 0x42FE0000#32) : Ct F main_while0b_v95) = Step.b65 j s := by
  unfold Step.b65
  rw [← al_64 h]
  try rfl
theorem al_66 (h : Holds V0 s j) : (subf (broadcastInDim S128x1 ![] bcast_S_S128x1 (constant S_ .f32 0x42FE0000#32)) (broadcastInDim S128x1 ![0] bcast_S128_S128x1_0 (res_main_while0b_v58 V0)) : Ct F main_while0b_v96) = Step.b66 j s := by
  unfold Step.b66
  rw [← al_65 h, ← al_63 h]
  try rfl
theorem al_67 (h : Holds V0 s j) : (broadcastInDim S128x8 ![0, 1] bcast_S1x8_S128x8_0_1 (broadcastInDim S1x8 ![1] bcast_S8_S1x8_1 (V0 (Proc.devRef .tc main_v22_3))) : Ct F main_while0b_v97) = Step.b67 j s := by
  unfold Step.b67
  rw [← al_62 h]
  try rfl
theorem al_68 (h : Holds V0 s j) : (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0))) : Ct F main_while0b_v98) = Step.b68 j s := by
  unfold Step.b68
  rw [← al_66 h]
  try rfl
theorem al_69 (h : Holds V0 s j) : (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0)))) : Ct F main_while0b_v99) = Step.b69 j s := by
  unfold Step.b69
  rw [← al_67 h, ← al_68 h]
  try rfl
theorem al_70 (h : Holds V0 s j) : (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0))))) : Ct F main_while0b_v100) = Step.b70 j s := by
  unfold Step.b70
  rw [← al_69 h]
  try rfl
theorem al_71 (h : Holds V0 s j) : (constant S_ .f32 0x43000000#32 : Ct F main_while0b_cst_19) = Step.b71 j s := by
  unfold Step.b71
  rfl
theorem al_72 (h : Holds V0 s j) : (broadcastInDim S8 ![] bcast_S_S8 (constant S_ .f32 0x43000000#32) : Ct F main_while0b_v101) = Step.b72 j s := by
  unfold Step.b72
  rw [← al_71 h]
  try rfl
theorem al_73 (h : Holds V0 s j) : (mulf (V0 (Proc.devRef .tc main_v22_3)) (broadcastInDim S8 ![] bcast_S_S8 (constant S_ .f32 0x43000000#32)) : Ct F main_while0b_v102) = Step.b73 j s := by
  unfold Step.b73
  rw [← al_72 h, h.k_3]
  try rfl
theorem al_74 (h : Holds V0 s j) : (Host.exp (mulf (V0 (Proc.devRef .tc main_v22_3)) (broadcastInDim S8 ![] bcast_S_S8 (constant S_ .f32 0x43000000#32))) : Ct F main_while0b_v103) = Step.b74 j s := by
  unfold Step.b74
  rw [← al_73 h]
  try rfl
theorem al_75 (h : Holds V0 s j) : (broadcastInDim S1x8x1x1 ![1] bcast_S8_S1x8x1x1_1 (Host.exp (mulf (V0 (Proc.devRef .tc main_v22_3)) (broadcastInDim S8 ![] bcast_S_S8 (constant S_ .f32 0x43000000#32)))) : Ct F main_while0b_v104) = Step.b75 j s := by
  unfold Step.b75
  rw [← al_74 h]
  try rfl
theorem al_76 (h : Holds V0 s j) : (broadcastInDim S4x8x256x256 ![0, 1, 2, 3] bcast_S1x8x1x1_S4x8x256x256_0_1_2_3 (broadcastInDim S1x8x1x1 ![1] bcast_S8_S1x8x1x1_1 (Host.exp (mulf (V0 (Proc.devRef .tc main_v22_3)) (broadcastInDim S8 ![] bcast_S_S8 (constant S_ .f32 0x43000000#32))))) : Ct F main_while0b_v105) = Step.b76 j s := by
  unfold Step.b76
  rw [← al_75 h]
  try rfl
theorem al_77 (h : Holds V0 s j) : (mulf (broadcastInDim S4x8x256x256 ![0, 1, 2, 3] bcast_S1x8x1x1_S4x8x256x256_0_1_2_3 (broadcastInDim S1x8x1x1 ![1] bcast_S8_S1x8x1x1_1 (Host.exp (mulf (V0 (Proc.devRef .tc main_v22_3)) (broadcastInDim S8 ![] bcast_S_S8 (constant S_ .f32 0x43000000#32)))))) (V0 (Proc.devRef .tc main_v22_5)) : Ct F main_while0b_v106) = Step.b77 j s := by
  unfold Step.b77
  rw [← al_76 h, h.f_5]
  try rfl
theorem al_78 (h : Holds V0 s j) : (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0)))))) : Ct F main_while0b_v107) = Step.b78 j s := by
  unfold Step.b78
  rw [← al_70 h]
  try rfl
theorem al_79 (h : Holds V0 s j) : (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0))))))) : Ct F main_while0b_v108) = Step.b79 j s := by
  unfold Step.b79
  rw [← al_78 h]
  try rfl
theorem al_80 (h : Holds V0 s j) : (mulf (res_main_while0b_v56 V0) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0)))))))) : Ct F main_while0b_v109) = Step.b80 j s := by
  unfold Step.b80
  rw [← al_11 h, ← al_79 h]
  try rfl
theorem al_81 (h : Holds V0 s j) : (Host.dotGeneral dot_S4x128x8x256_S4x128x8x256_S4x8x256x256_1_1_3_3_02_02 none (mulf (res_main_while0b_v56 V0) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0))))))))) (res_main_while0b_v57 V0) : Ct F main_while0b_v110) = Step.b81 j s := by
  unfold Step.b81
  rw [← al_80 h, ← al_17 h]
  try rfl
theorem al_82 (h : Holds V0 s j) : (addf (mulf (broadcastInDim S4x8x256x256 ![0, 1, 2, 3] bcast_S1x8x1x1_S4x8x256x256_0_1_2_3 (broadcastInDim S1x8x1x1 ![1] bcast_S8_S1x8x1x1_1 (Host.exp (mulf (V0 (Proc.devRef .tc main_v22_3)) (broadcastInDim S8 ![] bcast_S_S8 (constant S_ .f32 0x43000000#32)))))) (V0 (Proc.devRef .tc main_v22_5))) (Host.dotGeneral dot_S4x128x8x256_S4x128x8x256_S4x8x256x256_1_1_3_3_02_02 none (mulf (res_main_while0b_v56 V0) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0))))))))) (res_main_while0b_v57 V0)) : Ct F main_while0b_v111) = Step.b82 j s := by
  unfold Step.b82
  rw [← al_77 h, ← al_81 h]
  try rfl
theorem al_83 (h : Holds V0 s j) : (addf (transpose S4x128x8x256 [0, 3, 1, 2] (Host.dotGeneral dot_S4x128x8x256_S4x8x128x128_S4x8x256x128_1_3_3_2_02_01 none (res_main_while0b_v57 V0) (mulf (Host.dotGeneral dot_S4x128x8x256_S4x128x8x256_S4x8x128x128_3_3_1_1_02_02 none (res_main_while0b_v55 V0) (res_main_while0b_v56 V0)) (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32)))))))) transposes_S4x8x256x128_S4x128x8x256_0_3_1_2) (mulf (transpose S4x128x8x256 [0, 3, 1, 2] (Host.dotGeneral dot_S4x8x256x256_S4x128x8x256_S4x8x256x128_2_3_3_1_01_02 none (V0 (Proc.devRef .tc main_v22_5)) (res_main_while0b_v55 V0)) transposes_S4x8x256x128_S4x128x8x256_0_3_1_2) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32))))))))) : Ct F main_while0b_v112) = Step.b83 j s := by
  unfold Step.b83
  rw [← al_47 h, ← al_61 h]
  try rfl
theorem al_84 (h : Holds V0 s j) : (broadcastInDim S1x4x128x8x256 ![1, 2, 3, 4] bcast_S4x128x8x256_S1x4x128x8x256_1_2_3_4 (addf (transpose S4x128x8x256 [0, 3, 1, 2] (Host.dotGeneral dot_S4x128x8x256_S4x8x128x128_S4x8x256x128_1_3_3_2_02_01 none (res_main_while0b_v57 V0) (mulf (Host.dotGeneral dot_S4x128x8x256_S4x128x8x256_S4x8x128x128_3_3_1_1_02_02 none (res_main_while0b_v55 V0) (res_main_while0b_v56 V0)) (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32)))))))) transposes_S4x8x256x128_S4x128x8x256_0_3_1_2) (mulf (transpose S4x128x8x256 [0, 3, 1, 2] (Host.dotGeneral dot_S4x8x256x256_S4x128x8x256_S4x8x256x128_2_3_3_1_01_02 none (V0 (Proc.devRef .tc main_v22_5)) (res_main_while0b_v55 V0)) transposes_S4x8x256x128_S4x128x8x256_0_3_1_2) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32)))))))))) : Ct F main_while0b_call5_v0) = Step.b84 j s := by
  unfold Step.b84
  rw [← al_83 h]
  try rfl
theorem al_85 (h : Holds V0 s j) : (constantI S_ 32 0#32 : Ct F main_while0b_call5_c) = Step.b85 j s := by
  unfold Step.b85
  rfl
theorem al_86 (h : Holds V0 s j) : (constantI S_ 32 0#32 : Ct F main_while0b_call5_c_0) = Step.b86 j s := by
  unfold Step.b86
  rfl
theorem al_87 (h : Holds V0 s j) : (constantI S_ 32 0#32 : Ct F main_while0b_call5_c_1) = Step.b87 j s := by
  unfold Step.b87
  rfl
theorem al_88 (h : Holds V0 s j) : (constantI S_ 32 0#32 : Ct F main_while0b_call5_c_2) = Step.b88 j s := by
  unfold Step.b88
  rfl
theorem al_89 (h : Holds V0 s j) : (Host.dynamicUpdateSlice (V0 (Proc.devRef .tc main_v22_6)) (broadcastInDim S1x4x128x8x256 ![1, 2, 3, 4] bcast_S4x128x8x256_S1x4x128x8x256_1_2_3_4 (addf (transpose S4x128x8x256 [0, 3, 1, 2] (Host.dotGeneral dot_S4x128x8x256_S4x8x128x128_S4x8x256x128_1_3_3_2_02_01 none (res_main_while0b_v57 V0) (mulf (Host.dotGeneral dot_S4x128x8x256_S4x128x8x256_S4x8x128x128_3_3_1_1_02_02 none (res_main_while0b_v55 V0) (res_main_while0b_v56 V0)) (broadcastInDim S4x8x128x128 ![0, 1, 2, 3] bcast_S1x8x128x128_S4x8x128x128_0_1_2_3 (broadcastInDim S1x8x128x128 ![1, 2, 3] bcast_S8x128x128_S1x8x128x128_1_2_3 (select (broadcastInDim S8x128x128 ![1, 2] bcast_S128x128_S8x128x128_1_2 (res_main_while0b_v65 V0)) (Host.exp (mulf (broadcastInDim S8x128x128 ![0, 1, 2] bcast_S8x1x1_S8x128x128_0_1_2 (broadcastInDim S8x1x1 ![0] bcast_S8_S8x1x1_0 (V0 (Proc.devRef .tc main_v22_3)))) (broadcastInDim S8x128x128 ![0, 1, 2] bcast_S1x128x128_S8x128x128_0_1_2 (broadcastInDim S1x128x128 ![1, 2] bcast_S128x128_S1x128x128_1_2 (select (res_main_while0b_v65 V0) (res_main_while0b_v63 V0) (broadcastInDim S128x128 ![] bcast_S_S128x128 (id (constant S_ .f32 0x00000000#32)))))))) (broadcastInDim S8x128x128 ![] bcast_S_S8x128x128 (id (constant S_ .f32 0x00000000#32)))))))) transposes_S4x8x256x128_S4x128x8x256_0_3_1_2) (mulf (transpose S4x128x8x256 [0, 3, 1, 2] (Host.dotGeneral dot_S4x8x256x256_S4x128x8x256_S4x8x256x128_2_3_3_1_01_02 none (V0 (Proc.devRef .tc main_v22_5)) (res_main_while0b_v55 V0)) transposes_S4x8x256x128_S4x128x8x256_0_3_1_2) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (addf (broadcastInDim S128x1 ![0] bcast_S128_S128x1_0 (res_main_while0b_v58 V0)) (broadcastInDim S128x1 ![] bcast_S_S128x1 (constant S_ .f32 0x3F800000#32))))))))))) (fun k => (((![V0 (Proc.devRef .tc main_v22_4), constantI S_ 32 0#32, constantI S_ 32 0#32, constantI S_ 32 0#32, constantI S_ 32 0#32] : Fin 5 → (⟨S_, .i32⟩ : BufTy).Contents (Elt F))) k (Shape.Idx.first h_S_)).toInt) updateFits_S16x4x128x8x256_S1x4x128x8x256 : Ct F main_while0b_v113) = Step.b89 j s := by
  unfold Step.b89
  rw [← al_84 h, ← al_85 h, ← al_86 h, ← al_87 h, ← al_88 h, h.f_6, h.n_4]
  try rfl

/-! One trip's step of the carried values is `step`, field by field; a counter steps to the next number. -/

theorem step_5 (h : Holds V0 s j) : step_main_v22_5 V0 = (step j s).main_v22_5 := by
  unfold step_main_v22_5 Cert.ReferenceIdeal.Step.step
  show id (addf (mulf (broadcastInDim S4x8x256x256 ![0, 1, 2, 3] bcast_S1x8x1x1_S4x8x256x256_0_1_2_3 (broadcastInDim S1x8x1x1 ![1] bcast_S8_S1x8x1x1_1 (Host.exp (mulf (V0 (Proc.devRef .tc main_v22_3)) (broadcastInDim S8 ![] bcast_S_S8 (constant S_ .f32 0x43000000#32)))))) (V0 (Proc.devRef .tc main_v22_5))) (Host.dotGeneral dot_S4x128x8x256_S4x128x8x256_S4x8x256x256_1_1_3_3_02_02 none (mulf (res_main_while0b_v56 V0) (broadcastInDim S4x128x8x256 ![0, 1, 2, 3] bcast_S1x128x8x1_S4x128x8x256_0_1_2_3 (broadcastInDim S1x128x8x1 ![1, 2] bcast_S128x8_S1x128x8x1_1_2 (Host.exp (mulf (broadcastInDim S128x8 ![0, 1] bcast_S1x8_S128x8_0_1 (broadcastInDim S1x8 ![1] bcast_S8_S1x8_1 (V0 (Proc.devRef .tc main_v22_3)))) (broadcastInDim S128x8 ![0, 1] bcast_S128x1_S128x8_0_1 (subf (broadcastInDim S128x1 ![] bcast_S_S128x1 (constant S_ .f32 0x42FE0000#32)) (broadcastInDim S128x1 ![0] bcast_S128_S128x1_0 (res_main_while0b_v58 V0))))))))) (res_main_while0b_v57 V0))) = _
  rw [al_82 h]
  try rfl
theorem step_6 (h : Holds V0 s j) : step_main_v22_6 V0 = (step j s).main_v22_6 := by
  unfold step_main_v22_6 Cert.ReferenceIdeal.Step.step
  exact al_89 h
theorem step_4 (h : Holds V0 s j) : step_main_v22_4 V0 = constantI S_ 32 (BitVec.ofNat 32 (j + 1)) := by
  unfold step_main_v22_4
  rw [h.n_4]
  funext i
  show BitVec.ofNat 32 j + 1#32 = BitVec.ofNat 32 (j + 1)
  simp only [BitVec.ofNat_add]

theorem out_main_v54_holds (h : Holds V0 s j) {x_main_arg0 : (⟨S8192x15360, .bf16⟩ : BufTy).Contents (Elt F)} (h_main_arg0 : V0 (Proc.devRef .tc main_arg0) = x_main_arg0) {x_main_arg1 : (⟨S1x8x256, .f32⟩ : BufTy).Contents (Elt F)} (h_main_arg1 : V0 (Proc.devRef .tc main_arg1) = x_main_arg1) : out_main_v54 V0 = Cert.ReferenceIdeal.Step.R_main_v54 s x_main_arg0 x_main_arg1 := by
  unfold out_main_v54 Cert.ReferenceIdeal.Step.R_main_v54
  rw [h.f_6, h_main_arg0, h_main_arg1]
  try rfl

/-- One trip keeps the valuation holding: `step` of the state, the same set-up values, the next number. -/
theorem holds_step (h : Holds V0 s j) : Holds (STEP V0) (step j s) (j + 1) where
  f_5 := (STEP_main_v22_5 V0).trans (step_5 h)
  f_6 := (STEP_main_v22_6 V0).trans (step_6 h)
  n_4 := (STEP_main_v22_4 V0).trans (step_4 h)
  k_3 := (STEP_main_v22_3 V0).trans h.k_3
  f_0 := (STEP_main_v22_0 V0).trans h.f_0
  f_1 := (STEP_main_v22_1 V0).trans h.f_1
  f_2 := (STEP_main_v22_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v54) = Cert.ReferenceIdeal.Step.R_main_v54 (it c 16) (m ((c.tc : Thread nD τ).loc main_arg0)) (m ((c.tc : Thread nD τ).loc main_arg1))
      ∧ r.2.mem ((c.tc : Thread nD τ).loc main_v22_5) = (it c 16).main_v22_5
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 16
    ⟨(h c).1.trans (out_main_v54_holds hk (iter_main_arg0 m c 16) (iter_main_arg1 m c 16)), (h c).2.1.trans hk.f_5, (h c).2.2.1, (h c).2.2.2⟩) (Value.run m ρ)

end Cert.Own.RefRun

end
-- ==== Proof.RetRef.lean ====
/- The reference of the retention, read: one trip of its loop is one chunk of the recurrence of every head, and what it
   returns is the normalised, gated outputs of the sixteen chunks and the last states. -/
module

public import proofs.«01_k».proof.Proof.RetSpec
public import proofs.«01_k».proof.Proof.RefRun
public import Idealize.ShloMosaic.Lib.DynamicIndex

@[expose] public section

set_option maxRecDepth 16384

noncomputable section

namespace Cert.Own.RetRef

open Idealize.ShloMosaic Idealize.ShloMosaic.TcCoe Idealize.SL.Sem
open Cert.ReferenceIdeal Cert.ReferenceIdeal.Step Cert.Own.Ret

theorem lg_eq (h : Fin 8) : K_main_v13 (F := Ideal) (ix1 h) = lg h := by
  unfold K_main_v13 K_main_v12 K_main_v11 K_main_v10 K_main_v9 K_main_cst_0 K_main_v8 K_main_v7 K_main_cst K_main_v6
  pointwise
  rfl

variable (s : State Ideal) (j : ℕ)

theorem dec_eq (h : Fin 8) (i k : Fin 128) : b41 j s (ix3 h i k) = decT h i k := by
  unfold b41 b40 b39 b38 b37 b36 b35 b34 b33 b32 b31 b30 b29 b28 b27 b26 b25 b24 b23 b22 b21 b20 b19 b18
  pointwise
  rw [lg_eq]
  rfl

theorem qd_eq (h : Fin 8) (i : Fin 128) : b56 j s (ix2 i h) = qdT h i := by
  unfold b56 b55 b54 b53 b52 b51 b50 b49 b48 b18
  pointwise
  rw [lg_eq]
  rfl

theorem kd_eq (h : Fin 8) (i : Fin 128) : b70 j s (ix2 i h) = kdT h i := by
  unfold b70 b69 b68 b67 b66 b65 b64 b63 b62 b18
  pointwise
  rw [lg_eq]
  rfl

theorem gc_eq (h : Fin 8) : b74 j s (ix1 h) = gcT h := by
  unfold b74 b73 b72 b71
  pointwise
  rw [lg_eq]
  rfl

/-- A trip's number, read off its word. -/
theorem word (hj : j < 16) : (BitVec.ofNat 32 j).toInt = (j : ℤ) := by
  rw [BitVec.toInt_eq_toNat_of_lt] <;> simp <;> omega

theorem fits (hj : j < 16) : S16x4x128x8x256.Slices ![j, 0, 0, 0, 0] S1x4x128x8x256 :=
  ⟨rfl, fun a => by
    match a with
    | ⟨0, _⟩ => show j + 1 ≤ 16; omega
    | ⟨1, _⟩ => exact le_rfl
    | ⟨2, _⟩ => exact le_rfl
    | ⟨3, _⟩ => exact le_rfl
    | ⟨4, _⟩ => exact le_rfl⟩

theorem q_at (hj : j < 16) (b : Fin 4) (i : Fin 128) (h : Fin 8) (d : Fin 256) :
    b5 j s (ix4 b i h d) = s.main_v22_0 (ix5 ⟨j, hj⟩ b i h d) := by
  unfold b5 b4
  rw [Host.dynamicSlice_eq_extractStridedSlice _ _ _ ![j, 0, 0, 0, 0] _ (fits j hj) (fun a => by
    match a with
    | ⟨0, _⟩ => exact word j hj
    | ⟨1, _⟩ => rfl
    | ⟨2, _⟩ => rfl
    | ⟨3, _⟩ => rfl
    | ⟨4, _⟩ => rfl)]
  pointwise

theorem k_at (hj : j < 16) (b : Fin 4) (i : Fin 128) (h : Fin 8) (d : Fin 256) :
    b11 j s (ix4 b i h d) = s.main_v22_1 (ix5 ⟨j, hj⟩ b i h d) := by
  unfold b11 b10
  rw [Host.dynamicSlice_eq_extractStridedSlice _ _ _ ![j, 0, 0, 0, 0] _ (fits j hj) (fun a => by
    match a with
    | ⟨0, _⟩ => exact word j hj
    | ⟨1, _⟩ => rfl
    | ⟨2, _⟩ => rfl
    | ⟨3, _⟩ => rfl
    | ⟨4, _⟩ => rfl)]
  pointwise

theorem v_at (hj : j < 16) (b : Fin 4) (i : Fin 128) (h : Fin 8) (d : Fin 256) :
    b17 j s (ix4 b i h d) = s.main_v22_2 (ix5 ⟨j, hj⟩ b i h d) := by
  unfold b17 b16
  rw [Host.dynamicSlice_eq_extractStridedSlice _ _ _ ![j, 0, 0, 0, 0] _ (fits j hj) (fun a => by
    match a with
    | ⟨0, _⟩ => exact word j hj
    | ⟨1, _⟩ => rfl
    | ⟨2, _⟩ => rfl
    | ⟨3, _⟩ => rfl
    | ⟨4, _⟩ => rfl)]
  pointwise

/-- The outputs after a trip: the trip's slot is its chunk's, the others stay. -/
theorem o_at (hj : j < 16) (n : Fin 16) (b : Fin 4) (i : Fin 128) (h : Fin 8) (e : Fin 256) :
    b89 j s (ix5 n b i h e) = if n.val = j then b83 j s (ix4 b i h e) else s.main_v22_6 (ix5 n b i h e) := by
  unfold b89 b84
  rw [Host.dynamicUpdateSlice_eq_updateSlice _ _ _ _ ![j, 0, 0, 0, 0] (fun a => by
    match a with
    | ⟨0, _⟩ =>
      show (min (max (BitVec.ofNat 32 j).toInt 0) _).toNat = j
      rw [word j hj]
      show (min (max (j : ℤ) 0) ((16 - 1 : ℕ) : ℤ)).toNat = j
      omega
    | ⟨1, _⟩ => rfl
    | ⟨2, _⟩ => rfl
    | ⟨3, _⟩ => rfl
    | ⟨4, _⟩ => rfl) (fits j hj)]
  pointwise
  by_cases hnj : n.val = j
  · rw [dif_pos ⟨hnj.ge, by omega⟩, if_pos hnj]
  · rw [dif_neg fun hc => hnj (by omega), if_neg hnj]

/-- What the loop starts from: the arguments cut in chunks, no state, no outputs. -/
theorem z_at (x0) (n : Fin 16) (b : Fin 4) (i : Fin 128) (h : Fin 8) (d : Fin 256) :
    A_main_v16 (F := Ideal) x0 (ix5 n b i h d) = zcut x0 0 b n h i d
    ∧ A_main_v18 (F := Ideal) x0 (ix5 n b i h d) = zcut x0 1 b n h i d
    ∧ A_main_v20 (F := Ideal) x0 (ix5 n b i h d) = zcut x0 2 b n h i d := by
  unfold A_main_v16 A_main_v15 A_main_v1 A_main_v0 A_main_v18 A_main_v17 A_main_v3 A_main_v2 A_main_v20 A_main_v19 A_main_v5 A_main_v4 zcut
  refine ⟨?_, ?_, ?_⟩ <;> pointwise <;> exact z_ix x0 (by dsimp only; omega) (by dsimp only; omega)

/-- The states of the loop. -/
def it (x0 : (⟨S8192x15360, .bf16⟩ : BufTy).Contents (Elt Ideal)) : ℕ → State Ideal
  | 0 => init x0
  | n + 1 => step n (it x0 n)

theorem kept (x0) : ∀ n, (it x0 n).main_v22_0 = A_main_v16 x0 ∧ (it x0 n).main_v22_1 = A_main_v18 x0 ∧ (it x0 n).main_v22_2 = A_main_v20 x0
  | 0 => ⟨rfl, rfl, rfl⟩
  | n + 1 => kept x0 n

/-- After `n` trips the carried states are those of `n` chunks. -/
theorem st_at (x0) : ∀ n, n ≤ 16 → ∀ (b : Fin 4) (h : Fin 8) (d e : Fin 256), (it x0 n).main_v22_5 (ix4 b h d e) = stN x0 b h n d e
  | 0, _, b, h, d, e => by
    show K_main_v14 (F := Ideal) (ix4 b h d e) = (0 : EReal)
    unfold K_main_v14 K_main_cst_1
    pointwise
  | n + 1, hn, b, h, d, e => by
    show b82 n (it x0 n) _ = headS _ _ _ _ _ d e
    have hc : chunk n = ⟨n, by omega⟩ := chunk_val ⟨n, by omega⟩
    unfold b82 b81 b80 b79 b78 b77 b76 b75
    pointwise
    rw [gc_eq, st_at x0 n (by omega), hc]
    unfold headS
    congr 1
    refine Finset.sum_congr rfl fun x _ => ?_
    rw [k_at _ _ (by omega), v_at _ _ (by omega), kd_eq, (kept x0 n).2.1, (kept x0 n).2.2, (z_at x0 _ _ _ _ _).2.1, (z_at x0 _ _ _ _ _).2.2]

/-- A trip's output is its chunk's. -/
theorem out_trip (x0) (n : ℕ) (hn : n < 16) (b : Fin 4) (i : Fin 128) (h : Fin 8) (e : Fin 256) :
    b83 n (it x0 n) (ix4 b i h e) = outN x0 b h n i e := by
  have hc : chunk n = ⟨n, hn⟩ := chunk_val ⟨n, hn⟩
  unfold b83 b61 b60 b59 b58 b57 b47 b46 b45 b44 b43 b42
  pointwise
  unfold outN headO
  rw [qd_eq, hc]
  congr 1
  · refine Finset.sum_congr rfl fun x _ => ?_
    rw [mul_comm]
    congr 1
    · rw [dec_eq]
      congr 1
      refine Finset.sum_congr rfl fun d _ => ?_
      rw [q_at _ _ hn, k_at _ _ hn, (kept x0 n).1, (kept x0 n).2.1, (z_at x0 _ _ _ _ _).1, (z_at x0 _ _ _ _ _).2.1]
    · rw [v_at _ _ hn, (kept x0 n).2.2, (z_at x0 _ _ _ _ _).2.2]
  · congr 1
    refine Finset.sum_congr rfl fun x _ => ?_
    rw [mul_comm, q_at _ _ hn, st_at x0 n hn.le, (kept x0 n).1, (z_at x0 _ _ _ _ _).1]

/-- After `n` trips the first `n` slots hold their chunks' outputs. -/
theorem out_at (x0) : ∀ n, n ≤ 16 → ∀ (k : Fin 16), k.val < n → ∀ (b : Fin 4) (i : Fin 128) (h : Fin 8) (e : Fin 256),
    (it x0 n).main_v22_6 (ix5 k b i h e) = outN x0 b h k.val i e
  | 0, _, k, hk, _, _, _, _ => absurd hk (Nat.not_lt_zero _)
  | n + 1, hn, k, hk, b, i, h, e => by
    show b89 n (it x0 n) _ = _
    rw [o_at _ _ (by omega)]
    split
    · rename_i hkn
      rw [out_trip x0 n (by omega), hkn]
    · exact out_at x0 n (by omega) k (by omega) b i h e

/-- A result at an index, of a state whose slots hold the chunks' outputs. -/
theorem y_at (x0 : ZS.Idx → EReal) (x1) (s : State Ideal) (hs : ∀ k b i h e, s.main_v22_6 (ix5 k b i h e) = outN x0 b h k.val i e)
    (r : Fin 8192) (q : Fin 2048) (n : Fin 16) (b : Fin 4) (i : Fin 128) (h : Fin 8) (e : Fin 256)
    (hn : r.val % 2048 / 128 = n.val) (hb : r.val / 2048 = b.val) (hi : r.val % 2048 % 128 = i.val) (hh : q.val / 256 = h.val) (he : q.val % 256 = e.val) :
    R_main_v54 s x0 x1 (ix2 r q) = yN x0 x1 b h n.val i e := by
  unfold R_main_v54
  pointwise
  have fn : (⟨r.val % 2048 / 128, by omega⟩ : Fin 16) = n := Fin.ext hn
  have fb : (⟨r.val / 2048, by omega⟩ : Fin 4) = b := Fin.ext hb
  have fi : (⟨r.val % 2048 % 128, by omega⟩ : Fin 128) = i := Fin.ext hi
  have fh : (⟨q.val / 256, by omega⟩ : Fin 8) = h := Fin.ext hh
  have fe : (⟨q.val % 256, by omega⟩ : Fin 256) = e := Fin.ext he
  simp only [fn, fb, fi, fh, fe, hs]
  have hz : x0 (ix2 r ⟨6144 + q.val, by omega⟩) = zcut x0 3 b n h i e := by
    unfold zcut
    exact z_ix x0 (by dsimp only; omega) (by show 6144 + q.val = 2048 * 3 + 256 * h.val + e.val; omega)
  rw [hz]
  unfold yN gnorm mean
  rw [chunk_val]

/-- The first result, of any state whose slots hold the chunks' outputs. -/
theorem y_eq (x0 : ZS.Idx → EReal) (x1) (s : State Ideal) (hs : ∀ k b i h e, s.main_v22_6 (ix5 k b i h e) = outN x0 b h k.val i e) :
    R_main_v54 s x0 x1 = resY x0 x1 := by
  funext x
  obtain ⟨r, q, rfl⟩ : ∃ (r : Fin 8192) (q : Fin 2048), x = ix2 r q := ⟨x 0, x 1, eq_ix2 x⟩
  obtain ⟨n, hn⟩ : ∃ n : Fin 16, r.val % 2048 / 128 = n.val := ⟨⟨_, by omega⟩, rfl⟩
  obtain ⟨b, hb⟩ : ∃ b : Fin 4, r.val / 2048 = b.val := ⟨⟨_, by omega⟩, rfl⟩
  obtain ⟨i, hi⟩ : ∃ i : Fin 128, r.val % 2048 % 128 = i.val := ⟨⟨_, by omega⟩, rfl⟩
  obtain ⟨h, hh⟩ : ∃ h : Fin 8, q.val / 256 = h.val := ⟨⟨_, by omega⟩, rfl⟩
  obtain ⟨e, he⟩ : ∃ e : Fin 256, q.val % 256 = e.val := ⟨⟨_, by omega⟩, rfl⟩
  exact (y_at x0 x1 s hs r q n b i h e hn hb hi hh he).trans (resY_at x0 x1 b n i h e r q (by omega) (by omega)).symm

/-- The second result, of any state that holds the states of the sixteen chunks. -/
theorem s_eq (x0) (s : State Ideal) (hs : ∀ b h d e, s.main_v22_5 (ix4 b h d e) = stN x0 b h 16 d e) : s.main_v22_5 = resS x0 := by
  funext x
  obtain ⟨b, h, d, e, rfl⟩ : ∃ (b : Fin 4) (h : Fin 8) (d e : Fin 256), x = ix4 b h d e := ⟨x 0, x 1, x 2, x 3, eq_ix4 x⟩
  exact hs b h d e

variable (m : (ℓ : Loc nD τ sig) → Buf (Elt Ideal) ℓ) (ρ : Dev nD → PrngReg)

/-- The reference's run: both results as the recurrence's, the arguments unchanged. -/
theorem run : θ_run (defs (F := Ideal)) (onTc (τ := τ) (main (F := Ideal))) ⟨m, fun _ => 0, ρ⟩ fun r => ∀ c : Dev nD,
      r.2.mem ((c.tc : Thread nD τ).loc main_v54) = resY (m ((c.tc : Thread nD τ).loc main_arg0)) (m ((c.tc : Thread nD τ).loc main_arg1))
      ∧ r.2.mem ((c.tc : Thread nD τ).loc main_v22_5) = resS (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (y_eq _ _ _ fun k => out_at _ 16 le_rfl k k.isLt), (h c).2.1.trans (s_eq _ _ (st_at _ 16 le_rfl)), (h c).2.2.1, (h c).2.2.2⟩)
    (Cert.Own.RefRun.run_iter m ρ (fun c => it (m ((c.tc : Thread nD τ).loc main_arg0))) (fun _ => rfl) fun _ _ => rfl)

end Cert.Own.RetRef

end
-- ==== Proof.LaySpec.lean ====
/- The gated mix of the two branches, the layer norm and the squared-relu network over the extended reals, row by row,
   written without any program. -/
module

public import Idealize.ShloMosaic.Lib.Pointwise

@[expose] public section

noncomputable section

namespace Cert.Own.Lay

open Idealize.ShloMosaic

/-- The logistic function. -/
def logi (x : EReal) : EReal := Ideal.div 1 (1 + Ideal.exp (-x))

/-- The mean of a row of 2048. -/
def mean (o : Fin 2048 → EReal) : EReal := Ideal.div (∑ e, o e) (Ideal.ofBits .f32 0x45000000#32)

/-- A row normalised, times its gain, plus its offset. -/
def lnorm (x g b : Fin 2048 → EReal) : Fin 2048 → EReal := fun e =>
  (x e - mean x) * Ideal.rsqrt (mean (fun y => (x y - mean x) * (x y - mean x)) + Ideal.ofBits .f32 0x3727C5AC#32) * g e + b e

/-- The scale of the residual, `2^(1/4)` rounded. -/
def al : EReal := Ideal.ofBits .f32 0x3F9837F0#32

/-- A row of the gated mix: each branch's row through its own matrix, times the logistic function of its gate. -/
def mixR (gr ga on : Fin 2048 → EReal) (oa : Fin 1024 → EReal) (wr : Fin 2048 → Fin 2048 → EReal)
    (wa : Fin 1024 → Fin 2048 → EReal) : Fin 2048 → EReal := fun e =>
  logi (gr e) * (∑ k, on k * wr k e) + logi (ga e) * (∑ k, oa k * wa k e)

/-- A row of the residual: the four sequences of 2048 rows one after another. -/
def resX (x : (⟨3, ![4, 2048, 2048]⟩ : Shape).Idx → EReal) (r : Fin 8192) : Fin 2048 → EReal := fun e =>
  x (ix3 ⟨r.val / 2048, by omega⟩ ⟨r.val % 2048, Nat.mod_lt _ (by decide)⟩ e)

/-- A row of the sample's residual: the thirty-two sequences of eight rows one after another. -/
def resXS (x : (⟨3, ![32, 8, 2048]⟩ : Shape).Idx → EReal) (r : Fin 256) : Fin 2048 → EReal := fun e =>
  x (ix3 ⟨r.val / 8, by omega⟩ ⟨r.val % 8, Nat.mod_lt _ (by decide)⟩ e)

/-- A row through the output matrix, added to the scaled residual and normalised. -/
def hRow (x mx : Fin 2048 → EReal) (wo : Fin 2048 → Fin 2048 → EReal) (g b : Fin 2048 → EReal) : Fin 2048 → EReal :=
  lnorm (fun e => al * x e + ∑ d, mx d * wo d e) g b

/-- The square of the positive part. -/
def relu2 (x : EReal) : EReal := max x 0 * max x 0

/-- A row's hidden units. -/
def upR (hb : Fin 2048 → EReal) (wu : Fin 2048 → Fin 8192 → EReal) : Fin 8192 → EReal := fun f =>
  relu2 (∑ d, hb d * wu d f)

/-- A row through the network, added to the scaled residual and normalised. -/
def mlpR (h hb : Fin 2048 → EReal) (wu : Fin 2048 → Fin 8192 → EReal) (wd : Fin 8192 → Fin 2048 → EReal)
    (g b : Fin 2048 → EReal) : Fin 2048 → EReal :=
  lnorm (fun d => al * h d + ∑ f, upR hb wu f * wd f d) g b

/-- A column of the projected rows, from its band's first column. -/
def zc (o : ℕ) (ho : o + 2048 ≤ 15360) (e : Fin 2048) : Fin 15360 := ⟨o + e.val, by omega⟩

/-- The mixed and normalised rows, over whole arrays: the residual, the projected rows, the two branches' rows, the three
    matrices, the gains and the offsets. -/
def hM (x : (⟨3, ![4, 2048, 2048]⟩ : Shape).Idx → EReal) (z : (⟨2, ![8192, 15360]⟩ : Shape).Idx → EReal)
    (on : (⟨2, ![8192, 2048]⟩ : Shape).Idx → EReal) (oa : (⟨2, ![8192, 1024]⟩ : Shape).Idx → EReal)
    (wr : (⟨3, ![1, 2048, 2048]⟩ : Shape).Idx → EReal) (wa : (⟨3, ![1, 1024, 2048]⟩ : Shape).Idx → EReal)
    (wo : (⟨3, ![1, 2048, 2048]⟩ : Shape).Idx → EReal) (g b : (⟨2, ![1, 2048]⟩ : Shape).Idx → EReal) :
    (⟨2, ![8192, 2048]⟩ : Shape).Idx → EReal := fun i =>
  hRow (resX x (i 0)) (mixR (fun e => z (ix2 (i 0) (zc 11264 (by decide) e))) (fun e => z (ix2 (i 0) (zc 13312 (by decide) e)))
      (fun k => on (ix2 (i 0) k)) (fun k => oa (ix2 (i 0) k)) (fun k e => wr (ix3 0 k e)) (fun k e => wa (ix3 0 k e)))
    (fun d e => wo (ix3 0 d e)) (fun e => g (ix2 0 e)) (fun e => b (ix2 0 e)) (i 1)

/-- The same over the sample's rows, over whole arrays: the residual, the projected rows, the two branches' rows, the three
    matrices, the gains and the offsets. -/
def hMS (x : (⟨3, ![32, 8, 2048]⟩ : Shape).Idx → EReal) (z : (⟨2, ![256, 15360]⟩ : Shape).Idx → EReal)
    (on : (⟨2, ![256, 2048]⟩ : Shape).Idx → EReal) (oa : (⟨2, ![256, 1024]⟩ : Shape).Idx → EReal)
    (wr : (⟨3, ![1, 2048, 2048]⟩ : Shape).Idx → EReal) (wa : (⟨3, ![1, 1024, 2048]⟩ : Shape).Idx → EReal)
    (wo : (⟨3, ![1, 2048, 2048]⟩ : Shape).Idx → EReal) (g b : (⟨2, ![1, 2048]⟩ : Shape).Idx → EReal) :
    (⟨2, ![256, 2048]⟩ : Shape).Idx → EReal := fun i =>
  hRow (resXS x (i 0)) (mixR (fun e => z (ix2 (i 0) (zc 11264 (by decide) e))) (fun e => z (ix2 (i 0) (zc 13312 (by decide) e)))
      (fun k => on (ix2 (i 0) k)) (fun k => oa (ix2 (i 0) k)) (fun k e => wr (ix3 0 k e)) (fun k e => wa (ix3 0 k e)))
    (fun d e => wo (ix3 0 d e)) (fun e => g (ix2 0 e)) (fun e => b (ix2 0 e)) (i 1)

/-- The rows through the network, so many as there are, over whole arrays: the rows, their rounded copy, the two matrices, the gains and the
    offsets. -/
def yM {R : ℕ} (h hb : (⟨2, ![R, 2048]⟩ : Shape).Idx → EReal) (wu : (⟨3, ![1, 2048, 8192]⟩ : Shape).Idx → EReal)
    (wd : (⟨3, ![1, 8192, 2048]⟩ : Shape).Idx → EReal) (g b : (⟨2, ![1, 2048]⟩ : Shape).Idx → EReal) :
    (⟨2, ![R, 2048]⟩ : Shape).Idx → EReal := fun i =>
  mlpR (fun d => h (ix2 (i 0) d)) (fun d => hb (ix2 (i 0) d)) (fun d f => wu (ix3 0 d f)) (fun f e => wd (ix3 0 f e))
    (fun e => g (ix2 0 e)) (fun e => b (ix2 0 e)) (i 1)

end Cert.Own.Lay

end
-- ==== Proof.MixPay.lean ====
/- What the mixing kernel's body computes from the blocks it loads, read at an index. -/
module

public import proofs.«01_k».proof.Proof.LaySpec
public import proofs.«01_k».proof.Proof.Gen.Kernel2Ideal.Skeleton
public import Idealize.ShloMosaic.Lib.Pointwise

@[expose] public section

set_option maxRecDepth 16384

noncomputable section

namespace Cert.Kernel2Ideal.Val

open Idealize.ShloMosaic Idealize.ShloMosaic.TcCoe Idealize.SL.Sem
open Cert.Kernel2Ideal Cert.Kernel2Ideal.Gen Cert.Own.Lay

section mix
variable (v0 : Vec Ideal S256x2048 .bf16) (v1 : Vec Ideal S256x1024 .bf16) (v2 : Vec Ideal S2048x512 .bf16)
  (v5 : Vec Ideal S1024x512 .bf16) (v8 v18 : Vec Ideal S256x512 .bf16) (i : Fin 256) (q : Fin 512)

/-- One entry of the gated mix over the loaded blocks. -/
def mx : EReal := logi (v8 (ix2 i q)) * (∑ k : Fin 2048, v0 (ix2 i k) * v2 (ix2 k q))
  + logi (v18 (ix2 i q)) * (∑ k : Fin 1024, v1 (ix2 i k) * v5 (ix2 k q))

/-! The four column slices the body stores one after another hold that entry. -/

theorem pay3_at : k0_pay3 v0 v1 v2 v5 v8 v18 (ix2 i q) = mx v0 v1 v2 v5 v8 v18 i q := by
  unfold k0_pay3
  pointwise
  simp only [mx, logi, zero_sub]

theorem pay4_at : k0_pay4 v0 v1 v2 v5 v8 v18 (ix2 i q) = mx v0 v1 v2 v5 v8 v18 i q := by
  unfold k0_pay4
  pointwise
  simp only [mx, logi, zero_sub]

theorem pay7_at : k0_pay7 (k0_pay5 v0 v2) (k0_pay6 v1 v5) v8 v18 (ix2 i q) = mx v0 v1 v2 v5 v8 v18 i q := by
  unfold k0_pay7 k0_pay5 k0_pay6
  pointwise
  simp only [mx, logi, zero_sub]

theorem pay11_at : k0_pay11 (k0_pay8 v0 v2) (k0_pay9 v1 v5) (k0_pay10 v8) v18 (ix2 i q) = mx v0 v1 v2 v5 v8 v18 i q := by
  unfold k0_pay11 k0_pay8 k0_pay9 k0_pay10
  pointwise
  simp only [mx, logi, zero_sub]

end mix

section norm
variable (g b : Vec Ideal S1x2048 .f32) (x w : Vec Ideal S256x2048 .f32) (mm : Vec Ideal S256x2048 .bf16)
  (wo : Vec Ideal S2048x2048 .bf16) (i : Fin 256) (e : Fin 2048)

/-- The centred row before the norm's scale. -/
theorem pay14_at : k0_pay14 x mm wo (ix2 i e)
    = (fun y => al * x (ix2 i y) + ∑ d, mm (ix2 i d) * wo (ix2 d y)) e
      - mean (fun y => al * x (ix2 i y) + ∑ d, mm (ix2 i d) * wo (ix2 d y)) := by
  unfold k0_pay14
  pointwise
  simp only [mean, al]

/-- The norm's scale, gain and offset on a centred row. -/
theorem pay1_at : k0_pay1 (k0_pay12 g) (k0_pay13 b) w (ix2 i e)
    = w (ix2 i e) * Ideal.rsqrt (mean (fun y => w (ix2 i y) * w (ix2 i y)) + Ideal.ofBits .f32 0x3727C5AC#32) * g (ix2 0 e)
      + b (ix2 0 e) := by
  unfold k0_pay12 k0_pay13
  unfold k0_pay1
  pointwise
  simp only [mean]

/-- The same row rounded: over the extended reals it is the same row. -/
theorem pay2_at : k0_pay2 (k0_pay12 g) (k0_pay13 b) w (ix2 i e)
    = w (ix2 i e) * Ideal.rsqrt (mean (fun y => w (ix2 i y) * w (ix2 i y)) + Ideal.ofBits .f32 0x3727C5AC#32) * g (ix2 0 e)
      + b (ix2 0 e) := by
  unfold k0_pay2 k0_pay1 k0_pay12 k0_pay13
  pointwise
  simp only [mean]

/-- The row the body stores as its first result … -/
theorem h_pay : k0_pay1 (k0_pay12 g) (k0_pay13 b) (k0_pay14 x mm wo) (ix2 i e)
    = hRow (fun y => x (ix2 i y)) (fun y => mm (ix2 i y)) (fun d y => wo (ix2 d y)) (fun y => g (ix2 0 y)) (fun y => b (ix2 0 y)) e := by
  rw [pay1_at]
  simp only [pay14_at]
  rfl

/-- … and as its second. -/
theorem hb_pay : k0_pay2 (k0_pay12 g) (k0_pay13 b) (k0_pay14 x mm wo) (ix2 i e)
    = hRow (fun y => x (ix2 i y)) (fun y => mm (ix2 i y)) (fun d y => wo (ix2 d y)) (fun y => g (ix2 0 y)) (fun y => b (ix2 0 y)) e := by
  rw [pay2_at]
  simp only [pay14_at]
  rfl

end norm

end Cert.Kernel2Ideal.Val

end
-- ==== Proof.MixKernel.lean ====
/- The mixing kernel, read: a grid point takes 256 rows, fills its scratch with their gated mix, and stores the rows'
   normalised sums in both results. -/
module

public import proofs.«01_k».proof.Proof.MixPay
public import proofs.«01_k».proof.Proof.RetBlock
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Val

open Idealize.ShloMosaic Idealize.ShloMosaic.TcCoe Idealize.SL.Sem
open Cert.Kernel2Ideal Cert.Kernel2Ideal.Gen Cert.Own.Lay
open Cert.KernelIdeal.Val (canon_hit canon_miss)

/-- A slice of columns, loaded from a block. -/
theorem ld2 {Val : EltTy → Type} {e : EltTy} {n0 n1 k0 k1 : ℕ} (X : (⟨2, ![n0, n1]⟩ : Shape).Idx → Val e) (h : ℕ)
    (inb : ∀ a, (![0, h] : Fin 2 → ℕ) a + (![k0, k1] : Fin 2 → ℕ) a ≤ (⟨2, ![n0, n1]⟩ : Shape).size a)
    (i : Fin k0) (j : Fin k1) :
    View.ld X (Rect.unit (s := ⟨2, ![n0, n1]⟩) ![0, h] ![k0, k1] inb) (ix2 i j)
      = X (ix2 ⟨i.val, lt_of_lt_of_le i.isLt (by simpa using inb 0)⟩
          ⟨h + j.val, lt_of_lt_of_le (Nat.add_lt_add_left j.isLt h) (inb 1)⟩) :=
  View.ld_unit_apply_of _ _ _ _ _ _ fun b => by
    match b with
    | ⟨0, _⟩ => show i.val = 0 + i.val; omega
    | ⟨1, _⟩ => show h + j.val = h + j.val; rfl

variable (m : (ℓ : Loc nD τ sig) → Buf (Elt Ideal) ℓ) (c : Dev nD)

/-! The kernel's arguments: the residual rows, the projected rows, the two branches' rows, the three matrices, the gains and
    the offsets. -/

abbrev xA : S4x2048x2048.Idx → EReal := m ((c.tc : Thread nD τ).loc main_arg0)
abbrev zA : S8192x15360.Idx → EReal := m ((c.tc : Thread nD τ).loc main_arg1)
abbrev onA : S8192x2048.Idx → EReal := m ((c.tc : Thread nD τ).loc main_arg2)
abbrev oaA : S8192x1024.Idx → EReal := m ((c.tc : Thread nD τ).loc main_arg3)
abbrev wrA : S1x2048x2048.Idx → EReal := m ((c.tc : Thread nD τ).loc main_arg4)
abbrev waA : S1x1024x2048.Idx → EReal := m ((c.tc : Thread nD τ).loc main_arg5)
abbrev woA : S1x2048x2048.Idx → EReal := m ((c.tc : Thread nD τ).loc main_arg6)
abbrev gA : S1x2048.Idx → EReal := m ((c.tc : Thread nD τ).loc main_arg7)
abbrev bA : S1x2048.Idx → EReal := m ((c.tc : Thread nD τ).loc main_arg8)

/-! ## The tables the host computes -/

theorem x_eq (r : Fin 8192) (e : Fin 2048) : (V m c main_v6 : S8192x2048.Idx → EReal) (ix2 r e) = resX (xA m c) r e := by
  show StableHlo.after _ _ _ _ = _
  simp only [hostOps0]
  after_results
  pointwise
  try rfl

theorem wr_eq (k e : Fin 2048) : (V m c main_v1 : S2048x2048.Idx → EReal) (ix2 k e) = wrA m c (ix3 0 k e) := by
  show StableHlo.after _ _ _ _ = _
  simp only [hostOps0]
  after_results
  pointwise
  try rfl

theorem wa_eq (k : Fin 1024) (e : Fin 2048) : (V m c main_v3 : S1024x2048.Idx → EReal) (ix2 k e) = waA m c (ix3 0 k e) := by
  show StableHlo.after _ _ _ _ = _
  simp only [hostOps0]
  after_results
  pointwise
  try rfl

theorem wo_eq (k e : Fin 2048) : (V m c main_v5 : S2048x2048.Idx → EReal) (ix2 k e) = woA m c (ix3 0 k e) := by
  show StableHlo.after _ _ _ _ = _
  simp only [hostOps0]
  after_results
  pointwise
  try rfl

theorem g_eq (e : Fin 2048) : (V m c main_v8 : S1x2048.Idx → EReal) (ix2 0 e) = gA m c (ix2 0 e) := by
  show StableHlo.after _ _ _ _ = _
  simp only [hostOps0]
  after_results
  pointwise
  try rfl

theorem b_eq (e : Fin 2048) : (V m c main_v10 : S1x2048.Idx → EReal) (ix2 0 e) = bA m c (ix2 0 e) := by
  show StableHlo.after _ _ _ _ = _
  simp only [hostOps0]
  after_results
  pointwise
  try rfl

/-! ## The blocks of a grid point -/

/-- A row of a grid point. -/
def rB (t : Fin cfg0.N) (i : Fin 256) : Fin 8192 := ⟨256 * t.val + i.val, by have h : t.val < 32 := lt_of_lt_of_eq t.isLt N_0; omega⟩

theorem wz : ∀ t : Fin grid0.N,
    (win0_0.index t 0 = t.val ∧ win0_0.index t 1 = 0) ∧ (win0_1.index t 0 = t.val ∧ win0_1.index t 1 = 0)
    ∧ (win0_4.index t 0 = t.val ∧ win0_4.index t 1 = 11) ∧ (win0_5.index t 0 = t.val ∧ win0_5.index t 1 = 12)
    ∧ (win0_6.index t 0 = t.val ∧ win0_6.index t 1 = 13) ∧ (win0_7.index t 0 = t.val ∧ win0_7.index t 1 = 14)
    ∧ (win0_9.index t 0 = t.val ∧ win0_9.index t 1 = 0) := by
  decide +kernel

theorem wt : ∀ t : Fin grid0.N,
    (win0_2.index t 0 = 0 ∧ win0_2.index t 1 = 0) ∧ (win0_3.index t 0 = 0 ∧ win0_3.index t 1 = 0)
    ∧ (win0_8.index t 0 = 0 ∧ win0_8.index t 1 = 0) ∧ (win0_10.index t 0 = 0 ∧ win0_10.index t 1 = 0)
    ∧ (win0_11.index t 0 = 0 ∧ win0_11.index t 1 = 0)
    ∧ (win0_12.index t 0 = t.val ∧ win0_12.index t 1 = 0) ∧ (win0_13.index t 0 = t.val ∧ win0_13.index t 1 = 0) := by
  decide +kernel

theorem blk_on (t : Fin cfg0.N) (i : Fin 256) (k : Fin 2048) : (iblk m c 0 t : S256x2048.Idx → EReal) (ix2 i k) = onA m c (ix2 (rB t i) k) := by
  unfold iblk
  rw [View.read_apply, show V m c (Pipeline.arrRef spec0 0) = V m c main_arg2 from rfl, V_main_arg2]
  show onA m c _ = _
  congr 1
  funext a
  refine Fin.ext ?_
  have hw := wz t
  match a with
  | ⟨0, _⟩ =>
    show win0_0.index t 0 * 256 + 1 * i.val = 256 * t.val + i.val
    omega
  | ⟨1, _⟩ =>
    show win0_0.index t 1 * 2048 + 1 * k.val = k.val
    omega

theorem blk_oa (t : Fin cfg0.N) (i : Fin 256) (k : Fin 1024) : (iblk m c 1 t : S256x1024.Idx → EReal) (ix2 i k) = oaA m c (ix2 (rB t i) k) := by
  unfold iblk
  rw [View.read_apply, show V m c (Pipeline.arrRef spec0 1) = V m c main_arg3 from rfl, V_main_arg3]
  show oaA m c _ = _
  congr 1
  funext a
  refine Fin.ext ?_
  have hw := wz t
  match a with
  | ⟨0, _⟩ =>
    show win0_1.index t 0 * 256 + 1 * i.val = 256 * t.val + i.val
    omega
  | ⟨1, _⟩ =>
    show win0_1.index t 1 * 1024 + 1 * k.val = k.val
    omega

theorem blk_wr (t : Fin cfg0.N) (k e : Fin 2048) : (iblk m c 2 t : S2048x2048.Idx → EReal) (ix2 k e) = wrA m c (ix3 0 k e) := by
  rw [← wr_eq m c k e]
  unfold iblk
  rw [View.read_apply]
  show (V m c main_v1 : S2048x2048.Idx → EReal) _ = _
  congr 1
  funext a
  refine Fin.ext ?_
  have hw := wt t
  match a with
  | ⟨0, _⟩ =>
    show win0_2.index t 0 * 2048 + 1 * k.val = k.val
    omega
  | ⟨1, _⟩ =>
    show win0_2.index t 1 * 2048 + 1 * e.val = e.val
    omega

theorem blk_wa (t : Fin cfg0.N) (k : Fin 1024) (e : Fin 2048) : (iblk m c 3 t : S1024x2048.Idx → EReal) (ix2 k e) = waA m c (ix3 0 k e) := by
  rw [← wa_eq m c k e]
  unfold iblk
  rw [View.read_apply]
  show (V m c main_v3 : S1024x2048.Idx → EReal) _ = _
  congr 1
  funext a
  refine Fin.ext ?_
  have hw := wt t
  match a with
  | ⟨0, _⟩ =>
    show win0_3.index t 0 * 1024 + 1 * k.val = k.val
    omega
  | ⟨1, _⟩ =>
    show win0_3.index t 1 * 2048 + 1 * e.val = e.val
    omega

theorem blk_gr0 (t : Fin cfg0.N) (i : Fin 256) (q : Fin 1024) (e : Fin 2048) (he : e.val = 0 + q.val) : (iblk m c 4 t : S256x1024.Idx → EReal) (ix2 i q) = zA m c (ix2 (rB t i) (zc 11264 (by decide) e)) := by
  unfold iblk
  rw [View.read_apply, show V m c (Pipeline.arrRef spec0 4) = V m c main_arg1 from rfl, V_main_arg1]
  show zA m c _ = _
  congr 1
  funext a
  refine Fin.ext ?_
  have hw := wz t
  match a with
  | ⟨0, _⟩ =>
    show win0_4.index t 0 * 256 + 1 * i.val = 256 * t.val + i.val
    omega
  | ⟨1, _⟩ =>
    show win0_4.index t 1 * 1024 + 1 * q.val = 11264 + e.val
    omega

theorem blk_gr1 (t : Fin cfg0.N) (i : Fin 256) (q : Fin 1024) (e : Fin 2048) (he : e.val = 1024 + q.val) : (iblk m c 5 t : S256x1024.Idx → EReal) (ix2 i q) = zA m c (ix2 (rB t i) (zc 11264 (by decide) e)) := by
  unfold iblk
  rw [View.read_apply, show V m c (Pipeline.arrRef spec0 5) = V m c main_arg1 from rfl, V_main_arg1]
  show zA m c _ = _
  congr 1
  funext a
  refine Fin.ext ?_
  have hw := wz t
  match a with
  | ⟨0, _⟩ =>
    show win0_5.index t 0 * 256 + 1 * i.val = 256 * t.val + i.val
    omega
  | ⟨1, _⟩ =>
    show win0_5.index t 1 * 1024 + 1 * q.val = 11264 + e.val
    omega

theorem blk_ga0 (t : Fin cfg0.N) (i : Fin 256) (q : Fin 1024) (e : Fin 2048) (he : e.val = 0 + q.val) : (iblk m c 6 t : S256x1024.Idx → EReal) (ix2 i q) = zA m c (ix2 (rB t i) (zc 13312 (by decide) e)) := by
  unfold iblk
  rw [View.read_apply, show V m c (Pipeline.arrRef spec0 6) = V m c main_arg1 from rfl, V_main_arg1]
  show zA m c _ = _
  congr 1
  funext a
  refine Fin.ext ?_
  have hw := wz t
  match a with
  | ⟨0, _⟩ =>
    show win0_6.index t 0 * 256 + 1 * i.val = 256 * t.val + i.val
    omega
  | ⟨1, _⟩ =>
    show win0_6.index t 1 * 1024 + 1 * q.val = 13312 + e.val
    omega

theorem blk_ga1 (t : Fin cfg0.N) (i : Fin 256) (q : Fin 1024) (e : Fin 2048) (he : e.val = 1024 + q.val) : (iblk m c 7 t : S256x1024.Idx → EReal) (ix2 i q) = zA m c (ix2 (rB t i) (zc 13312 (by decide) e)) := by
  unfold iblk
  rw [View.read_apply, show V m c (Pipeline.arrRef spec0 7) = V m c main_arg1 from rfl, V_main_arg1]
  show zA m c _ = _
  congr 1
  funext a
  refine Fin.ext ?_
  have hw := wz t
  match a with
  | ⟨0, _⟩ =>
    show win0_7.index t 0 * 256 + 1 * i.val = 256 * t.val + i.val
    omega
  | ⟨1, _⟩ =>
    show win0_7.index t 1 * 1024 + 1 * q.val = 13312 + e.val
    omega

theorem blk_wo (t : Fin cfg0.N) (k e : Fin 2048) : (iblk m c 8 t : S2048x2048.Idx → EReal) (ix2 k e) = woA m c (ix3 0 k e) := by
  rw [← wo_eq m c k e]
  unfold iblk
  rw [View.read_apply]
  show (V m c main_v5 : S2048x2048.Idx → EReal) _ = _
  congr 1
  funext a
  refine Fin.ext ?_
  have hw := wt t
  match a with
  | ⟨0, _⟩ =>
    show win0_8.index t 0 * 2048 + 1 * k.val = k.val
    omega
  | ⟨1, _⟩ =>
    show win0_8.index t 1 * 2048 + 1 * e.val = e.val
    omega

theorem blk_x (t : Fin cfg0.N) (i : Fin 256) (e : Fin 2048) : (iblk m c 9 t : S256x2048.Idx → EReal) (ix2 i e) = resX (xA m c) (rB t i) e := by
  rw [← x_eq m c (rB t i) e]
  unfold iblk
  rw [View.read_apply]
  show (V m c main_v6 : S8192x2048.Idx → EReal) _ = _
  congr 1
  funext a
  refine Fin.ext ?_
  have hw := wz t
  match a with
  | ⟨0, _⟩ =>
    show win0_9.index t 0 * 256 + 1 * i.val = 256 * t.val + i.val
    omega
  | ⟨1, _⟩ =>
    show win0_9.index t 1 * 2048 + 1 * e.val = e.val
    omega

theorem blk_g (t : Fin cfg0.N) (e : Fin 2048) : (iblk m c 10 t : S1x2048.Idx → EReal) (ix2 0 e) = gA m c (ix2 0 e) := by
  rw [← g_eq m c e]
  unfold iblk
  rw [View.read_apply]
  show (V m c main_v8 : S1x2048.Idx → EReal) _ = _
  congr 1
  funext a
  refine Fin.ext ?_
  have hw := wt t
  match a with
  | ⟨0, _⟩ =>
    show win0_10.index t 0 * 1 + 1 * 0 = 0
    omega
  | ⟨1, _⟩ =>
    show win0_10.index t 1 * 2048 + 1 * e.val = e.val
    omega

theorem blk_b (t : Fin cfg0.N) (e : Fin 2048) : (iblk m c 11 t : S1x2048.Idx → EReal) (ix2 0 e) = bA m c (ix2 0 e) := by
  rw [← b_eq m c e]
  unfold iblk
  rw [View.read_apply]
  show (V m c main_v10 : S1x2048.Idx → EReal) _ = _
  congr 1
  funext a
  refine Fin.ext ?_
  have hw := wt t
  match a with
  | ⟨0, _⟩ =>
    show win0_11.index t 0 * 1 + 1 * 0 = 0
    omega
  | ⟨1, _⟩ =>
    show win0_11.index t 1 * 2048 + 1 * e.val = e.val
    omega

/-! ## The mix in the scratch -/

/-- A row of the gated mix of the arguments. -/
abbrev mixA (r : Fin 8192) : Fin 2048 → EReal :=
  mixR (fun e => zA m c (ix2 r (zc 11264 (by decide) e))) (fun e => zA m c (ix2 r (zc 13312 (by decide) e)))
    (fun k => onA m c (ix2 r k)) (fun k => oaA m c (ix2 r k)) (fun k e => wrA m c (ix3 0 k e)) (fun k e => waA m c (ix3 0 k e))

/-- A row of the first result. -/
abbrev hA (r : Fin 8192) : Fin 2048 → EReal :=
  hRow (resX (xA m c) r) (mixA m c r) (fun d e => woA m c (ix3 0 d e)) (fun e => gA m c (ix2 0 e)) (fun e => bA m c (ix2 0 e))

/-- One slice's entry: the loaded blocks' entry is the mix's, where the gates' slices hold the gates of its column. -/
theorem mx_eq (t : Fin cfg0.N) (i : Fin 256) (q : Fin 512) (o : ℕ) (inb1 inb2) (G H : Vec Ideal S256x512 .bf16) (e : Fin 2048)
    (he : e.val = o + q.val) (hG : G (ix2 i q) = zA m c (ix2 (rB t i) (zc 11264 (by decide) e)))
    (hH : H (ix2 i q) = zA m c (ix2 (rB t i) (zc 13312 (by decide) e))) :
    mx (iblk m c 0 t) (iblk m c 1 t) (View.ld (iblk m c 2 t) (Rect.unit ![0, o] ![2048, 512] inb1))
      (View.ld (iblk m c 3 t) (Rect.unit ![0, o] ![1024, 512] inb2)) G H i q = mixA m c (rB t i) e := by
  have h1 : ∀ k : Fin 2048, View.ld (iblk m c 2 t) (Rect.unit ![0, o] ![2048, 512] inb1) (ix2 k q) = wrA m c (ix3 0 k e) := fun k => by
    rw [← blk_wr m c t k e]
    refine (ld2 (iblk m c 2 t) o inb1 k q).trans ?_
    congr 2
    exact Fin.ext he.symm
  have h2 : ∀ k : Fin 1024, View.ld (iblk m c 3 t) (Rect.unit ![0, o] ![1024, 512] inb2) (ix2 k q) = waA m c (ix3 0 k e) := fun k => by
    rw [← blk_wa m c t k e]
    refine (ld2 (iblk m c 3 t) o inb2 k q).trans ?_
    congr 2
    exact Fin.ext he.symm
  unfold mx
  simp only [h1, h2, hG, hH, blk_on, blk_oa]
  rfl

/-- The four stores of the mix. -/
abbrev mixL (t : Fin cfg0.N) : List (View.Piece (Elt Ideal) S256x2048 .bf16) :=
  [⟨Rect.unit ![0, 1536] ![256, 512] inb_S256x2048_S256x512_0_1536,
            k0_pay11
              (k0_pay8 (iblk m c 0 t)
                (View.ld (iblk m c 2 t) (Rect.unit ![0, 1536] ![2048, 512] inb_S2048x2048_S2048x512_0_1536)))
              (k0_pay9 (iblk m c 1 t)
                (View.ld (iblk m c 3 t) (Rect.unit ![0, 1536] ![1024, 512] inb_S1024x2048_S1024x512_0_1536)))
              (k0_pay10 (View.ld (iblk m c 5 t) (Rect.unit ![0, 512] ![256, 512] inb_S256x1024_S256x512_0_512)))
              (View.ld (iblk m c 7 t) (Rect.unit ![0, 512] ![256, 512] inb_S256x1024_S256x512_0_512))⟩,
          ⟨Rect.unit ![0, 1024] ![256, 512] inb_S256x2048_S256x512_0_1024,
            k0_pay7
              (k0_pay5 (iblk m c 0 t)
                (View.ld (iblk m c 2 t) (Rect.unit ![0, 1024] ![2048, 512] inb_S2048x2048_S2048x512_0_1024)))
              (k0_pay6 (iblk m c 1 t)
                (View.ld (iblk m c 3 t) (Rect.unit ![0, 1024] ![1024, 512] inb_S1024x2048_S1024x512_0_1024)))
              (View.ld (iblk m c 5 t) (Rect.unit ![0, 0] ![256, 512] inb_S256x1024_S256x512_0_0))
              (View.ld (iblk m c 7 t) (Rect.unit ![0, 0] ![256, 512] inb_S256x1024_S256x512_0_0))⟩,
          ⟨Rect.unit ![0, 512] ![256, 512] inb_S256x2048_S256x512_0_512,
            k0_pay4 (iblk m c 0 t) (iblk m c 1 t)
              (View.ld (iblk m c 2 t) (Rect.unit ![0, 512] ![2048, 512] inb_S2048x2048_S2048x512_0_512))
              (View.ld (iblk m c 3 t) (Rect.unit ![0, 512] ![1024, 512] inb_S1024x2048_S1024x512_0_512))
              (View.ld (iblk m c 4 t) (Rect.unit ![0, 512] ![256, 512] inb_S256x1024_S256x512_0_512))
              (View.ld (iblk m c 6 t) (Rect.unit ![0, 512] ![256, 512] inb_S256x1024_S256x512_0_512))⟩,
          ⟨Rect.unit ![0, 0] ![256, 512] inb_S256x2048_S256x512_0_0,
            k0_pay3 (iblk m c 0 t) (iblk m c 1 t)
              (View.ld (iblk m c 2 t) (Rect.unit ![0, 0] ![2048, 512] inb_S2048x2048_S2048x512_0_0))
              (View.ld (iblk m c 3 t) (Rect.unit ![0, 0] ![1024, 512] inb_S1024x2048_S1024x512_0_0))
              (View.ld (iblk m c 4 t) (Rect.unit ![0, 0] ![256, 512] inb_S256x1024_S256x512_0_0))
              (View.ld (iblk m c 6 t) (Rect.unit ![0, 0] ![256, 512] inb_S256x1024_S256x512_0_0))⟩]

theorem mixL_at (t : Fin cfg0.N) (i : Fin 256) (e : Fin 2048) :
    View.canon (mixL m c t) (ix2 i e) = mixA m c (rB t i) e := by
  by_cases h3 : 1536 ≤ e.val
  · obtain ⟨q, hq⟩ : ∃ q : Fin 512, e.val = 1536 + q.val := ⟨⟨e.val - 1536, by omega⟩, by dsimp only; omega⟩
    refine (canon_hit (ix2 i q) fun a => by
      match a with
      | ⟨0, _⟩ => show i.val = 0 + i.val; omega
      | ⟨1, _⟩ => exact hq).trans ?_
    refine (pay11_at ..).trans (mx_eq m c t i q 1536 _ _ _ _ e hq ?_ ?_)
    · exact (ld2 (iblk m c 5 t) 512 _ i q).trans (blk_gr1 m c t i _ e (by dsimp only; omega))
    · exact (ld2 (iblk m c 7 t) 512 _ i q).trans (blk_ga1 m c t i _ e (by dsimp only; omega))
  refine (canon_miss ⟨1, by decide⟩ (.inl (by show e.val < 1536; omega))).trans ?_
  by_cases h2 : 1024 ≤ e.val
  · obtain ⟨q, hq⟩ : ∃ q : Fin 512, e.val = 1024 + q.val := ⟨⟨e.val - 1024, by omega⟩, by dsimp only; omega⟩
    refine (canon_hit (ix2 i q) fun a => by
      match a with
      | ⟨0, _⟩ => show i.val = 0 + i.val; omega
      | ⟨1, _⟩ => exact hq).trans ?_
    refine (pay7_at ..).trans (mx_eq m c t i q 1024 _ _ _ _ e hq ?_ ?_)
    · exact (ld2 (iblk m c 5 t) 0 _ i q).trans (blk_gr1 m c t i _ e (by dsimp only; omega))
    · exact (ld2 (iblk m c 7 t) 0 _ i q).trans (blk_ga1 m c t i _ e (by dsimp only; omega))
  refine (canon_miss ⟨1, by decide⟩ (.inl (by show e.val < 1024; omega))).trans ?_
  by_cases h1 : 512 ≤ e.val
  · obtain ⟨q, hq⟩ : ∃ q : Fin 512, e.val = 512 + q.val := ⟨⟨e.val - 512, by omega⟩, by dsimp only; omega⟩
    refine (canon_hit (ix2 i q) fun a => by
      match a with
      | ⟨0, _⟩ => show i.val = 0 + i.val; omega
      | ⟨1, _⟩ => exact hq).trans ?_
    refine (pay4_at ..).trans (mx_eq m c t i q 512 _ _ _ _ e hq ?_ ?_)
    · exact (ld2 (iblk m c 4 t) 512 _ i q).trans (blk_gr0 m c t i _ e (by dsimp only; omega))
    · exact (ld2 (iblk m c 6 t) 512 _ i q).trans (blk_ga0 m c t i _ e (by dsimp only; omega))
  refine (canon_miss ⟨1, by decide⟩ (.inl (by show e.val < 512; omega))).trans ?_
  obtain ⟨q, hq⟩ : ∃ q : Fin 512, e.val = 0 + q.val := ⟨⟨e.val, by omega⟩, by dsimp only; omega⟩
  refine (canon_hit (ix2 i q) fun a => by
    match a with
    | ⟨0, _⟩ => show i.val = 0 + i.val; omega
    | ⟨1, _⟩ => exact hq).trans ?_
  refine (pay3_at ..).trans (mx_eq m c t i q 0 _ _ _ _ e hq ?_ ?_)
  · exact (ld2 (iblk m c 4 t) 0 _ i q).trans (blk_gr0 m c t i _ e (by dsimp only; omega))
  · exact (ld2 (iblk m c 6 t) 0 _ i q).trans (blk_ga0 m c t i _ e (by dsimp only; omega))

/-- The four stores cover the scratch. -/
theorem mixL_cover (t : Fin cfg0.N) (y : S256x2048.Idx) : ∃ p ∈ mixL m c t, y ∈ p.fst.set := by
  obtain ⟨i, e, rfl⟩ : ∃ (i : Fin 256) (e : Fin 2048), y = ix2 i e := ⟨y 0, y 1, eq_ix2 y⟩
  have key : ∀ o : ℕ, ∀ inb, o ≤ e.val → e.val < o + 512 →
      ix2 i e ∈ (Rect.unit (s := S256x2048) ![0, o] ![256, 512] inb).set := fun o inb h1 h2 => by
    rw [Rect.mem_set_unit]
    intro a
    match a with
    | ⟨0, _⟩ => show 0 ≤ i.val ∧ i.val < 0 + 256; omega
    | ⟨1, _⟩ => show o ≤ e.val ∧ e.val < o + 512; omega
  by_cases h3 : 1536 ≤ e.val
  · exact ⟨_, .head _, key 1536 inb_S256x2048_S256x512_0_1536 h3 (by omega)⟩
  by_cases h2 : 1024 ≤ e.val
  · exact ⟨_, .tail _ (.head _), key 1024 inb_S256x2048_S256x512_0_1024 h2 (by omega)⟩
  by_cases h1 : 512 ≤ e.val
  · exact ⟨_, .tail _ (.tail _ (.head _)), key 512 inb_S256x2048_S256x512_0_512 h1 (by omega)⟩
  exact ⟨_, .tail _ (.tail _ (.tail _ (.head _))), key 0 inb_S256x2048_S256x512_0_0 (by omega) (by omega)⟩

/-- The whole scratch, loaded after the four stores. -/
theorem scr_at (t : Fin cfg0.N) (i : Fin 256) (e : Fin 2048) :
    View.ld (View.canon (mixL m c t)) (Rect.unit (s := S256x2048) ![0, 0] ![256, 2048] inb_S256x2048_S256x2048_0_0) (ix2 i e)
      = mixA m c (rB t i) e := by
  refine (ld2 (View.canon (mixL m c t)) 0 inb_S256x2048_S256x2048_0_0 i e).trans ?_
  rw [← mixL_at m c t i e]
  congr 2
  exact Fin.ext (Nat.zero_add _)

/-! ## The results -/

theorem h_row (t : Fin cfg0.N) (i : Fin 256) (e : Fin 2048) (X : Vec Ideal S256x2048 .bf16)
    (hX : ∀ y, X (ix2 i y) = mixA m c (rB t i) y) :
    hRow (fun y => (iblk m c 9 t : S256x2048.Idx → EReal) (ix2 i y)) (fun y => X (ix2 i y)) (fun d y => (iblk m c 8 t : S2048x2048.Idx → EReal) (ix2 d y))
      (fun y => (iblk m c 10 t : S1x2048.Idx → EReal) (ix2 0 y)) (fun y => (iblk m c 11 t : S1x2048.Idx → EReal) (ix2 0 y)) e = hA m c (rB t i) e := by
  simp only [blk_x, blk_wo, blk_g, blk_b, hX]

/-- What a grid point leaves in its first result block … -/
theorem h_out (t : Fin cfg0.N) (i : Fin 256) (e : Fin 2048) : (outsAt0 m c t).1 (ix2 i e) = hA m c (rB t i) e := by
  unfold outsAt0
  frame_out
  have hc := fun L => View.readCov_eq_canon_ld (Val := Elt Ideal) (View.whole cc0_scratch0) L
    (Rect.unit ![0, 0] ![256, 2048] inb_S256x2048_S256x2048_0_0)
  rw [h_pay, hc]
  · exact h_row m c t i e _ fun y => scr_at m c t i y
  · exact mixL_cover m c t

/-- … and in its second. -/
theorem hb_out (t : Fin cfg0.N) (i : Fin 256) (e : Fin 2048) : (outsAt0 m c t).2 (ix2 i e) = hA m c (rB t i) e := by
  unfold outsAt0
  frame_out
  have hc := fun L => View.readCov_eq_canon_ld (Val := Elt Ideal) (View.whole cc0_scratch0) L
    (Rect.unit ![0, 0] ![256, 2048] inb_S256x2048_S256x2048_0_0)
  rw [hb_pay, hc]
  · exact h_row m c t i e _ fun y => scr_at m c t i y
  · exact mixL_cover m c t

/-- The results' array. -/
def res : S8192x2048.Idx → EReal :=
  hM (xA m c) (zA m c) (onA m c) (oaA m c) (wrA m c) (waA m c) (woA m c) (gA m c) (bA m c)

theorem flushed_h (t : Fin cfg0.N) (hf : (cfg0.win 12).flush t = true) :
    (dats m 0 c).flushed 12 t = ((cfg0.win 12).blk t).view.read (Elt Ideal) (res m c) := by
  rw [Value.flushed12]
  funext x
  obtain ⟨i, q, rfl⟩ : ∃ (i : Fin 256) (q : Fin 2048), x = ix2 i q := ⟨x 0, x 1, eq_ix2 x⟩
  rw [View.read_apply]
  show (outsAt0 m c t).1 (ix2 i q) = res m c _
  rw [h_out]
  have hw := wt t
  have he : ((cfg0.win 12).blk t).view.emb (ix2 i q) = (ix2 (rB t i) q : S8192x2048.Idx) := by
    refine (funext fun a => Fin.ext ?_ : (ix2 (rB t i) q : S8192x2048.Idx) = _).symm
    match a with
    | ⟨0, _⟩ =>
      show 256 * t.val + i.val = win0_12.index t 0 * 256 + 1 * i.val
      omega
    | ⟨1, _⟩ =>
      show q.val = win0_12.index t 1 * 2048 + 1 * q.val
      omega
  rw [he]
  rfl

theorem final_h : (dats m 0 c).arrAt 12 cfg0.N = res m c :=
  (dats m 0 c).arrAt_eq_of_cover 12 (res m c) (flushed_h m c) fun x => by
    obtain ⟨r, q, rfl⟩ : ∃ (r : Fin 8192) (q : Fin 2048), x = ix2 r q := ⟨x 0, x 1, eq_ix2 x⟩
    have hN : cfg0.N = 32 := N_0
    obtain ⟨t, ht⟩ : ∃ t : Fin cfg0.N, t.val = r.val / 256 := ⟨⟨_, by omega⟩, rfl⟩
    have hw := wt t
    refine ⟨t, flush0_12 t, ?_⟩
    show ix2 r q ∈ ((View.whole main_v11_0).slice (win0_12.rect t)).set
    rw [View.set_slice_whole, Rect.mem_set_unit]
    intro a
    match a with
    | ⟨0, _⟩ =>
      show win0_12.index t 0 * 256 ≤ r.val ∧ r.val < win0_12.index t 0 * 256 + 256
      omega
    | ⟨1, _⟩ =>
      show win0_12.index t 1 * 2048 ≤ q.val ∧ q.val < win0_12.index t 1 * 2048 + 2048
      omega

theorem flushed_hb (t : Fin cfg0.N) (hf : (cfg0.win 13).flush t = true) :
    (dats m 0 c).flushed 13 t = ((cfg0.win 13).blk t).view.read (Elt Ideal) (res m c) := by
  rw [Value.flushed13]
  funext x
  obtain ⟨i, q, rfl⟩ : ∃ (i : Fin 256) (q : Fin 2048), x = ix2 i q := ⟨x 0, x 1, eq_ix2 x⟩
  rw [View.read_apply]
  show (outsAt0 m c t).2 (ix2 i q) = res m c _
  rw [hb_out]
  have hw := wt t
  have he : ((cfg0.win 13).blk t).view.emb (ix2 i q) = (ix2 (rB t i) q : S8192x2048.Idx) := by
    refine (funext fun a => Fin.ext ?_ : (ix2 (rB t i) q : S8192x2048.Idx) = _).symm
    match a with
    | ⟨0, _⟩ =>
      show 256 * t.val + i.val = win0_13.index t 0 * 256 + 1 * i.val
      omega
    | ⟨1, _⟩ =>
      show q.val = win0_13.index t 1 * 2048 + 1 * q.val
      omega
  rw [he]
  rfl

theorem final_hb : (dats m 0 c).arrAt 13 cfg0.N = res m c :=
  (dats m 0 c).arrAt_eq_of_cover 13 (res m c) (flushed_hb m c) fun x => by
    obtain ⟨r, q, rfl⟩ : ∃ (r : Fin 8192) (q : Fin 2048), x = ix2 r q := ⟨x 0, x 1, eq_ix2 x⟩
    have hN : cfg0.N = 32 := N_0
    obtain ⟨t, ht⟩ : ∃ t : Fin cfg0.N, t.val = r.val / 256 := ⟨⟨_, by omega⟩, rfl⟩
    have hw := wt t
    refine ⟨t, flush0_13 t, ?_⟩
    show ix2 r q ∈ ((View.whole main_v11_1).slice (win0_13.rect t)).set
    rw [View.set_slice_whole, Rect.mem_set_unit]
    intro a
    match a with
    | ⟨0, _⟩ =>
      show win0_13.index t 0 * 256 ≤ r.val ∧ r.val < win0_13.index t 0 * 256 + 256
      omega
    | ⟨1, _⟩ =>
      show win0_13.index t 1 * 2048 ≤ q.val ∧ q.val < win0_13.index t 1 * 2048 + 2048
      omega

/-- The kernel's run: both results hold the normalised rows, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v11_0) = res m c
      ∧ r.2.mem ((c.tc : Thread nD τ).loc main_v11_1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final_h m c), (h c).2.1.trans (final_hb m c), (h c).2.2⟩)
    (Value.run_blocks m ρ)

end Cert.Kernel2Ideal.Val

end
-- ==== Proof.MixRef.lean ====
/- The reference of the mix and the first norm, read. -/
module

public import proofs.«01_k».proof.Proof.LaySpec
public import proofs.«01_k».proof.Proof.Gen.Reference2Ideal.Run
public import Idealize.ShloMosaic.Lib.Pointwise

@[expose] public section

set_option maxRecDepth 16384

noncomputable section

namespace Cert.Own.MixRef

open Idealize.ShloMosaic Idealize.ShloMosaic.TcCoe Idealize.SL.Sem
open Cert.Reference2Ideal Cert.Reference2Ideal.Gen Cert.Reference2Ideal.Value Cert.Own.Lay

/-- A tensor less its rows' means. -/
def cenT (u : FVec Ideal S8192x2048 .f32) : FVec Ideal S8192x2048 .f32 :=
  subf u (broadcastInDim S8192x2048 ![0, 1] bcast_S8192x1_S8192x2048_0_1 (Host.divf (broadcastInDim S8192x1 ![0]
    bcast_S8192_S8192x1_0 (Host.reduceAdd u (constant S_ .f32 0x00000000#32) reducesTo_S8192x2048_S8192_d1 h_S_))
    (broadcastInDim S8192x1 ![] bcast_S_S8192x1 (constant S_ .f32 0x45000000#32))))

/-- Centred rows, scaled, times the gain, plus the offset. -/
def nrmT (w : FVec Ideal S8192x2048 .f32) (g b : Vec Ideal S1x2048 .f32) : FVec Ideal S8192x2048 .f32 :=
  addf (mulf (mulf w (broadcastInDim S8192x2048 ![0, 1] bcast_S8192x1_S8192x2048_0_1 (Host.rsqrt (addf (Host.divf
    (broadcastInDim S8192x1 ![0] bcast_S8192_S8192x1_0 (Host.reduceAdd (mulf w w) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x3727C5AC#32))))))
    (broadcastInDim S8192x2048 ![0, 1] bcast_S1x2048_S8192x2048_0_1 (broadcastInDim S1x2048 ![1]
    bcast_S2048_S1x2048_1 (shapeCast _ g shapeCasts_S1x2048_S2048)))) (broadcastInDim S8192x2048 ![0, 1]
    bcast_S1x2048_S8192x2048_0_1 (broadcastInDim S1x2048 ![1] bcast_S2048_S1x2048_1 (shapeCast _ b
    shapeCasts_S1x2048_S2048)))

theorem cenT_at (u : FVec Ideal S8192x2048 .f32) (r : Fin 8192) (e : Fin 2048) :
    cenT u (ix2 r e) = u (ix2 r e) - mean (fun y => u (ix2 r y)) := by
  unfold cenT
  pointwise
  simp only [mean]

theorem nrmT_at (w : FVec Ideal S8192x2048 .f32) (g b : Vec Ideal S1x2048 .f32) (r : Fin 8192) (e : Fin 2048) :
    nrmT w g b (ix2 r e)
      = w (ix2 r e) * Ideal.rsqrt (mean (fun y => w (ix2 r y) * w (ix2 r y)) + Ideal.ofBits .f32 0x3727C5AC#32) * g (ix2 0 e)
        + b (ix2 0 e) := by
  unfold nrmT
  pointwise
  simp only [mean]

/-- The gated mix. -/
def mixT (z : Vec Ideal S8192x15360 .bf16) (on : Vec Ideal S8192x2048 .bf16) (oa : Vec Ideal S8192x1024 .bf16)
    (wr : Vec Ideal S1x2048x2048 .f32) (wa : Vec Ideal S1x1024x2048 .f32) : FVec Ideal S8192x2048 .f32 :=
  addf (mulf (Host.divf (broadcastInDim S8192x2048 ![] bcast_S_S8192x2048 (constant S_ .f32 0x3F800000#32)) (addf
    (broadcastInDim S8192x2048 ![] bcast_S_S8192x2048 (constant S_ .f32 0x3F800000#32)) (Host.exp (Host.negf (extf
    .f32 (extractStridedSlice S8192x2048 ![0, 11264] z slices_S8192x15360_S8192x2048_0_11264) bitsLt_bf16_f32)))))
    (Host.dotGeneral (φ₂ := .f32) dot_S8192x2048_S2048x2048_S8192x2048_1_0_0_1_n_n none (extf .f32 on
    bitsLt_bf16_f32) (shapeCast _ wr shapeCasts_S1x2048x2048_S2048x2048))) (mulf (Host.divf (broadcastInDim
    S8192x2048 ![] bcast_S_S8192x2048 (constant S_ .f32 0x3F800000#32)) (addf (broadcastInDim S8192x2048 ![]
    bcast_S_S8192x2048 (constant S_ .f32 0x3F800000#32)) (Host.exp (Host.negf (extf .f32 (extractStridedSlice
    S8192x2048 ![0, 13312] z slices_S8192x15360_S8192x2048_0_13312) bitsLt_bf16_f32))))) (Host.dotGeneral (φ₂ :=
    .f32) dot_S8192x1024_S1024x2048_S8192x2048_1_0_0_1_n_n none (extf .f32 oa bitsLt_bf16_f32) (shapeCast _ wa
    shapeCasts_S1x1024x2048_S1024x2048)))

/-- The mix through the output matrix, added to the scaled residual. -/
def sumT (x : Vec Ideal S4x2048x2048 .f32) (mm : FVec Ideal S8192x2048 .f32) (wo : Vec Ideal S1x2048x2048 .f32) : FVec Ideal S8192x2048 .f32 :=
  addf (mulf (broadcastInDim S8192x2048 ![] bcast_S_S8192x2048 (constant S_ .f32 0x3F9837F0#32)) (shapeCast _ x
    shapeCasts_S4x2048x2048_S8192x2048)) (Host.dotGeneral (φ₂ := .f32)
    dot_S8192x2048_S2048x2048_S8192x2048_1_0_0_1_n_n none mm (shapeCast _ wo shapeCasts_S1x2048x2048_S2048x2048))

theorem mixT_at (z : Vec Ideal S8192x15360 .bf16) (on : Vec Ideal S8192x2048 .bf16) (oa : Vec Ideal S8192x1024 .bf16)
    (wr : Vec Ideal S1x2048x2048 .f32) (wa : Vec Ideal S1x1024x2048 .f32) (r : Fin 8192) (e : Fin 2048) :
    mixT z on oa wr wa (ix2 r e)
      = mixR (fun e => z (ix2 r (zc 11264 (by decide) e))) (fun e => z (ix2 r (zc 13312 (by decide) e)))
        (fun k => on (ix2 r k)) (fun k => oa (ix2 r k)) (fun k e => wr (ix3 0 k e)) (fun k e => wa (ix3 0 k e)) e := by
  unfold mixT
  pointwise
  simp only [mixR, logi, zc]

theorem sumT_at (x : Vec Ideal S4x2048x2048 .f32) (mm : FVec Ideal S8192x2048 .f32) (wo : Vec Ideal S1x2048x2048 .f32)
    (r : Fin 8192) (e : Fin 2048) : sumT x mm wo (ix2 r e) = al * resX x r e + ∑ d, mm (ix2 r d) * wo (ix3 0 d e) := by
  unfold sumT
  pointwise
  simp only [al, resX]

variable (m : (ℓ : Loc nD τ sig) → Buf (Elt Ideal) ℓ) (c : Dev nD)

theorem res_h_at (r : Fin 8192) (e : Fin 2048) :
    (res_main_v56 m c : S8192x2048.Idx → EReal) (ix2 r e)
      = hM (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (ix2 r e) := by
  have h : res_main_v56 m c = nrmT (cenT (sumT (m ((c.tc : Thread nD τ).loc main_arg0)) (mixT (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) (m ((c.tc : Thread nD τ).loc main_arg6)))) (m ((c.tc : Thread nD τ).loc main_arg7))
      (m ((c.tc : Thread nD τ).loc main_arg8)) := by
    unfold res_main_v56 nrmT cenT sumT mixT
    rfl
  refine (congrFun h (ix2 r e)).trans ?_
  rw [nrmT_at]
  simp only [cenT_at, sumT_at, mixT_at]
  rfl

theorem res_h : res_main_v56 m c = hM (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  funext x
  obtain ⟨r, q, rfl⟩ : ∃ (r : Fin 8192) (q : Fin 2048), x = ix2 r q := ⟨x 0, x 1, eq_ix2 x⟩
  exact res_h_at m c r q

theorem res_hb : res_main_v57 m c = hM (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  have h : res_main_v57 m c = truncf (F := Ideal) .bf16 (res_main_v56 m c) bitsLt_bf16_f32 := by
    unfold res_main_v57 res_main_v56
    rfl
  funext x
  obtain ⟨r, q, rfl⟩ : ∃ (r : Fin 8192) (q : Fin 2048), x = ix2 r q := ⟨x 0, x 1, eq_ix2 x⟩
  refine (congrFun h (ix2 r q)).trans ?_
  exact res_h_at m c r q

end Cert.Own.MixRef

end
-- ==== Proof.MlpPay.lean ====
/- What the network kernel's body computes from the blocks it loads, read at an index, and the sum over the hidden units
   in eight blocks. -/
module

public import proofs.«01_k».proof.Proof.LaySpec
public import proofs.«01_k».proof.Proof.Gen.Kernel3Ideal.Skeleton
public import Idealize.ShloMosaic.Lib.Pointwise

@[expose] public section

set_option maxRecDepth 16384

noncomputable section

namespace Cert.Kernel3Ideal.Val

open Idealize.ShloMosaic Idealize.ShloMosaic.TcCoe Idealize.SL.Sem
open Cert.Kernel3Ideal Cert.Kernel3Ideal.Gen Cert.Own.Lay

/-- One block of 1024 terms of a sum over the hidden units. -/
def blkS (G : Fin 8192 → EReal) (j : Fin 8) : EReal := ∑ f : Fin 1024, G ⟨1024 * j.val + f.val, by omega⟩

/-- A sum of `a * b` terms, by blocks. -/
theorem sum_mul {a b : ℕ} (F : Fin (a * b) → EReal) : ∑ x, F x = ∑ j, ∑ f, F (finProdFinEquiv (j, f)) := by
  rw [← Fintype.sum_prod_type' (f := fun j f => F (finProdFinEquiv (j, f)))]
  exact (Equiv.sum_comp finProdFinEquiv F).symm

theorem sum_blk (G : Fin 8192 → EReal) : ∑ f, G f = ∑ j, blkS G j := by
  refine (sum_mul (a := 8) (b := 1024) G).trans ?_
  refine Finset.sum_congr rfl fun j _ => Finset.sum_congr rfl fun f _ => congrArg G (Fin.ext ?_)
  show f.val + 1024 * j.val = 1024 * j.val + f.val
  omega

/-- A running sum after so many blocks. -/
def accN (a : EReal) (G : Fin 8192 → EReal) : ℕ → EReal
  | 0 => a
  | n + 1 => accN a G n + blkS G ⟨n % 8, Nat.mod_lt _ (by decide)⟩

/-- After all eight it is the whole sum. -/
theorem accN_eight (a : EReal) (G : Fin 8192 → EReal) : accN a G 8 = a + ∑ f, G f := by
  rw [sum_blk, Fin.sum_univ_eight]
  simp only [accN, ← add_assoc]
  rfl

section acc
variable (v3 : Vec Ideal S512x2048 .bf16) (v4 v11 : Vec Ideal S2048x512 .bf16) (v18 : FVec Ideal S512x1024 .bf16)
  (s : Vec Ideal S512x512 .f32) (w : Vec Ideal S1024x512 .bf16) (i q : Fin 512)

theorem pay3_at : k0_pay3 v18 s w (ix2 i q) = s (ix2 i q) + ∑ k : Fin 1024, v18 (ix2 i k) * w (ix2 k q) := by
  unfold k0_pay3
  pointwise

theorem pay2_at : k0_pay2 v18 s w (ix2 i q) = s (ix2 i q) + ∑ k : Fin 1024, v18 (ix2 i k) * w (ix2 k q) := by
  unfold k0_pay2
  pointwise

theorem pay1_at : k0_pay1 (k0_pay8 v3 v4 v11 s w) (ix2 i q)
    = s (ix2 i q) + ∑ k : Fin 1024, k0_pay6 v3 v4 v11 (ix2 i k) * w (ix2 k q) := by
  unfold k0_pay1 k0_pay8
  generalize k0_pay6 v3 v4 v11 = u
  pointwise

theorem pay7_at : k0_pay7 v3 v4 v11 s w (ix2 i q)
    = s (ix2 i q) + ∑ k : Fin 1024, k0_pay6 v3 v4 v11 (ix2 i k) * w (ix2 k q) := by
  unfold k0_pay7
  generalize k0_pay6 v3 v4 v11 = u
  pointwise

/-- The hidden units, whose two halves are computed apart. -/
theorem pay6_at (k : Fin 1024) : k0_pay6 v3 v4 v11 (ix2 i k)
    = relu2 (∑ d : Fin 2048, v3 (ix2 i d) * (if h : k.val < 512 then v4 (ix2 d ⟨k.val, h⟩) else v11 (ix2 d ⟨k.val - 512, by omega⟩))) := by
  unfold k0_pay6
  pointwise
  by_cases h : k.val < 512
  · simp only [h, dif_pos, relu2]
    try rfl
  · simp only [h, relu2]
    try rfl

end acc

section norm
variable (g b : Vec Ideal S1x2048 .f32) (s : Vec Ideal S512x2048 .f32) (i : Fin 512) (e : Fin 2048)

theorem pay4_at : k0_pay4 s g b (ix2 i e)
    = lnorm (fun y => s (ix2 i y)) (fun y => g (ix2 0 y)) (fun y => b (ix2 0 y)) e := by
  unfold k0_pay4
  pointwise
  simp only [lnorm, mean]

theorem pay5_at : k0_pay5 s (ix2 i e) = al * s (ix2 i e) := by
  unfold k0_pay5
  pointwise
  rfl

end norm

end Cert.Kernel3Ideal.Val

end
-- ==== Proof.MlpKernel.lean ====
/- The network kernel, read: over the eight grid points of a block of 512 rows its scratch runs from the scaled residual to
   the sum with all hidden units, and the last of them stores the normalised rows. -/
module

public import proofs.«01_k».proof.Proof.MlpPay
public import proofs.«01_k».proof.Proof.MixKernel
public import proofs.«01_k».proof.Proof.Gen.Kernel3Ideal.Value

@[expose] public section

set_option maxRecDepth 16384

noncomputable section

namespace Cert.Kernel3Ideal.Val

open Idealize.ShloMosaic Idealize.ShloMosaic.TcCoe Idealize.SL.Sem
open Cert.Kernel3Ideal Cert.Kernel3Ideal.Gen Cert.Own.Lay
open Cert.KernelIdeal.Val (canon_hit canon_miss)
open Cert.Kernel2Ideal.Val (ld2)

variable (m : (ℓ : Loc nD τ sig) → Buf (Elt Ideal) ℓ) (c : Dev nD)

/-! The kernel's arguments: the rows, their rounded copy, the two matrices, the gains and the offsets. -/

abbrev hA : S8192x2048.Idx → EReal := m ((c.tc : Thread nD τ).loc main_arg0)
abbrev hbA : S8192x2048.Idx → EReal := m ((c.tc : Thread nD τ).loc main_arg1)
abbrev wuA : S1x2048x8192.Idx → EReal := m ((c.tc : Thread nD τ).loc main_arg2)
abbrev wdA : S1x8192x2048.Idx → EReal := m ((c.tc : Thread nD τ).loc main_arg3)
abbrev gA : S1x2048.Idx → EReal := m ((c.tc : Thread nD τ).loc main_arg4)
abbrev bA : S1x2048.Idx → EReal := m ((c.tc : Thread nD τ).loc main_arg5)

/-! ## The tables the host computes -/

theorem wu_eq (k : Fin 2048) (f : Fin 8192) : (V m c main_v1 : S2048x8192.Idx → EReal) (ix2 k f) = wuA m c (ix3 0 k f) := by
  show StableHlo.after _ _ _ _ = _
  simp only [hostOps0]
  after_results
  pointwise
  try rfl

theorem wd_eq (f : Fin 8192) (e : Fin 2048) : (V m c main_v3 : S8192x2048.Idx → EReal) (ix2 f e) = wdA m c (ix3 0 f e) := by
  show StableHlo.after _ _ _ _ = _
  simp only [hostOps0]
  after_results
  pointwise
  try rfl

theorem g_eq (e : Fin 2048) : (V m c main_v5 : S1x2048.Idx → EReal) (ix2 0 e) = gA m c (ix2 0 e) := by
  show StableHlo.after _ _ _ _ = _
  simp only [hostOps0]
  after_results
  pointwise
  try rfl

theorem b_eq (e : Fin 2048) : (V m c main_v7 : S1x2048.Idx → EReal) (ix2 0 e) = bA m c (ix2 0 e) := by
  show StableHlo.after _ _ _ _ = _
  simp only [hostOps0]
  after_results
  pointwise
  try rfl

/-! ## The blocks of a grid point -/

/-- A row of a grid point, and a hidden unit of it. -/
def rB (t : Fin cfg0.N) (i : Fin 512) : Fin 8192 := ⟨512 * (t.val / 8) + i.val, by have h : t.val < 128 := lt_of_lt_of_eq t.isLt N_0; omega⟩
def fB (t : Fin cfg0.N) (f : Fin 1024) : Fin 8192 := ⟨1024 * (t.val % 8) + f.val, by omega⟩

theorem wz : ∀ t : Fin grid0.N,
    (win0_0.index t 0 = t.val / 8 ∧ win0_0.index t 1 = 0) ∧ (win0_1.index t 0 = t.val / 8 ∧ win0_1.index t 1 = 0)
    ∧ (win0_2.index t 0 = 0 ∧ win0_2.index t 1 = t.val % 8) ∧ (win0_3.index t 0 = t.val % 8 ∧ win0_3.index t 1 = 0)
    ∧ (win0_4.index t 0 = 0 ∧ win0_4.index t 1 = 0) ∧ (win0_5.index t 0 = 0 ∧ win0_5.index t 1 = 0)
    ∧ (win0_6.index t 0 = t.val / 8 ∧ win0_6.index t 1 = 0) := by
  decide +kernel

theorem blk_h (t : Fin cfg0.N) (i : Fin 512) (e : Fin 2048) : (iblk m c 0 t : S512x2048.Idx → EReal) (ix2 i e) = hA m c (ix2 (rB t i) e) := by
  unfold iblk
  rw [View.read_apply, show V m c (Pipeline.arrRef spec0 0) = V m c main_arg0 from rfl, V_main_arg0]
  show hA m c _ = _
  congr 1
  funext a
  refine Fin.ext ?_
  have hw := wz t
  match a with
  | ⟨0, _⟩ =>
    show win0_0.index t 0 * 512 + 1 * i.val = 512 * (t.val / 8) + i.val
    omega
  | ⟨1, _⟩ =>
    show win0_0.index t 1 * 2048 + 1 * e.val = e.val
    omega

theorem blk_hb (t : Fin cfg0.N) (i : Fin 512) (e : Fin 2048) : (iblk m c 1 t : S512x2048.Idx → EReal) (ix2 i e) = hbA m c (ix2 (rB t i) e) := by
  unfold iblk
  rw [View.read_apply, show V m c (Pipeline.arrRef spec0 1) = V m c main_arg1 from rfl, V_main_arg1]
  show hbA m c _ = _
  congr 1
  funext a
  refine Fin.ext ?_
  have hw := wz t
  match a with
  | ⟨0, _⟩ =>
    show win0_1.index t 0 * 512 + 1 * i.val = 512 * (t.val / 8) + i.val
    omega
  | ⟨1, _⟩ =>
    show win0_1.index t 1 * 2048 + 1 * e.val = e.val
    omega

theorem blk_wu (t : Fin cfg0.N) (d : Fin 2048) (f : Fin 1024) : (iblk m c 2 t : S2048x1024.Idx → EReal) (ix2 d f) = wuA m c (ix3 0 d (fB t f)) := by
  rw [← wu_eq m c d (fB t f)]
  unfold iblk
  rw [View.read_apply]
  show (V m c main_v1 : S2048x8192.Idx → EReal) _ = _
  congr 1
  funext a
  refine Fin.ext ?_
  have hw := wz t
  match a with
  | ⟨0, _⟩ =>
    show win0_2.index t 0 * 2048 + 1 * d.val = d.val
    omega
  | ⟨1, _⟩ =>
    show win0_2.index t 1 * 1024 + 1 * f.val = 1024 * (t.val % 8) + f.val
    omega

theorem blk_wd (t : Fin cfg0.N) (f : Fin 1024) (e : Fin 2048) : (iblk m c 3 t : S1024x2048.Idx → EReal) (ix2 f e) = wdA m c (ix3 0 (fB t f) e) := by
  rw [← wd_eq m c (fB t f) e]
  unfold iblk
  rw [View.read_apply]
  show (V m c main_v3 : S8192x2048.Idx → EReal) _ = _
  congr 1
  funext a
  refine Fin.ext ?_
  have hw := wz t
  match a with
  | ⟨0, _⟩ =>
    show win0_3.index t 0 * 1024 + 1 * f.val = 1024 * (t.val % 8) + f.val
    omega
  | ⟨1, _⟩ =>
    show win0_3.index t 1 * 2048 + 1 * e.val = e.val
    omega

theorem blk_g (t : Fin cfg0.N) (e : Fin 2048) : (iblk m c 4 t : S1x2048.Idx → EReal) (ix2 0 e) = gA m c (ix2 0 e) := by
  rw [← g_eq m c e]
  unfold iblk
  rw [View.read_apply]
  show (V m c main_v5 : S1x2048.Idx → EReal) _ = _
  congr 1
  funext a
  refine Fin.ext ?_
  have hw := wz t
  match a with
  | ⟨0, _⟩ =>
    show win0_4.index t 0 * 1 + 1 * 0 = 0
    omega
  | ⟨1, _⟩ =>
    show win0_4.index t 1 * 2048 + 1 * e.val = e.val
    omega

theorem blk_b (t : Fin cfg0.N) (e : Fin 2048) : (iblk m c 5 t : S1x2048.Idx → EReal) (ix2 0 e) = bA m c (ix2 0 e) := by
  rw [← b_eq m c e]
  unfold iblk
  rw [View.read_apply]
  show (V m c main_v7 : S1x2048.Idx → EReal) _ = _
  congr 1
  funext a
  refine Fin.ext ?_
  have hw := wz t
  match a with
  | ⟨0, _⟩ =>
    show win0_5.index t 0 * 1 + 1 * 0 = 0
    omega
  | ⟨1, _⟩ =>
    show win0_5.index t 1 * 2048 + 1 * e.val = e.val
    omega

/-! ## The running sum in the scratch -/

/-- The term of a hidden unit in a row's sum. -/
abbrev term (r : Fin 8192) (e : Fin 2048) : Fin 8192 → EReal := fun f =>
  upR (fun d => hbA m c (ix2 r d)) (fun d f => wuA m c (ix3 0 d f)) f * wdA m c (ix3 0 f e)

/-- The four stores of a grid point over the scratch it found, with what was stored before. -/
abbrev accL (t : Fin cfg0.N) (s : Vec Ideal S512x2048 .f32) (T : List (View.Piece (Elt Ideal) S512x2048 .f32)) :
    List (View.Piece (Elt Ideal) S512x2048 .f32) :=
  ⟨Rect.unit ![0, 1536] ![512, 512] inb_S512x2048_S512x512_0_1536, k0_pay3 (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512)))
      (View.ld s (Rect.unit ![0, 1536] ![512, 512] inb_S512x2048_S512x512_0_1536))
      (View.ld (iblk m c 3 t) (Rect.unit ![0, 1536] ![1024, 512] inb_S1024x2048_S1024x512_0_1536))⟩ ::
  ⟨Rect.unit ![0, 1024] ![512, 512] inb_S512x2048_S512x512_0_1024, k0_pay2 (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512)))
      (View.ld s (Rect.unit ![0, 1024] ![512, 512] inb_S512x2048_S512x512_0_1024))
      (View.ld (iblk m c 3 t) (Rect.unit ![0, 1024] ![1024, 512] inb_S1024x2048_S1024x512_0_1024))⟩ ::
  ⟨Rect.unit ![0, 512] ![512, 512] inb_S512x2048_S512x512_0_512, k0_pay1 (k0_pay8 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))
      (View.ld s (Rect.unit ![0, 512] ![512, 512] inb_S512x2048_S512x512_0_512))
      (View.ld (iblk m c 3 t) (Rect.unit ![0, 512] ![1024, 512] inb_S1024x2048_S1024x512_0_512)))⟩ ::
  ⟨Rect.unit ![0, 0] ![512, 512] inb_S512x2048_S512x512_0_0, k0_pay7 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))
      (View.ld s (Rect.unit ![0, 0] ![512, 512] inb_S512x2048_S512x512_0_0))
      (View.ld (iblk m c 3 t) (Rect.unit ![0, 0] ![1024, 512] inb_S1024x2048_S1024x512_0_0))⟩ :: T

/-- The hidden units of a grid point. -/
theorem up_at (t : Fin cfg0.N) (i : Fin 512) (k : Fin 1024) :
    (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))) (ix2 i k)
      = upR (fun d => hbA m c (ix2 (rB t i) d)) (fun d f => wuA m c (ix3 0 d f)) (fB t k) := by
  rw [pay6_at]
  unfold upR
  congr 1
  refine Finset.sum_congr rfl fun d _ => ?_
  have h1 := blk_hb m c t i d
  have h2 := blk_wu m c t d k
  by_cases h : k.val < 512
  · rw [dif_pos h]
    have h3 : View.ld (iblk m c 2 t) (Rect.unit ![0, 0] ![2048, 512] inb_S2048x1024_S2048x512_0_0) (ix2 d ⟨k.val, h⟩) = wuA m c (ix3 0 d (fB t k)) := by
      refine (ld2 (iblk m c 2 t) 0 _ d ⟨k.val, h⟩).trans (Eq.trans ?_ h2)
      congr 2
      exact Fin.ext (Nat.zero_add _)
    rw [h1, h3]
  · rw [dif_neg h]
    have h3 : View.ld (iblk m c 2 t) (Rect.unit ![0, 512] ![2048, 512] inb_S2048x1024_S2048x512_0_512) (ix2 d ⟨k.val - 512, by omega⟩) = wuA m c (ix3 0 d (fB t k)) := by
      refine (ld2 (iblk m c 2 t) 512 _ d ⟨k.val - 512, by omega⟩).trans (Eq.trans ?_ h2)
      congr 2
      exact Fin.ext (by dsimp only; omega)
    rw [h1, h3]

/-- One slice's entry adds the point's block of hidden units. -/
theorem slice_eq (t : Fin cfg0.N) (s : Vec Ideal S512x2048 .f32) (i q : Fin 512) (o : ℕ) (inb1 inb2) (e : Fin 2048) (he : e.val = o + q.val) :
    View.ld s (Rect.unit ![0, o] ![512, 512] inb1) (ix2 i q) + ∑ k : Fin 1024, (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))) (ix2 i k)
        * View.ld (iblk m c 3 t) (Rect.unit ![0, o] ![1024, 512] inb2) (ix2 k q)
      = s (ix2 i e) + blkS (term m c (rB t i) e) ⟨t.val % 8, Nat.mod_lt _ (by decide)⟩ := by
  have h1 : View.ld s (Rect.unit ![0, o] ![512, 512] inb1) (ix2 i q) = s (ix2 i e) := by
    refine (ld2 s o inb1 i q).trans ?_
    congr 2
    exact Fin.ext he.symm
  have h2 : ∀ k : Fin 1024, View.ld (iblk m c 3 t) (Rect.unit ![0, o] ![1024, 512] inb2) (ix2 k q) = wdA m c (ix3 0 (fB t k) e) := fun k => by
    rw [← blk_wd m c t k e]
    refine (ld2 (iblk m c 3 t) o inb2 k q).trans ?_
    congr 2
    exact Fin.ext he.symm
  simp only [h1, h2, up_at]
  rfl

/-- The scratch after a grid point, over the scratch it found. -/
theorem accL_at (t : Fin cfg0.N) (s : Vec Ideal S512x2048 .f32) (T : List (View.Piece (Elt Ideal) S512x2048 .f32)) (i : Fin 512) (e : Fin 2048) :
    View.canon (accL m c t s T) (ix2 i e) = s (ix2 i e) + blkS (term m c (rB t i) e) ⟨t.val % 8, Nat.mod_lt _ (by decide)⟩ := by
  by_cases h1536 : 1536 ≤ e.val
  · obtain ⟨q, hq⟩ : ∃ q : Fin 512, e.val = 1536 + q.val := ⟨⟨e.val - 1536, by omega⟩, by dsimp only; omega⟩
    refine (canon_hit (ix2 i q) fun a => by
      match a with
      | ⟨0, _⟩ => show i.val = 0 + i.val; omega
      | ⟨1, _⟩ => exact hq).trans ?_
    exact (pay3_at ..).trans (slice_eq m c t s i q 1536 _ _ e hq)
  refine (canon_miss ⟨1, by decide⟩ (.inl (by show e.val < 1536; omega))).trans ?_
  by_cases h1024 : 1024 ≤ e.val
  · obtain ⟨q, hq⟩ : ∃ q : Fin 512, e.val = 1024 + q.val := ⟨⟨e.val - 1024, by omega⟩, by dsimp only; omega⟩
    refine (canon_hit (ix2 i q) fun a => by
      match a with
      | ⟨0, _⟩ => show i.val = 0 + i.val; omega
      | ⟨1, _⟩ => exact hq).trans ?_
    exact (pay2_at ..).trans (slice_eq m c t s i q 1024 _ _ e hq)
  refine (canon_miss ⟨1, by decide⟩ (.inl (by show e.val < 1024; omega))).trans ?_
  by_cases h512 : 512 ≤ e.val
  · obtain ⟨q, hq⟩ : ∃ q : Fin 512, e.val = 512 + q.val := ⟨⟨e.val - 512, by omega⟩, by dsimp only; omega⟩
    refine (canon_hit (ix2 i q) fun a => by
      match a with
      | ⟨0, _⟩ => show i.val = 0 + i.val; omega
      | ⟨1, _⟩ => exact hq).trans ?_
    exact (pay1_at ..).trans (slice_eq m c t s i q 512 _ _ e hq)
  refine (canon_miss ⟨1, by decide⟩ (.inl (by show e.val < 512; omega))).trans ?_
  obtain ⟨q, hq⟩ : ∃ q : Fin 512, e.val = 0 + q.val := ⟨⟨e.val, by omega⟩, by dsimp only; omega⟩
  refine (canon_hit (ix2 i q) fun a => by
    match a with
    | ⟨0, _⟩ => show i.val = 0 + i.val; omega
    | ⟨1, _⟩ => exact hq).trans ?_
  exact (pay7_at ..).trans (slice_eq m c t s i q 0 _ _ e hq)

/-- The four stores cover the scratch. -/
theorem accL_cover (t : Fin cfg0.N) (s : Vec Ideal S512x2048 .f32) (y : S512x2048.Idx) : ∃ p ∈ accL m c t s [], y ∈ p.fst.set := by
  obtain ⟨i, e, rfl⟩ : ∃ (i : Fin 512) (e : Fin 2048), y = ix2 i e := ⟨y 0, y 1, eq_ix2 y⟩
  have key : ∀ o : ℕ, ∀ inb, o ≤ e.val → e.val < o + 512 →
      ix2 i e ∈ (Rect.unit (s := S512x2048) ![0, o] ![512, 512] inb).set := fun o inb h1 h2 => by
    rw [Rect.mem_set_unit]
    intro a
    match a with
    | ⟨0, _⟩ => show 0 ≤ i.val ∧ i.val < 0 + 512; omega
    | ⟨1, _⟩ => show o ≤ e.val ∧ e.val < o + 512; omega
  by_cases h3 : 1536 ≤ e.val
  · exact ⟨_, .head _, key 1536 inb_S512x2048_S512x512_0_1536 h3 (by omega)⟩
  by_cases h2 : 1024 ≤ e.val
  · exact ⟨_, .tail _ (.head _), key 1024 inb_S512x2048_S512x512_0_1024 h2 (by omega)⟩
  by_cases h1 : 512 ≤ e.val
  · exact ⟨_, .tail _ (.tail _ (.head _)), key 512 inb_S512x2048_S512x512_0_512 h1 (by omega)⟩
  exact ⟨_, .tail _ (.tail _ (.tail _ (.head _))), key 0 inb_S512x2048_S512x512_0_0 (by omega) (by omega)⟩

/-- What the point before left in the scratch. -/
abbrev prev (t : Fin cfg0.N) : Vec Ideal S512x2048 .f32 := (outsAt0 m c (t.val - 1) (Nat.lt_of_le_of_lt (Nat.sub_le _ _) t.isLt)).2

theorem scrA (t : Fin cfg0.N) (h0 : t.val % 8 = 0) (i : Fin 512) (e : Fin 2048) :
    (outsAt0 m c t.val t.isLt).2 (ix2 i e)
      = al * hA m c (ix2 (rB t i) e) + blkS (term m c (rB t i) e) ⟨t.val % 8, Nat.mod_lt _ (by decide)⟩ := by
  rw [outsAt0_A m c t h0 (by omega)]
  frame_out
  simp (disch := decide) only [↓ View.readCov_skip, ↓ View.readCov_cons_toLoadRect, ↓ View.readCov_fill]
  refine (accL_at m c t (k0_pay5 (iblk m c 0 t)) _ i e).trans ?_
  rw [pay5_at, blk_h]

theorem scrB (t : Fin cfg0.N) (h0 : ¬t.val % 8 = 0) (h1 : ¬t.val % 8 = 7) (i : Fin 512) (e : Fin 2048) :
    (outsAt0 m c t.val t.isLt).2 (ix2 i e)
      = prev m c t (ix2 i e) + blkS (term m c (rB t i) e) ⟨t.val % 8, Nat.mod_lt _ (by decide)⟩ := by
  rw [outsAt0_B m c t h0 h1]
  frame_out
  simp only [read_unread_whole]
  exact accL_at m c t (prev m c t) _ i e

/-- The last point's block, over the scratch it found. -/
theorem outC (t : Fin cfg0.N) (h1 : t.val % 8 = 7) (i : Fin 512) (e : Fin 2048) :
    (outsAt0 m c t.val t.isLt).1 (ix2 i e)
      = lnorm (fun y => prev m c t (ix2 i y) + blkS (term m c (rB t i) y) ⟨t.val % 8, Nat.mod_lt _ (by decide)⟩)
          (fun y => gA m c (ix2 0 y)) (fun y => bA m c (ix2 0 y)) e := by
  rw [outsAt0_C m c t (by omega) h1]
  frame_out
  simp only [read_unread_whole]
  have hc := fun L => View.readCov_eq_canon_ld (Val := Elt Ideal) (View.whole cc0_scratch0) L
    (Rect.unit ![0, 0] ![512, 2048] inb_S512x2048_S512x2048_0_0)
  rw [pay4_at, hc]
  · have hs : ∀ y : Fin 2048, View.ld (View.canon (accL m c t (prev m c t) [])) (Rect.unit (s := S512x2048) ![0, 0] ![512, 2048] inb_S512x2048_S512x2048_0_0) (ix2 i y)
        = prev m c t (ix2 i y) + blkS (term m c (rB t i) y) ⟨t.val % 8, Nat.mod_lt _ (by decide)⟩ := fun y => by
      refine (ld2 (View.canon (accL m c t (prev m c t) [])) 0 inb_S512x2048_S512x2048_0_0 i y).trans ?_
      rw [← accL_at m c t (prev m c t) [] i y]
      congr 2
      exact Fin.ext (Nat.zero_add _)
    have hl : ∀ {s s' g g' b b' : Fin 2048 → EReal}, (∀ y, s y = s' y) → (∀ y, g y = g' y) → (∀ y, b y = b' y) → lnorm s g b e = lnorm s' g' b' e :=
      fun h1 h2 h3 => by rw [funext h1, funext h2, funext h3]
    exact hl hs (blk_g m c t) (blk_b m c t)
  · exact accL_cover m c t (prev m c t)

/-- The scratch after a grid point that is not a row block's last: the running sum after the point's block. -/
theorem scr_eq : ∀ (n : ℕ) (hn : n < cfg0.N) (h1 : ¬n % 8 = 7) (i : Fin 512) (e : Fin 2048),
    (outsAt0 m c n hn).2 (ix2 i e)
      = accN (al * hA m c (ix2 (rB ⟨n, hn⟩ i) e)) (term m c (rB ⟨n, hn⟩ i) e) (n % 8 + 1) := by
  intro n
  induction n with
  | zero =>
    intro hn h1 i e
    exact scrA m c ⟨0, hn⟩ rfl i e
  | succ n ih =>
    intro hn h1 i e
    by_cases h0 : (n + 1) % 8 = 0
    · refine (scrA m c ⟨n + 1, hn⟩ h0 i e).trans ?_
      simp only [h0]
      rfl
    · refine (scrB m c ⟨n + 1, hn⟩ h0 h1 i e).trans ?_
      have hr : rB ⟨n, Nat.lt_of_succ_lt hn⟩ i = rB ⟨n + 1, hn⟩ i := Fin.ext (by show 512 * (n / 8) + i.val = 512 * ((n + 1) / 8) + i.val; omega)
      have hp := ih (Nat.lt_of_succ_lt hn) (by omega) i e
      rw [hr, show n % 8 + 1 = (n + 1) % 8 by omega] at hp
      show (outsAt0 m c n _).2 (ix2 i e) + _ = accN _ _ _ + blkS _ _
      rw [hp]
      congr 2
      exact Fin.ext (by show (n + 1) % 8 = (n + 1) % 8 % 8; omega)

/-- What a row block's last grid point leaves in its result block. -/
theorem y_out (t : Fin cfg0.N) (h1 : t.val % 8 = 7) (i : Fin 512) (e : Fin 2048) :
    (outsAt0 m c t.val t.isLt).1 (ix2 i e)
      = mlpR (fun d => hA m c (ix2 (rB t i) d)) (fun d => hbA m c (ix2 (rB t i) d)) (fun d f => wuA m c (ix3 0 d f)) (fun f e => wdA m c (ix3 0 f e))
          (fun y => gA m c (ix2 0 y)) (fun y => bA m c (ix2 0 y)) e := by
  rw [outC m c t h1]
  unfold mlpR
  have hl : ∀ {s s' g b : Fin 2048 → EReal}, (∀ y, s y = s' y) → lnorm s g b e = lnorm s' g b e := fun h1 => by rw [funext h1]
  refine hl fun y => ?_
  refine Eq.trans ?_ (accN_eight (al * hA m c (ix2 (rB t i) y)) (term m c (rB t i) y))
  have hn : t.val - 1 < cfg0.N := Nat.lt_of_le_of_lt (Nat.sub_le _ _) t.isLt
  have hr : rB ⟨t.val - 1, hn⟩ i = rB t i := Fin.ext (by show 512 * ((t.val - 1) / 8) + i.val = 512 * (t.val / 8) + i.val; omega)
  have hp := scr_eq m c (t.val - 1) hn (by omega) i y
  rw [hr, show (t.val - 1) % 8 + 1 = 7 by omega] at hp
  show (outsAt0 m c (t.val - 1) _).2 (ix2 i y) + _ = accN _ _ 7 + blkS _ _
  rw [hp]
  congr 2
  exact Fin.ext (by show t.val % 8 = 7 % 8; omega)

/-- The result's array. -/
def res : S8192x2048.Idx → EReal := yM (hA m c) (hbA m c) (wuA m c) (wdA m c) (gA m c) (bA m c)

theorem flushed_y (t : Fin cfg0.N) (hf : (cfg0.win 6).flush t = true) :
    (dats m 0 c).flushed 6 t = ((cfg0.win 6).blk t).view.read (Elt Ideal) (res m c) := by
  rw [Value.flushed6]
  funext x
  obtain ⟨i, q, rfl⟩ : ∃ (i : Fin 512) (q : Fin 2048), x = ix2 i q := ⟨x 0, x 1, eq_ix2 x⟩
  rw [View.read_apply]
  show (outsAt0 m c t.val t.isLt).1 (ix2 i q) = res m c _
  rw [y_out m c t ((flush0_6 t).mp hf)]
  have hw := wz t
  have he : ((cfg0.win 6).blk t).view.emb (ix2 i q) = (ix2 (rB t i) q : S8192x2048.Idx) := by
    refine (funext fun a => Fin.ext ?_ : (ix2 (rB t i) q : S8192x2048.Idx) = _).symm
    match a with
    | ⟨0, _⟩ =>
      show 512 * (t.val / 8) + i.val = win0_6.index t 0 * 512 + 1 * i.val
      omega
    | ⟨1, _⟩ =>
      show q.val = win0_6.index t 1 * 2048 + 1 * q.val
      omega
  rw [he]
  rfl

theorem final_y : (dats m 0 c).arrAt 6 cfg0.N = res m c :=
  (dats m 0 c).arrAt_eq_of_cover 6 (res m c) (flushed_y m c) fun x => by
    obtain ⟨r, q, rfl⟩ : ∃ (r : Fin 8192) (q : Fin 2048), x = ix2 r q := ⟨x 0, x 1, eq_ix2 x⟩
    have hN : cfg0.N = 128 := N_0
    obtain ⟨t, ht⟩ : ∃ t : Fin cfg0.N, t.val = 8 * (r.val / 512) + 7 := ⟨⟨_, by omega⟩, rfl⟩
    have hw := wz t
    refine ⟨t, (flush0_6 t).mpr (by omega), ?_⟩
    show ix2 r q ∈ ((View.whole main_v8).slice (win0_6.rect t)).set
    rw [View.set_slice_whole, Rect.mem_set_unit]
    intro a
    match a with
    | ⟨0, _⟩ =>
      show win0_6.index t 0 * 512 ≤ r.val ∧ r.val < win0_6.index t 0 * 512 + 512
      omega
    | ⟨1, _⟩ =>
      show win0_6.index t 1 * 2048 ≤ q.val ∧ q.val < win0_6.index t 1 * 2048 + 2048
      omega

/-- The kernel's run: the result holds the network's normalised rows, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_y m c), (h c).2⟩)
    (Value.run_blocks m ρ)

end Cert.Kernel3Ideal.Val

end
-- ==== Proof.MlpRef.lean ====
/- The reference of the network and the second norm, read. -/
module

public import proofs.«01_k».proof.Proof.LaySpec
public import proofs.«01_k».proof.Proof.Gen.Reference3Ideal.Run
public import Idealize.ShloMosaic.Lib.Pointwise

@[expose] public section

set_option maxRecDepth 16384

noncomputable section

namespace Cert.Own.MlpRef

open Idealize.ShloMosaic Idealize.ShloMosaic.TcCoe Idealize.SL.Sem
open Cert.Reference3Ideal Cert.Reference3Ideal.Gen Cert.Reference3Ideal.Value Cert.Own.Lay

/-- A tensor less its rows' means. -/
def cenT (u : FVec Ideal S8192x2048 .f32) : FVec Ideal S8192x2048 .f32 :=
  subf u (broadcastInDim S8192x2048 ![0, 1] bcast_S8192x1_S8192x2048_0_1 (Host.divf (broadcastInDim S8192x1 ![0]
    bcast_S8192_S8192x1_0 (Host.reduceAdd u (constant S_ .f32 0x00000000#32) reducesTo_S8192x2048_S8192_d1 h_S_))
    (broadcastInDim S8192x1 ![] bcast_S_S8192x1 (constant S_ .f32 0x45000000#32))))

/-- Centred rows, scaled, times the gain, plus the offset. -/
def nrmT (w : FVec Ideal S8192x2048 .f32) (g b : Vec Ideal S1x2048 .f32) : FVec Ideal S8192x2048 .f32 :=
  addf (mulf (mulf w (broadcastInDim S8192x2048 ![0, 1] bcast_S8192x1_S8192x2048_0_1 (Host.rsqrt (addf (Host.divf
    (broadcastInDim S8192x1 ![0] bcast_S8192_S8192x1_0 (Host.reduceAdd (mulf w w) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x3727C5AC#32))))))
    (broadcastInDim S8192x2048 ![0, 1] bcast_S1x2048_S8192x2048_0_1 (broadcastInDim S1x2048 ![1]
    bcast_S2048_S1x2048_1 (shapeCast _ g shapeCasts_S1x2048_S2048)))) (broadcastInDim S8192x2048 ![0, 1]
    bcast_S1x2048_S8192x2048_0_1 (broadcastInDim S1x2048 ![1] bcast_S2048_S1x2048_1 (shapeCast _ b
    shapeCasts_S1x2048_S2048)))

theorem cenT_at (u : FVec Ideal S8192x2048 .f32) (r : Fin 8192) (e : Fin 2048) :
    cenT u (ix2 r e) = u (ix2 r e) - mean (fun y => u (ix2 r y)) := by
  unfold cenT
  pointwise
  simp only [mean]

theorem nrmT_at (w : FVec Ideal S8192x2048 .f32) (g b : Vec Ideal S1x2048 .f32) (r : Fin 8192) (e : Fin 2048) :
    nrmT w g b (ix2 r e)
      = w (ix2 r e) * Ideal.rsqrt (mean (fun y => w (ix2 r y) * w (ix2 r y)) + Ideal.ofBits .f32 0x3727C5AC#32) * g (ix2 0 e)
        + b (ix2 0 e) := by
  unfold nrmT
  pointwise
  simp only [mean]

/-- The hidden units. -/
def upT (hb : Vec Ideal S8192x2048 .bf16) (wu : Vec Ideal S1x2048x8192 .f32) : FVec Ideal S8192x8192 .f32 :=
  mulf (maximumf (Host.dotGeneral (φ₂ := .f32) dot_S8192x2048_S2048x8192_S8192x8192_1_0_0_1_n_n none (extf .f32 hb
    bitsLt_bf16_f32) (shapeCast _ wu shapeCasts_S1x2048x8192_S2048x8192)) (broadcastInDim S8192x8192 ![]
    bcast_S_S8192x8192 (constant S_ .f32 0x00000000#32))) (maximumf (Host.dotGeneral (φ₂ := .f32)
    dot_S8192x2048_S2048x8192_S8192x8192_1_0_0_1_n_n none (extf .f32 hb bitsLt_bf16_f32) (shapeCast _ wu
    shapeCasts_S1x2048x8192_S2048x8192)) (broadcastInDim S8192x8192 ![] bcast_S_S8192x8192 (constant S_ .f32
    0x00000000#32)))

/-- The hidden units through the second matrix, added to the scaled residual. -/
def sumT (h : Vec Ideal S8192x2048 .f32) (uu : FVec Ideal S8192x8192 .f32) (wd : Vec Ideal S1x8192x2048 .f32) : FVec Ideal S8192x2048 .f32 :=
  addf (mulf (broadcastInDim S8192x2048 ![] bcast_S_S8192x2048 (constant S_ .f32 0x3F9837F0#32)) h) (Host.dotGeneral
    (φ₂ := .f32) dot_S8192x8192_S8192x2048_S8192x2048_1_0_0_1_n_n none uu (shapeCast _ wd
    shapeCasts_S1x8192x2048_S8192x2048))

theorem upT_at (hb : Vec Ideal S8192x2048 .bf16) (wu : Vec Ideal S1x2048x8192 .f32) (r f : Fin 8192) :
    upT hb wu (ix2 r f) = upR (fun d => hb (ix2 r d)) (fun d f => wu (ix3 0 d f)) f := by
  unfold upT
  pointwise
  simp only [upR, relu2]

theorem sumT_at (h : Vec Ideal S8192x2048 .f32) (uu : FVec Ideal S8192x8192 .f32) (wd : Vec Ideal S1x8192x2048 .f32)
    (r : Fin 8192) (e : Fin 2048) : sumT h uu wd (ix2 r e) = al * h (ix2 r e) + ∑ f, uu (ix2 r f) * wd (ix3 0 f e) := by
  unfold sumT
  pointwise
  simp only [al]

variable (m : (ℓ : Loc nD τ sig) → Buf (Elt Ideal) ℓ) (c : Dev nD)

theorem res_eq : res_main_v35 m c = yM (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  have h : res_main_v35 m c = nrmT (cenT (sumT (m ((c.tc : Thread nD τ).loc main_arg0)) (upT (m ((c.tc : Thread nD τ).loc main_arg1))
      (m ((c.tc : Thread nD τ).loc main_arg2))) (m ((c.tc : Thread nD τ).loc main_arg3)))) (m ((c.tc : Thread nD τ).loc main_arg4))
      (m ((c.tc : Thread nD τ).loc main_arg5)) := by
    unfold res_main_v35 nrmT cenT sumT upT
    rfl
  funext x
  obtain ⟨r, e, rfl⟩ : ∃ (r : Fin 8192) (q : Fin 2048), x = ix2 r q := ⟨x 0, x 1, eq_ix2 x⟩
  refine (congrFun h (ix2 r e)).trans ?_
  rw [nrmT_at]
  simp only [cenT_at, sumT_at, upT_at]
  rfl

end Cert.Own.MlpRef

end
-- ==== Proof.ProjSpec.lean ====
/- The projection of the rows and its rotary embedding over the extended reals, written without any program. A position is a
   word: the prompt's rows stand at 0 to 2047, the sample's at 8192 to 8199. -/
module

public import Idealize.ShloMosaic.Lib.Pointwise

@[expose] public section

noncomputable section

namespace Cert.Own.Prj

open Idealize.ShloMosaic

/-- The angle of a position and a frequency, the `c`-th of 128. -/
def ang (s : BitVec 32) (c : Fin 128) : EReal :=
  FloatOps.sitofp (F := Ideal) FTy.f32 (s) * Ideal.pow (Ideal.ofBits .f32 0x461C4000#32)
    (Ideal.div (-FloatOps.sitofp (F := Ideal) FTy.f32 (BitVec.ofNat 32 c.val)) (Ideal.ofBits .f32 0x43000000#32))

/-- The first half of a rotated head, from the head's two halves. -/
def lo (a b : EReal) (s : BitVec 32) (c : Fin 128) : EReal := a * Ideal.cos (ang s c) - b * Ideal.sin (ang s c)

/-- The second half of a rotated head. -/
def hi (a b : EReal) (s : BitVec 32) (c : Fin 128) : EReal := a * Ideal.sin (ang s c) + b * Ideal.cos (ang s c)

/-- The scale of the keys, 1/16. -/
def ksc : EReal := Ideal.ofBits .f32 0x3D800000#32

/-- A column of the sixteen rotated heads, from its head and its place in the head. -/
def hcol (h : Fin 16) (d : Fin 256) : Fin 15360 := ⟨256 * h.val + d.val, by omega⟩

/-- The scale of a head: the first eight are queries, the others keys. -/
def hsc (h : Fin 16) : EReal := if 8 ≤ h.val then ksc else 1

/-- A head's column rotated and scaled, from a row of the product. -/
def rot (p : Fin 15360 → EReal) (s : BitVec 32) (h : Fin 16) (d : Fin 256) : EReal :=
  (if hd : d.val < 128 then lo (p (hcol h d)) (p (hcol h ⟨d.val + 128, by omega⟩)) s ⟨d.val, hd⟩
   else hi (p (hcol h ⟨d.val - 128, by omega⟩)) (p (hcol h d)) s ⟨d.val - 128, by omega⟩) * hsc h

/-- A row of the projection: the queries and the keys of the recurrence rotated, the rest as the product leaves it. -/
def zRow (p : Fin 15360 → EReal) (s : BitVec 32) (e : Fin 15360) : EReal :=
  if he : e.val < 4096 then rot p s ⟨e.val / 256, by omega⟩ ⟨e.val % 256, Nat.mod_lt _ (by decide)⟩ else p e

/-- The place of a row in its sequence: four sequences of 2048 rows one after another. -/
def posn (r : Fin 8192) : Fin 2048 := ⟨r.val % 2048, Nat.mod_lt _ (by decide)⟩

/-- A position of the prompt, as a word. -/
abbrev wd (s : Fin 2048) : BitVec 32 := BitVec.ofNat 32 s.val

/-- The product of the rows and the matrix. -/
def pM (x : (⟨3, ![4, 2048, 2048]⟩ : Shape).Idx → EReal) (w : (⟨3, ![1, 2048, 15360]⟩ : Shape).Idx → EReal) (r : Fin 8192)
    (e : Fin 15360) : EReal := ∑ k : Fin 2048, x (ix3 ⟨r.val / 2048, by omega⟩ (posn r) k) * w (ix3 0 k e)

/-- The projected rows, over whole arrays. -/
def zM (x : (⟨3, ![4, 2048, 2048]⟩ : Shape).Idx → EReal) (w : (⟨3, ![1, 2048, 15360]⟩ : Shape).Idx → EReal) :
    (⟨2, ![8192, 15360]⟩ : Shape).Idx → EReal := fun i => zRow (pM x w (i 0)) (wd (posn (i 0))) (i 1)

/-- The attention's keys, over whole arrays. -/
def kM (x : (⟨3, ![4, 2048, 2048]⟩ : Shape).Idx → EReal) (w : (⟨3, ![1, 2048, 15360]⟩ : Shape).Idx → EReal) :
    (⟨2, ![8192, 1024]⟩ : Shape).Idx → EReal := fun i => pM x w (i 0) ⟨9216 + (i 1).val, by have h : (i 1).val < 1024 := (i 1).isLt; omega⟩

/-- The attention's values, over whole arrays. -/
def vM (x : (⟨3, ![4, 2048, 2048]⟩ : Shape).Idx → EReal) (w : (⟨3, ![1, 2048, 15360]⟩ : Shape).Idx → EReal) :
    (⟨2, ![8192, 1024]⟩ : Shape).Idx → EReal := fun i => pM x w (i 0) ⟨10240 + (i 1).val, by have h : (i 1).val < 1024 := (i 1).isLt; omega⟩

/-! ## The sample's rows -/

/-- The place of a row in its sequence: thirty-two sequences of eight rows one after another. -/
def posnS (r : Fin 256) : Fin 8 := ⟨r.val % 8, Nat.mod_lt _ (by decide)⟩

/-- A position of the sample, after the 8192 past ones, as a word. -/
abbrev wdS (s : Fin 8) : BitVec 32 := 8192#32 + BitVec.ofNat 32 s.val

/-- The product of the rows and the matrix. -/
def pMS (x : (⟨3, ![32, 8, 2048]⟩ : Shape).Idx → EReal) (w : (⟨3, ![1, 2048, 15360]⟩ : Shape).Idx → EReal) (r : Fin 256)
    (e : Fin 15360) : EReal := ∑ k : Fin 2048, x (ix3 ⟨r.val / 8, by omega⟩ (posnS r) k) * w (ix3 0 k e)

/-- The projected rows, over whole arrays. -/
def zMS (x : (⟨3, ![32, 8, 2048]⟩ : Shape).Idx → EReal) (w : (⟨3, ![1, 2048, 15360]⟩ : Shape).Idx → EReal) :
    (⟨2, ![256, 15360]⟩ : Shape).Idx → EReal := fun i => zRow (pMS x w (i 0)) (wdS (posnS (i 0))) (i 1)

/-- The attention's keys, over whole arrays. -/
def kMS (x : (⟨3, ![32, 8, 2048]⟩ : Shape).Idx → EReal) (w : (⟨3, ![1, 2048, 15360]⟩ : Shape).Idx → EReal) :
    (⟨2, ![256, 1024]⟩ : Shape).Idx → EReal := fun i => pMS x w (i 0) ⟨9216 + (i 1).val, by have h : (i 1).val < 1024 := (i 1).isLt; omega⟩

/-- The attention's values, over whole arrays. -/
def vMS (x : (⟨3, ![32, 8, 2048]⟩ : Shape).Idx → EReal) (w : (⟨3, ![1, 2048, 15360]⟩ : Shape).Idx → EReal) :
    (⟨2, ![256, 1024]⟩ : Shape).Idx → EReal := fun i => pMS x w (i 0) ⟨10240 + (i 1).val, by have h : (i 1).val < 1024 := (i 1).isLt; omega⟩

/-! ## Reading a row's columns -/

theorem zRow_lo (p : Fin 15360 → EReal) (s : BitVec 32) (h : Fin 16) (c : Fin 128) (e a b : Fin 15360) (he : e.val = 256 * h.val + c.val)
    (ha : a.val = 256 * h.val + c.val) (hb : b.val = 256 * h.val + 128 + c.val) : zRow p s e = lo (p a) (p b) s c * hsc h := by
  have h1 : e.val < 4096 := by omega
  have hh : (⟨e.val / 256, by omega⟩ : Fin 16) = h := Fin.ext (by show e.val / 256 = h.val; omega)
  have hd : (⟨e.val % 256, Nat.mod_lt _ (by decide)⟩ : Fin 256) = ⟨c.val, by omega⟩ := Fin.ext (by show e.val % 256 = c.val; omega)
  unfold zRow
  rw [dif_pos h1, hh, hd]
  unfold rot
  rw [dif_pos (show c.val < 128 from c.isLt)]
  have e1 : hcol h ⟨c.val, by omega⟩ = a := Fin.ext (by show 256 * h.val + c.val = a.val; omega)
  have e2 : hcol h ⟨c.val + 128, by omega⟩ = b := Fin.ext (by show 256 * h.val + (c.val + 128) = b.val; omega)
  rw [e1, e2]

theorem zRow_hi (p : Fin 15360 → EReal) (s : BitVec 32) (h : Fin 16) (c : Fin 128) (e a b : Fin 15360) (he : e.val = 256 * h.val + 128 + c.val)
    (ha : a.val = 256 * h.val + c.val) (hb : b.val = 256 * h.val + 128 + c.val) : zRow p s e = hi (p a) (p b) s c * hsc h := by
  have h1 : e.val < 4096 := by omega
  have hh : (⟨e.val / 256, by omega⟩ : Fin 16) = h := Fin.ext (by show e.val / 256 = h.val; omega)
  have hd : (⟨e.val % 256, Nat.mod_lt _ (by decide)⟩ : Fin 256) = ⟨c.val + 128, by omega⟩ := Fin.ext (by show e.val % 256 = c.val + 128; omega)
  unfold zRow
  rw [dif_pos h1, hh, hd]
  unfold rot
  rw [dif_neg (show ¬c.val + 128 < 128 by omega)]
  have e1 : hcol h ⟨c.val + 128 - 128, by omega⟩ = a := Fin.ext (by show 256 * h.val + (c.val + 128 - 128) = a.val; omega)
  have e2 : hcol h ⟨c.val + 128, by omega⟩ = b := Fin.ext (by show 256 * h.val + (c.val + 128) = b.val; omega)
  have e3 : (⟨c.val + 128 - 128, by omega⟩ : Fin 128) = c := Fin.ext (by show c.val + 128 - 128 = c.val; omega)
  rw [e1, e2, e3]

theorem zRow_rest (p : Fin 15360 → EReal) (s : BitVec 32) (e : Fin 15360) (he : 4096 ≤ e.val) : zRow p s e = p e := by
  unfold zRow
  rw [dif_neg (by omega)]

end Cert.Own.Prj

end
-- ==== Proof.ProjFrameI.lean ====
/- The projection kernel over the extended reals: every run of it ends, and what it leaves in its three results is named. -/
module

public import proofs.«01_k».proof.Proof.Gen.Kernel4Ideal.Frame
public import proofs.«01_k».proof.Proof.Gen.Kernel4Ideal.Skeleton
public import Idealize.ShloMosaic.Lib.VecWindow
public import Idealize.ShloMosaic.Lib.Claim

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first point of a row block. -/
abbrev cond0_0 (i : grid0.Coords) : Prop := (Scalar.cmpi .ne (Scalar.extui (Scalar.cmpi .eq (BitVec.ofNat 32 (i 1).val) 0#32)) 0#32) = 1#1
/-- The rotated columns. -/
abbrev cond0_1 (i : grid0.Coords) : Prop := k0_cond2 i = 1#1
/-- The columns that are not rotated. -/
abbrev cond0_2 (i : grid0.Coords) : Prop := k0_cond3 i = 1#1
/-- The attention's keys. -/
abbrev cond0_3 (i : grid0.Coords) : Prop := k0_cond4 i = 1#1
/-- The attention's values. -/
abbrev cond0_4 (i : grid0.Coords) : Prop := k0_cond5 i = 1#1

/-- At the grid point `t` they are comparisons of `t` modulo 30. -/
theorem hcond : ∀ t : Fin grid0.N, (cond0_0 (grid0.coords t) ↔ t.val % 30 = 0) ∧ (cond0_1 (grid0.coords t) ↔ t.val % 30 < 8)
    ∧ (cond0_2 (grid0.coords t) ↔ 8 ≤ t.val % 30) ∧ (cond0_3 (grid0.coords t) ↔ 18 ≤ t.val % 30 ∧ t.val % 30 < 20)
    ∧ (cond0_4 (grid0.coords t) ↔ 20 ≤ t.val % 30 ∧ t.val % 30 < 22) := by decide +kernel

/-- What the rotated columns' four stores leave. -/
def rotL (i : grid0.Coords) (xs : Vec F S1024x2048 .bf16) (w : Vec F S2048x512 .bf16) (cs sn : Vec F S1024x128 .f32) :
    List (View.Piece (Elt F) S1024x512 .bf16) :=
  [⟨Rect.unit (s := S1024x512) ![0, 384] S1024x128.size inb_S1024x512_S1024x128_0_384, k0_pay13 i xs w cs sn⟩,
   ⟨Rect.unit (s := S1024x512) ![0, 256] S1024x128.size inb_S1024x512_S1024x128_0_256, k0_pay12 i xs w cs sn⟩,
   ⟨Rect.unit (s := S1024x512) ![0, 128] S1024x128.size inb_S1024x512_S1024x128_0_128, k0_pay9 i xs w cs sn⟩,
   ⟨Rect.unit (s := S1024x512) ![0, 0] S1024x128.size inb_S1024x512_S1024x128_0_0, k0_pay8 i xs w cs sn⟩]

/-- The block they leave. -/
def rotZ (i : grid0.Coords) (xs : Vec F S1024x2048 .bf16) (w : Vec F S2048x512 .bf16) (cs sn : Vec F S1024x128 .f32) : Vec F S1024x512 .bf16 :=
  View.canon (rotL i xs w cs sn)

/-- The four stores cover the block, so that is what a buffer holds after them. -/
theorem rot_read (a : Memref sig .tc .vmem S1024x512 .bf16) (ha : a.IsWhole) (f : a.view.ty.Contents (Elt F)) (i : grid0.Coords)
    (xs : Vec F S1024x2048 .bf16) (w : Vec F S2048x512 .bf16) (cs sn : Vec F S1024x128 .f32) :
    a.view.read (Elt F) (a.view.writes (Elt F) f (rotL i xs w cs sn)) = rotZ i xs w cs sn :=
  funext fun y => View.read_writes_apply_eq_canon _ _ _ _
    (View.cover_of_tiledL (rotL i xs w cs sn) S1024x128.size (by sl_kernel_rfl) y)

theorem rot_congr (i : grid0.Coords) {xs xs' : Vec F S1024x2048 .bf16} {w w' : Vec F S2048x512 .bf16} {cs cs' sn sn' : Vec F S1024x128 .f32}
    (h1 : xs = xs') (h2 : w = w') (h3 : cs = cs') (h4 : sn = sn') : rotL i xs w cs sn = rotL i xs' w' cs' sn' := by
  rw [h1, h2, h3, h4]

/-- A whole block read from its buffer. -/
theorem rdX {s : Shape} {e : EltTy} (a : Memref sig .tc .vmem s e) (ha : a.IsWhole) (x : s.Idx → Elt F e) {off : Fin s.rank → ℕ}
    (inb : ∀ k, off k + s.size k ≤ s.size k) : a.view.readAt (Elt F) (Rect.unit off s.size inb).toLoadRect (ha.unread x) = x := by
  rw [View.readAt_full, ha.read_unread]

set_option maxHeartbeats 1000000 in
/-- At a first point of a row block the kernel rounds the rows, keeps them, and leaves the product rotated. -/
theorem runA (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x2048 .bf16) (harg9 : arg9.IsWhole) (hc0 : cond0_0 i) (hc1 : cond0_1 i) (hc2 : ¬cond0_2 i) (hc3 : ¬cond0_3 i) (hc4 : ¬cond0_4 i)
    (x0 : Vec F S1024x2048 .f32) (x1 : Vec F S2048x512 .bf16) (x2 x3 : Vec F S1024x128 .f32) (xi5 xi6 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rotZ i (k0_pay1 x0) x1 x2 x3) ∗ owns (c : Thread nD τ) arg7 fullShare xi5 ∗ owns (c : Thread nD τ) arg8 fullShare xi6 ∗ owns (c : Thread nD τ) arg9 fullShare (k0_pay1 x0)) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (rot_read arg6 harg6 f4 i _ _ _ _).trans (congrArg View.canon (rot_congr i ?_ ?_ ?_ ?_))
    · exact (View.readCov_full _ _ _ _ _).trans (congrArg k0_pay1 (rdX arg2 harg2 x0 _))
    · exact rdX arg3 harg3 x1 _
    · exact rdX arg4 harg4 x2 _
    · exact rdX arg5 harg5 x3 _
  isplitl [H5]
  · iexists _; isplitr; · ipureintro; exact harg7.read_unread _
    iexact H5
  isplitl [H6]
  · iexists _; isplitr; · ipureintro; exact harg8.read_unread _
    iexact H6
  iexists _; isplitr
  swap; · iexact HS0
  ipureintro
  exact (View.read_writes_full _ _ _ _ _).trans (congrArg k0_pay1 (rdX arg2 harg2 x0 _))

set_option maxHeartbeats 1000000 in
/-- At the other points of the rotated columns it leaves the product of the rows kept and the columns, rotated. -/
theorem runB (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i) (hc4 : ¬cond0_4 i)
    (x0 : Vec F S1024x2048 .f32) (x1 : Vec F S2048x512 .bf16) (x2 x3 : Vec F S1024x128 .f32) (xi5 xi6 : Vec F S1024x512 .f32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rotZ i xs0 x1 x2 x3) ∗ owns (c : Thread nD τ) arg7 fullShare xi5 ∗ owns (c : Thread nD τ) arg8 fullShare xi6 ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (rot_read arg6 harg6 f4 i _ _ _ _).trans (congrArg View.canon (rot_congr i ?_ ?_ ?_ ?_))
    · exact rdX arg9 harg9 xs0 _
    · exact rdX arg3 harg3 x1 _
    · exact rdX arg4 harg4 x2 _
    · exact rdX arg5 harg5 x3 _
  isplitl [H5]
  · iexists _; isplitr; · ipureintro; exact harg7.read_unread _
    iexact H5
  isplitl [H6]
  · iexists _; isplitr; · ipureintro; exact harg8.read_unread _
    iexact H6
  iexists _; isplitr; · ipureintro; exact harg9.read_unread _
  iexact HS0

set_option maxHeartbeats 1000000 in
/-- At the points of the columns that are not rotated it leaves the product rounded. -/
theorem runC (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i) (hc4 : ¬cond0_4 i)
    (x0 : Vec F S1024x2048 .f32) (x1 : Vec F S2048x512 .bf16) (x2 x3 : Vec F S1024x128 .f32) (xi5 xi6 : Vec F S1024x512 .f32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay14 xs0 x1) ∗ owns (c : Thread nD τ) arg7 fullShare xi5 ∗ owns (c : Thread nD τ) arg8 fullShare xi6 ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    exact congrArg₂ k0_pay14 (rdX arg9 harg9 xs0 _) (rdX arg3 harg3 x1 _)
  isplitl [H5]
  · iexists _; isplitr; · ipureintro; exact harg7.read_unread _
    iexact H5
  isplitl [H6]
  · iexists _; isplitr; · ipureintro; exact harg8.read_unread _
    iexact H6
  iexists _; isplitr; · ipureintro; exact harg9.read_unread _
  iexact HS0

set_option maxHeartbeats 1000000 in
/-- At the points of the attention's keys it leaves the product in the keys' block also. -/
theorem runD (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x2048 .bf16) (harg9 : arg9.IsWhole) (hc0 : ¬cond0_0 i) (hc1 : ¬cond0_1 i) (hc2 : cond0_2 i) (hc3 : cond0_3 i) (hc4 : ¬cond0_4 i)
    (x0 : Vec F S1024x2048 .f32) (x1 : Vec F S2048x512 .bf16) (x2 x3 : Vec F S1024x128 .f32) (xi5 xi6 : Vec F S1024x512 .f32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay14 xs0 x1) ∗ owns (c : Thread nD τ) arg7 fullShare (k0_pay2 xs0 x1) ∗ owns (c : Thread nD τ) arg8 fullShare xi6 ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    exact congrArg₂ k0_pay14 (rdX arg9 harg9 xs0 _) (rdX arg3 harg3 x1 _)
  isplitl [H5]
  · iexists _; isplitr
    swap; · iexact H5
    ipureintro
    rw [View.read_writes_full]
    exact congrArg₂ k0_pay2 (rdX arg9 harg9 xs0 _) (rdX arg3 harg3 x1 _)
  isplitl [H6]
  · iexists _; isplitr; · ipureintro; exact harg8.read_unread _
    iexact H6
  iexists _; isplitr; · ipureintro; exact harg9.read_unread _
  iexact HS0

set_option maxHeartbeats 1000000 in
/-- At the points of the attention's values it leaves the product in the values' block also. -/
theorem runE (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i) (hc4 : cond0_4 i)
    (x0 : Vec F S1024x2048 .f32) (x1 : Vec F S2048x512 .bf16) (x2 x3 : Vec F S1024x128 .f32) (xi5 xi6 : Vec F S1024x512 .f32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay14 xs0 x1) ∗ owns (c : Thread nD τ) arg7 fullShare xi5 ∗ owns (c : Thread nD τ) arg8 fullShare (k0_pay2 xs0 x1) ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    exact congrArg₂ k0_pay14 (rdX arg9 harg9 xs0 _) (rdX arg3 harg3 x1 _)
  isplitl [H5]
  · iexists _; isplitr; · ipureintro; exact harg7.read_unread _
    iexact H5
  isplitl [H6]
  · iexists _; isplitr
    swap; · iexact H6
    ipureintro
    rw [View.read_writes_full]
    exact congrArg₂ k0_pay2 (rdX arg9 harg9 xs0 _) (rdX arg3 harg3 x1 _)
  iexists _; isplitr; · ipureintro; exact harg9.read_unread _
  iexact HS0

/-! ## The points of the grid -/

abbrev ms0 (t : Fin cfg0.N) : Memref sig .tc .vmem S1024x2048 .f32 := win0_0.stage (cfg0.slots t 0)
abbrev ms1 (t : Fin cfg0.N) : Memref sig .tc .vmem S2048x512 .bf16 := win0_1.stage (cfg0.slots t 1)
abbrev ms2 (t : Fin cfg0.N) : Memref sig .tc .vmem S1024x128 .f32 := win0_2.stage (cfg0.slots t 2)
abbrev ms3 (t : Fin cfg0.N) : Memref sig .tc .vmem S1024x128 .f32 := win0_3.stage (cfg0.slots t 3)
abbrev ms4 (t : Fin cfg0.N) : Memref sig .tc .vmem S1024x512 .bf16 := win0_4.stage (cfg0.slots t 4)
abbrev ms5 (t : Fin cfg0.N) : Memref sig .tc .vmem S1024x512 .f32 := win0_5.stage (cfg0.slots t 5)
abbrev ms6 (t : Fin cfg0.N) : Memref sig .tc .vmem S1024x512 .f32 := win0_6.stage (cfg0.slots t 6)
/-- The rows a row block keeps. -/
abbrev scM : Memref sig .tc .vmem S1024x2048 .bf16 := Memref.whole cc0_scratch0

/-- The invariant before the first point: the kept rows at anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The point of column tile `j` in the row block of the point `t`. -/
def pt (t : Fin cfg0.N) (j : ℕ) (hj : j < 30) : Fin cfg0.N :=
  ⟨30 * (t.val / 30) + j, by have h : t.val < 240 := lt_of_lt_of_eq t.isLt N_0; have h' : cfg0.N = 240 := N_0; omega⟩

theorem pt_self (t : Fin cfg0.N) (j : ℕ) (hj : j < 30) (h : t.val % 30 = j) : pt t j hj = t :=
  Fin.ext (by show 30 * (t.val / 30) + j = t.val; omega)

theorem pt_pt (t u : Fin cfg0.N) (j : ℕ) (hj : j < 30) (h : t.val / 30 = u.val / 30) : pt t j hj = pt u j hj :=
  Fin.ext (by show 30 * (t.val / 30) + j = 30 * (u.val / 30) + j; omega)

/-- Where the keys' block is stored, where it is written back, and where it is kept. -/
theorem keys : ∀ t : Fin grid0.N, (win0_5.fetch t = false)
    ∧ ((18 ≤ t.val % 30 ∧ t.val % 30 < 20) → idle0 5 (grid0.coords t) = false)
    ∧ (¬(18 ≤ t.val % 30 ∧ t.val % 30 < 20) → idle0 5 (grid0.coords t) = true)
    ∧ (win0_5.flush t = true ↔ t.val % 30 = 18 ∨ t.val % 30 = 29) := by decide +kernel

/-- The same of the values' block. -/
theorem vals : ∀ t : Fin grid0.N, (win0_6.fetch t = false)
    ∧ ((20 ≤ t.val % 30 ∧ t.val % 30 < 22) → idle0 6 (grid0.coords t) = false)
    ∧ (¬(20 ≤ t.val % 30 ∧ t.val % 30 < 22) → idle0 6 (grid0.coords t) = true)
    ∧ (win0_6.flush t = true ↔ t.val % 30 = 20 ∨ t.val % 30 = 29) := by decide +kernel

theorem zlive : ∀ t : Fin grid0.N, idle0 4 (grid0.coords t) = false := by decide +kernel

variable (m : (ℓ : Loc nD τ sig) → Buf (Elt F) ℓ) (ρ : Dev nD → PrngReg)

/-! ## What each point leaves -/

/-- The rows a row block keeps: its rows of the argument, rounded. -/
def xb (c : Dev nD) (t : Fin cfg0.N) : Vec F S1024x2048 .bf16 := k0_pay1 (iblk m c 0 (pt t 0 (by decide)))

/-- The product of the kept rows and a point's columns. -/
def prod (c : Dev nD) (t : Fin cfg0.N) : Vec F S1024x512 .f32 := k0_pay2 (xb m c t) (iblk m c 1 t)

/-- What a point leaves of the projected rows. -/
def zOut (c : Dev nD) (t : Fin cfg0.N) : Vec F S1024x512 .bf16 :=
  if t.val % 30 < 8 then rotZ (grid0.coords t) (xb m c t) (iblk m c 1 t) (iblk m c 2 t) (iblk m c 3 t)
  else k0_pay14 (xb m c t) (iblk m c 1 t)

/-- What the keys' block holds after a point: the last product stored there. -/
def kOut (c : Dev nD) (t : Fin cfg0.N) : Vec F S1024x512 .f32 :=
  if t.val % 30 < 19 then prod m c t else prod m c (pt t 19 (by decide))

/-- What the values' block holds after a point. -/
def vOut (c : Dev nD) (t : Fin cfg0.N) : Vec F S1024x512 .f32 :=
  if t.val % 30 < 21 then prod m c t else prod m c (pt t 21 (by decide))

/-- The invariant before position `n`: the kept rows as the point before left them. -/
def PhiS (c : Dev nD) : (n : ℕ) → n ≤ cfg0.N → sProp 𝕄
  | 0, _ => Pipeline.ΦA spec0 c
  | n + 1, hn => iprop(iprop(owns (c : Thread nD τ) scM fullShare (xb m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (xb m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (xb m c ⟨n - 1, by omega⟩)) ∗ (∃ r, prngReg c r)) := by
  cases n with
  | zero => exact absurd rfl hz
  | succ n => rfl

/-- The pipeline's data: every input's buffer at its block, the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zOut m c t
    | ⟨5, _⟩ => kOut m c t
    | ⟨6, _⟩ => vOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = zOut m c t := by dsimp only [dats]
theorem after5 (c : Dev nD) (t : Fin cfg0.N) : (dats m 0 c).after 5 t = kOut m c t := by dsimp only [dats]
theorem after6 (c : Dev nD) (t : Fin cfg0.N) : (dats m 0 c).after 6 t = vOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The blocks that are kept until they are written back -/

/-- After its last store in a row block the keys' block stays as it is. -/
theorem keep5 (c : Dev nD) (d) : ∀ (k : ℕ) (t : Fin cfg0.N), t.val % 30 = 20 + k →
    (dats m 0 c).before 5 t d = prod m c (pt t 19 (by decide))
  | 0, t, hk => by
    have hp : t.val ≠ 0 := by omega
    have hu : t.val - 1 < cfg0.N := Nat.lt_of_le_of_lt (Nat.sub_le _ _) t.isLt
    have h19 : (⟨t.val - 1, hu⟩ : Fin cfg0.N).val % 30 = 19 := by show (t.val - 1) % 30 = 19; omega
    rw [Dat.before_of_pos (dats m 0 c) 5 t hp ((keys t).1) d]
    rw [if_neg (fun h => by have := ((keys ⟨t.val - 1, hu⟩).2.2.2).mp h; omega)]
    have hi : cfg0.idle 5 (cfg0.grid.coords ⟨t.val - 1, hu⟩) = false := (keys ⟨t.val - 1, hu⟩).2.1 (by omega)
    unfold Dat.left
    rw [hi]
    show (dats m 0 c).after 5 ⟨t.val - 1, hu⟩ = _
    rw [after5]
    unfold kOut
    rw [if_neg (by omega)]
    exact congrArg (prod m c) (pt_pt _ _ _ _ (by show (t.val - 1) / 30 = t.val / 30; omega))
  | k + 1, t, hk => by
    have hp : t.val ≠ 0 := by omega
    have hu : t.val - 1 < cfg0.N := Nat.lt_of_le_of_lt (Nat.sub_le _ _) t.isLt
    have hlt : t.val % 30 < 30 := Nat.mod_lt _ (by decide)
    have h19 : (⟨t.val - 1, hu⟩ : Fin cfg0.N).val % 30 = 20 + k := by show (t.val - 1) % 30 = 20 + k; omega
    rw [Dat.before_of_pos (dats m 0 c) 5 t hp ((keys t).1) d]
    rw [if_neg (fun h => by have := ((keys ⟨t.val - 1, hu⟩).2.2.2).mp h; omega)]
    have hi : cfg0.idle 5 (cfg0.grid.coords ⟨t.val - 1, hu⟩) = true := (keys ⟨t.val - 1, hu⟩).2.2.1 (by omega)
    unfold Dat.left
    rw [hi]
    show (dats m 0 c).before 5 ⟨t.val - 1, hu⟩ d = _
    rw [keep5 c d k ⟨t.val - 1, hu⟩ h19]
    exact congrArg (prod m c) (pt_pt _ _ _ _ (by show (t.val - 1) / 30 = t.val / 30; omega))

/-- So does the values' block. -/
theorem keep6 (c : Dev nD) (d) : ∀ (k : ℕ) (t : Fin cfg0.N), t.val % 30 = 22 + k →
    (dats m 0 c).before 6 t d = prod m c (pt t 21 (by decide))
  | 0, t, hk => by
    have hp : t.val ≠ 0 := by omega
    have hu : t.val - 1 < cfg0.N := Nat.lt_of_le_of_lt (Nat.sub_le _ _) t.isLt
    have h19 : (⟨t.val - 1, hu⟩ : Fin cfg0.N).val % 30 = 21 := by show (t.val - 1) % 30 = 21; omega
    rw [Dat.before_of_pos (dats m 0 c) 6 t hp ((vals t).1) d]
    rw [if_neg (fun h => by have := ((vals ⟨t.val - 1, hu⟩).2.2.2).mp h; omega)]
    have hi : cfg0.idle 6 (cfg0.grid.coords ⟨t.val - 1, hu⟩) = false := (vals ⟨t.val - 1, hu⟩).2.1 (by omega)
    unfold Dat.left
    rw [hi]
    show (dats m 0 c).after 6 ⟨t.val - 1, hu⟩ = _
    rw [after6]
    unfold vOut
    rw [if_neg (by omega)]
    exact congrArg (prod m c) (pt_pt _ _ _ _ (by show (t.val - 1) / 30 = t.val / 30; omega))
  | k + 1, t, hk => by
    have hp : t.val ≠ 0 := by omega
    have hu : t.val - 1 < cfg0.N := Nat.lt_of_le_of_lt (Nat.sub_le _ _) t.isLt
    have hlt : t.val % 30 < 30 := Nat.mod_lt _ (by decide)
    have h19 : (⟨t.val - 1, hu⟩ : Fin cfg0.N).val % 30 = 22 + k := by show (t.val - 1) % 30 = 22 + k; omega
    rw [Dat.before_of_pos (dats m 0 c) 6 t hp ((vals t).1) d]
    rw [if_neg (fun h => by have := ((vals ⟨t.val - 1, hu⟩).2.2.2).mp h; omega)]
    have hi : cfg0.idle 6 (cfg0.grid.coords ⟨t.val - 1, hu⟩) = true := (vals ⟨t.val - 1, hu⟩).2.2.1 (by omega)
    unfold Dat.left
    rw [hi]
    show (dats m 0 c).before 6 ⟨t.val - 1, hu⟩ d = _
    rw [keep6 c d k ⟨t.val - 1, hu⟩ h19]
    exact congrArg (prod m c) (pt_pt _ _ _ _ (by show (t.val - 1) / 30 = t.val / 30; omega))

/-- A point that stores no key leaves the keys' block as it found it, which is what is asked of it. -/
theorem leave5 (c : Dev nD) (t : Fin cfg0.N) (d) (h : ¬(18 ≤ t.val % 30 ∧ t.val % 30 < 20)) :
    owns (c : Thread nD τ) (ms5 t) fullShare ((dats m 0 c).before 5 t d) ⊢ ((dats m 0 c).leavesExact 5 t : sProp 𝕄) := by
  have hi : cfg0.idle 5 (cfg0.grid.coords t) = true := (keys t).2.2.1 h
  by_cases hf : t.val % 30 = 29
  · have hfl : (cfg0.win 5).flush t = true := (keys t).2.2.2.mpr (.inr hf)
    have e : (dats m 0 c).before 5 t d = (dats m 0 c).after 5 t := by
      rw [keep5 m c d 9 t (by omega), after5]; unfold kOut; rw [if_neg (by omega)]
    rw [e]
    unfold Dat.leavesExact
    rw [hi, hfl]
  · have hfl : (cfg0.win 5).flush t = false := by
      rw [Bool.eq_false_iff]; intro hh; have := (keys t).2.2.2.mp hh; omega
    rw [Dat.leavesExact_idle (dats m 0 c) 5 t hi hfl]
    iintro H
    iexists _; iexact H

theorem leave6 (c : Dev nD) (t : Fin cfg0.N) (d) (h : ¬(20 ≤ t.val % 30 ∧ t.val % 30 < 22)) :
    owns (c : Thread nD τ) (ms6 t) fullShare ((dats m 0 c).before 6 t d) ⊢ ((dats m 0 c).leavesExact 6 t : sProp 𝕄) := by
  have hi : cfg0.idle 6 (cfg0.grid.coords t) = true := (vals t).2.2.1 h
  by_cases hf : t.val % 30 = 29
  · have hfl : (cfg0.win 6).flush t = true := (vals t).2.2.2.mpr (.inr hf)
    have e : (dats m 0 c).before 6 t d = (dats m 0 c).after 6 t := by
      rw [keep6 m c d 7 t (by omega), after6]; unfold vOut; rw [if_neg (by omega)]
    rw [e]
    unfold Dat.leavesExact
    rw [hi, hfl]
  · have hfl : (cfg0.win 6).flush t = false := by
      rw [Bool.eq_false_iff]; intro hh; have := (vals t).2.2.2.mp hh; omega
    rw [Dat.leavesExact_idle (dats m 0 c) 6 t hi hfl]
    iintro H
    iexists _; iexact H

theorem store5 (c : Dev nD) (t : Fin cfg0.N) (h : 18 ≤ t.val % 30 ∧ t.val % 30 < 20) :
    ((dats m 0 c).leavesExact 5 t : sProp 𝕄) = owns (c : Thread nD τ) (ms5 t) fullShare (prod m c t) := by
  have hi : cfg0.idle 5 (cfg0.grid.coords t) = false := (keys t).2.1 h
  have e : (dats m 0 c).after 5 t = prod m c t := by
    rw [after5]; unfold kOut
    split
    · rfl
    · exact congrArg (prod m c) (pt_self t 19 _ (by omega))
  unfold Dat.leavesExact
  rw [hi, e]

theorem store6 (c : Dev nD) (t : Fin cfg0.N) (h : 20 ≤ t.val % 30 ∧ t.val % 30 < 22) :
    ((dats m 0 c).leavesExact 6 t : sProp 𝕄) = owns (c : Thread nD τ) (ms6 t) fullShare (prod m c t) := by
  have hi : cfg0.idle 6 (cfg0.grid.coords t) = false := (vals t).2.1 h
  have e : (dats m 0 c).after 6 t = prod m c t := by
    rw [after6]; unfold vOut
    split
    · rfl
    · exact congrArg (prod m c) (pt_self t 21 _ (by omega))
  unfold Dat.leavesExact
  rw [hi, e]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The kept rows before a point that is not the first of its row block are the ones it keeps. -/
theorem xb_pred (c : Dev nD) (t : Fin cfg0.N) (h0 : t.val % 30 ≠ 0) (hu : t.val - 1 < cfg0.N) : xb m c ⟨t.val - 1, hu⟩ = xb m c t :=
  congrArg (fun u => k0_pay1 (iblk m c 0 u)) (pt_pt _ _ _ _ (by show (t.val - 1) / 30 = t.val / 30; omega))

set_option maxHeartbeats 9600000 in
/-- The body at any point takes the buffers as the point before left them to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare (iblk m c 0 t) from by
    rw [← after0]]
  rw [show (dats m 0 c).leavesExact 1 t = owns (c : Thread nD τ) (ms1 t) fullShare (iblk m c 1 t) from by
    rw [← after1]]
  rw [show (dats m 0 c).leavesExact 2 t = owns (c : Thread nD τ) (ms2 t) fullShare (iblk m c 2 t) from by
    rw [← after2]]
  rw [show (dats m 0 c).leavesExact 3 t = owns (c : Thread nD τ) (ms3 t) fullShare (iblk m c 3 t) from by
    rw [← after3]]
  rw [show (dats m 0 c).leavesExact 4 t = owns (c : Thread nD τ) (ms4 t) fullShare (zOut m c t) from by
    have hl : cfg0.idle 4 (cfg0.grid.coords t) = false := zlive t
    unfold Dat.leavesExact; rw [hl, after4]]
  rw [PhiS_castSucc m c t]
  have hc := hcond t
  have hN : t.val < 240 := lt_of_lt_of_eq t.isLt N_0
  by_cases h0 : t.val % 30 = 0
  · have hx : xb m c t = k0_pay1 (iblk m c 0 t) := congrArg (fun u => k0_pay1 (iblk m c 0 u)) (pt_self t 0 _ h0)
    have hz : zOut m c t = rotZ (grid0.coords t) (k0_pay1 (iblk m c 0 t)) (iblk m c 1 t) (iblk m c 2 t) (iblk m c 3 t) := by
      unfold zOut; rw [if_pos (by omega), hx]
    rw [hz, hx]
    have hP : PhiS m c t.val (Nat.le_of_lt t.isLt) ⊢ iprop(iprop((∃ d, owns (c : Thread nD τ) scM fullShare d)) ∗ (∃ r, prngReg c r)) := by
      by_cases hz0 : t.val = 0
      · rw [PhiS_zero m c _ _ hz0, PhiA_eq]
      · rw [PhiS_pos m c _ _ hz0]
        iintro ⟨HS0, Hg⟩
        isplitl [HS0]
        · iexists _; iexact HS0
        iexact Hg
    refine (Laws.sep_mono hP .rfl).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ (hc.1.mpr h0) (hc.2.1.mpr (by omega)) (fun h => absurd (hc.2.2.1.mp h) (by omega)) (fun h => absurd (hc.2.2.2.1.mp h) (by omega)) (fun h => absurd (hc.2.2.2.2.mp h) (by omega)) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leave5 m c t _ (by omega)); iexact H5
    iapply (leave6 m c t _ (by omega)); iexact H6
  · have hz0 : t.val ≠ 0 := by omega
    rw [PhiS_pos m c _ _ hz0, xb_pred m c t h0 _]
    by_cases h1 : t.val % 30 < 8
    · have hz : zOut m c t = rotZ (grid0.coords t) (xb m c t) (iblk m c 1 t) (iblk m c 2 t) (iblk m c 3 t) := by
        unfold zOut; rw [if_pos h1]
      rw [hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ (fun h => h0 (hc.1.mp h)) (hc.2.1.mpr h1) (fun h => absurd (hc.2.2.1.mp h) (by omega)) (fun h => absurd (hc.2.2.2.1.mp h) (by omega)) (fun h => absurd (hc.2.2.2.2.mp h) (by omega)) (iblk m c 0 t) (iblk m c 1 t) (iblk m c 2 t) (iblk m c 3 t) _ _ (xb m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leave5 m c t _ (by omega)); iexact H5
      iapply (leave6 m c t _ (by omega)); iexact H6
    · have hz : zOut m c t = k0_pay14 (xb m c t) (iblk m c 1 t) := by
        unfold zOut; rw [if_neg h1]
      rw [hz]
      by_cases h3 : 18 ≤ t.val % 30 ∧ t.val % 30 < 20
      · rw [store5 m c t h3]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply (runD c (grid0.coords t) _ _ _ _ _ _ _ _ _ _ _ _ _ _ _ _ (fun h => h0 (hc.1.mp h)) (fun h => h1 (hc.2.1.mp h)) (hc.2.2.1.mpr (by omega)) (hc.2.2.2.1.mpr h3) (fun h => absurd (hc.2.2.2.2.mp h) (by omega)) (iblk m c 0 t) (iblk m c 1 t) (iblk m c 2 t) (iblk m c 3 t) _ _ (xb m c t) Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        iintro ⟨H0, H1, H2, H3, H4, H5, H6, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (leave6 m c t _ (by omega)); iexact H6
      · by_cases h4 : 20 ≤ t.val % 30 ∧ t.val % 30 < 22
        · rw [store6 m c t h4]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply (runE c (grid0.coords t) _ _ _ _ _ _ _ _ _ _ _ _ _ _ _ _ (fun h => h0 (hc.1.mp h)) (fun h => h1 (hc.2.1.mp h)) (hc.2.2.1.mpr (by omega)) (fun h => h3 (hc.2.2.2.1.mp h)) (hc.2.2.2.2.mpr h4) (iblk m c 0 t) (iblk m c 1 t) (iblk m c 2 t) (iblk m c 3 t) _ _ (xb m c t) Set.univ _)
          isplitl [H0]; · iexact H0
          isplitl [H1]; · iexact H1
          isplitl [H2]; · iexact H2
          isplitl [H3]; · iexact H3
          isplitl [H4]; · iexists _; iexact H4
          isplitl [H5]; · iexact H5
          isplitl [H6]; · iexact H6
          isplitl [HS0]; · iexact HS0
          iintro ⟨H0, H1, H2, H3, H4, H5, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iapply (leave5 m c t _ (by omega)); iexact H5
          iexact H6
        · skip
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply (runC c (grid0.coords t) _ _ _ _ _ _ _ _ _ _ _ _ _ _ _ _ (fun h => h0 (hc.1.mp h)) (fun h => h1 (hc.2.1.mp h)) (hc.2.2.1.mpr (by omega)) (fun h => h3 (hc.2.2.2.1.mp h)) (fun h => h4 (hc.2.2.2.2.mp h)) (iblk m c 0 t) (iblk m c 1 t) (iblk m c 2 t) (iblk m c 3 t) _ _ (xb m c t) Set.univ _)
          isplitl [H0]; · iexact H0
          isplitl [H1]; · iexact H1
          isplitl [H2]; · iexact H2
          isplitl [H3]; · iexact H3
          isplitl [H4]; · iexists _; iexact H4
          isplitl [H5]; · iexact H5
          isplitl [H6]; · iexact H6
          isplitl [HS0]; · iexact HS0
          iintro ⟨H0, H1, H2, H3, H4, H5, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iapply (leave5 m c t _ (by omega)); iexact H5
          iapply (leave6 m c t _ (by omega)); iexact H6

/-- The body table's row at a point is the kernel's body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 240 := N_0; omega), PhiA_eq]
  iintro ⟨HS0, Hg⟩
  isplitl [HS0]
  · iexists _; iexact HS0
  iexact Hg

/-! ## The run and the frame -/

set_option backward.isDefEq.respectTransparency.types false in
/-- Every run ends with each array as the pipeline's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run of the program ends, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel4Ideal.Proj

end
-- ==== Proof.ProjKernel.lean ====
/- The projection kernel over the extended reals: its three results are the projected rows, the attention's keys and its
   values. -/
module

public import proofs.«01_k».proof.Proof.ProjSpec
public import proofs.«01_k».proof.Proof.RetBlock
public import proofs.«01_k».proof.Proof.ProjFrameI
public import Idealize.ShloMosaic.Lib.Pointwise

@[expose] public section

set_option maxRecDepth 16384

noncomputable section

namespace Cert.Kernel4Ideal.Val

open Idealize.ShloMosaic Idealize.ShloMosaic.TcCoe Idealize.SL.Sem
open Cert.Kernel4Ideal Cert.Kernel4Ideal.Gen Cert.Kernel4Ideal.Proj Cert.Own.Prj
open Cert.KernelIdeal.Val (canon_hit canon_miss)

/-! ## What the body computes from the blocks it loads -/

section pay
variable (i : grid0.Coords) (xs : Vec Ideal S1024x2048 .bf16) (w : Vec Ideal S2048x512 .bf16) (cs sn : Vec Ideal S1024x128 .f32)
  (r : Fin 1024)

/-- One entry of the product. -/
def pr (e : Fin 512) : EReal := ∑ k : Fin 2048, xs (ix2 r k) * w (ix2 k e)

theorem pay1_at (x : Vec Ideal S1024x2048 .f32) (k : Fin 2048) : k0_pay1 x (ix2 r k) = x (ix2 r k) := by
  unfold k0_pay1
  pointwise

theorem pay2_at (e : Fin 512) : k0_pay2 xs w (ix2 r e) = pr xs w r e := by
  unfold k0_pay2
  pointwise
  simp only [pr]

theorem pay14_at (e : Fin 512) : k0_pay14 xs w (ix2 r e) = pr xs w r e := by
  unfold k0_pay14 k0_pay2
  pointwise
  simp only [pr]

theorem pay8_at (c : Fin 128) : k0_pay8 i xs w cs sn (ix2 r c)
    = (pr xs w r ⟨c.val, by omega⟩ * cs (ix2 r c) - pr xs w r ⟨128 + c.val, by omega⟩ * sn (ix2 r c)) * k0_pay5 (F := Ideal) i := by
  unfold k0_pay8 k0_pay6 k0_pay7 k0_pay3 k0_pay4 k0_pay2
  pointwise
  simp only [pr]

theorem pay9_at (c : Fin 128) : k0_pay9 i xs w cs sn (ix2 r c)
    = (pr xs w r ⟨c.val, by omega⟩ * sn (ix2 r c) + pr xs w r ⟨128 + c.val, by omega⟩ * cs (ix2 r c)) * k0_pay5 (F := Ideal) i := by
  unfold k0_pay9 k0_pay6 k0_pay7 k0_pay3 k0_pay4 k0_pay2
  pointwise
  simp only [pr]

theorem pay12_at (c : Fin 128) : k0_pay12 i xs w cs sn (ix2 r c)
    = (pr xs w r ⟨256 + c.val, by omega⟩ * cs (ix2 r c) - pr xs w r ⟨384 + c.val, by omega⟩ * sn (ix2 r c)) * k0_pay5 (F := Ideal) i := by
  unfold k0_pay12 k0_pay10 k0_pay11 k0_pay3 k0_pay4 k0_pay2
  pointwise
  simp only [pr]

theorem pay13_at (c : Fin 128) : k0_pay13 i xs w cs sn (ix2 r c)
    = (pr xs w r ⟨256 + c.val, by omega⟩ * sn (ix2 r c) + pr xs w r ⟨384 + c.val, by omega⟩ * cs (ix2 r c)) * k0_pay5 (F := Ideal) i := by
  unfold k0_pay13 k0_pay10 k0_pay11 k0_pay3 k0_pay4 k0_pay2
  pointwise
  simp only [pr]

/-- The four column slices of a block stored slice by slice. -/
def four (p0 p1 p2 p3 : S1024x128.Idx → Elt Ideal .bf16) : List (View.Piece (Elt Ideal) S1024x512 .bf16) :=
  [⟨Rect.unit (s := S1024x512) ![0, 384] S1024x128.size inb_S1024x512_S1024x128_0_384, p3⟩,
   ⟨Rect.unit (s := S1024x512) ![0, 256] S1024x128.size inb_S1024x512_S1024x128_0_256, p2⟩,
   ⟨Rect.unit (s := S1024x512) ![0, 128] S1024x128.size inb_S1024x512_S1024x128_0_128, p1⟩,
   ⟨Rect.unit (s := S1024x512) ![0, 0] S1024x128.size inb_S1024x512_S1024x128_0_0, p0⟩]

section four
variable (p0 p1 p2 p3 : S1024x128.Idx → Elt Ideal .bf16) (e : Fin 512) (c : Fin 128)

theorem four_0 (he : e.val = c.val) : View.canon (four p0 p1 p2 p3) (ix2 r e) = p0 (ix2 r c) := by
  unfold four
  rw [canon_miss 1 (Or.inl (show e.val < 384 by omega)), canon_miss 1 (Or.inl (show e.val < 256 by omega)),
    canon_miss 1 (Or.inl (show e.val < 128 by omega))]
  rw [canon_hit (ix2 r c) (fun a => by
    match a with
    | ⟨0, _⟩ => exact (Nat.zero_add _).symm
    | ⟨1, _⟩ => exact he.trans (Nat.zero_add _).symm)]

theorem four_1 (he : e.val = 128 + c.val) : View.canon (four p0 p1 p2 p3) (ix2 r e) = p1 (ix2 r c) := by
  unfold four
  rw [canon_miss 1 (Or.inl (show e.val < 384 by omega)), canon_miss 1 (Or.inl (show e.val < 256 by omega))]
  rw [canon_hit (ix2 r c) (fun a => by
    match a with
    | ⟨0, _⟩ => exact (Nat.zero_add _).symm
    | ⟨1, _⟩ => exact he)]

theorem four_2 (he : e.val = 256 + c.val) : View.canon (four p0 p1 p2 p3) (ix2 r e) = p2 (ix2 r c) := by
  unfold four
  rw [canon_miss 1 (Or.inl (show e.val < 384 by omega))]
  rw [canon_hit (ix2 r c) (fun a => by
    match a with
    | ⟨0, _⟩ => exact (Nat.zero_add _).symm
    | ⟨1, _⟩ => exact he)]

theorem four_3 (he : e.val = 384 + c.val) : View.canon (four p0 p1 p2 p3) (ix2 r e) = p3 (ix2 r c) := by
  unfold four
  rw [canon_hit (ix2 r c) (fun a => by
    match a with
    | ⟨0, _⟩ => exact (Nat.zero_add _).symm
    | ⟨1, _⟩ => exact he)]

end four

/-- The rotated block is stored so. -/
theorem rotZ_eq : rotZ i xs w cs sn = View.canon (four (k0_pay8 i xs w cs sn) (k0_pay9 i xs w cs sn) (k0_pay12 i xs w cs sn) (k0_pay13 i xs w cs sn)) := by
  unfold rotZ rotL four
  rfl

end pay

theorem hc5 : ∀ t : Fin grid0.N, Scalar.cmpi CmpIPredicate.sge (BitVec.ofNat 32 (grid0.coords t 1).val) 4#32
    = if 4 ≤ t.val % 30 then 1#1 else 0#1 := by decide +kernel

/-- The scale of a grid point. -/
theorem pay5_at (t : Fin grid0.N) : k0_pay5 (F := Ideal) (grid0.coords t) = if 4 ≤ t.val % 30 then ksc else 1 := by
  unfold k0_pay5
  pointwise
  rw [hc5 t]
  split <;> rfl

/-! ## The host's arrays -/

variable (m : (ℓ : Loc nD τ sig) → Buf (Elt Ideal) ℓ) (c : Dev nD)

abbrev xA : S4x2048x2048.Idx → EReal := m ((c : Thread nD τ).loc main_arg0)
abbrev wA : S1x2048x15360.Idx → EReal := m ((c : Thread nD τ).loc main_arg1)

theorem x_eq (r : Fin 8192) (k : Fin 2048) : (V m c main_v0 : S8192x2048.Idx → EReal) (ix2 r k)
    = xA m c (ix3 ⟨r.val / 2048, by omega⟩ (posn r) k) := by
  show StableHlo.after _ _ _ _ = _
  simp only [hostOps0]
  after_results
  pointwise
  try rfl

theorem w_eq (k : Fin 2048) (e : Fin 15360) : (V m c main_v17 : S2048x15360.Idx → EReal) (ix2 k e) = wA m c (ix3 0 k e) := by
  show StableHlo.after _ _ _ _ = _
  simp only [hostOps0]
  after_results
  pointwise
  try rfl

theorem cos_eq (s : Fin 2048) (q : Fin 128) : (V m c main_v14 : S2048x128.Idx → EReal) (ix2 s q) = Ideal.cos (ang (wd s) q) := by
  show StableHlo.after _ _ _ _ = _
  simp only [hostOps0]
  after_results
  pointwise
  simp only [ang]

theorem sin_eq (s : Fin 2048) (q : Fin 128) : (V m c main_v15 : S2048x128.Idx → EReal) (ix2 s q) = Ideal.sin (ang (wd s) q) := by
  show StableHlo.after _ _ _ _ = _
  simp only [hostOps0]
  after_results
  pointwise
  simp only [ang]

/-! ## The blocks of a grid point -/

/-- A row of a grid point. -/
def rB (t : Fin cfg0.N) (i : Fin 1024) : Fin 8192 := ⟨1024 * (t.val / 30) + i.val, by have h : t.val < 240 := lt_of_lt_of_eq t.isLt N_0; omega⟩

/-- A column of a grid point. -/
def cB (t : Fin cfg0.N) (e : Fin 512) : Fin 15360 := ⟨512 * (t.val % 30) + e.val, by omega⟩

theorem wz : ∀ t : Fin grid0.N,
    (win0_0.index t 0 = t.val / 30 ∧ win0_0.index t 1 = 0) ∧ (win0_1.index t 0 = 0 ∧ win0_1.index t 1 = t.val % 30)
    ∧ (win0_2.index t 0 = t.val / 30 % 2 ∧ win0_2.index t 1 = 0) ∧ (win0_3.index t 0 = t.val / 30 % 2 ∧ win0_3.index t 1 = 0)
    ∧ (win0_4.index t 0 = t.val / 30 ∧ win0_4.index t 1 = t.val % 30) := by
  decide +kernel

theorem wk : ∀ t : Fin grid0.N,
    (win0_5.index t 0 = t.val / 30 ∧ win0_5.index t 1 = if t.val % 30 < 19 then 0 else 1)
    ∧ (win0_6.index t 0 = t.val / 30 ∧ win0_6.index t 1 = if t.val % 30 < 21 then 0 else 1) := by
  decide +kernel

theorem blk_x (t : Fin cfg0.N) (i : Fin 1024) (k : Fin 2048) : (iblk m c 0 t : S1024x2048.Idx → EReal) (ix2 i k)
    = xA m c (ix3 ⟨(rB t i).val / 2048, by omega⟩ (posn (rB t i)) k) := by
  rw [← x_eq m c (rB t i) k]
  unfold iblk
  rw [View.read_apply]
  show (V m c main_v0 : S8192x2048.Idx → EReal) _ = _
  congr 1
  funext a
  refine Fin.ext ?_
  have hw := wz t
  match a with
  | ⟨0, _⟩ =>
    show win0_0.index t 0 * 1024 + 1 * i.val = 1024 * (t.val / 30) + i.val
    omega
  | ⟨1, _⟩ =>
    show win0_0.index t 1 * 2048 + 1 * k.val = k.val
    omega

theorem blk_w (t : Fin cfg0.N) (k : Fin 2048) (e : Fin 512) : (iblk m c 1 t : S2048x512.Idx → EReal) (ix2 k e) = wA m c (ix3 0 k (cB t e)) := by
  rw [← w_eq m c k (cB t e)]
  unfold iblk
  rw [View.read_apply]
  show (V m c main_v17 : S2048x15360.Idx → EReal) _ = _
  congr 1
  funext a
  refine Fin.ext ?_
  have hw := wz t
  match a with
  | ⟨0, _⟩ =>
    show win0_1.index t 0 * 2048 + 1 * k.val = k.val
    omega
  | ⟨1, _⟩ =>
    show win0_1.index t 1 * 512 + 1 * e.val = 512 * (t.val % 30) + e.val
    omega

theorem blk_cos (t : Fin cfg0.N) (i : Fin 1024) (q : Fin 128) : (iblk m c 2 t : S1024x128.Idx → EReal) (ix2 i q) = Ideal.cos (ang (wd (posn (rB t i))) q) := by
  rw [← cos_eq m c (posn (rB t i)) q]
  unfold iblk
  rw [View.read_apply]
  show (V m c main_v14 : S2048x128.Idx → EReal) _ = _
  congr 1
  funext a
  refine Fin.ext ?_
  have hw := wz t
  match a with
  | ⟨0, _⟩ =>
    show win0_2.index t 0 * 1024 + 1 * i.val = (1024 * (t.val / 30) + i.val) % 2048
    omega
  | ⟨1, _⟩ =>
    show win0_2.index t 1 * 128 + 1 * q.val = q.val
    omega

theorem blk_sin (t : Fin cfg0.N) (i : Fin 1024) (q : Fin 128) : (iblk m c 3 t : S1024x128.Idx → EReal) (ix2 i q) = Ideal.sin (ang (wd (posn (rB t i))) q) := by
  rw [← sin_eq m c (posn (rB t i)) q]
  unfold iblk
  rw [View.read_apply]
  show (V m c main_v15 : S2048x128.Idx → EReal) _ = _
  congr 1
  funext a
  refine Fin.ext ?_
  have hw := wz t
  match a with
  | ⟨0, _⟩ =>
    show win0_3.index t 0 * 1024 + 1 * i.val = (1024 * (t.val / 30) + i.val) % 2048
    omega
  | ⟨1, _⟩ =>
    show win0_3.index t 1 * 128 + 1 * q.val = q.val
    omega

/-! ## The results of a grid point -/

/-- A row of the product of the arguments. -/
abbrev pA : Fin 8192 → Fin 15360 → EReal := pM (xA m c) (wA m c)

/-- The product a grid point computes, over the rows kept from its row block's first point. -/
theorem pr_eq (t : Fin cfg0.N) (i : Fin 1024) (e : Fin 512) : pr (xb m c t) (iblk m c 1 t) i e = pA m c (rB t i) (cB t e) := by
  unfold pr pA pM
  refine Finset.sum_congr rfl fun k _ => ?_
  have h1 : xb m c t (ix2 i k) = xA m c (ix3 ⟨(rB t i).val / 2048, by omega⟩ (posn (rB t i)) k) := by
    unfold xb
    rw [pay1_at, blk_x]
    have hr : ∀ h, rB (pt t 0 h) i = rB t i := fun h => Fin.ext (by show 1024 * ((30 * (t.val / 30) + 0) / 30) + i.val = 1024 * (t.val / 30) + i.val; omega)
    simp only [hr]
  rw [h1, blk_w]

theorem prod_at (t : Fin cfg0.N) (i : Fin 1024) (e : Fin 512) : prod m c t (ix2 i e) = pA m c (rB t i) (cB t e) := by
  unfold prod
  rw [pay2_at, pr_eq]

/-- The block of projected rows. -/
theorem z_out (t : Fin cfg0.N) (i : Fin 1024) (e : Fin 512) :
    zOut m c t (ix2 i e) = zRow (pA m c (rB t i)) (wd (posn (rB t i))) (cB t e) := by
  have hN : t.val < 240 := lt_of_lt_of_eq t.isLt N_0
  unfold zOut
  by_cases hj : t.val % 30 < 8
  · rw [if_pos hj, rotZ_eq]
    have hs : ∀ h : Fin 16, h.val / 2 = t.val % 30 → k0_pay5 (F := Ideal) (grid0.coords t) = hsc h := fun h hh => by
      rw [pay5_at]
      unfold hsc
      by_cases h4 : 4 ≤ t.val % 30
      · rw [if_pos h4, if_pos (by omega)]
      · rw [if_neg h4, if_neg (by omega)]
    by_cases h1 : e.val < 128
    · rw [four_0 i _ _ _ _ e ⟨e.val, h1⟩ rfl, pay8_at, pr_eq, pr_eq, blk_cos, blk_sin, hs ⟨2 * (t.val % 30), by omega⟩ (by dsimp only; omega)]
      exact (zRow_lo _ _ ⟨2 * (t.val % 30), by omega⟩ ⟨e.val, h1⟩ _ _ _ (by dsimp only [cB]; omega) (by dsimp only [cB]; omega) (by dsimp only [cB]; omega)).symm
    by_cases h2 : e.val < 256
    · rw [four_1 i _ _ _ _ e ⟨e.val - 128, by omega⟩ (by dsimp only; omega), pay9_at, pr_eq, pr_eq, blk_cos, blk_sin, hs ⟨2 * (t.val % 30), by omega⟩ (by dsimp only; omega)]
      exact (zRow_hi _ _ ⟨2 * (t.val % 30), by omega⟩ ⟨e.val - 128, by omega⟩ _ _ _ (by dsimp only [cB]; omega) (by dsimp only [cB]; omega) (by dsimp only [cB]; omega)).symm
    by_cases h3 : e.val < 384
    · rw [four_2 i _ _ _ _ e ⟨e.val - 256, by omega⟩ (by dsimp only; omega), pay12_at, pr_eq, pr_eq, blk_cos, blk_sin, hs ⟨2 * (t.val % 30) + 1, by omega⟩ (by dsimp only; omega)]
      exact (zRow_lo _ _ ⟨2 * (t.val % 30) + 1, by omega⟩ ⟨e.val - 256, by omega⟩ _ _ _ (by dsimp only [cB]; omega) (by dsimp only [cB]; omega) (by dsimp only [cB]; omega)).symm
    · rw [four_3 i _ _ _ _ e ⟨e.val - 384, by omega⟩ (by dsimp only; omega), pay13_at, pr_eq, pr_eq, blk_cos, blk_sin, hs ⟨2 * (t.val % 30) + 1, by omega⟩ (by dsimp only; omega)]
      exact (zRow_hi _ _ ⟨2 * (t.val % 30) + 1, by omega⟩ ⟨e.val - 384, by omega⟩ _ _ _ (by dsimp only [cB]; omega) (by dsimp only [cB]; omega) (by dsimp only [cB]; omega)).symm
  · rw [if_neg hj, pay14_at, pr_eq]
    exact (zRow_rest _ _ _ (by dsimp only [cB]; omega)).symm

/-! ## The results' arrays -/

def resZ : S8192x15360.Idx → EReal := zM (xA m c) (wA m c)
def resK : S8192x1024.Idx → EReal := kM (xA m c) (wA m c)
def resV : S8192x1024.Idx → EReal := vM (xA m c) (wA m c)

theorem flushed_z (t : Fin cfg0.N) (hf : (cfg0.win 4).flush t = true) :
    (dats m 0 c).flushed 4 t = ((cfg0.win 4).blk t).view.read (Elt Ideal) (resZ m c) := by
  funext x
  obtain ⟨i, q, rfl⟩ : ∃ (i : Fin 1024) (q : Fin 512), x = ix2 i q := ⟨x 0, x 1, eq_ix2 x⟩
  rw [View.read_apply]
  show zOut m c t (ix2 i q) = resZ m c _
  rw [z_out]
  have hw := wz t
  have he : ((cfg0.win 4).blk t).view.emb (ix2 i q) = (ix2 (rB t i) (cB t q) : S8192x15360.Idx) := by
    refine (funext fun a => Fin.ext ?_ : (ix2 (rB t i) (cB t q) : S8192x15360.Idx) = _).symm
    match a with
    | ⟨0, _⟩ =>
      show 1024 * (t.val / 30) + i.val = win0_4.index t 0 * 1024 + 1 * i.val
      omega
    | ⟨1, _⟩ =>
      show 512 * (t.val % 30) + q.val = win0_4.index t 1 * 512 + 1 * q.val
      omega
  rw [he]
  rfl

theorem final_z : (dats m 0 c).arrAt 4 cfg0.N = resZ m c :=
  (dats m 0 c).arrAt_eq_of_cover 4 (resZ m c) (flushed_z m c) fun x => by
    obtain ⟨r, q, rfl⟩ : ∃ (r : Fin 8192) (q : Fin 15360), x = ix2 r q := ⟨x 0, x 1, eq_ix2 x⟩
    have hN : cfg0.N = 240 := N_0
    obtain ⟨t, ht⟩ : ∃ t : Fin cfg0.N, t.val = 30 * (r.val / 1024) + q.val / 512 := ⟨⟨_, by omega⟩, rfl⟩
    have hw := wz t
    refine ⟨t, flush0_4 t, ?_⟩
    show ix2 r q ∈ ((View.whole main_v18_0).slice (win0_4.rect t)).set
    rw [View.set_slice_whole, Rect.mem_set_unit]
    intro a
    match a with
    | ⟨0, _⟩ =>
      show win0_4.index t 0 * 1024 ≤ r.val ∧ r.val < win0_4.index t 0 * 1024 + 1024
      omega
    | ⟨1, _⟩ =>
      show win0_4.index t 1 * 512 ≤ q.val ∧ q.val < win0_4.index t 1 * 512 + 512
      omega

/-- What the block of keys holds when it is written back. -/
theorem k_out (t : Fin cfg0.N) (h : t.val % 30 = 18 ∨ t.val % 30 = 29) (i : Fin 1024) (q : Fin 512) (e : Fin 1024)
    (he : e.val = (if t.val % 30 < 19 then 0 else 1) * 512 + q.val) : kOut m c t (ix2 i q) = resK m c (ix2 (rB t i) e) := by
  show _ = pA m c (rB t i) ⟨9216 + e.val, _⟩
  unfold kOut
  rcases h with h | h
  · rw [if_pos (by omega)] at he ⊢
    rw [prod_at]
    congr 1
    exact Fin.ext (by show 512 * (t.val % 30) + q.val = 9216 + e.val; omega)
  · rw [if_neg (by omega)] at he ⊢
    rw [prod_at]
    have hr : ∀ h, rB (pt t 19 h) i = rB t i := fun h => Fin.ext (by show 1024 * ((30 * (t.val / 30) + 19) / 30) + i.val = 1024 * (t.val / 30) + i.val; omega)
    rw [hr]
    congr 1
    exact Fin.ext (by show 512 * ((30 * (t.val / 30) + 19) % 30) + q.val = 9216 + e.val; omega)

theorem v_out (t : Fin cfg0.N) (h : t.val % 30 = 20 ∨ t.val % 30 = 29) (i : Fin 1024) (q : Fin 512) (e : Fin 1024)
    (he : e.val = (if t.val % 30 < 21 then 0 else 1) * 512 + q.val) : vOut m c t (ix2 i q) = resV m c (ix2 (rB t i) e) := by
  show _ = pA m c (rB t i) ⟨10240 + e.val, _⟩
  unfold vOut
  rcases h with h | h
  · rw [if_pos (by omega)] at he ⊢
    rw [prod_at]
    congr 1
    exact Fin.ext (by show 512 * (t.val % 30) + q.val = 10240 + e.val; omega)
  · rw [if_neg (by omega)] at he ⊢
    rw [prod_at]
    have hr : ∀ h, rB (pt t 21 h) i = rB t i := fun h => Fin.ext (by show 1024 * ((30 * (t.val / 30) + 21) / 30) + i.val = 1024 * (t.val / 30) + i.val; omega)
    rw [hr]
    congr 1
    exact Fin.ext (by show 512 * ((30 * (t.val / 30) + 21) % 30) + q.val = 10240 + e.val; omega)

theorem flushed_k (t : Fin cfg0.N) (hf : (cfg0.win 5).flush t = true) :
    (dats m 0 c).flushed 5 t = ((cfg0.win 5).blk t).view.read (Elt Ideal) (resK m c) := by
  funext x
  obtain ⟨i, q, rfl⟩ : ∃ (i : Fin 1024) (q : Fin 512), x = ix2 i q := ⟨x 0, x 1, eq_ix2 x⟩
  rw [View.read_apply]
  show kOut m c t (ix2 i q) = resK m c _
  have hw := (wk t).1
  obtain ⟨e, hq⟩ : ∃ e : Fin 1024, e.val = (if t.val % 30 < 19 then 0 else 1) * 512 + q.val := ⟨⟨_, by split <;> omega⟩, rfl⟩
  rw [k_out m c t (((keys t).2.2.2).mp hf) i q e hq]
  have he : ((cfg0.win 5).blk t).view.emb (ix2 i q) = (ix2 (rB t i) e : S8192x1024.Idx) := by
    refine (funext fun a => Fin.ext ?_ : (ix2 (rB t i) e : S8192x1024.Idx) = _).symm
    match a with
    | ⟨0, _⟩ =>
      show 1024 * (t.val / 30) + i.val = win0_5.index t 0 * 1024 + 1 * i.val
      omega
    | ⟨1, _⟩ =>
      show e.val = win0_5.index t 1 * 512 + 1 * q.val
      rw [hw.2]
      omega
  rw [he]

theorem flushed_v (t : Fin cfg0.N) (hf : (cfg0.win 6).flush t = true) :
    (dats m 0 c).flushed 6 t = ((cfg0.win 6).blk t).view.read (Elt Ideal) (resV m c) := by
  funext x
  obtain ⟨i, q, rfl⟩ : ∃ (i : Fin 1024) (q : Fin 512), x = ix2 i q := ⟨x 0, x 1, eq_ix2 x⟩
  rw [View.read_apply]
  show vOut m c t (ix2 i q) = resV m c _
  have hw := (wk t).2
  obtain ⟨e, hq⟩ : ∃ e : Fin 1024, e.val = (if t.val % 30 < 21 then 0 else 1) * 512 + q.val := ⟨⟨_, by split <;> omega⟩, rfl⟩
  rw [v_out m c t (((vals t).2.2.2).mp hf) i q e hq]
  have he : ((cfg0.win 6).blk t).view.emb (ix2 i q) = (ix2 (rB t i) e : S8192x1024.Idx) := by
    refine (funext fun a => Fin.ext ?_ : (ix2 (rB t i) e : S8192x1024.Idx) = _).symm
    match a with
    | ⟨0, _⟩ =>
      show 1024 * (t.val / 30) + i.val = win0_6.index t 0 * 1024 + 1 * i.val
      omega
    | ⟨1, _⟩ =>
      show e.val = win0_6.index t 1 * 512 + 1 * q.val
      rw [hw.2]
      omega
  rw [he]

theorem final_k : (dats m 0 c).arrAt 5 cfg0.N = resK m c :=
  (dats m 0 c).arrAt_eq_of_cover 5 (resK m c) (flushed_k m c) fun x => by
    obtain ⟨r, q, rfl⟩ : ∃ (r : Fin 8192) (q : Fin 1024), x = ix2 r q := ⟨x 0, x 1, eq_ix2 x⟩
    have hN : cfg0.N = 240 := N_0
    obtain ⟨t, ht, hj⟩ : ∃ t : Fin cfg0.N, t.val / 30 = r.val / 1024 ∧ t.val % 30 = if q.val < 512 then 18 else 29 :=
      ⟨⟨30 * (r.val / 1024) + if q.val < 512 then 18 else 29, by split <;> omega⟩, by dsimp only; split <;> omega, by dsimp only; split <;> omega⟩
    have hw := (wk t).1
    refine ⟨t, ((keys t).2.2.2).mpr (by split at hj <;> omega), ?_⟩
    show ix2 r q ∈ ((View.whole main_v18_1).slice (win0_5.rect t)).set
    rw [View.set_slice_whole, Rect.mem_set_unit]
    intro a
    match a with
    | ⟨0, _⟩ =>
      show win0_5.index t 0 * 1024 ≤ r.val ∧ r.val < win0_5.index t 0 * 1024 + 1024
      omega
    | ⟨1, _⟩ =>
      show win0_5.index t 1 * 512 ≤ q.val ∧ q.val < win0_5.index t 1 * 512 + 512
      rw [hw.2, hj]
      by_cases hq : q.val < 512
      · rw [if_pos hq, if_pos (by omega)]; omega
      · rw [if_neg hq, if_neg (by omega)]; omega

theorem final_v : (dats m 0 c).arrAt 6 cfg0.N = resV m c :=
  (dats m 0 c).arrAt_eq_of_cover 6 (resV m c) (flushed_v m c) fun x => by
    obtain ⟨r, q, rfl⟩ : ∃ (r : Fin 8192) (q : Fin 1024), x = ix2 r q := ⟨x 0, x 1, eq_ix2 x⟩
    have hN : cfg0.N = 240 := N_0
    obtain ⟨t, ht, hj⟩ : ∃ t : Fin cfg0.N, t.val / 30 = r.val / 1024 ∧ t.val % 30 = if q.val < 512 then 20 else 29 :=
      ⟨⟨30 * (r.val / 1024) + if q.val < 512 then 20 else 29, by split <;> omega⟩, by dsimp only; split <;> omega, by dsimp only; split <;> omega⟩
    have hw := (wk t).2
    refine ⟨t, ((vals t).2.2.2).mpr (by split at hj <;> omega), ?_⟩
    show ix2 r q ∈ ((View.whole main_v18_2).slice (win0_6.rect t)).set
    rw [View.set_slice_whole, Rect.mem_set_unit]
    intro a
    match a with
    | ⟨0, _⟩ =>
      show win0_6.index t 0 * 1024 ≤ r.val ∧ r.val < win0_6.index t 0 * 1024 + 1024
      omega
    | ⟨1, _⟩ =>
      show win0_6.index t 1 * 512 ≤ q.val ∧ q.val < win0_6.index t 1 * 512 + 512
      rw [hw.2, hj]
      by_cases hq : q.val < 512
      · rw [if_pos hq, if_pos (by omega)]; omega
      · rw [if_neg hq, if_neg (by omega)]; omega

/-! ## The run -/

/-- The kernel's run: the results hold the projected rows, the keys and the values, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v18_0) = resZ m c
      ∧ r.2.mem ((c.tc : Thread nD τ).loc main_v18_1) = resK m c
      ∧ r.2.mem ((c.tc : Thread nD τ).loc main_v18_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans (final_z m c), ((h c).1 5).trans (final_k m c), ((h c).1 6).trans (final_v m c),
      ((h c).2 main_arg0 (Pipeline.mem_restRefs_of main_arg0 (by decide) (by decide))).trans (V_main_arg0 m c), ((h c).2 main_arg1 (Pipeline.mem_restRefs_of main_arg1 (by decide) (by decide))).trans (V_main_arg1 m c)⟩)
    (run_main m ρ)

end Cert.Kernel4Ideal.Val

end
-- ==== Proof.ProjRef.lean ====
/- The reference of the projection, read. -/
module

public import proofs.«01_k».proof.Proof.ProjSpec
public import proofs.«01_k».proof.Proof.Gen.Reference4Ideal.Run
public import Idealize.ShloMosaic.Lib.Pointwise

@[expose] public section

set_option maxRecDepth 16384

noncomputable section

namespace Cert.Own.PrjRef

open Idealize.ShloMosaic Idealize.ShloMosaic.TcCoe Idealize.SL.Sem
open Cert.Reference4Ideal Cert.Reference4Ideal.Gen Cert.Reference4Ideal.Value Cert.Own.Prj

/-- The product of the rows and the matrix. -/
def pT (x : Vec Ideal S4x2048x2048 .f32) (w : Vec Ideal S1x2048x15360 .f32) : FVec Ideal S4x2048x15360 .f32 :=
  Host.dotGeneral (φ₁ := .f32) (φ₂ := .f32) dot_S4x2048x2048_S2048x15360_S4x2048x15360_2_0_01_1_n_n none x (shapeCast _ w shapeCasts_S1x2048x15360_S2048x15360)

/-- The angles. -/
def angT : FVec Ideal S2048x128 .f32 :=
  mulf (broadcastInDim S2048x128 ![0, 1] bcast_S2048x1_S2048x128_0_1 (broadcastInDim S2048x1 ![0] bcast_S2048_S2048x1_0
    (sitofp .f32 (iotaInDim S2048 32 0)))) (broadcastInDim S2048x128 ![0, 1] bcast_S1x128_S2048x128_0_1
    (broadcastInDim S1x128 ![1] bcast_S128_S1x128_1 (Host.powf (broadcastInDim S128 ![] bcast_S_S128 (constant S_ .f32
    0x461C4000#32)) (Host.divf (Host.negf (sitofp .f32 (iotaInDim S128 32 0))) (broadcastInDim S128 ![] bcast_S_S128
    (constant S_ .f32 0x43000000#32))))))

/-- A table of the angles, laid along the heads. -/
def tabT (a : FVec Ideal S2048x128 .f32) : FVec Ideal S4x2048x8x128 .f32 :=
  broadcastInDim S4x2048x8x128 ![0, 1, 2, 3] bcast_S1x2048x1x128_S4x2048x8x128_0_1_2_3 (broadcastInDim S1x2048x1x128 ![1, 3]
    bcast_S2048x128_S1x2048x1x128_1_3 a)

/-- The queries' and the keys' columns by head. -/
def hq (p : FVec Ideal S4x2048x15360 .f32) : FVec Ideal S4x2048x8x256 .f32 :=
  shapeCast _ (extractStridedSlice S4x2048x2048 ![0, 0, 0] p slices_S4x2048x15360_S4x2048x2048_0_0_0) shapeCasts_S4x2048x2048_S4x2048x8x256
def hk (p : FVec Ideal S4x2048x15360 .f32) : FVec Ideal S4x2048x8x256 .f32 :=
  shapeCast _ (extractStridedSlice S4x2048x2048 ![0, 0, 2048] p slices_S4x2048x15360_S4x2048x2048_0_0_2048) shapeCasts_S4x2048x2048_S4x2048x8x256

/-- The two halves of the heads rotated. -/
def loT (u : FVec Ideal S4x2048x8x256 .f32) (a : FVec Ideal S2048x128 .f32) : FVec Ideal S4x2048x8x128 .f32 :=
  subf (mulf (extractStridedSlice S4x2048x8x128 ![0, 0, 0, 0] u slices_S4x2048x8x256_S4x2048x8x128_0_0_0_0) (tabT (Host.cos a)))
    (mulf (extractStridedSlice S4x2048x8x128 ![0, 0, 0, 128] u slices_S4x2048x8x256_S4x2048x8x128_0_0_0_128) (tabT (Host.sin a)))
def hiT (u : FVec Ideal S4x2048x8x256 .f32) (a : FVec Ideal S2048x128 .f32) : FVec Ideal S4x2048x8x128 .f32 :=
  addf (mulf (extractStridedSlice S4x2048x8x128 ![0, 0, 0, 0] u slices_S4x2048x8x256_S4x2048x8x128_0_0_0_0) (tabT (Host.sin a)))
    (mulf (extractStridedSlice S4x2048x8x128 ![0, 0, 0, 128] u slices_S4x2048x8x256_S4x2048x8x128_0_0_0_128) (tabT (Host.cos a)))

/-- The heads rotated. -/
def rotT (u : FVec Ideal S4x2048x8x256 .f32) (a : FVec Ideal S2048x128 .f32) : FVec Ideal S4x2048x8x256 .f32 :=
  concatenate S4x2048x8x256 3 [⟨S4x2048x8x128, loT u a⟩, ⟨S4x2048x8x128, hiT u a⟩] concatenates_S4x2048x8x128_S4x2048x8x128_S4x2048x8x256_d3

/-- The keys' scale. -/
def scT (u : FVec Ideal S4x2048x8x256 .f32) : FVec Ideal S4x2048x8x256 .f32 :=
  mulf u (broadcastInDim S4x2048x8x256 ![] bcast_S_S4x2048x8x256 (constant S_ .f32 0x3D800000#32))

/-- The projected rows, from the product and the rotated heads. -/
def zT (p : FVec Ideal S4x2048x15360 .f32) (q k : FVec Ideal S4x2048x8x256 .f32) : FVec Ideal S8192x15360 .bf16 :=
  truncf .bf16 (shapeCast _ (concatenate S4x2048x15360 2 [⟨S4x2048x2048, shapeCast _ q shapeCasts_S4x2048x8x256_S4x2048x2048⟩,
    ⟨S4x2048x2048, shapeCast _ k shapeCasts_S4x2048x8x256_S4x2048x2048⟩, ⟨S4x2048x11264, extractStridedSlice S4x2048x11264 ![0, 0, 4096] p
    slices_S4x2048x15360_S4x2048x11264_0_0_4096⟩] concatenates_S4x2048x2048_S4x2048x2048_S4x2048x11264_S4x2048x15360_d2)
    shapeCasts_S4x2048x15360_S8192x15360) bitsLt_bf16_f32

theorem pT_at (x : Vec Ideal S4x2048x2048 .f32) (w : Vec Ideal S1x2048x15360 .f32) (b : Fin 4) (s : Fin 2048) (e : Fin 15360) :
    pT x w (ix3 b s e) = ∑ k : Fin 2048, x (ix3 b s k) * w (ix3 0 k e) := by
  unfold pT
  pointwise

theorem angT_at (s : Fin 2048) (c : Fin 128) : angT (ix2 s c) = ang (wd s) c := by
  unfold angT
  pointwise
  simp only [ang]

theorem hq_at (p : FVec Ideal S4x2048x15360 .f32) (b : Fin 4) (s : Fin 2048) (h : Fin 8) (d : Fin 256) :
    hq p (ix4 b s h d) = p (ix3 b s ⟨h.val * 256 + d.val, by omega⟩) := by
  unfold hq
  pointwise

theorem hk_at (p : FVec Ideal S4x2048x15360 .f32) (b : Fin 4) (s : Fin 2048) (h : Fin 8) (d : Fin 256) :
    hk p (ix4 b s h d) = p (ix3 b s ⟨2048 + (h.val * 256 + d.val), by omega⟩) := by
  unfold hk
  pointwise

theorem loT_at (u : FVec Ideal S4x2048x8x256 .f32) (b : Fin 4) (s : Fin 2048) (h : Fin 8) (c : Fin 128) :
    loT u angT (ix4 b s h c) = lo (u (ix4 b s h ⟨c.val, by omega⟩)) (u (ix4 b s h ⟨128 + c.val, by omega⟩)) (wd s) c := by
  unfold loT tabT
  pointwise
  simp only [angT_at, lo]

theorem hiT_at (u : FVec Ideal S4x2048x8x256 .f32) (b : Fin 4) (s : Fin 2048) (h : Fin 8) (c : Fin 128) :
    hiT u angT (ix4 b s h c) = hi (u (ix4 b s h ⟨c.val, by omega⟩)) (u (ix4 b s h ⟨128 + c.val, by omega⟩)) (wd s) c := by
  unfold hiT tabT
  pointwise
  simp only [angT_at, hi]

theorem rotT_lo (u : FVec Ideal S4x2048x8x256 .f32) (b : Fin 4) (s : Fin 2048) (h : Fin 8) (d : Fin 256) (hd : d.val < 128) :
    rotT u angT (ix4 b s h d) = lo (u (ix4 b s h ⟨d.val, by omega⟩)) (u (ix4 b s h ⟨128 + d.val, by omega⟩)) (wd s) ⟨d.val, hd⟩ := by
  unfold rotT
  pointwise
  rw [dif_pos hd, loT_at]

theorem rotT_hi (u : FVec Ideal S4x2048x8x256 .f32) (b : Fin 4) (s : Fin 2048) (h : Fin 8) (d : Fin 256) (hd : ¬d.val < 128) :
    rotT u angT (ix4 b s h d)
      = hi (u (ix4 b s h ⟨d.val - 128, by omega⟩)) (u (ix4 b s h ⟨128 + (d.val - 128), by omega⟩)) (wd s) ⟨d.val - 128, by omega⟩ := by
  unfold rotT
  pointwise
  rw [dif_neg hd, hiT_at]

theorem scT_at (u : FVec Ideal S4x2048x8x256 .f32) (b : Fin 4) (s : Fin 2048) (h : Fin 8) (d : Fin 256) :
    scT u (ix4 b s h d) = u (ix4 b s h d) * ksc := by
  unfold scT
  pointwise
  simp only [ksc]

theorem zT_at (p : FVec Ideal S4x2048x15360 .f32) (q k : FVec Ideal S4x2048x8x256 .f32) (r : Fin 8192) (e : Fin 15360) :
    zT p q k (ix2 r e) = if h : e.val < 2048 then
        q (ix4 ⟨r.val / 2048, by omega⟩ (posn r) ⟨e.val / 256, by omega⟩ ⟨e.val % 256, Nat.mod_lt _ (by decide)⟩)
      else if h : e.val - 2048 < 2048 then
        k (ix4 ⟨r.val / 2048, by omega⟩ (posn r) ⟨(e.val - 2048) / 256, by omega⟩ ⟨(e.val - 2048) % 256, Nat.mod_lt _ (by decide)⟩)
      else p (ix3 ⟨r.val / 2048, by omega⟩ (posn r) ⟨4096 + (e.val - 2048 - 2048), by omega⟩) := by
  unfold zT
  pointwise
  rfl

/-- The projected rows are the rotated product. -/
theorem zT_eq (p : FVec Ideal S4x2048x15360 .f32) (P : Fin 15360 → EReal) (r : Fin 8192) (hP : ∀ e, p (ix3 ⟨r.val / 2048, by omega⟩ (posn r) e) = P e)
    (e : Fin 15360) : zT p (rotT (hq p) angT) (scT (rotT (hk p) angT)) (ix2 r e) = zRow P (wd (posn r)) e := by
  rw [zT_at]
  by_cases h1 : e.val < 2048
  · rw [dif_pos h1]
    have hs : hsc ⟨e.val / 256, by omega⟩ = 1 := if_neg (by dsimp only; omega)
    by_cases hd : e.val % 256 < 128
    · rw [rotT_lo _ _ _ _ _ hd, hq_at, hq_at, hP, hP, zRow_lo P (wd (posn r)) ⟨e.val / 256, by omega⟩ ⟨e.val % 256, hd⟩ e
        ⟨e.val / 256 * 256 + e.val % 256, by omega⟩ ⟨e.val / 256 * 256 + (128 + e.val % 256), by omega⟩
        (by dsimp only; omega) (by dsimp only; omega) (by dsimp only; omega), hs, mul_one]
    · rw [rotT_hi _ _ _ _ _ hd, hq_at, hq_at, hP, hP, zRow_hi P (wd (posn r)) ⟨e.val / 256, by omega⟩ ⟨e.val % 256 - 128, by omega⟩ e
        ⟨e.val / 256 * 256 + (e.val % 256 - 128), by omega⟩ ⟨e.val / 256 * 256 + (128 + (e.val % 256 - 128)), by omega⟩
        (by dsimp only; omega) (by dsimp only; omega) (by dsimp only; omega), hs, mul_one]
  · rw [dif_neg h1]
    by_cases h2 : e.val - 2048 < 2048
    · rw [dif_pos h2, scT_at]
      have hs : hsc ⟨e.val / 256, by omega⟩ = ksc := if_pos (by dsimp only; omega)
      by_cases hd : (e.val - 2048) % 256 < 128
      · rw [rotT_lo _ _ _ _ _ hd, hk_at, hk_at, hP, hP, zRow_lo P (wd (posn r)) ⟨e.val / 256, by omega⟩ ⟨(e.val - 2048) % 256, hd⟩ e
          ⟨2048 + ((e.val - 2048) / 256 * 256 + (e.val - 2048) % 256), by omega⟩ ⟨2048 + ((e.val - 2048) / 256 * 256 + (128 + (e.val - 2048) % 256)), by omega⟩
          (by dsimp only; omega) (by dsimp only; omega) (by dsimp only; omega), hs]
      · rw [rotT_hi _ _ _ _ _ hd, hk_at, hk_at, hP, hP, zRow_hi P (wd (posn r)) ⟨e.val / 256, by omega⟩ ⟨(e.val - 2048) % 256 - 128, by omega⟩ e
          ⟨2048 + ((e.val - 2048) / 256 * 256 + ((e.val - 2048) % 256 - 128)), by omega⟩
          ⟨2048 + ((e.val - 2048) / 256 * 256 + (128 + ((e.val - 2048) % 256 - 128))), by omega⟩
          (by dsimp only; omega) (by dsimp only; omega) (by dsimp only; omega), hs]
    · rw [dif_neg h2, hP, zRow_rest P (wd (posn r)) e (by omega)]
      exact congrArg P (Fin.ext (by dsimp only; omega))

/-- Columns of the product, as rows. -/
def kT (p : FVec Ideal S4x2048x15360 .f32) : FVec Ideal S8192x1024 .f32 :=
  shapeCast _ (extractStridedSlice S4x2048x1024 ![0, 0, 9216] p slices_S4x2048x15360_S4x2048x1024_0_0_9216) shapeCasts_S4x2048x1024_S8192x1024
def vT (p : FVec Ideal S4x2048x15360 .f32) : FVec Ideal S8192x1024 .f32 :=
  shapeCast _ (extractStridedSlice S4x2048x1024 ![0, 0, 10240] p slices_S4x2048x15360_S4x2048x1024_0_0_10240) shapeCasts_S4x2048x1024_S8192x1024

theorem kT_at (p : FVec Ideal S4x2048x15360 .f32) (r : Fin 8192) (e : Fin 1024) :
    kT p (ix2 r e) = p (ix3 ⟨r.val / 2048, by omega⟩ (posn r) ⟨9216 + e.val, by omega⟩) := by
  unfold kT
  pointwise
  rfl

theorem vT_at (p : FVec Ideal S4x2048x15360 .f32) (r : Fin 8192) (e : Fin 1024) :
    vT p (ix2 r e) = p (ix3 ⟨r.val / 2048, by omega⟩ (posn r) ⟨10240 + e.val, by omega⟩) := by
  unfold vT
  pointwise
  rfl

theorem kT_eq (x : Vec Ideal S4x2048x2048 .f32) (w : Vec Ideal S1x2048x15360 .f32) : kT (pT x w) = kM x w := by
  funext i
  obtain ⟨r, e, rfl⟩ : ∃ (r : Fin 8192) (q : Fin 1024), i = ix2 r q := ⟨i 0, i 1, eq_ix2 i⟩
  rw [kT_at, pT_at]
  rfl

theorem vT_eq (x : Vec Ideal S4x2048x2048 .f32) (w : Vec Ideal S1x2048x15360 .f32) : vT (pT x w) = vM x w := by
  funext i
  obtain ⟨r, e, rfl⟩ : ∃ (r : Fin 8192) (q : Fin 1024), i = ix2 r q := ⟨i 0, i 1, eq_ix2 i⟩
  rw [vT_at, pT_at]
  rfl

variable (m : (ℓ : Loc nD τ sig) → Buf (Elt Ideal) ℓ) (c : Dev nD)

set_option maxHeartbeats 4000000 in
theorem res_z : res_main_v72 m c = zT (pT (m ((c.tc : Thread nD τ).loc main_arg0)) (m ((c.tc : Thread nD τ).loc main_arg1)))
    (rotT (hq (pT (m ((c.tc : Thread nD τ).loc main_arg0)) (m ((c.tc : Thread nD τ).loc main_arg1)))) angT)
    (scT (rotT (hk (pT (m ((c.tc : Thread nD τ).loc main_arg0)) (m ((c.tc : Thread nD τ).loc main_arg1)))) angT)) := by
  unfold res_main_v72 zT scT rotT loT hiT tabT hq hk angT pT
  rfl

theorem res_eq : res_main_v72 m c = zM (m ((c.tc : Thread nD τ).loc main_arg0)) (m ((c.tc : Thread nD τ).loc main_arg1)) := by
  funext i
  obtain ⟨r, e, rfl⟩ : ∃ (r : Fin 8192) (q : Fin 15360), i = ix2 r q := ⟨i 0, i 1, eq_ix2 i⟩
  refine (congrFun (res_z m c) (ix2 r e)).trans ?_
  exact zT_eq _ (pM (m ((c.tc : Thread nD τ).loc main_arg0)) (m ((c.tc : Thread nD τ).loc main_arg1)) r) r (fun e => pT_at _ _ _ _ e) e

end Cert.Own.PrjRef

end
-- ==== Proof.PrjSFrameI.lean ====
/- The projection kernel on the sample's rows, over the extended reals: every run of it ends, and what it leaves in its three results is named. -/
module

public import proofs.«01_k».proof.Proof.Gen.Kernel5Ideal.Frame
public import proofs.«01_k».proof.Proof.Gen.Kernel5Ideal.Skeleton
public import Idealize.ShloMosaic.Lib.VecWindow
public import Idealize.ShloMosaic.Lib.Claim

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first point of a row block. -/
abbrev cond0_0 (i : grid0.Coords) : Prop := (Scalar.cmpi .ne (Scalar.extui (Scalar.cmpi .eq (BitVec.ofNat 32 (i 1).val) 0#32)) 0#32) = 1#1
/-- The rotated columns. -/
abbrev cond0_1 (i : grid0.Coords) : Prop := k0_cond2 i = 1#1
/-- The columns that are not rotated. -/
abbrev cond0_2 (i : grid0.Coords) : Prop := k0_cond3 i = 1#1
/-- The attention's keys. -/
abbrev cond0_3 (i : grid0.Coords) : Prop := k0_cond4 i = 1#1
/-- The attention's values. -/
abbrev cond0_4 (i : grid0.Coords) : Prop := k0_cond5 i = 1#1

/-- At the grid point `t` they are comparisons of `t` modulo 30. -/
theorem hcond : ∀ t : Fin grid0.N, (cond0_0 (grid0.coords t) ↔ t.val % 30 = 0) ∧ (cond0_1 (grid0.coords t) ↔ t.val % 30 < 8)
    ∧ (cond0_2 (grid0.coords t) ↔ 8 ≤ t.val % 30) ∧ (cond0_3 (grid0.coords t) ↔ 18 ≤ t.val % 30 ∧ t.val % 30 < 20)
    ∧ (cond0_4 (grid0.coords t) ↔ 20 ≤ t.val % 30 ∧ t.val % 30 < 22) := by decide +kernel

/-- What the rotated columns' four stores leave. -/
def rotL (i : grid0.Coords) (xs : Vec F S256x2048 .bf16) (w : Vec F S2048x512 .bf16) (cs sn : Vec F S256x128 .f32) :
    List (View.Piece (Elt F) S256x512 .f32) :=
  [⟨Rect.unit (s := S256x512) ![0, 384] S256x128.size inb_S256x512_S256x128_0_384, k0_pay13 i xs w cs sn⟩,
   ⟨Rect.unit (s := S256x512) ![0, 256] S256x128.size inb_S256x512_S256x128_0_256, k0_pay12 i xs w cs sn⟩,
   ⟨Rect.unit (s := S256x512) ![0, 128] S256x128.size inb_S256x512_S256x128_0_128, k0_pay9 i xs w cs sn⟩,
   ⟨Rect.unit (s := S256x512) ![0, 0] S256x128.size inb_S256x512_S256x128_0_0, k0_pay8 i xs w cs sn⟩]

/-- The block they leave. -/
def rotZ (i : grid0.Coords) (xs : Vec F S256x2048 .bf16) (w : Vec F S2048x512 .bf16) (cs sn : Vec F S256x128 .f32) : Vec F S256x512 .f32 :=
  View.canon (rotL i xs w cs sn)

/-- The four stores cover the block, so that is what a buffer holds after them. -/
theorem rot_read (a : Memref sig .tc .vmem S256x512 .f32) (ha : a.IsWhole) (f : a.view.ty.Contents (Elt F)) (i : grid0.Coords)
    (xs : Vec F S256x2048 .bf16) (w : Vec F S2048x512 .bf16) (cs sn : Vec F S256x128 .f32) :
    a.view.read (Elt F) (a.view.writes (Elt F) f (rotL i xs w cs sn)) = rotZ i xs w cs sn :=
  funext fun y => View.read_writes_apply_eq_canon _ _ _ _
    (View.cover_of_tiledL (rotL i xs w cs sn) S256x128.size (by sl_kernel_rfl) y)

theorem rot_congr (i : grid0.Coords) {xs xs' : Vec F S256x2048 .bf16} {w w' : Vec F S2048x512 .bf16} {cs cs' sn sn' : Vec F S256x128 .f32}
    (h1 : xs = xs') (h2 : w = w') (h3 : cs = cs') (h4 : sn = sn') : rotL i xs w cs sn = rotL i xs' w' cs' sn' := by
  rw [h1, h2, h3, h4]

/-- A whole block read from its buffer. -/
theorem rdX {s : Shape} {e : EltTy} (a : Memref sig .tc .vmem s e) (ha : a.IsWhole) (x : s.Idx → Elt F e) {off : Fin s.rank → ℕ}
    (inb : ∀ k, off k + s.size k ≤ s.size k) : a.view.readAt (Elt F) (Rect.unit off s.size inb).toLoadRect (ha.unread x) = x := by
  rw [View.readAt_full, ha.read_unread]

set_option maxHeartbeats 1000000 in
/-- At a first point of a row block the kernel rounds the rows, keeps them, and leaves the product rotated. -/
theorem runA (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x2048 .bf16) (harg9 : arg9.IsWhole) (hc0 : cond0_0 i) (hc1 : cond0_1 i) (hc2 : ¬cond0_2 i) (hc3 : ¬cond0_3 i) (hc4 : ¬cond0_4 i)
    (x0 : Vec F S256x2048 .f32) (x1 : Vec F S2048x512 .bf16) (x2 x3 : Vec F S256x128 .f32) (xi5 xi6 : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rotZ i (k0_pay1 x0) x1 x2 x3) ∗ owns (c : Thread nD τ) arg7 fullShare xi5 ∗ owns (c : Thread nD τ) arg8 fullShare xi6 ∗ owns (c : Thread nD τ) arg9 fullShare (k0_pay1 x0)) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (rot_read arg6 harg6 f4 i _ _ _ _).trans (congrArg View.canon (rot_congr i ?_ ?_ ?_ ?_))
    · exact (View.readCov_full _ _ _ _ _).trans (congrArg k0_pay1 (rdX arg2 harg2 x0 _))
    · exact rdX arg3 harg3 x1 _
    · exact rdX arg4 harg4 x2 _
    · exact rdX arg5 harg5 x3 _
  isplitl [H5]
  · iexists _; isplitr; · ipureintro; exact harg7.read_unread _
    iexact H5
  isplitl [H6]
  · iexists _; isplitr; · ipureintro; exact harg8.read_unread _
    iexact H6
  iexists _; isplitr
  swap; · iexact HS0
  ipureintro
  exact (View.read_writes_full _ _ _ _ _).trans (congrArg k0_pay1 (rdX arg2 harg2 x0 _))

set_option maxHeartbeats 1000000 in
/-- At the other points of the rotated columns it leaves the product of the rows kept and the columns, rotated. -/
theorem runB (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x2048 .bf16) (harg9 : arg9.IsWhole) (hc0 : ¬cond0_0 i) (hc1 : cond0_1 i) (hc2 : ¬cond0_2 i) (hc3 : ¬cond0_3 i) (hc4 : ¬cond0_4 i)
    (x0 : Vec F S256x2048 .f32) (x1 : Vec F S2048x512 .bf16) (x2 x3 : Vec F S256x128 .f32) (xi5 xi6 : Vec F S256x512 .f32) (xs0 : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rotZ i xs0 x1 x2 x3) ∗ owns (c : Thread nD τ) arg7 fullShare xi5 ∗ owns (c : Thread nD τ) arg8 fullShare xi6 ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (rot_read arg6 harg6 f4 i _ _ _ _).trans (congrArg View.canon (rot_congr i ?_ ?_ ?_ ?_))
    · exact rdX arg9 harg9 xs0 _
    · exact rdX arg3 harg3 x1 _
    · exact rdX arg4 harg4 x2 _
    · exact rdX arg5 harg5 x3 _
  isplitl [H5]
  · iexists _; isplitr; · ipureintro; exact harg7.read_unread _
    iexact H5
  isplitl [H6]
  · iexists _; isplitr; · ipureintro; exact harg8.read_unread _
    iexact H6
  iexists _; isplitr; · ipureintro; exact harg9.read_unread _
  iexact HS0

set_option maxHeartbeats 1000000 in
/-- At the points of the columns that are not rotated it leaves the product rounded. -/
theorem runC (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x2048 .bf16) (harg9 : arg9.IsWhole) (hc0 : ¬cond0_0 i) (hc1 : ¬cond0_1 i) (hc2 : cond0_2 i) (hc3 : ¬cond0_3 i) (hc4 : ¬cond0_4 i)
    (x0 : Vec F S256x2048 .f32) (x1 : Vec F S2048x512 .bf16) (x2 x3 : Vec F S256x128 .f32) (xi5 xi6 : Vec F S256x512 .f32) (xs0 : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 xs0 x1) ∗ owns (c : Thread nD τ) arg7 fullShare xi5 ∗ owns (c : Thread nD τ) arg8 fullShare xi6 ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    exact congrArg₂ k0_pay2 (rdX arg9 harg9 xs0 _) (rdX arg3 harg3 x1 _)
  isplitl [H5]
  · iexists _; isplitr; · ipureintro; exact harg7.read_unread _
    iexact H5
  isplitl [H6]
  · iexists _; isplitr; · ipureintro; exact harg8.read_unread _
    iexact H6
  iexists _; isplitr; · ipureintro; exact harg9.read_unread _
  iexact HS0

set_option maxHeartbeats 1000000 in
/-- At the points of the attention's keys it leaves the product in the keys' block also. -/
theorem runD (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x2048 .bf16) (harg9 : arg9.IsWhole) (hc0 : ¬cond0_0 i) (hc1 : ¬cond0_1 i) (hc2 : cond0_2 i) (hc3 : cond0_3 i) (hc4 : ¬cond0_4 i)
    (x0 : Vec F S256x2048 .f32) (x1 : Vec F S2048x512 .bf16) (x2 x3 : Vec F S256x128 .f32) (xi5 xi6 : Vec F S256x512 .f32) (xs0 : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 xs0 x1) ∗ owns (c : Thread nD τ) arg7 fullShare (k0_pay2 xs0 x1) ∗ owns (c : Thread nD τ) arg8 fullShare xi6 ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    exact congrArg₂ k0_pay2 (rdX arg9 harg9 xs0 _) (rdX arg3 harg3 x1 _)
  isplitl [H5]
  · iexists _; isplitr
    swap; · iexact H5
    ipureintro
    rw [View.read_writes_full]
    exact congrArg₂ k0_pay2 (rdX arg9 harg9 xs0 _) (rdX arg3 harg3 x1 _)
  isplitl [H6]
  · iexists _; isplitr; · ipureintro; exact harg8.read_unread _
    iexact H6
  iexists _; isplitr; · ipureintro; exact harg9.read_unread _
  iexact HS0

set_option maxHeartbeats 1000000 in
/-- At the points of the attention's values it leaves the product in the values' block also. -/
theorem runE (c : Dev nD) (i : grid0.Coords) (arg2 : Memref sig .tc .vmem S256x2048 .f32) (harg2 : arg2.IsWhole) (arg3 : Memref sig .tc .vmem S2048x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x2048 .bf16) (harg9 : arg9.IsWhole) (hc0 : ¬cond0_0 i) (hc1 : ¬cond0_1 i) (hc2 : cond0_2 i) (hc3 : ¬cond0_3 i) (hc4 : cond0_4 i)
    (x0 : Vec F S256x2048 .f32) (x1 : Vec F S2048x512 .bf16) (x2 x3 : Vec F S256x128 .f32) (xi5 xi6 : Vec F S256x512 .f32) (xs0 : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 xs0 x1) ∗ owns (c : Thread nD τ) arg7 fullShare xi5 ∗ owns (c : Thread nD τ) arg8 fullShare (k0_pay2 xs0 x1) ∗ owns (c : Thread nD τ) arg9 fullShare xs0) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    exact congrArg₂ k0_pay2 (rdX arg9 harg9 xs0 _) (rdX arg3 harg3 x1 _)
  isplitl [H5]
  · iexists _; isplitr; · ipureintro; exact harg7.read_unread _
    iexact H5
  isplitl [H6]
  · iexists _; isplitr
    swap; · iexact H6
    ipureintro
    rw [View.read_writes_full]
    exact congrArg₂ k0_pay2 (rdX arg9 harg9 xs0 _) (rdX arg3 harg3 x1 _)
  iexists _; isplitr; · ipureintro; exact harg9.read_unread _
  iexact HS0

/-! ## The points of the grid -/

abbrev ms0 (t : Fin cfg0.N) : Memref sig .tc .vmem S256x2048 .f32 := win0_0.stage (cfg0.slots t 0)
abbrev ms1 (t : Fin cfg0.N) : Memref sig .tc .vmem S2048x512 .bf16 := win0_1.stage (cfg0.slots t 1)
abbrev ms2 (t : Fin cfg0.N) : Memref sig .tc .vmem S256x128 .f32 := win0_2.stage (cfg0.slots t 2)
abbrev ms3 (t : Fin cfg0.N) : Memref sig .tc .vmem S256x128 .f32 := win0_3.stage (cfg0.slots t 3)
abbrev ms4 (t : Fin cfg0.N) : Memref sig .tc .vmem S256x512 .f32 := win0_4.stage (cfg0.slots t 4)
abbrev ms5 (t : Fin cfg0.N) : Memref sig .tc .vmem S256x512 .f32 := win0_5.stage (cfg0.slots t 5)
abbrev ms6 (t : Fin cfg0.N) : Memref sig .tc .vmem S256x512 .f32 := win0_6.stage (cfg0.slots t 6)
/-- The rows a row block keeps. -/
abbrev scM : Memref sig .tc .vmem S256x2048 .bf16 := Memref.whole cc0_scratch0

/-- The invariant before the first point: the kept rows at anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The point of column tile `j` in the row block of the point `t`. -/
def pt (t : Fin cfg0.N) (j : ℕ) (hj : j < 30) : Fin cfg0.N :=
  ⟨30 * (t.val / 30) + j, by have h : t.val < 30 := lt_of_lt_of_eq t.isLt N_0; have h' : cfg0.N = 30 := N_0; omega⟩

theorem pt_self (t : Fin cfg0.N) (j : ℕ) (hj : j < 30) (h : t.val % 30 = j) : pt t j hj = t :=
  Fin.ext (by show 30 * (t.val / 30) + j = t.val; omega)

theorem pt_pt (t u : Fin cfg0.N) (j : ℕ) (hj : j < 30) (h : t.val / 30 = u.val / 30) : pt t j hj = pt u j hj :=
  Fin.ext (by show 30 * (t.val / 30) + j = 30 * (u.val / 30) + j; omega)

/-- Where the keys' block is stored, where it is written back, and where it is kept. -/
theorem keys : ∀ t : Fin grid0.N, (win0_5.fetch t = false)
    ∧ ((18 ≤ t.val % 30 ∧ t.val % 30 < 20) → idle0 5 (grid0.coords t) = false)
    ∧ (¬(18 ≤ t.val % 30 ∧ t.val % 30 < 20) → idle0 5 (grid0.coords t) = true)
    ∧ (win0_5.flush t = true ↔ t.val % 30 = 18 ∨ t.val % 30 = 29) := by decide +kernel

/-- The same of the values' block. -/
theorem vals : ∀ t : Fin grid0.N, (win0_6.fetch t = false)
    ∧ ((20 ≤ t.val % 30 ∧ t.val % 30 < 22) → idle0 6 (grid0.coords t) = false)
    ∧ (¬(20 ≤ t.val % 30 ∧ t.val % 30 < 22) → idle0 6 (grid0.coords t) = true)
    ∧ (win0_6.flush t = true ↔ t.val % 30 = 20 ∨ t.val % 30 = 29) := by decide +kernel

theorem zlive : ∀ t : Fin grid0.N, idle0 4 (grid0.coords t) = false := by decide +kernel

variable (m : (ℓ : Loc nD τ sig) → Buf (Elt F) ℓ) (ρ : Dev nD → PrngReg)

/-! ## What each point leaves -/

/-- The rows a row block keeps: its rows of the argument, rounded. -/
def xb (c : Dev nD) (t : Fin cfg0.N) : Vec F S256x2048 .bf16 := k0_pay1 (iblk m c 0 (pt t 0 (by decide)))

/-- The product of the kept rows and a point's columns. -/
def prod (c : Dev nD) (t : Fin cfg0.N) : Vec F S256x512 .f32 := k0_pay2 (xb m c t) (iblk m c 1 t)

/-- What a point leaves of the projected rows. -/
def zOut (c : Dev nD) (t : Fin cfg0.N) : Vec F S256x512 .f32 :=
  if t.val % 30 < 8 then rotZ (grid0.coords t) (xb m c t) (iblk m c 1 t) (iblk m c 2 t) (iblk m c 3 t)
  else k0_pay2 (xb m c t) (iblk m c 1 t)

/-- What the keys' block holds after a point: the last product stored there. -/
def kOut (c : Dev nD) (t : Fin cfg0.N) : Vec F S256x512 .f32 :=
  if t.val % 30 < 19 then prod m c t else prod m c (pt t 19 (by decide))

/-- What the values' block holds after a point. -/
def vOut (c : Dev nD) (t : Fin cfg0.N) : Vec F S256x512 .f32 :=
  if t.val % 30 < 21 then prod m c t else prod m c (pt t 21 (by decide))

/-- The invariant before position `n`: the kept rows as the point before left them. -/
def PhiS (c : Dev nD) : (n : ℕ) → n ≤ cfg0.N → sProp 𝕄
  | 0, _ => Pipeline.ΦA spec0 c
  | n + 1, hn => iprop(iprop(owns (c : Thread nD τ) scM fullShare (xb m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (xb m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (xb m c ⟨n - 1, by omega⟩)) ∗ (∃ r, prngReg c r)) := by
  cases n with
  | zero => exact absurd rfl hz
  | succ n => rfl

/-- The pipeline's data: every input's buffer at its block, the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zOut m c t
    | ⟨5, _⟩ => kOut m c t
    | ⟨6, _⟩ => vOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = zOut m c t := by dsimp only [dats]
theorem after5 (c : Dev nD) (t : Fin cfg0.N) : (dats m 0 c).after 5 t = kOut m c t := by dsimp only [dats]
theorem after6 (c : Dev nD) (t : Fin cfg0.N) : (dats m 0 c).after 6 t = vOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The blocks that are kept until they are written back -/

/-- After its last store in a row block the keys' block stays as it is. -/
theorem keep5 (c : Dev nD) (d) : ∀ (k : ℕ) (t : Fin cfg0.N), t.val % 30 = 20 + k →
    (dats m 0 c).before 5 t d = prod m c (pt t 19 (by decide))
  | 0, t, hk => by
    have hp : t.val ≠ 0 := by omega
    have hu : t.val - 1 < cfg0.N := Nat.lt_of_le_of_lt (Nat.sub_le _ _) t.isLt
    have h19 : (⟨t.val - 1, hu⟩ : Fin cfg0.N).val % 30 = 19 := by show (t.val - 1) % 30 = 19; omega
    rw [Dat.before_of_pos (dats m 0 c) 5 t hp ((keys t).1) d]
    rw [if_neg (fun h => by have := ((keys ⟨t.val - 1, hu⟩).2.2.2).mp h; omega)]
    have hi : cfg0.idle 5 (cfg0.grid.coords ⟨t.val - 1, hu⟩) = false := (keys ⟨t.val - 1, hu⟩).2.1 (by omega)
    unfold Dat.left
    rw [hi]
    show (dats m 0 c).after 5 ⟨t.val - 1, hu⟩ = _
    rw [after5]
    unfold kOut
    rw [if_neg (by omega)]
    exact congrArg (prod m c) (pt_pt _ _ _ _ (by show (t.val - 1) / 30 = t.val / 30; omega))
  | k + 1, t, hk => by
    have hp : t.val ≠ 0 := by omega
    have hu : t.val - 1 < cfg0.N := Nat.lt_of_le_of_lt (Nat.sub_le _ _) t.isLt
    have hlt : t.val % 30 < 30 := Nat.mod_lt _ (by decide)
    have h19 : (⟨t.val - 1, hu⟩ : Fin cfg0.N).val % 30 = 20 + k := by show (t.val - 1) % 30 = 20 + k; omega
    rw [Dat.before_of_pos (dats m 0 c) 5 t hp ((keys t).1) d]
    rw [if_neg (fun h => by have := ((keys ⟨t.val - 1, hu⟩).2.2.2).mp h; omega)]
    have hi : cfg0.idle 5 (cfg0.grid.coords ⟨t.val - 1, hu⟩) = true := (keys ⟨t.val - 1, hu⟩).2.2.1 (by omega)
    unfold Dat.left
    rw [hi]
    show (dats m 0 c).before 5 ⟨t.val - 1, hu⟩ d = _
    rw [keep5 c d k ⟨t.val - 1, hu⟩ h19]
    exact congrArg (prod m c) (pt_pt _ _ _ _ (by show (t.val - 1) / 30 = t.val / 30; omega))

/-- So does the values' block. -/
theorem keep6 (c : Dev nD) (d) : ∀ (k : ℕ) (t : Fin cfg0.N), t.val % 30 = 22 + k →
    (dats m 0 c).before 6 t d = prod m c (pt t 21 (by decide))
  | 0, t, hk => by
    have hp : t.val ≠ 0 := by omega
    have hu : t.val - 1 < cfg0.N := Nat.lt_of_le_of_lt (Nat.sub_le _ _) t.isLt
    have h19 : (⟨t.val - 1, hu⟩ : Fin cfg0.N).val % 30 = 21 := by show (t.val - 1) % 30 = 21; omega
    rw [Dat.before_of_pos (dats m 0 c) 6 t hp ((vals t).1) d]
    rw [if_neg (fun h => by have := ((vals ⟨t.val - 1, hu⟩).2.2.2).mp h; omega)]
    have hi : cfg0.idle 6 (cfg0.grid.coords ⟨t.val - 1, hu⟩) = false := (vals ⟨t.val - 1, hu⟩).2.1 (by omega)
    unfold Dat.left
    rw [hi]
    show (dats m 0 c).after 6 ⟨t.val - 1, hu⟩ = _
    rw [after6]
    unfold vOut
    rw [if_neg (by omega)]
    exact congrArg (prod m c) (pt_pt _ _ _ _ (by show (t.val - 1) / 30 = t.val / 30; omega))
  | k + 1, t, hk => by
    have hp : t.val ≠ 0 := by omega
    have hu : t.val - 1 < cfg0.N := Nat.lt_of_le_of_lt (Nat.sub_le _ _) t.isLt
    have hlt : t.val % 30 < 30 := Nat.mod_lt _ (by decide)
    have h19 : (⟨t.val - 1, hu⟩ : Fin cfg0.N).val % 30 = 22 + k := by show (t.val - 1) % 30 = 22 + k; omega
    rw [Dat.before_of_pos (dats m 0 c) 6 t hp ((vals t).1) d]
    rw [if_neg (fun h => by have := ((vals ⟨t.val - 1, hu⟩).2.2.2).mp h; omega)]
    have hi : cfg0.idle 6 (cfg0.grid.coords ⟨t.val - 1, hu⟩) = true := (vals ⟨t.val - 1, hu⟩).2.2.1 (by omega)
    unfold Dat.left
    rw [hi]
    show (dats m 0 c).before 6 ⟨t.val - 1, hu⟩ d = _
    rw [keep6 c d k ⟨t.val - 1, hu⟩ h19]
    exact congrArg (prod m c) (pt_pt _ _ _ _ (by show (t.val - 1) / 30 = t.val / 30; omega))

/-- A point that stores no key leaves the keys' block as it found it, which is what is asked of it. -/
theorem leave5 (c : Dev nD) (t : Fin cfg0.N) (d) (h : ¬(18 ≤ t.val % 30 ∧ t.val % 30 < 20)) :
    owns (c : Thread nD τ) (ms5 t) fullShare ((dats m 0 c).before 5 t d) ⊢ ((dats m 0 c).leavesExact 5 t : sProp 𝕄) := by
  have hi : cfg0.idle 5 (cfg0.grid.coords t) = true := (keys t).2.2.1 h
  by_cases hf : t.val % 30 = 29
  · have hfl : (cfg0.win 5).flush t = true := (keys t).2.2.2.mpr (.inr hf)
    have e : (dats m 0 c).before 5 t d = (dats m 0 c).after 5 t := by
      rw [keep5 m c d 9 t (by omega), after5]; unfold kOut; rw [if_neg (by omega)]
    rw [e]
    unfold Dat.leavesExact
    rw [hi, hfl]
  · have hfl : (cfg0.win 5).flush t = false := by
      rw [Bool.eq_false_iff]; intro hh; have := (keys t).2.2.2.mp hh; omega
    rw [Dat.leavesExact_idle (dats m 0 c) 5 t hi hfl]
    iintro H
    iexists _; iexact H

theorem leave6 (c : Dev nD) (t : Fin cfg0.N) (d) (h : ¬(20 ≤ t.val % 30 ∧ t.val % 30 < 22)) :
    owns (c : Thread nD τ) (ms6 t) fullShare ((dats m 0 c).before 6 t d) ⊢ ((dats m 0 c).leavesExact 6 t : sProp 𝕄) := by
  have hi : cfg0.idle 6 (cfg0.grid.coords t) = true := (vals t).2.2.1 h
  by_cases hf : t.val % 30 = 29
  · have hfl : (cfg0.win 6).flush t = true := (vals t).2.2.2.mpr (.inr hf)
    have e : (dats m 0 c).before 6 t d = (dats m 0 c).after 6 t := by
      rw [keep6 m c d 7 t (by omega), after6]; unfold vOut; rw [if_neg (by omega)]
    rw [e]
    unfold Dat.leavesExact
    rw [hi, hfl]
  · have hfl : (cfg0.win 6).flush t = false := by
      rw [Bool.eq_false_iff]; intro hh; have := (vals t).2.2.2.mp hh; omega
    rw [Dat.leavesExact_idle (dats m 0 c) 6 t hi hfl]
    iintro H
    iexists _; iexact H

theorem store5 (c : Dev nD) (t : Fin cfg0.N) (h : 18 ≤ t.val % 30 ∧ t.val % 30 < 20) :
    ((dats m 0 c).leavesExact 5 t : sProp 𝕄) = owns (c : Thread nD τ) (ms5 t) fullShare (prod m c t) := by
  have hi : cfg0.idle 5 (cfg0.grid.coords t) = false := (keys t).2.1 h
  have e : (dats m 0 c).after 5 t = prod m c t := by
    rw [after5]; unfold kOut
    split
    · rfl
    · exact congrArg (prod m c) (pt_self t 19 _ (by omega))
  unfold Dat.leavesExact
  rw [hi, e]

theorem store6 (c : Dev nD) (t : Fin cfg0.N) (h : 20 ≤ t.val % 30 ∧ t.val % 30 < 22) :
    ((dats m 0 c).leavesExact 6 t : sProp 𝕄) = owns (c : Thread nD τ) (ms6 t) fullShare (prod m c t) := by
  have hi : cfg0.idle 6 (cfg0.grid.coords t) = false := (vals t).2.1 h
  have e : (dats m 0 c).after 6 t = prod m c t := by
    rw [after6]; unfold vOut
    split
    · rfl
    · exact congrArg (prod m c) (pt_self t 21 _ (by omega))
  unfold Dat.leavesExact
  rw [hi, e]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The kept rows before a point that is not the first of its row block are the ones it keeps. -/
theorem xb_pred (c : Dev nD) (t : Fin cfg0.N) (h0 : t.val % 30 ≠ 0) (hu : t.val - 1 < cfg0.N) : xb m c ⟨t.val - 1, hu⟩ = xb m c t :=
  congrArg (fun u => k0_pay1 (iblk m c 0 u)) (pt_pt _ _ _ _ (by show (t.val - 1) / 30 = t.val / 30; omega))

set_option maxHeartbeats 9600000 in
/-- The body at any point takes the buffers as the point before left them to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare (iblk m c 0 t) from by
    rw [← after0]]
  rw [show (dats m 0 c).leavesExact 1 t = owns (c : Thread nD τ) (ms1 t) fullShare (iblk m c 1 t) from by
    rw [← after1]]
  rw [show (dats m 0 c).leavesExact 2 t = owns (c : Thread nD τ) (ms2 t) fullShare (iblk m c 2 t) from by
    rw [← after2]]
  rw [show (dats m 0 c).leavesExact 3 t = owns (c : Thread nD τ) (ms3 t) fullShare (iblk m c 3 t) from by
    rw [← after3]]
  rw [show (dats m 0 c).leavesExact 4 t = owns (c : Thread nD τ) (ms4 t) fullShare (zOut m c t) from by
    have hl : cfg0.idle 4 (cfg0.grid.coords t) = false := zlive t
    unfold Dat.leavesExact; rw [hl, after4]]
  rw [PhiS_castSucc m c t]
  have hc := hcond t
  have hN : t.val < 30 := lt_of_lt_of_eq t.isLt N_0
  by_cases h0 : t.val % 30 = 0
  · have hx : xb m c t = k0_pay1 (iblk m c 0 t) := congrArg (fun u => k0_pay1 (iblk m c 0 u)) (pt_self t 0 _ h0)
    have hz : zOut m c t = rotZ (grid0.coords t) (k0_pay1 (iblk m c 0 t)) (iblk m c 1 t) (iblk m c 2 t) (iblk m c 3 t) := by
      unfold zOut; rw [if_pos (by omega), hx]
    rw [hz, hx]
    have hP : PhiS m c t.val (Nat.le_of_lt t.isLt) ⊢ iprop(iprop((∃ d, owns (c : Thread nD τ) scM fullShare d)) ∗ (∃ r, prngReg c r)) := by
      by_cases hz0 : t.val = 0
      · rw [PhiS_zero m c _ _ hz0, PhiA_eq]
      · rw [PhiS_pos m c _ _ hz0]
        iintro ⟨HS0, Hg⟩
        isplitl [HS0]
        · iexists _; iexact HS0
        iexact Hg
    refine (Laws.sep_mono hP .rfl).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ (hc.1.mpr h0) (hc.2.1.mpr (by omega)) (fun h => absurd (hc.2.2.1.mp h) (by omega)) (fun h => absurd (hc.2.2.2.1.mp h) (by omega)) (fun h => absurd (hc.2.2.2.2.mp h) (by omega)) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leave5 m c t _ (by omega)); iexact H5
    iapply (leave6 m c t _ (by omega)); iexact H6
  · have hz0 : t.val ≠ 0 := by omega
    rw [PhiS_pos m c _ _ hz0, xb_pred m c t h0 _]
    by_cases h1 : t.val % 30 < 8
    · have hz : zOut m c t = rotZ (grid0.coords t) (xb m c t) (iblk m c 1 t) (iblk m c 2 t) (iblk m c 3 t) := by
        unfold zOut; rw [if_pos h1]
      rw [hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ (fun h => h0 (hc.1.mp h)) (hc.2.1.mpr h1) (fun h => absurd (hc.2.2.1.mp h) (by omega)) (fun h => absurd (hc.2.2.2.1.mp h) (by omega)) (fun h => absurd (hc.2.2.2.2.mp h) (by omega)) (iblk m c 0 t) (iblk m c 1 t) (iblk m c 2 t) (iblk m c 3 t) _ _ (xb m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leave5 m c t _ (by omega)); iexact H5
      iapply (leave6 m c t _ (by omega)); iexact H6
    · have hz : zOut m c t = k0_pay2 (xb m c t) (iblk m c 1 t) := by
        unfold zOut; rw [if_neg h1]
      rw [hz]
      by_cases h3 : 18 ≤ t.val % 30 ∧ t.val % 30 < 20
      · rw [store5 m c t h3]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply (runD c (grid0.coords t) _ _ _ _ _ _ _ _ _ _ _ _ _ _ _ _ (fun h => h0 (hc.1.mp h)) (fun h => h1 (hc.2.1.mp h)) (hc.2.2.1.mpr (by omega)) (hc.2.2.2.1.mpr h3) (fun h => absurd (hc.2.2.2.2.mp h) (by omega)) (iblk m c 0 t) (iblk m c 1 t) (iblk m c 2 t) (iblk m c 3 t) _ _ (xb m c t) Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        isplitl [HS0]; · iexact HS0
        iintro ⟨H0, H1, H2, H3, H4, H5, H6, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (leave6 m c t _ (by omega)); iexact H6
      · by_cases h4 : 20 ≤ t.val % 30 ∧ t.val % 30 < 22
        · rw [store6 m c t h4]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply (runE c (grid0.coords t) _ _ _ _ _ _ _ _ _ _ _ _ _ _ _ _ (fun h => h0 (hc.1.mp h)) (fun h => h1 (hc.2.1.mp h)) (hc.2.2.1.mpr (by omega)) (fun h => h3 (hc.2.2.2.1.mp h)) (hc.2.2.2.2.mpr h4) (iblk m c 0 t) (iblk m c 1 t) (iblk m c 2 t) (iblk m c 3 t) _ _ (xb m c t) Set.univ _)
          isplitl [H0]; · iexact H0
          isplitl [H1]; · iexact H1
          isplitl [H2]; · iexact H2
          isplitl [H3]; · iexact H3
          isplitl [H4]; · iexists _; iexact H4
          isplitl [H5]; · iexact H5
          isplitl [H6]; · iexact H6
          isplitl [HS0]; · iexact HS0
          iintro ⟨H0, H1, H2, H3, H4, H5, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iapply (leave5 m c t _ (by omega)); iexact H5
          iexact H6
        · skip
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply (runC c (grid0.coords t) _ _ _ _ _ _ _ _ _ _ _ _ _ _ _ _ (fun h => h0 (hc.1.mp h)) (fun h => h1 (hc.2.1.mp h)) (hc.2.2.1.mpr (by omega)) (fun h => h3 (hc.2.2.2.1.mp h)) (fun h => h4 (hc.2.2.2.2.mp h)) (iblk m c 0 t) (iblk m c 1 t) (iblk m c 2 t) (iblk m c 3 t) _ _ (xb m c t) Set.univ _)
          isplitl [H0]; · iexact H0
          isplitl [H1]; · iexact H1
          isplitl [H2]; · iexact H2
          isplitl [H3]; · iexact H3
          isplitl [H4]; · iexists _; iexact H4
          isplitl [H5]; · iexact H5
          isplitl [H6]; · iexact H6
          isplitl [HS0]; · iexact HS0
          iintro ⟨H0, H1, H2, H3, H4, H5, H6, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iapply (leave5 m c t _ (by omega)); iexact H5
          iapply (leave6 m c t _ (by omega)); iexact H6

/-- The body table's row at a point is the kernel's body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 30 := N_0; omega), PhiA_eq]
  iintro ⟨HS0, Hg⟩
  isplitl [HS0]
  · iexists _; iexact HS0
  iexact Hg

/-! ## The run and the frame -/

set_option backward.isDefEq.respectTransparency.types false in
/-- Every run ends with each array as the pipeline's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run of the program ends, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel5Ideal.Proj

end
-- ==== Proof.PrjSKernel.lean ====
/- The projection kernel on the sample's rows over the extended reals: its three results are the projected rows, the attention's keys and its
   values. -/
module

public import proofs.«01_k».proof.Proof.ProjSpec
public import proofs.«01_k».proof.Proof.RetBlock
public import proofs.«01_k».proof.Proof.PrjSFrameI
public import Idealize.ShloMosaic.Lib.Pointwise

@[expose] public section

set_option maxRecDepth 16384

noncomputable section

namespace Cert.Kernel5Ideal.Val

open Idealize.ShloMosaic Idealize.ShloMosaic.TcCoe Idealize.SL.Sem
open Cert.Kernel5Ideal Cert.Kernel5Ideal.Gen Cert.Kernel5Ideal.Proj Cert.Own.Prj
open Cert.KernelIdeal.Val (canon_hit canon_miss)

/-! ## What the body computes from the blocks it loads -/

section pay
variable (i : grid0.Coords) (xs : Vec Ideal S256x2048 .bf16) (w : Vec Ideal S2048x512 .bf16) (cs sn : Vec Ideal S256x128 .f32)
  (r : Fin 256)

/-- One entry of the product. -/
def pr (e : Fin 512) : EReal := ∑ k : Fin 2048, xs (ix2 r k) * w (ix2 k e)

theorem pay1_at (x : Vec Ideal S256x2048 .f32) (k : Fin 2048) : k0_pay1 x (ix2 r k) = x (ix2 r k) := by
  unfold k0_pay1
  pointwise

theorem pay2_at (e : Fin 512) : k0_pay2 xs w (ix2 r e) = pr xs w r e := by
  unfold k0_pay2
  pointwise
  simp only [pr]

theorem pay8_at (c : Fin 128) : k0_pay8 i xs w cs sn (ix2 r c)
    = (pr xs w r ⟨c.val, by omega⟩ * cs (ix2 r c) - pr xs w r ⟨128 + c.val, by omega⟩ * sn (ix2 r c)) * k0_pay5 (F := Ideal) i := by
  unfold k0_pay8 k0_pay6 k0_pay7 k0_pay3 k0_pay4 k0_pay2
  pointwise
  simp only [pr]

theorem pay9_at (c : Fin 128) : k0_pay9 i xs w cs sn (ix2 r c)
    = (pr xs w r ⟨c.val, by omega⟩ * sn (ix2 r c) + pr xs w r ⟨128 + c.val, by omega⟩ * cs (ix2 r c)) * k0_pay5 (F := Ideal) i := by
  unfold k0_pay9 k0_pay6 k0_pay7 k0_pay3 k0_pay4 k0_pay2
  pointwise
  simp only [pr]

theorem pay12_at (c : Fin 128) : k0_pay12 i xs w cs sn (ix2 r c)
    = (pr xs w r ⟨256 + c.val, by omega⟩ * cs (ix2 r c) - pr xs w r ⟨384 + c.val, by omega⟩ * sn (ix2 r c)) * k0_pay5 (F := Ideal) i := by
  unfold k0_pay12 k0_pay10 k0_pay11 k0_pay3 k0_pay4 k0_pay2
  pointwise
  simp only [pr]

theorem pay13_at (c : Fin 128) : k0_pay13 i xs w cs sn (ix2 r c)
    = (pr xs w r ⟨256 + c.val, by omega⟩ * sn (ix2 r c) + pr xs w r ⟨384 + c.val, by omega⟩ * cs (ix2 r c)) * k0_pay5 (F := Ideal) i := by
  unfold k0_pay13 k0_pay10 k0_pay11 k0_pay3 k0_pay4 k0_pay2
  pointwise
  simp only [pr]

/-- The four column slices of a block stored slice by slice. -/
def four (p0 p1 p2 p3 : S256x128.Idx → Elt Ideal .f32) : List (View.Piece (Elt Ideal) S256x512 .f32) :=
  [⟨Rect.unit (s := S256x512) ![0, 384] S256x128.size inb_S256x512_S256x128_0_384, p3⟩,
   ⟨Rect.unit (s := S256x512) ![0, 256] S256x128.size inb_S256x512_S256x128_0_256, p2⟩,
   ⟨Rect.unit (s := S256x512) ![0, 128] S256x128.size inb_S256x512_S256x128_0_128, p1⟩,
   ⟨Rect.unit (s := S256x512) ![0, 0] S256x128.size inb_S256x512_S256x128_0_0, p0⟩]

section four
variable (p0 p1 p2 p3 : S256x128.Idx → Elt Ideal .f32) (e : Fin 512) (c : Fin 128)

theorem four_0 (he : e.val = c.val) : View.canon (four p0 p1 p2 p3) (ix2 r e) = p0 (ix2 r c) := by
  unfold four
  rw [canon_miss 1 (Or.inl (show e.val < 384 by omega)), canon_miss 1 (Or.inl (show e.val < 256 by omega)),
    canon_miss 1 (Or.inl (show e.val < 128 by omega))]
  rw [canon_hit (ix2 r c) (fun a => by
    match a with
    | ⟨0, _⟩ => exact (Nat.zero_add _).symm
    | ⟨1, _⟩ => exact he.trans (Nat.zero_add _).symm)]

theorem four_1 (he : e.val = 128 + c.val) : View.canon (four p0 p1 p2 p3) (ix2 r e) = p1 (ix2 r c) := by
  unfold four
  rw [canon_miss 1 (Or.inl (show e.val < 384 by omega)), canon_miss 1 (Or.inl (show e.val < 256 by omega))]
  rw [canon_hit (ix2 r c) (fun a => by
    match a with
    | ⟨0, _⟩ => exact (Nat.zero_add _).symm
    | ⟨1, _⟩ => exact he)]

theorem four_2 (he : e.val = 256 + c.val) : View.canon (four p0 p1 p2 p3) (ix2 r e) = p2 (ix2 r c) := by
  unfold four
  rw [canon_miss 1 (Or.inl (show e.val < 384 by omega))]
  rw [canon_hit (ix2 r c) (fun a => by
    match a with
    | ⟨0, _⟩ => exact (Nat.zero_add _).symm
    | ⟨1, _⟩ => exact he)]

theorem four_3 (he : e.val = 384 + c.val) : View.canon (four p0 p1 p2 p3) (ix2 r e) = p3 (ix2 r c) := by
  unfold four
  rw [canon_hit (ix2 r c) (fun a => by
    match a with
    | ⟨0, _⟩ => exact (Nat.zero_add _).symm
    | ⟨1, _⟩ => exact he)]

end four

/-- The rotated block is stored so. -/
theorem rotZ_eq : rotZ i xs w cs sn = View.canon (four (k0_pay8 i xs w cs sn) (k0_pay9 i xs w cs sn) (k0_pay12 i xs w cs sn) (k0_pay13 i xs w cs sn)) := by
  unfold rotZ rotL four
  rfl

end pay

theorem hc5 : ∀ t : Fin grid0.N, Scalar.cmpi CmpIPredicate.sge (BitVec.ofNat 32 (grid0.coords t 1).val) 4#32
    = if 4 ≤ t.val % 30 then 1#1 else 0#1 := by decide +kernel

/-- The scale of a grid point. -/
theorem pay5_at (t : Fin grid0.N) : k0_pay5 (F := Ideal) (grid0.coords t) = if 4 ≤ t.val % 30 then ksc else 1 := by
  unfold k0_pay5
  pointwise
  rw [hc5 t]
  split <;> rfl

/-! ## The host's arrays -/

variable (m : (ℓ : Loc nD τ sig) → Buf (Elt Ideal) ℓ) (c : Dev nD)

abbrev xA : S32x8x2048.Idx → EReal := m ((c : Thread nD τ).loc main_arg0)
abbrev wA : S1x2048x15360.Idx → EReal := m ((c : Thread nD τ).loc main_arg1)

theorem x_eq (r : Fin 256) (k : Fin 2048) : (V m c main_v0 : S256x2048.Idx → EReal) (ix2 r k)
    = xA m c (ix3 ⟨r.val / 8, by omega⟩ (posnS r) k) := by
  show StableHlo.after _ _ _ _ = _
  simp only [hostOps0]
  after_results
  pointwise
  try rfl

theorem w_eq (k : Fin 2048) (e : Fin 15360) : (V m c main_v22 : S2048x15360.Idx → EReal) (ix2 k e) = wA m c (ix3 0 k e) := by
  show StableHlo.after _ _ _ _ = _
  simp only [hostOps0]
  after_results
  pointwise
  try rfl

theorem cos_eq (r : Fin 256) (q : Fin 128) : (V m c main_v19 : S256x128.Idx → EReal) (ix2 r q) = Ideal.cos (ang (wdS (posnS r)) q) := by
  show StableHlo.after _ _ _ _ = _
  simp only [hostOps0]
  after_results
  pointwise
  simp only [ang]
  rfl

theorem sin_eq (r : Fin 256) (q : Fin 128) : (V m c main_v20 : S256x128.Idx → EReal) (ix2 r q) = Ideal.sin (ang (wdS (posnS r)) q) := by
  show StableHlo.after _ _ _ _ = _
  simp only [hostOps0]
  after_results
  pointwise
  simp only [ang]
  rfl

/-! ## The blocks of a grid point -/

/-- A row of a grid point. -/
def rB (t : Fin cfg0.N) (i : Fin 256) : Fin 256 := ⟨256 * (t.val / 30) + i.val, by have h : t.val < 30 := lt_of_lt_of_eq t.isLt N_0; omega⟩

/-- A column of a grid point. -/
def cB (t : Fin cfg0.N) (e : Fin 512) : Fin 15360 := ⟨512 * (t.val % 30) + e.val, by omega⟩

theorem wz : ∀ t : Fin grid0.N,
    (win0_0.index t 0 = t.val / 30 ∧ win0_0.index t 1 = 0) ∧ (win0_1.index t 0 = 0 ∧ win0_1.index t 1 = t.val % 30)
    ∧ (win0_2.index t 0 = 0 ∧ win0_2.index t 1 = 0) ∧ (win0_3.index t 0 = 0 ∧ win0_3.index t 1 = 0)
    ∧ (win0_4.index t 0 = t.val / 30 ∧ win0_4.index t 1 = t.val % 30) := by
  decide +kernel

theorem wk : ∀ t : Fin grid0.N,
    (win0_5.index t 0 = t.val / 30 ∧ win0_5.index t 1 = if t.val % 30 < 19 then 0 else 1)
    ∧ (win0_6.index t 0 = t.val / 30 ∧ win0_6.index t 1 = if t.val % 30 < 21 then 0 else 1) := by
  decide +kernel

theorem blk_x (t : Fin cfg0.N) (i : Fin 256) (k : Fin 2048) : (iblk m c 0 t : S256x2048.Idx → EReal) (ix2 i k)
    = xA m c (ix3 ⟨(rB t i).val / 8, by omega⟩ (posnS (rB t i)) k) := by
  rw [← x_eq m c (rB t i) k]
  unfold iblk
  rw [View.read_apply]
  show (V m c main_v0 : S256x2048.Idx → EReal) _ = _
  congr 1
  funext a
  refine Fin.ext ?_
  have hw := wz t
  match a with
  | ⟨0, _⟩ =>
    show win0_0.index t 0 * 256 + 1 * i.val = 256 * (t.val / 30) + i.val
    omega
  | ⟨1, _⟩ =>
    show win0_0.index t 1 * 2048 + 1 * k.val = k.val
    omega

theorem blk_w (t : Fin cfg0.N) (k : Fin 2048) (e : Fin 512) : (iblk m c 1 t : S2048x512.Idx → EReal) (ix2 k e) = wA m c (ix3 0 k (cB t e)) := by
  rw [← w_eq m c k (cB t e)]
  unfold iblk
  rw [View.read_apply]
  show (V m c main_v22 : S2048x15360.Idx → EReal) _ = _
  congr 1
  funext a
  refine Fin.ext ?_
  have hw := wz t
  match a with
  | ⟨0, _⟩ =>
    show win0_1.index t 0 * 2048 + 1 * k.val = k.val
    omega
  | ⟨1, _⟩ =>
    show win0_1.index t 1 * 512 + 1 * e.val = 512 * (t.val % 30) + e.val
    omega

theorem blk_cos (t : Fin cfg0.N) (i : Fin 256) (q : Fin 128) : (iblk m c 2 t : S256x128.Idx → EReal) (ix2 i q) = Ideal.cos (ang (wdS (posnS (rB t i))) q) := by
  rw [← cos_eq m c (rB t i) q]
  unfold iblk
  rw [View.read_apply]
  show (V m c main_v19 : S256x128.Idx → EReal) _ = _
  congr 1
  funext a
  refine Fin.ext ?_
  have hw := wz t
  have hN : t.val < 30 := lt_of_lt_of_eq t.isLt N_0
  match a with
  | ⟨0, _⟩ =>
    show win0_2.index t 0 * 256 + 1 * i.val = 256 * (t.val / 30) + i.val
    omega
  | ⟨1, _⟩ =>
    show win0_2.index t 1 * 128 + 1 * q.val = q.val
    omega

theorem blk_sin (t : Fin cfg0.N) (i : Fin 256) (q : Fin 128) : (iblk m c 3 t : S256x128.Idx → EReal) (ix2 i q) = Ideal.sin (ang (wdS (posnS (rB t i))) q) := by
  rw [← sin_eq m c (rB t i) q]
  unfold iblk
  rw [View.read_apply]
  show (V m c main_v20 : S256x128.Idx → EReal) _ = _
  congr 1
  funext a
  refine Fin.ext ?_
  have hw := wz t
  have hN : t.val < 30 := lt_of_lt_of_eq t.isLt N_0
  match a with
  | ⟨0, _⟩ =>
    show win0_3.index t 0 * 256 + 1 * i.val = 256 * (t.val / 30) + i.val
    omega
  | ⟨1, _⟩ =>
    show win0_3.index t 1 * 128 + 1 * q.val = q.val
    omega

/-! ## The results of a grid point -/

/-- A row of the product of the arguments. -/
abbrev pA : Fin 256 → Fin 15360 → EReal := pMS (xA m c) (wA m c)

/-- The product a grid point computes, over the rows kept from its row block's first point. -/
theorem pr_eq (t : Fin cfg0.N) (i : Fin 256) (e : Fin 512) : pr (xb m c t) (iblk m c 1 t) i e = pA m c (rB t i) (cB t e) := by
  unfold pr pA pMS
  refine Finset.sum_congr rfl fun k _ => ?_
  have h1 : xb m c t (ix2 i k) = xA m c (ix3 ⟨(rB t i).val / 8, by omega⟩ (posnS (rB t i)) k) := by
    unfold xb
    rw [pay1_at, blk_x]
    have hr : ∀ h, rB (pt t 0 h) i = rB t i := fun h => Fin.ext (by show 256 * ((30 * (t.val / 30) + 0) / 30) + i.val = 256 * (t.val / 30) + i.val; omega)
    simp only [hr]
  rw [h1, blk_w]

theorem prod_at (t : Fin cfg0.N) (i : Fin 256) (e : Fin 512) : prod m c t (ix2 i e) = pA m c (rB t i) (cB t e) := by
  unfold prod
  rw [pay2_at, pr_eq]

/-- The block of projected rows. -/
theorem z_out (t : Fin cfg0.N) (i : Fin 256) (e : Fin 512) :
    zOut m c t (ix2 i e) = zRow (pA m c (rB t i)) (wdS (posnS (rB t i))) (cB t e) := by
  have hN : t.val < 30 := lt_of_lt_of_eq t.isLt N_0
  unfold zOut
  by_cases hj : t.val % 30 < 8
  · rw [if_pos hj, rotZ_eq]
    have hs : ∀ h : Fin 16, h.val / 2 = t.val % 30 → k0_pay5 (F := Ideal) (grid0.coords t) = hsc h := fun h hh => by
      rw [pay5_at]
      unfold hsc
      by_cases h4 : 4 ≤ t.val % 30
      · rw [if_pos h4, if_pos (by omega)]
      · rw [if_neg h4, if_neg (by omega)]
    by_cases h1 : e.val < 128
    · rw [four_0 i _ _ _ _ e ⟨e.val, h1⟩ rfl, pay8_at, pr_eq, pr_eq, blk_cos, blk_sin, hs ⟨2 * (t.val % 30), by omega⟩ (by dsimp only; omega)]
      exact (zRow_lo _ _ ⟨2 * (t.val % 30), by omega⟩ ⟨e.val, h1⟩ _ _ _ (by dsimp only [cB]; omega) (by dsimp only [cB]; omega) (by dsimp only [cB]; omega)).symm
    by_cases h2 : e.val < 256
    · rw [four_1 i _ _ _ _ e ⟨e.val - 128, by omega⟩ (by dsimp only; omega), pay9_at, pr_eq, pr_eq, blk_cos, blk_sin, hs ⟨2 * (t.val % 30), by omega⟩ (by dsimp only; omega)]
      exact (zRow_hi _ _ ⟨2 * (t.val % 30), by omega⟩ ⟨e.val - 128, by omega⟩ _ _ _ (by dsimp only [cB]; omega) (by dsimp only [cB]; omega) (by dsimp only [cB]; omega)).symm
    by_cases h3 : e.val < 384
    · rw [four_2 i _ _ _ _ e ⟨e.val - 256, by omega⟩ (by dsimp only; omega), pay12_at, pr_eq, pr_eq, blk_cos, blk_sin, hs ⟨2 * (t.val % 30) + 1, by omega⟩ (by dsimp only; omega)]
      exact (zRow_lo _ _ ⟨2 * (t.val % 30) + 1, by omega⟩ ⟨e.val - 256, by omega⟩ _ _ _ (by dsimp only [cB]; omega) (by dsimp only [cB]; omega) (by dsimp only [cB]; omega)).symm
    · rw [four_3 i _ _ _ _ e ⟨e.val - 384, by omega⟩ (by dsimp only; omega), pay13_at, pr_eq, pr_eq, blk_cos, blk_sin, hs ⟨2 * (t.val % 30) + 1, by omega⟩ (by dsimp only; omega)]
      exact (zRow_hi _ _ ⟨2 * (t.val % 30) + 1, by omega⟩ ⟨e.val - 384, by omega⟩ _ _ _ (by dsimp only [cB]; omega) (by dsimp only [cB]; omega) (by dsimp only [cB]; omega)).symm
  · rw [if_neg hj, pay2_at, pr_eq]
    exact (zRow_rest _ _ _ (by dsimp only [cB]; omega)).symm

/-! ## The results' arrays -/

def resZ : S256x15360.Idx → EReal := zMS (xA m c) (wA m c)
def resK : S256x1024.Idx → EReal := kMS (xA m c) (wA m c)
def resV : S256x1024.Idx → EReal := vMS (xA m c) (wA m c)

theorem flushed_z (t : Fin cfg0.N) (hf : (cfg0.win 4).flush t = true) :
    (dats m 0 c).flushed 4 t = ((cfg0.win 4).blk t).view.read (Elt Ideal) (resZ m c) := by
  funext x
  obtain ⟨i, q, rfl⟩ : ∃ (i : Fin 256) (q : Fin 512), x = ix2 i q := ⟨x 0, x 1, eq_ix2 x⟩
  rw [View.read_apply]
  show zOut m c t (ix2 i q) = resZ m c _
  rw [z_out]
  have hw := wz t
  have he : ((cfg0.win 4).blk t).view.emb (ix2 i q) = (ix2 (rB t i) (cB t q) : S256x15360.Idx) := by
    refine (funext fun a => Fin.ext ?_ : (ix2 (rB t i) (cB t q) : S256x15360.Idx) = _).symm
    match a with
    | ⟨0, _⟩ =>
      show 256 * (t.val / 30) + i.val = win0_4.index t 0 * 256 + 1 * i.val
      omega
    | ⟨1, _⟩ =>
      show 512 * (t.val % 30) + q.val = win0_4.index t 1 * 512 + 1 * q.val
      omega
  rw [he]
  rfl

theorem final_z : (dats m 0 c).arrAt 4 cfg0.N = resZ m c :=
  (dats m 0 c).arrAt_eq_of_cover 4 (resZ m c) (flushed_z m c) fun x => by
    obtain ⟨r, q, rfl⟩ : ∃ (r : Fin 256) (q : Fin 15360), x = ix2 r q := ⟨x 0, x 1, eq_ix2 x⟩
    have hN : cfg0.N = 30 := N_0
    obtain ⟨t, ht⟩ : ∃ t : Fin cfg0.N, t.val = 30 * (r.val / 256) + q.val / 512 := ⟨⟨_, by omega⟩, rfl⟩
    have hw := wz t
    refine ⟨t, flush0_4 t, ?_⟩
    show ix2 r q ∈ ((View.whole main_v23_0).slice (win0_4.rect t)).set
    rw [View.set_slice_whole, Rect.mem_set_unit]
    intro a
    match a with
    | ⟨0, _⟩ =>
      show win0_4.index t 0 * 256 ≤ r.val ∧ r.val < win0_4.index t 0 * 256 + 256
      omega
    | ⟨1, _⟩ =>
      show win0_4.index t 1 * 512 ≤ q.val ∧ q.val < win0_4.index t 1 * 512 + 512
      omega

/-- What the block of keys holds when it is written back. -/
theorem k_out (t : Fin cfg0.N) (h : t.val % 30 = 18 ∨ t.val % 30 = 29) (i : Fin 256) (q : Fin 512) (e : Fin 1024)
    (he : e.val = (if t.val % 30 < 19 then 0 else 1) * 512 + q.val) : kOut m c t (ix2 i q) = resK m c (ix2 (rB t i) e) := by
  show _ = pA m c (rB t i) ⟨9216 + e.val, _⟩
  unfold kOut
  rcases h with h | h
  · rw [if_pos (by omega)] at he ⊢
    rw [prod_at]
    congr 1
    exact Fin.ext (by show 512 * (t.val % 30) + q.val = 9216 + e.val; omega)
  · rw [if_neg (by omega)] at he ⊢
    rw [prod_at]
    have hr : ∀ h, rB (pt t 19 h) i = rB t i := fun h => Fin.ext (by show 256 * ((30 * (t.val / 30) + 19) / 30) + i.val = 256 * (t.val / 30) + i.val; omega)
    rw [hr]
    congr 1
    exact Fin.ext (by show 512 * ((30 * (t.val / 30) + 19) % 30) + q.val = 9216 + e.val; omega)

theorem v_out (t : Fin cfg0.N) (h : t.val % 30 = 20 ∨ t.val % 30 = 29) (i : Fin 256) (q : Fin 512) (e : Fin 1024)
    (he : e.val = (if t.val % 30 < 21 then 0 else 1) * 512 + q.val) : vOut m c t (ix2 i q) = resV m c (ix2 (rB t i) e) := by
  show _ = pA m c (rB t i) ⟨10240 + e.val, _⟩
  unfold vOut
  rcases h with h | h
  · rw [if_pos (by omega)] at he ⊢
    rw [prod_at]
    congr 1
    exact Fin.ext (by show 512 * (t.val % 30) + q.val = 10240 + e.val; omega)
  · rw [if_neg (by omega)] at he ⊢
    rw [prod_at]
    have hr : ∀ h, rB (pt t 21 h) i = rB t i := fun h => Fin.ext (by show 256 * ((30 * (t.val / 30) + 21) / 30) + i.val = 256 * (t.val / 30) + i.val; omega)
    rw [hr]
    congr 1
    exact Fin.ext (by show 512 * ((30 * (t.val / 30) + 21) % 30) + q.val = 10240 + e.val; omega)

theorem flushed_k (t : Fin cfg0.N) (hf : (cfg0.win 5).flush t = true) :
    (dats m 0 c).flushed 5 t = ((cfg0.win 5).blk t).view.read (Elt Ideal) (resK m c) := by
  funext x
  obtain ⟨i, q, rfl⟩ : ∃ (i : Fin 256) (q : Fin 512), x = ix2 i q := ⟨x 0, x 1, eq_ix2 x⟩
  rw [View.read_apply]
  show kOut m c t (ix2 i q) = resK m c _
  have hw := (wk t).1
  obtain ⟨e, hq⟩ : ∃ e : Fin 1024, e.val = (if t.val % 30 < 19 then 0 else 1) * 512 + q.val := ⟨⟨_, by split <;> omega⟩, rfl⟩
  rw [k_out m c t (((keys t).2.2.2).mp hf) i q e hq]
  have he : ((cfg0.win 5).blk t).view.emb (ix2 i q) = (ix2 (rB t i) e : S256x1024.Idx) := by
    refine (funext fun a => Fin.ext ?_ : (ix2 (rB t i) e : S256x1024.Idx) = _).symm
    match a with
    | ⟨0, _⟩ =>
      show 256 * (t.val / 30) + i.val = win0_5.index t 0 * 256 + 1 * i.val
      omega
    | ⟨1, _⟩ =>
      show e.val = win0_5.index t 1 * 512 + 1 * q.val
      rw [hw.2]
      omega
  rw [he]

theorem flushed_v (t : Fin cfg0.N) (hf : (cfg0.win 6).flush t = true) :
    (dats m 0 c).flushed 6 t = ((cfg0.win 6).blk t).view.read (Elt Ideal) (resV m c) := by
  funext x
  obtain ⟨i, q, rfl⟩ : ∃ (i : Fin 256) (q : Fin 512), x = ix2 i q := ⟨x 0, x 1, eq_ix2 x⟩
  rw [View.read_apply]
  show vOut m c t (ix2 i q) = resV m c _
  have hw := (wk t).2
  obtain ⟨e, hq⟩ : ∃ e : Fin 1024, e.val = (if t.val % 30 < 21 then 0 else 1) * 512 + q.val := ⟨⟨_, by split <;> omega⟩, rfl⟩
  rw [v_out m c t (((vals t).2.2.2).mp hf) i q e hq]
  have he : ((cfg0.win 6).blk t).view.emb (ix2 i q) = (ix2 (rB t i) e : S256x1024.Idx) := by
    refine (funext fun a => Fin.ext ?_ : (ix2 (rB t i) e : S256x1024.Idx) = _).symm
    match a with
    | ⟨0, _⟩ =>
      show 256 * (t.val / 30) + i.val = win0_6.index t 0 * 256 + 1 * i.val
      omega
    | ⟨1, _⟩ =>
      show e.val = win0_6.index t 1 * 512 + 1 * q.val
      rw [hw.2]
      omega
  rw [he]

theorem final_k : (dats m 0 c).arrAt 5 cfg0.N = resK m c :=
  (dats m 0 c).arrAt_eq_of_cover 5 (resK m c) (flushed_k m c) fun x => by
    obtain ⟨r, q, rfl⟩ : ∃ (r : Fin 256) (q : Fin 1024), x = ix2 r q := ⟨x 0, x 1, eq_ix2 x⟩
    have hN : cfg0.N = 30 := N_0
    obtain ⟨t, ht, hj⟩ : ∃ t : Fin cfg0.N, t.val / 30 = r.val / 256 ∧ t.val % 30 = if q.val < 512 then 18 else 29 :=
      ⟨⟨30 * (r.val / 256) + if q.val < 512 then 18 else 29, by split <;> omega⟩, by dsimp only; split <;> omega, by dsimp only; split <;> omega⟩
    have hw := (wk t).1
    refine ⟨t, ((keys t).2.2.2).mpr (by split at hj <;> omega), ?_⟩
    show ix2 r q ∈ ((View.whole main_v23_1).slice (win0_5.rect t)).set
    rw [View.set_slice_whole, Rect.mem_set_unit]
    intro a
    match a with
    | ⟨0, _⟩ =>
      show win0_5.index t 0 * 256 ≤ r.val ∧ r.val < win0_5.index t 0 * 256 + 256
      omega
    | ⟨1, _⟩ =>
      show win0_5.index t 1 * 512 ≤ q.val ∧ q.val < win0_5.index t 1 * 512 + 512
      rw [hw.2, hj]
      by_cases hq : q.val < 512
      · rw [if_pos hq, if_pos (by omega)]; omega
      · rw [if_neg hq, if_neg (by omega)]; omega

theorem final_v : (dats m 0 c).arrAt 6 cfg0.N = resV m c :=
  (dats m 0 c).arrAt_eq_of_cover 6 (resV m c) (flushed_v m c) fun x => by
    obtain ⟨r, q, rfl⟩ : ∃ (r : Fin 256) (q : Fin 1024), x = ix2 r q := ⟨x 0, x 1, eq_ix2 x⟩
    have hN : cfg0.N = 30 := N_0
    obtain ⟨t, ht, hj⟩ : ∃ t : Fin cfg0.N, t.val / 30 = r.val / 256 ∧ t.val % 30 = if q.val < 512 then 20 else 29 :=
      ⟨⟨30 * (r.val / 256) + if q.val < 512 then 20 else 29, by split <;> omega⟩, by dsimp only; split <;> omega, by dsimp only; split <;> omega⟩
    have hw := (wk t).2
    refine ⟨t, ((vals t).2.2.2).mpr (by split at hj <;> omega), ?_⟩
    show ix2 r q ∈ ((View.whole main_v23_2).slice (win0_6.rect t)).set
    rw [View.set_slice_whole, Rect.mem_set_unit]
    intro a
    match a with
    | ⟨0, _⟩ =>
      show win0_6.index t 0 * 256 ≤ r.val ∧ r.val < win0_6.index t 0 * 256 + 256
      omega
    | ⟨1, _⟩ =>
      show win0_6.index t 1 * 512 ≤ q.val ∧ q.val < win0_6.index t 1 * 512 + 512
      rw [hw.2, hj]
      by_cases hq : q.val < 512
      · rw [if_pos hq, if_pos (by omega)]; omega
      · rw [if_neg hq, if_neg (by omega)]; omega

/-! ## The run -/

/-- The kernel's run: the results hold the projected rows, the keys and the values, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v23_0) = resZ m c
      ∧ r.2.mem ((c.tc : Thread nD τ).loc main_v23_1) = resK m c
      ∧ r.2.mem ((c.tc : Thread nD τ).loc main_v23_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans (final_z m c), ((h c).1 5).trans (final_k m c), ((h c).1 6).trans (final_v m c),
      ((h c).2 main_arg0 (Pipeline.mem_restRefs_of main_arg0 (by decide) (by decide))).trans (V_main_arg0 m c), ((h c).2 main_arg1 (Pipeline.mem_restRefs_of main_arg1 (by decide) (by decide))).trans (V_main_arg1 m c)⟩)
    (run_main m ρ)

end Cert.Kernel5Ideal.Val

end
-- ==== Proof.PrjSRef.lean ====
/- The reference of the sample's projection, read. -/
module

public import proofs.«01_k».proof.Proof.ProjSpec
public import proofs.«01_k».proof.Proof.Gen.Reference5Ideal.Run
public import Idealize.ShloMosaic.Lib.Pointwise

@[expose] public section

set_option maxRecDepth 16384

noncomputable section

namespace Cert.Own.PrjSRef

open Idealize.ShloMosaic Idealize.ShloMosaic.TcCoe Idealize.SL.Sem
open Cert.Reference5Ideal Cert.Reference5Ideal.Gen Cert.Reference5Ideal.Value Cert.Own.Prj

/-- The product of the rows and the matrix. -/
def pT (x : Vec Ideal S32x8x2048 .f32) (w : Vec Ideal S1x2048x15360 .f32) : FVec Ideal S32x8x15360 .f32 :=
  Host.dotGeneral (φ₁ := .f32) (φ₂ := .f32) dot_S32x8x2048_S2048x15360_S32x8x15360_2_0_01_1_n_n none x (shapeCast _ w shapeCasts_S1x2048x15360_S2048x15360)

/-- The angles. -/
def angT : FVec Ideal S8x128 .f32 :=
  mulf (broadcastInDim S8x128 ![0, 1] bcast_S8x1_S8x128_0_1 (broadcastInDim S8x1 ![0] bcast_S8_S8x1_0
    (sitofp .f32 (addi (broadcastInDim S8 ![] bcast_S_S8 (constantI S_ 32 8192#32)) (iotaInDim S8 32 0))))) (broadcastInDim S8x128 ![0, 1] bcast_S1x128_S8x128_0_1
    (broadcastInDim S1x128 ![1] bcast_S128_S1x128_1 (Host.powf (broadcastInDim S128 ![] bcast_S_S128 (constant S_ .f32
    0x461C4000#32)) (Host.divf (Host.negf (sitofp .f32 (iotaInDim S128 32 0))) (broadcastInDim S128 ![] bcast_S_S128
    (constant S_ .f32 0x43000000#32))))))

/-- A table of the angles, laid along the heads. -/
def tabT (a : FVec Ideal S8x128 .f32) : FVec Ideal S32x8x8x128 .f32 :=
  broadcastInDim S32x8x8x128 ![0, 1, 2, 3] bcast_S1x8x1x128_S32x8x8x128_0_1_2_3 (broadcastInDim S1x8x1x128 ![1, 3]
    bcast_S8x128_S1x8x1x128_1_3 a)

/-- The queries' and the keys' columns by head. -/
def hq (p : FVec Ideal S32x8x15360 .f32) : FVec Ideal S32x8x8x256 .f32 :=
  shapeCast _ (extractStridedSlice S32x8x2048 ![0, 0, 0] p slices_S32x8x15360_S32x8x2048_0_0_0) shapeCasts_S32x8x2048_S32x8x8x256
def hk (p : FVec Ideal S32x8x15360 .f32) : FVec Ideal S32x8x8x256 .f32 :=
  shapeCast _ (extractStridedSlice S32x8x2048 ![0, 0, 2048] p slices_S32x8x15360_S32x8x2048_0_0_2048) shapeCasts_S32x8x2048_S32x8x8x256

/-- The two halves of the heads rotated. -/
def loT (u : FVec Ideal S32x8x8x256 .f32) (a : FVec Ideal S8x128 .f32) : FVec Ideal S32x8x8x128 .f32 :=
  subf (mulf (extractStridedSlice S32x8x8x128 ![0, 0, 0, 0] u slices_S32x8x8x256_S32x8x8x128_0_0_0_0) (tabT (Host.cos a)))
    (mulf (extractStridedSlice S32x8x8x128 ![0, 0, 0, 128] u slices_S32x8x8x256_S32x8x8x128_0_0_0_128) (tabT (Host.sin a)))
def hiT (u : FVec Ideal S32x8x8x256 .f32) (a : FVec Ideal S8x128 .f32) : FVec Ideal S32x8x8x128 .f32 :=
  addf (mulf (extractStridedSlice S32x8x8x128 ![0, 0, 0, 0] u slices_S32x8x8x256_S32x8x8x128_0_0_0_0) (tabT (Host.sin a)))
    (mulf (extractStridedSlice S32x8x8x128 ![0, 0, 0, 128] u slices_S32x8x8x256_S32x8x8x128_0_0_0_128) (tabT (Host.cos a)))

/-- The heads rotated. -/
def rotT (u : FVec Ideal S32x8x8x256 .f32) (a : FVec Ideal S8x128 .f32) : FVec Ideal S32x8x8x256 .f32 :=
  concatenate S32x8x8x256 3 [⟨S32x8x8x128, loT u a⟩, ⟨S32x8x8x128, hiT u a⟩] concatenates_S32x8x8x128_S32x8x8x128_S32x8x8x256_d3

/-- The keys' scale. -/
def scT (u : FVec Ideal S32x8x8x256 .f32) : FVec Ideal S32x8x8x256 .f32 :=
  mulf u (broadcastInDim S32x8x8x256 ![] bcast_S_S32x8x8x256 (constant S_ .f32 0x3D800000#32))

/-- The projected rows, from the product and the rotated heads. -/
def zT (p : FVec Ideal S32x8x15360 .f32) (q k : FVec Ideal S32x8x8x256 .f32) : FVec Ideal S256x15360 .f32 :=
  shapeCast _ (concatenate S32x8x15360 2 [⟨S32x8x2048, shapeCast _ q shapeCasts_S32x8x8x256_S32x8x2048⟩,
    ⟨S32x8x2048, shapeCast _ k shapeCasts_S32x8x8x256_S32x8x2048⟩, ⟨S32x8x11264, extractStridedSlice S32x8x11264 ![0, 0, 4096] p
    slices_S32x8x15360_S32x8x11264_0_0_4096⟩] concatenates_S32x8x2048_S32x8x2048_S32x8x11264_S32x8x15360_d2)
    shapeCasts_S32x8x15360_S256x15360

theorem pT_at (x : Vec Ideal S32x8x2048 .f32) (w : Vec Ideal S1x2048x15360 .f32) (b : Fin 32) (s : Fin 8) (e : Fin 15360) :
    pT x w (ix3 b s e) = ∑ k : Fin 2048, x (ix3 b s k) * w (ix3 0 k e) := by
  unfold pT
  pointwise

theorem angT_at (s : Fin 8) (c : Fin 128) : angT (ix2 s c) = ang (wdS s) c := by
  unfold angT
  pointwise
  simp only [ang]
  rfl

theorem hq_at (p : FVec Ideal S32x8x15360 .f32) (b : Fin 32) (s : Fin 8) (h : Fin 8) (d : Fin 256) :
    hq p (ix4 b s h d) = p (ix3 b s ⟨h.val * 256 + d.val, by omega⟩) := by
  unfold hq
  pointwise

theorem hk_at (p : FVec Ideal S32x8x15360 .f32) (b : Fin 32) (s : Fin 8) (h : Fin 8) (d : Fin 256) :
    hk p (ix4 b s h d) = p (ix3 b s ⟨2048 + (h.val * 256 + d.val), by omega⟩) := by
  unfold hk
  pointwise

theorem loT_at (u : FVec Ideal S32x8x8x256 .f32) (b : Fin 32) (s : Fin 8) (h : Fin 8) (c : Fin 128) :
    loT u angT (ix4 b s h c) = lo (u (ix4 b s h ⟨c.val, by omega⟩)) (u (ix4 b s h ⟨128 + c.val, by omega⟩)) (wdS s) c := by
  unfold loT tabT
  pointwise
  simp only [angT_at, lo]

theorem hiT_at (u : FVec Ideal S32x8x8x256 .f32) (b : Fin 32) (s : Fin 8) (h : Fin 8) (c : Fin 128) :
    hiT u angT (ix4 b s h c) = hi (u (ix4 b s h ⟨c.val, by omega⟩)) (u (ix4 b s h ⟨128 + c.val, by omega⟩)) (wdS s) c := by
  unfold hiT tabT
  pointwise
  simp only [angT_at, hi]

theorem rotT_lo (u : FVec Ideal S32x8x8x256 .f32) (b : Fin 32) (s : Fin 8) (h : Fin 8) (d : Fin 256) (hd : d.val < 128) :
    rotT u angT (ix4 b s h d) = lo (u (ix4 b s h ⟨d.val, by omega⟩)) (u (ix4 b s h ⟨128 + d.val, by omega⟩)) (wdS s) ⟨d.val, hd⟩ := by
  unfold rotT
  pointwise
  rw [dif_pos hd, loT_at]

theorem rotT_hi (u : FVec Ideal S32x8x8x256 .f32) (b : Fin 32) (s : Fin 8) (h : Fin 8) (d : Fin 256) (hd : ¬d.val < 128) :
    rotT u angT (ix4 b s h d)
      = hi (u (ix4 b s h ⟨d.val - 128, by omega⟩)) (u (ix4 b s h ⟨128 + (d.val - 128), by omega⟩)) (wdS s) ⟨d.val - 128, by omega⟩ := by
  unfold rotT
  pointwise
  rw [dif_neg hd, hiT_at]

theorem scT_at (u : FVec Ideal S32x8x8x256 .f32) (b : Fin 32) (s : Fin 8) (h : Fin 8) (d : Fin 256) :
    scT u (ix4 b s h d) = u (ix4 b s h d) * ksc := by
  unfold scT
  pointwise
  simp only [ksc]

theorem zT_at (p : FVec Ideal S32x8x15360 .f32) (q k : FVec Ideal S32x8x8x256 .f32) (r : Fin 256) (e : Fin 15360) :
    zT p q k (ix2 r e) = if h : e.val < 2048 then
        q (ix4 ⟨r.val / 8, by omega⟩ (posnS r) ⟨e.val / 256, by omega⟩ ⟨e.val % 256, Nat.mod_lt _ (by decide)⟩)
      else if h : e.val - 2048 < 2048 then
        k (ix4 ⟨r.val / 8, by omega⟩ (posnS r) ⟨(e.val - 2048) / 256, by omega⟩ ⟨(e.val - 2048) % 256, Nat.mod_lt _ (by decide)⟩)
      else p (ix3 ⟨r.val / 8, by omega⟩ (posnS r) ⟨4096 + (e.val - 2048 - 2048), by omega⟩) := by
  unfold zT
  pointwise
  rfl

/-- The projected rows are the rotated product. -/
theorem zT_eq (p : FVec Ideal S32x8x15360 .f32) (P : Fin 15360 → EReal) (r : Fin 256) (hP : ∀ e, p (ix3 ⟨r.val / 8, by omega⟩ (posnS r) e) = P e)
    (e : Fin 15360) : zT p (rotT (hq p) angT) (scT (rotT (hk p) angT)) (ix2 r e) = zRow P (wdS (posnS r)) e := by
  rw [zT_at]
  by_cases h1 : e.val < 2048
  · rw [dif_pos h1]
    have hs : hsc ⟨e.val / 256, by omega⟩ = 1 := if_neg (by dsimp only; omega)
    by_cases hd : e.val % 256 < 128
    · rw [rotT_lo _ _ _ _ _ hd, hq_at, hq_at, hP, hP, zRow_lo P (wdS (posnS r)) ⟨e.val / 256, by omega⟩ ⟨e.val % 256, hd⟩ e
        ⟨e.val / 256 * 256 + e.val % 256, by omega⟩ ⟨e.val / 256 * 256 + (128 + e.val % 256), by omega⟩
        (by dsimp only; omega) (by dsimp only; omega) (by dsimp only; omega), hs, mul_one]
    · rw [rotT_hi _ _ _ _ _ hd, hq_at, hq_at, hP, hP, zRow_hi P (wdS (posnS r)) ⟨e.val / 256, by omega⟩ ⟨e.val % 256 - 128, by omega⟩ e
        ⟨e.val / 256 * 256 + (e.val % 256 - 128), by omega⟩ ⟨e.val / 256 * 256 + (128 + (e.val % 256 - 128)), by omega⟩
        (by dsimp only; omega) (by dsimp only; omega) (by dsimp only; omega), hs, mul_one]
  · rw [dif_neg h1]
    by_cases h2 : e.val - 2048 < 2048
    · rw [dif_pos h2, scT_at]
      have hs : hsc ⟨e.val / 256, by omega⟩ = ksc := if_pos (by dsimp only; omega)
      by_cases hd : (e.val - 2048) % 256 < 128
      · rw [rotT_lo _ _ _ _ _ hd, hk_at, hk_at, hP, hP, zRow_lo P (wdS (posnS r)) ⟨e.val / 256, by omega⟩ ⟨(e.val - 2048) % 256, hd⟩ e
          ⟨2048 + ((e.val - 2048) / 256 * 256 + (e.val - 2048) % 256), by omega⟩ ⟨2048 + ((e.val - 2048) / 256 * 256 + (128 + (e.val - 2048) % 256)), by omega⟩
          (by dsimp only; omega) (by dsimp only; omega) (by dsimp only; omega), hs]
      · rw [rotT_hi _ _ _ _ _ hd, hk_at, hk_at, hP, hP, zRow_hi P (wdS (posnS r)) ⟨e.val / 256, by omega⟩ ⟨(e.val - 2048) % 256 - 128, by omega⟩ e
          ⟨2048 + ((e.val - 2048) / 256 * 256 + ((e.val - 2048) % 256 - 128)), by omega⟩
          ⟨2048 + ((e.val - 2048) / 256 * 256 + (128 + ((e.val - 2048) % 256 - 128))), by omega⟩
          (by dsimp only; omega) (by dsimp only; omega) (by dsimp only; omega), hs]
    · rw [dif_neg h2, hP, zRow_rest P (wdS (posnS r)) e (by omega)]
      exact congrArg P (Fin.ext (by dsimp only; omega))

/-- Columns of the product, as rows. -/
def kT (p : FVec Ideal S32x8x15360 .f32) : FVec Ideal S256x1024 .f32 :=
  shapeCast _ (extractStridedSlice S32x8x1024 ![0, 0, 9216] p slices_S32x8x15360_S32x8x1024_0_0_9216) shapeCasts_S32x8x1024_S256x1024
def vT (p : FVec Ideal S32x8x15360 .f32) : FVec Ideal S256x1024 .f32 :=
  shapeCast _ (extractStridedSlice S32x8x1024 ![0, 0, 10240] p slices_S32x8x15360_S32x8x1024_0_0_10240) shapeCasts_S32x8x1024_S256x1024

theorem kT_at (p : FVec Ideal S32x8x15360 .f32) (r : Fin 256) (e : Fin 1024) :
    kT p (ix2 r e) = p (ix3 ⟨r.val / 8, by omega⟩ (posnS r) ⟨9216 + e.val, by omega⟩) := by
  unfold kT
  pointwise
  rfl

theorem vT_at (p : FVec Ideal S32x8x15360 .f32) (r : Fin 256) (e : Fin 1024) :
    vT p (ix2 r e) = p (ix3 ⟨r.val / 8, by omega⟩ (posnS r) ⟨10240 + e.val, by omega⟩) := by
  unfold vT
  pointwise
  rfl

theorem kT_eq (x : Vec Ideal S32x8x2048 .f32) (w : Vec Ideal S1x2048x15360 .f32) : kT (pT x w) = kMS x w := by
  funext i
  obtain ⟨r, e, rfl⟩ : ∃ (r : Fin 256) (q : Fin 1024), i = ix2 r q := ⟨i 0, i 1, eq_ix2 i⟩
  rw [kT_at, pT_at]
  rfl

theorem vT_eq (x : Vec Ideal S32x8x2048 .f32) (w : Vec Ideal S1x2048x15360 .f32) : vT (pT x w) = vMS x w := by
  funext i
  obtain ⟨r, e, rfl⟩ : ∃ (r : Fin 256) (q : Fin 1024), i = ix2 r q := ⟨i 0, i 1, eq_ix2 i⟩
  rw [vT_at, pT_at]
  rfl

variable (m : (ℓ : Loc nD τ sig) → Buf (Elt Ideal) ℓ) (c : Dev nD)

set_option maxHeartbeats 4000000 in
theorem res_z : res_main_v73 m c = zT (pT (m ((c.tc : Thread nD τ).loc main_arg0)) (m ((c.tc : Thread nD τ).loc main_arg1)))
    (rotT (hq (pT (m ((c.tc : Thread nD τ).loc main_arg0)) (m ((c.tc : Thread nD τ).loc main_arg1)))) angT)
    (scT (rotT (hk (pT (m ((c.tc : Thread nD τ).loc main_arg0)) (m ((c.tc : Thread nD τ).loc main_arg1)))) angT)) := by
  unfold res_main_v73 zT scT rotT loT hiT tabT hq hk angT pT
  rfl

theorem res_eq : res_main_v73 m c = zMS (m ((c.tc : Thread nD τ).loc main_arg0)) (m ((c.tc : Thread nD τ).loc main_arg1)) := by
  funext i
  obtain ⟨r, e, rfl⟩ : ∃ (r : Fin 256) (q : Fin 15360), i = ix2 r q := ⟨i 0, i 1, eq_ix2 i⟩
  refine (congrFun (res_z m c) (ix2 r e)).trans ?_
  exact zT_eq _ (pMS (m ((c.tc : Thread nD τ).loc main_arg0)) (m ((c.tc : Thread nD τ).loc main_arg1)) r) r (fun e => pT_at _ _ _ _ e) e

end Cert.Own.PrjSRef

end
-- ==== Proof.RetSSpec.lean ====
/- The sample's retention over the extended reals, written without any program: one chunk of eight positions from a given
   state, for 32 sequences of 8 heads. -/
module

public import proofs.«01_k».proof.Proof.RetSpec

@[expose] public section

noncomputable section

namespace Cert.Own.Ret

open Idealize.ShloMosaic

/-- The decay of position `i`'s key at the end of a chunk of eight. -/
def kdS (h : Fin 8) (i : ℕ) : EReal := Ideal.exp (lg h * (Ideal.ofBits .f32 0x40E00000#32 - num i))

/-- The decay of the state over a chunk of eight. -/
def gcS (h : Fin 8) : EReal := Ideal.exp (lg h * Ideal.ofBits .f32 0x41000000#32)

/-- A position of the eight as one of a chunk of 128. -/
def up (i : Fin 8) : Fin 128 := ⟨i.val, by omega⟩

/-- A head's state after a chunk of eight. -/
def headS8 (k v : Mat 8 256) (kd : Fin 8 → EReal) (g : EReal) (s : Mat 256 256) : Mat 256 256 :=
  fun d e => g * s d e + ∑ j : Fin 8, k j d * kd j * v j e

/-- A head's output on a chunk of eight. -/
def headO8 (q k v : Mat 8 256) (dec : Mat 8 8) (qd : Fin 8 → EReal) (s : Mat 256 256) : Mat 8 256 :=
  fun i e => (∑ j : Fin 8, (∑ d : Fin 256, q i d * k j d) * dec i j * v j e) + (∑ d : Fin 256, q i d * s d e) * qd i

/-- A sum over 128 positions that is nothing from the ninth on is a sum over eight. -/
theorem sum_up (f : Fin 128 → EReal) (h : ∀ j : Fin 128, ¬j.val < 8 → f j = 0) : ∑ j, f j = ∑ j : Fin 8, f (up j) := by
  refine (Finset.sum_subset (Finset.subset_univ (Finset.univ.image up)) fun j _ hj => h j fun hl => hj ?_).symm.trans
    (Finset.sum_image fun a _ b _ hab => Fin.ext (congrArg (fun x : Fin 128 => x.val) hab))
  exact Finset.mem_image.mpr ⟨⟨j.val, hl⟩, Finset.mem_univ _, rfl⟩

/-- A head's state on a chunk whose values are nothing from the ninth row on. -/
theorem headS_up (k v : Mat 128 256) (kd : Fin 128 → EReal) (g : EReal) (s : Mat 256 256) (hv : ∀ j e, ¬j.val < 8 → v j e = 0) (d e : Fin 256) :
    headS k v kd g s d e = headS8 (fun j => k (up j)) (fun j => v (up j)) (fun j => kd (up j)) g s d e := by
  unfold headS headS8
  rw [sum_up _ fun j hj => by rw [hv j e hj, mul_zero]]

/-- A head's output on a chunk whose values are nothing from the ninth row on. -/
theorem headO_up (q k v : Mat 128 256) (dec : Mat 128 128) (qd : Fin 128 → EReal) (s : Mat 256 256) (hv : ∀ j e, ¬j.val < 8 → v j e = 0) (i : Fin 8) :
    headO q k v dec qd s (up i)
      = headO8 (fun j => q (up j)) (fun j => k (up j)) (fun j => v (up j)) (fun i j => dec (up i) (up j)) (fun j => qd (up j)) s i := by
  funext e
  unfold headO headO8
  rw [sum_up _ fun j hj => by rw [hv j e hj, mul_zero]]

/-- One head of one sequence: part 0 the queries, 1 the keys, 2 the values, 3 the gates; sequence `b`, head `h`. -/
def zcutS (Z : (⟨2, ![256, 15360]⟩ : Shape).Idx → EReal) (p : Fin 4) (b : Fin 32) (h : Fin 8) : Mat 8 256 := fun i d =>
  Z (ix2 ⟨8 * b.val + i.val, by omega⟩ ⟨2048 * p.val + 256 * h.val + d.val, by omega⟩)

/-- A head's state after the sample's chunk, from the past state. -/
def stS (Z : (⟨2, ![256, 15360]⟩ : Shape).Idx → EReal) (S : (⟨5, ![1, 32, 8, 256, 256]⟩ : Shape).Idx → EReal) (b : Fin 32) (h : Fin 8) : Mat 256 256 :=
  headS8 (zcutS Z 1 b h) (zcutS Z 2 b h) (fun j => kdS h j.val) (gcS h) (fun d e => S (ix5 0 b h d e))

/-- A head's output on the sample's chunk. -/
def outS (Z : (⟨2, ![256, 15360]⟩ : Shape).Idx → EReal) (S : (⟨5, ![1, 32, 8, 256, 256]⟩ : Shape).Idx → EReal) (b : Fin 32) (h : Fin 8) : Mat 8 256 :=
  headO8 (zcutS Z 0 b h) (zcutS Z 1 b h) (zcutS Z 2 b h) (fun i j => decT h (up i) (up j)) (fun j => qdT h (up j)) (fun d e => S (ix5 0 b h d e))

/-- A head's normalised and gated output. -/
def yS (Z : (⟨2, ![256, 15360]⟩ : Shape).Idx → EReal) (S : (⟨5, ![1, 32, 8, 256, 256]⟩ : Shape).Idx → EReal)
    (g : (⟨3, ![1, 8, 256]⟩ : Shape).Idx → EReal) (b : Fin 32) (h : Fin 8) : Mat 8 256 := fun i =>
  gnorm (outS Z S b h i) (fun e => g (ix3 0 h e)) (zcutS Z 3 b h i)

/-- The whole result: row `8 b + i`, column `256 h + e`. -/
def resYS (Z : (⟨2, ![256, 15360]⟩ : Shape).Idx → EReal) (S : (⟨5, ![1, 32, 8, 256, 256]⟩ : Shape).Idx → EReal)
    (g : (⟨3, ![1, 8, 256]⟩ : Shape).Idx → EReal) : (⟨2, ![256, 2048]⟩ : Shape).Idx → EReal := fun x =>
  yS Z S g ⟨(x 0).val / 8, by have : (x 0).val < 256 := (x 0).isLt; omega⟩ ⟨(x 1).val / 256, by have : (x 1).val < 2048 := (x 1).isLt; omega⟩
    ⟨(x 0).val % 8, Nat.mod_lt _ (by decide)⟩ ⟨(x 1).val % 256, Nat.mod_lt _ (by decide)⟩

/-- The states after the chunk. -/
def resSS (Z : (⟨2, ![256, 15360]⟩ : Shape).Idx → EReal) (S : (⟨5, ![1, 32, 8, 256, 256]⟩ : Shape).Idx → EReal) :
    (⟨4, ![32, 8, 256, 256]⟩ : Shape).Idx → EReal := fun x => stS Z S (x 0) (x 1) (x 2) (x 3)

theorem resYS_at (Z) (S) (g) (b : Fin 32) (i : Fin 8) (h : Fin 8) (e : Fin 256) (r : Fin 256) (q : Fin 2048)
    (hr : r.val = 8 * b.val + i.val) (hq : q.val = 256 * h.val + e.val) : resYS Z S g (ix2 r q) = yS Z S g b h i e := by
  show yS Z S g ⟨r.val / 8, _⟩ ⟨q.val / 256, _⟩ ⟨r.val % 8, _⟩ ⟨q.val % 256, _⟩ = _
  have hb : (⟨r.val / 8, by omega⟩ : Fin 32) = b := Fin.ext (by dsimp only; omega)
  have hi : (⟨r.val % 8, by omega⟩ : Fin 8) = i := Fin.ext (by dsimp only; omega)
  have hh : (⟨q.val / 256, by omega⟩ : Fin 8) = h := Fin.ext (by dsimp only; omega)
  have he : (⟨q.val % 256, by omega⟩ : Fin 256) = e := Fin.ext (by dsimp only; omega)
  rw [hb, hi, hh, he]

end Cert.Own.Ret

end
-- ==== Proof.RetSPay.lean ====
/- The sample's retention kernel: its stored values read at an index. Each head's state update, output and gated norm
   are the ones of `RetSpec`, at the head's 256 columns. -/
module

public import proofs.«01_k».proof.Proof.RetSSpec
public import proofs.«01_k».proof.Proof.Gen.Kernel6Ideal.Skeleton

@[expose] public section

set_option maxRecDepth 16384

noncomputable section

namespace Cert.Kernel6Ideal.Val

open Cert.Kernel6Ideal Cert.Kernel6Ideal.Gen Idealize.ShloMosaic Cert.Own.Ret

/-- Column `e` of head `h`. -/
def hcol (h : Fin 8) (e : Fin 256) : Fin 2048 := ⟨256 * h.val + e.val, by omega⟩

theorem hcol_0 (e : Fin 256) : hcol 0 e = ⟨e.val, by omega⟩ := Fin.ext (by simp [hcol])
theorem hcol_1 (e : Fin 256) : hcol 1 e = ⟨256 + e.val, by omega⟩ := Fin.ext (by simp [hcol])
theorem hcol_2 (e : Fin 256) : hcol 2 e = ⟨512 + e.val, by omega⟩ := Fin.ext (by simp [hcol])
theorem hcol_3 (e : Fin 256) : hcol 3 e = ⟨768 + e.val, by omega⟩ := Fin.ext (by simp [hcol])
theorem hcol_4 (e : Fin 256) : hcol 4 e = ⟨1024 + e.val, by omega⟩ := Fin.ext (by simp [hcol])
theorem hcol_5 (e : Fin 256) : hcol 5 e = ⟨1280 + e.val, by omega⟩ := Fin.ext (by simp [hcol])
theorem hcol_6 (e : Fin 256) : hcol 6 e = ⟨1536 + e.val, by omega⟩ := Fin.ext (by simp [hcol])
theorem hcol_7 (e : Fin 256) : hcol 7 e = ⟨1792 + e.val, by omega⟩ := Fin.ext (by simp [hcol])

/-- The 128 × 256 part of head `h`. -/
def cut (h : Fin 8) (v : Vec Ideal S1x128x2048 .f32) : Mat 128 256 := fun i d => v (ix3 0 i (hcol h d))
/-- The 8 × 256 part of head `h` of eight rows. -/
def gcut (h : Fin 8) (v : Vec Ideal S8x2048 .f32) : Mat 8 256 := fun i d => v (ix2 i (hcol h d))
/-- A 1 × 128 × 128 block as a matrix. -/
def sq (v : Vec Ideal S1x128x128 .f32) : Mat 128 128 := fun i j => v (ix3 0 i j)
/-- A 1 × 128 × 1 block as a column. -/
def colv (v : Vec Ideal S1x128x1 .f32) : Fin 128 → EReal := fun i => v (ix3 0 i 0)
/-- A 1 × 1 × 256 × 256 block as a matrix. -/
def stv (v : Vec Ideal S1x1x256x256 .f32) : Mat 256 256 := fun d e => v (ix4 0 0 d e)
/-- A 1 × 1 × 256 block as a row. -/
def rowv (v : Vec Ideal S1x1x256 .f32) : Fin 256 → EReal := fun e => v (ix3 0 0 e)

variable (x0 x1 x2 : Vec Ideal S1x128x2048 .f32) (g : Vec Ideal S8x2048 .f32) (s : Vec Ideal S1x1x256x256 .f32) (dec : Vec Ideal S1x128x128 .f32)
  (qd kd : Vec Ideal S1x128x1 .f32) (gc : Vec Ideal S1x1x1 .f32) (gain : Vec Ideal S1x1x256 .f32) (o : FVec Ideal S128x256 .f32)

/-- The first head's new state. -/
theorem s0 (d e : Fin 256) :
    k0_pay17 (k0_pay13 (k0_pay8 x1)) (k0_pay14 x2) (k0_pay15 s) kd gc (ix4 0 0 d e)
      = headS (cut 0 x1) (cut 0 x2) (colv kd) (gc (ix3 0 0 0)) (stv s) d e := by
  pointwise [k0_pay17, k0_pay13, k0_pay8, k0_pay14, k0_pay15, k0_pay12]
  simp only [headS, cut, gcut, sq, colv, stv, rowv, up, hcol_0]

/-- The first head's output before its norm. -/
theorem o0 (i : Fin 128) (e : Fin 256) :
    k0_pay16 (k0_pay5 x0) (k0_pay8 x1) x2 s dec qd (ix2 i e) = headO (cut 0 x0) (cut 0 x1) (cut 0 x2) (sq dec) (colv qd) (stv s) i e := by
  pointwise [k0_pay16, k0_pay5, k0_pay8, k0_pay13, k0_pay14, k0_pay15, k0_pay12]
  simp only [headO, cut, gcut, sq, colv, stv, rowv, up, hcol_0]

/-- The first head's norm and gate. -/
theorem n0 (i : Fin 8) (e : Fin 256) :
    k0_pay22 (k0_pay18 o gain) (k0_pay19 g) (k0_pay20 g) k0_pay21 (ix2 i e) = gnorm (fun x => o (ix2 (up i) x)) (rowv gain) (gcut 0 g i) e := by
  pointwise [k0_pay22, k0_pay18, k0_pay19, k0_pay20, k0_pay21]
  simp only [gnorm, mean, cut, gcut, sq, colv, stv, rowv, up, hcol_0, zero_sub]

/-- What the body stores for the first head. -/
theorem on0 (i : Fin 8) (e : Fin 256) :
    k0_pay22 (k0_pay18 (k0_pay16 (k0_pay5 x0) (k0_pay8 x1) x2 s dec qd) gain) (k0_pay19 g) (k0_pay20 g) k0_pay21 (ix2 i e)
      = gnorm (headO (cut 0 x0) (cut 0 x1) (cut 0 x2) (sq dec) (colv qd) (stv s) (up i)) (rowv gain) (gcut 0 g i) e := by
  rw [n0]
  simp only [o0]

/-- The second head's new state. -/
theorem s1 (d e : Fin 256) :
    k0_pay29 (k0_pay24 (k0_pay12 x2)) (k0_pay27 (k0_pay8 x1) kd) (k0_pay28 s gc) (constant S256x256 FTy.f32 0#32) (ix4 0 0 d e)
      = headS (cut 1 x1) (cut 1 x2) (colv kd) (gc (ix3 0 0 0)) (stv s) d e := by
  pointwise [k0_pay29, k0_pay24, k0_pay12, k0_pay27, k0_pay8, k0_pay28, k0_pay23, k0_pay25]
  simp only [headS, cut, gcut, sq, colv, stv, rowv, up, hcol_1]

/-- The second head's output before its norm. -/
theorem o1 (i : Fin 128) (e : Fin 256) :
    k0_pay26 (k0_pay5 x0) (k0_pay8 x1) (k0_pay12 x2) s dec qd (ix2 i e) = headO (cut 1 x0) (cut 1 x1) (cut 1 x2) (sq dec) (colv qd) (stv s) i e := by
  pointwise [k0_pay26, k0_pay5, k0_pay8, k0_pay12, k0_pay23, k0_pay24, k0_pay25]
  simp only [headO, cut, gcut, sq, colv, stv, rowv, up, hcol_1]

/-- The second head's norm and gate. -/
theorem n1 (i : Fin 8) (e : Fin 256) :
    k0_pay30 g o gain (ix2 i e) = gnorm (fun x => o (ix2 (up i) x)) (rowv gain) (gcut 1 g i) e := by
  pointwise [k0_pay30]
  simp only [gnorm, mean, cut, gcut, sq, colv, stv, rowv, up, hcol_1, zero_sub]

/-- What the body stores for the second head. -/
theorem on1 (i : Fin 8) (e : Fin 256) :
    k0_pay30 g (k0_pay26 (k0_pay5 x0) (k0_pay8 x1) (k0_pay12 x2) s dec qd) gain (ix2 i e)
      = gnorm (headO (cut 1 x0) (cut 1 x1) (cut 1 x2) (sq dec) (colv qd) (stv s) (up i)) (rowv gain) (gcut 1 g i) e := by
  rw [n1]
  simp only [o1]

/-- The third head's new state. -/
theorem s2 (d e : Fin 256) :
    k0_pay36 (k0_pay32 (k0_pay8 x1)) (k0_pay33 (k0_pay12 x2)) s kd gc (ix4 0 0 d e)
      = headS (cut 2 x1) (cut 2 x2) (colv kd) (gc (ix3 0 0 0)) (stv s) d e := by
  pointwise [k0_pay36, k0_pay32, k0_pay8, k0_pay33, k0_pay12, k0_pay35, k0_pay34]
  simp only [headS, cut, gcut, sq, colv, stv, rowv, up, hcol_2]

/-- What the body stores for the third head. -/
theorem on2 (i : Fin 8) (e : Fin 256) :
    k0_pay39 g (k0_pay37 (k0_pay31 (k0_pay5 x0)) (k0_pay32 (k0_pay8 x1)) (k0_pay33 (k0_pay12 x2)) s dec qd) (k0_pay38 (k0_pay31 (k0_pay5 x0)) (k0_pay32 (k0_pay8 x1)) (k0_pay33 (k0_pay12 x2)) s dec qd) gain (ix2 i e)
      = gnorm (headO (cut 2 x0) (cut 2 x1) (cut 2 x2) (sq dec) (colv qd) (stv s) (up i)) (rowv gain) (gcut 2 g i) e := by
  pointwise [k0_pay39, k0_pay37, k0_pay31, k0_pay5, k0_pay32, k0_pay8, k0_pay33, k0_pay12, k0_pay38, k0_pay34, k0_pay35]
  simp only [gnorm, mean, headO, cut, gcut, sq, colv, stv, rowv, up, hcol_2, zero_sub]

/-- The fourth head's new state. -/
theorem s3 (d e : Fin 256) :
    k0_pay45 (k0_pay41 (k0_pay8 x1)) (k0_pay42 (k0_pay12 x2)) (k0_pay43 s) kd gc (ix4 0 0 d e)
      = headS (cut 3 x1) (cut 3 x2) (colv kd) (gc (ix3 0 0 0)) (stv s) d e := by
  pointwise [k0_pay45, k0_pay41, k0_pay8, k0_pay42, k0_pay12, k0_pay43]
  simp only [headS, cut, gcut, sq, colv, stv, rowv, up, hcol_3]

/-- What the body stores for the fourth head. -/
theorem on3 (i : Fin 8) (e : Fin 256) :
    k0_pay49 g (k0_pay46 (k0_pay40 (k0_pay5 x0)) (k0_pay42 (k0_pay12 x2)) (k0_pay43 s) (k0_pay44 (k0_pay5 x0) (k0_pay8 x1)) dec qd) (k0_pay47 (k0_pay40 (k0_pay5 x0)) (k0_pay42 (k0_pay12 x2)) (k0_pay43 s) (k0_pay44 (k0_pay5 x0) (k0_pay8 x1)) dec qd) k0_pay48 gain (ix2 i e)
      = gnorm (headO (cut 3 x0) (cut 3 x1) (cut 3 x2) (sq dec) (colv qd) (stv s) (up i)) (rowv gain) (gcut 3 g i) e := by
  pointwise [k0_pay49, k0_pay46, k0_pay40, k0_pay5, k0_pay42, k0_pay12, k0_pay43, k0_pay44, k0_pay8, k0_pay47, k0_pay48, k0_pay41]
  simp only [gnorm, mean, headO, cut, gcut, sq, colv, stv, rowv, up, hcol_3, zero_sub]

/-- The fifth head's new state. -/
theorem s4 (d e : Fin 256) :
    k0_pay57 (k0_pay51 (k0_pay8 x1)) (k0_pay52 (k0_pay12 x2)) (k0_pay53 s) kd gc (ix4 0 0 d e)
      = headS (cut 4 x1) (cut 4 x2) (colv kd) (gc (ix3 0 0 0)) (stv s) d e := by
  pointwise [k0_pay57, k0_pay51, k0_pay8, k0_pay52, k0_pay12, k0_pay53]
  simp only [headS, cut, gcut, sq, colv, stv, rowv, up, hcol_4]

/-- What the body stores for the fifth head. -/
theorem on4 (i : Fin 8) (e : Fin 256) :
    k0_pay61 (k0_pay58 (k0_pay54 (k0_pay5 x0) (k0_pay8 x1) (k0_pay12 x2) dec) (k0_pay55 (k0_pay5 x0) s) (k0_pay56 qd) gain) (k0_pay59 g) k0_pay60 (ix2 i e)
      = gnorm (headO (cut 4 x0) (cut 4 x1) (cut 4 x2) (sq dec) (colv qd) (stv s) (up i)) (rowv gain) (gcut 4 g i) e := by
  pointwise [k0_pay61, k0_pay58, k0_pay54, k0_pay5, k0_pay8, k0_pay12, k0_pay55, k0_pay56, k0_pay59, k0_pay60, k0_pay51, k0_pay50, k0_pay52, k0_pay53]
  simp only [gnorm, mean, headO, cut, gcut, sq, colv, stv, rowv, up, hcol_4, zero_sub]

/-- The sixth head's new state. -/
theorem s5 (d e : Fin 256) :
    k0_pay67 (k0_pay63 (k0_pay12 x2)) (k0_pay64 s) (k0_pay66 (k0_pay8 x1) kd) gc (ix4 0 0 d e)
      = headS (cut 5 x1) (cut 5 x2) (colv kd) (gc (ix3 0 0 0)) (stv s) d e := by
  pointwise [k0_pay67, k0_pay63, k0_pay12, k0_pay64, k0_pay66, k0_pay8, k0_pay62]
  simp only [headS, cut, gcut, sq, colv, stv, rowv, up, hcol_5]

/-- The sixth head's output before its norm. -/
theorem o5 (i : Fin 128) (e : Fin 256) :
    k0_pay65 (k0_pay5 x0) (k0_pay8 x1) (k0_pay12 x2) s dec qd (ix2 i e) = headO (cut 5 x0) (cut 5 x1) (cut 5 x2) (sq dec) (colv qd) (stv s) i e := by
  pointwise [k0_pay65, k0_pay5, k0_pay8, k0_pay12, k0_pay62, k0_pay63, k0_pay64]
  simp only [headO, cut, gcut, sq, colv, stv, rowv, up, hcol_5]

/-- The sixth head's norm and gate. -/
theorem n5 (i : Fin 8) (e : Fin 256) :
    k0_pay68 g o gain (ix2 i e) = gnorm (fun x => o (ix2 (up i) x)) (rowv gain) (gcut 5 g i) e := by
  pointwise [k0_pay68]
  simp only [gnorm, mean, cut, gcut, sq, colv, stv, rowv, up, hcol_5, zero_sub]

/-- What the body stores for the sixth head. -/
theorem on5 (i : Fin 8) (e : Fin 256) :
    k0_pay68 g (k0_pay65 (k0_pay5 x0) (k0_pay8 x1) (k0_pay12 x2) s dec qd) gain (ix2 i e)
      = gnorm (headO (cut 5 x0) (cut 5 x1) (cut 5 x2) (sq dec) (colv qd) (stv s) (up i)) (rowv gain) (gcut 5 g i) e := by
  rw [n5]
  simp only [o5]

/-- The seventh head's new state. -/
theorem s6 (d e : Fin 256) :
    k0_pay73 (k0_pay8 x1) (k0_pay12 x2) s kd gc (ix4 0 0 d e)
      = headS (cut 6 x1) (cut 6 x2) (colv kd) (gc (ix3 0 0 0)) (stv s) d e := by
  pointwise [k0_pay73, k0_pay8, k0_pay12, k0_pay69, k0_pay71, k0_pay70]
  simp only [headS, cut, gcut, sq, colv, stv, rowv, up, hcol_6]

/-- The seventh head's output before its norm. -/
theorem o6 (i : Fin 128) (e : Fin 256) :
    k0_pay72 (k0_pay5 x0) (k0_pay8 x1) (k0_pay12 x2) s dec qd (ix2 i e) = headO (cut 6 x0) (cut 6 x1) (cut 6 x2) (sq dec) (colv qd) (stv s) i e := by
  pointwise [k0_pay72, k0_pay5, k0_pay8, k0_pay12, k0_pay69, k0_pay70, k0_pay71]
  simp only [headO, cut, gcut, sq, colv, stv, rowv, up, hcol_6]

/-- The seventh head's norm and gate. -/
theorem n6 (i : Fin 8) (e : Fin 256) :
    k0_pay74 g o gain (ix2 i e) = gnorm (fun x => o (ix2 (up i) x)) (rowv gain) (gcut 6 g i) e := by
  pointwise [k0_pay74]
  simp only [gnorm, mean, cut, gcut, sq, colv, stv, rowv, up, hcol_6, zero_sub]

/-- What the body stores for the seventh head. -/
theorem on6 (i : Fin 8) (e : Fin 256) :
    k0_pay74 g (k0_pay72 (k0_pay5 x0) (k0_pay8 x1) (k0_pay12 x2) s dec qd) gain (ix2 i e)
      = gnorm (headO (cut 6 x0) (cut 6 x1) (cut 6 x2) (sq dec) (colv qd) (stv s) (up i)) (rowv gain) (gcut 6 g i) e := by
  rw [n6]
  simp only [o6]

/-- The eighth head's new state. -/
theorem s7 (d e : Fin 256) :
    k0_pay80 (k0_pay76 (k0_pay8 x1)) (k0_pay77 (k0_pay12 x2)) (k0_pay78 s) kd gc (ix4 0 0 d e)
      = headS (cut 7 x1) (cut 7 x2) (colv kd) (gc (ix3 0 0 0)) (stv s) d e := by
  pointwise [k0_pay80, k0_pay76, k0_pay8, k0_pay77, k0_pay12, k0_pay78]
  simp only [headS, cut, gcut, sq, colv, stv, rowv, up, hcol_7]

/-- What the body stores for the eighth head. -/
theorem on7 (i : Fin 8) (e : Fin 256) :
    k0_pay1 g (k0_pay81 (k0_pay75 (k0_pay5 x0)) (k0_pay77 (k0_pay12 x2)) (k0_pay78 s) (k0_pay79 (k0_pay5 x0) (k0_pay8 x1)) dec qd) (k0_pay82 (k0_pay75 (k0_pay5 x0)) (k0_pay77 (k0_pay12 x2)) (k0_pay78 s) (k0_pay79 (k0_pay5 x0) (k0_pay8 x1)) dec qd) (FloatOps.ofBits FTy.f32 1132462080#32) gain (ix2 i e)
      = gnorm (headO (cut 7 x0) (cut 7 x1) (cut 7 x2) (sq dec) (colv qd) (stv s) (up i)) (rowv gain) (gcut 7 g i) e := by
  pointwise [k0_pay1, k0_pay81, k0_pay75, k0_pay5, k0_pay77, k0_pay12, k0_pay78, k0_pay79, k0_pay8, k0_pay82, k0_pay76]
  simp only [gnorm, mean, headO, cut, gcut, sq, colv, stv, rowv, up, hcol_7, zero_sub]

end Cert.Kernel6Ideal.Val

end
-- ==== Proof.RetSPad.lean ====
/- The sample's retention pads its eight rows to 128 in the scratch: what the three loads of the scratch read. -/
module

public import proofs.«01_k».proof.Proof.RetBlock
public import proofs.«01_k».proof.Proof.Gen.Kernel6Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Cert.KernelIdeal.Val (canon_hit canon_miss)

/-- Eight rows with 120 rows of zeros under them. -/
def padded (X : Vec Ideal S8x2048 .f32) : Vec Ideal S1x128x2048 .f32 := fun x =>
  if h : (x 1).val < 8 then X (ix2 ⟨(x 1).val, h⟩ (x 2)) else 0

theorem padded_lo (X : Vec Ideal S8x2048 .f32) (i : Fin 8) (q : Fin 2048) :
    padded X (ix3 0 ⟨i.val, by omega⟩ q) = X (ix2 i q) := by
  unfold padded
  exact dif_pos (show i.val < 8 from i.isLt)

theorem padded_hi (X : Vec Ideal S8x2048 .f32) (i : Fin 128) (q : Fin 2048) (h : ¬i.val < 8) : padded X (ix3 0 i q) = 0 := by
  unfold padded
  exact dif_neg h

/-- One slot: the zeros stored under the eight rows, whatever was stored before, loaded whole. -/
theorem slot (n : ℕ) (inb8 : ∀ a, (![n, 0, 0] : Fin 3 → ℕ) a + (![1, 8, 2048] : Fin 3 → ℕ) a ≤ S3x128x2048.size a)
    (inbZ : ∀ a, (![n, 0, 0] : Fin 3 → ℕ) a + (![1, 128, 2048] : Fin 3 → ℕ) a ≤ S3x128x2048.size a)
    (X : Vec Ideal S8x2048 .f32) (P : S1x8x2048.Idx → EReal) (Z : S1x128x2048.Idx → EReal)
    (hP : ∀ (i : Fin 8) (q : Fin 2048), P (ix3 0 i q) = X (ix2 i q)) (hZ : ∀ (i : Fin 128) (q : Fin 2048), Z (ix3 0 i q) = 0)
    (L : List (View.Piece (Elt Ideal) S3x128x2048 .f32)) :
    (View.whole cc0_scratch0).readCov (Val := Elt Ideal) (⟨Rect.unit ![n, 0, 0] ![1, 8, 2048] inb8, P⟩ :: ⟨Rect.unit ![n, 0, 0] ![1, 128, 2048] inbZ, Z⟩ :: L)
      (Rect.unit ![n, 0, 0] ![1, 128, 2048] inbZ).toLoadRect = padded X := by
  rw [View.readCov_eq_canon']
  funext x
  obtain ⟨a, i, q, rfl⟩ : ∃ (a : Fin 1) (i : Fin 128) (q : Fin 2048), x = ix3 a i q := ⟨x 0, x 1, x 2, eq_ix3 x⟩
  obtain rfl : a = 0 := Subsingleton.elim _ _
  have hv : ∀ a, (((Rect.unit (s := S3x128x2048) ![n, 0, 0] ![1, 128, 2048] inbZ).toLoadRect.idx (ix3 0 i q)) a).val
      = (![n, 0, 0] : Fin 3 → ℕ) a + ((ix3 0 i q : S1x128x2048.Idx) a).val := fun a =>
    Rect.idx_unit_val (s := S3x128x2048) ![n, 0, 0] ![1, 128, 2048] inbZ (ix3 0 i q) a
  by_cases h : i.val < 8
  · refine (canon_hit (ix3 0 ⟨i.val, h⟩ q) fun b => by
      match b with
      | ⟨0, _⟩ => exact hv 0
      | ⟨1, _⟩ => exact hv 1
      | ⟨2, _⟩ => exact hv 2).trans ((hP ⟨i.val, h⟩ q).trans ?_)
    exact (padded_lo X ⟨i.val, h⟩ q).symm
  · refine (canon_miss ⟨1, by decide⟩ (.inr (by
      refine le_of_le_of_eq ?_ (hv 1).symm
      show 0 + 8 ≤ 0 + i.val
      omega))).trans ?_
    refine (canon_hit (ix3 0 i q) fun b => by
      match b with
      | ⟨0, _⟩ => exact hv 0
      | ⟨1, _⟩ => exact hv 1
      | ⟨2, _⟩ => exact hv 2).trans ((hZ i q).trans ?_)
    exact (padded_hi X i q h).symm

theorem q_rows (X : Vec Ideal S8x2048 .f32) (i : Fin 8) (q : Fin 2048) : k0_pay4 X (ix3 0 i q) = X (ix2 i q) := by
  unfold k0_pay4
  pointwise
theorem k_rows (X : Vec Ideal S8x2048 .f32) (i : Fin 8) (q : Fin 2048) : k0_pay7 X (ix3 0 i q) = X (ix2 i q) := by
  unfold k0_pay7
  pointwise
theorem v_rows (X : Vec Ideal S8x2048 .f32) (i : Fin 8) (q : Fin 2048) : k0_pay11 X (ix3 0 i q) = X (ix2 i q) := by
  unfold k0_pay11
  pointwise
theorem q_zero (i : Fin 128) (q : Fin 2048) : k0_pay3 (F := Ideal) (ix3 0 i q) = 0 := by
  unfold k0_pay3
  pointwise
theorem k_zero (i : Fin 128) (q : Fin 2048) : k0_pay6 (F := Ideal) (ix3 0 i q) = 0 := by
  unfold k0_pay6
  pointwise
theorem v_zero (i : Fin 128) (q : Fin 2048) : k0_pay10 (F := Ideal) k0_pay9 (ix3 0 i q) = 0 := by
  unfold k0_pay10 k0_pay9
  pointwise

theorem q_slot (X : Vec Ideal S8x2048 .f32) (L : List (View.Piece (Elt Ideal) S3x128x2048 .f32)) :
    (View.whole cc0_scratch0).readCov (Val := Elt Ideal) (⟨Rect.unit ![0, 0, 0] ![1, 8, 2048] inb_S3x128x2048_S1x8x2048_0_0_0, k0_pay4 X⟩
      :: ⟨Rect.unit ![0, 0, 0] ![1, 128, 2048] inb_S3x128x2048_S1x128x2048_0_0_0, (k0_pay3 (F := Ideal))⟩ :: L)
      (Rect.unit ![0, 0, 0] ![1, 128, 2048] inb_S3x128x2048_S1x128x2048_0_0_0).toLoadRect = padded X :=
  slot 0 _ _ X _ _ (q_rows X) q_zero L
theorem k_slot (X : Vec Ideal S8x2048 .f32) (L : List (View.Piece (Elt Ideal) S3x128x2048 .f32)) :
    (View.whole cc0_scratch0).readCov (Val := Elt Ideal) (⟨Rect.unit ![1, 0, 0] ![1, 8, 2048] inb_S3x128x2048_S1x8x2048_1_0_0, k0_pay7 X⟩
      :: ⟨Rect.unit ![1, 0, 0] ![1, 128, 2048] inb_S3x128x2048_S1x128x2048_1_0_0, k0_pay6 (F := Ideal)⟩ :: L)
      (Rect.unit ![1, 0, 0] ![1, 128, 2048] inb_S3x128x2048_S1x128x2048_1_0_0).toLoadRect = padded X :=
  slot 1 _ _ X _ _ (k_rows X) k_zero L
theorem v_slot (X : Vec Ideal S8x2048 .f32) (L : List (View.Piece (Elt Ideal) S3x128x2048 .f32)) :
    (View.whole cc0_scratch0).readCov (Val := Elt Ideal) (⟨Rect.unit ![2, 0, 0] ![1, 8, 2048] inb_S3x128x2048_S1x8x2048_2_0_0, k0_pay11 X⟩
      :: ⟨Rect.unit ![2, 0, 0] ![1, 128, 2048] inb_S3x128x2048_S1x128x2048_2_0_0, k0_pay10 (F := Ideal) k0_pay9⟩ :: L)
      (Rect.unit ![2, 0, 0] ![1, 128, 2048] inb_S3x128x2048_S1x128x2048_2_0_0).toLoadRect = padded X :=
  slot 2 _ _ X _ _ (v_rows X) v_zero L

/-- The old states are staged as they are. -/
theorem pay2_eq (X : Vec Ideal S1x8x256x256 .f32) : k0_pay2 X = X := by
  unfold k0_pay2
  exact shapeCast_self X _

end Cert.Kernel6Ideal.Val

end
-- ==== Proof.RetSBlock.lean ====
/- The sample's retention kernel: its two output blocks after a grid point, read at an index over the blocks the point
   stages, its eight rows padded with zeros. -/
module

public import proofs.«01_k».proof.Proof.RetSPay
public import proofs.«01_k».proof.Proof.RetSPad

@[expose] public section

set_option maxRecDepth 16384

noncomputable section

namespace Cert.Kernel6Ideal.Val

open Cert.Kernel6Ideal Cert.Kernel6Ideal.Gen Idealize.ShloMosaic Idealize.ShloMosaic.TcCoe Idealize.SL.Sem Cert.Own.Ret
open Cert.KernelIdeal.Val (canon_hit canon_miss ld3 ld4)

/-- One head's state, loaded from the block of eight. -/
theorem stv_ld (X : Vec Ideal S1x8x256x256 .f32) (h : ℕ) (inb) (d e : Fin 256) :
    stv (View.ld X (Rect.unit ![0, h, 0, 0] ![1, 1, 256, 256] inb)) d e = X (ix4 0 ⟨h, inb 1⟩ d e) := by
  unfold stv
  exact ld4 ..

theorem headS_congr {k k' v v' : Mat 128 256} {kd kd' : Fin 128 → EReal} {g g' : EReal} {s s' : Mat 256 256}
    (hk : k = k') (hv : v = v') (h1 : kd = kd') (h2 : g = g') (h3 : s = s') (d e : Fin 256) :
    headS k v kd g s d e = headS k' v' kd' g' s' d e := by
  rw [hk, hv, h1, h2, h3]

theorem on_congr {q q' k k' v v' : Mat 128 256} {dec dec' : Mat 128 128} {qd qd' : Fin 128 → EReal} {s s' : Mat 256 256}
    {ga ga' : Fin 256 → EReal} {g : Mat 8 256} (hq : q = q') (hk : k = k') (hv : v = v') (h1 : dec = dec') (h2 : qd = qd')
    (h3 : s = s') (h4 : ga = ga') (i : Fin 8) (e : Fin 256) :
    gnorm (headO q k v dec qd s (up i)) ga (g i) e = gnorm (headO q' k' v' dec' qd' s' (up i)) ga' (g i) e := by
  rw [hq, hk, hv, h1, h2, h3, h4]

variable (m : (ℓ : Loc nD τ sig) → Buf (Elt Ideal) ℓ) (c : Dev nD)

/-- The eight rows of the queries (0), the keys (1), the values (2) at a grid point, padded. -/
def pq (t : Fin cfg0.N) : Vec Ideal S1x128x2048 .f32 := padded (X0_0 m c t)
def pk (t : Fin cfg0.N) : Vec Ideal S1x128x2048 .f32 := padded (X0_1 m c t)
def pv (t : Fin cfg0.N) : Vec Ideal S1x128x2048 .f32 := padded (X0_2 m c t)

/-- A head's state after the point. -/
def stAt (t : Fin cfg0.N) (h : Fin 8) : Mat 256 256 :=
  headS (cut h (pk m c t)) (cut h (pv m c t)) (fun j => (iblk m c 7 t : Vec Ideal S8x128x1 .f32) (ix3 h j 0))
    ((iblk m c 8 t : Vec Ideal S8x1x1 .f32) (ix3 h 0 0)) (fun d e => (iblk m c 4 t : Vec Ideal S1x8x256x256 .f32) (ix4 0 h d e))

/-- A head's stored result at the point. -/
def onAt (t : Fin cfg0.N) (h : Fin 8) : Mat 8 256 := fun i =>
  gnorm (headO (cut h (pq m c t)) (cut h (pk m c t)) (cut h (pv m c t))
      (fun i j => (iblk m c 5 t : Vec Ideal S8x128x128 .f32) (ix3 h i j))
      (fun i => (iblk m c 6 t : Vec Ideal S8x128x1 .f32) (ix3 h i 0))
      (fun d e => (iblk m c 4 t : Vec Ideal S1x8x256x256 .f32) (ix4 0 h d e)) (up i))
    (fun e => (iblk m c 9 t : Vec Ideal S8x1x256 .f32) (ix3 h 0 e)) (gcut h (X0_3 m c t) i)

theorem st0 (t : Fin cfg0.N) (d e : Fin 256) : (outsAt0 m c t).2 (ix4 0 0 d e) = stAt m c t 0 d e := by
  unfold outsAt0
  frame_out
  simp (disch := decide) only [↓ View.readCov_skip, ↓ View.readCov_cons_toLoadRect, ↓ View.readCov_fill, pay2_eq]
  rw [canon_miss 1 (Or.inl (show 0 < 7 by decide))]
  rw [canon_miss 1 (Or.inl (show 0 < 6 by decide))]
  rw [canon_miss 1 (Or.inl (show 0 < 5 by decide))]
  rw [canon_miss 1 (Or.inl (show 0 < 4 by decide))]
  rw [canon_miss 1 (Or.inl (show 0 < 3 by decide))]
  rw [canon_miss 1 (Or.inl (show 0 < 2 by decide))]
  rw [canon_miss 1 (Or.inl (show 0 < 1 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s0 _ _ _ _ _ d e).trans (headS_congr (congrArg (cut 0) (k_slot _ _)) (congrArg (cut 0) (v_slot _ _)) (funext fun j => ld3 ..)
    (ld3 ..) (funext fun d => funext fun e => stv_ld ..) d e)

theorem onh0 (t : Fin cfg0.N) (i : Fin 8) (e : Fin 256) : (outsAt0 m c t).1 (ix2 i (hcol 0 e)) = onAt m c t 0 i e := by
  unfold outsAt0
  frame_out
  simp (disch := decide) only [↓ View.readCov_skip, ↓ View.readCov_cons_toLoadRect, ↓ View.readCov_fill, pay2_eq]
  rw [canon_miss 1 (Or.inl (show 0 + e.val < 1792 by omega))]
  rw [canon_miss 1 (Or.inl (show 0 + e.val < 1536 by omega))]
  rw [canon_miss 1 (Or.inl (show 0 + e.val < 1280 by omega))]
  rw [canon_miss 1 (Or.inl (show 0 + e.val < 1024 by omega))]
  rw [canon_miss 1 (Or.inl (show 0 + e.val < 768 by omega))]
  rw [canon_miss 1 (Or.inl (show 0 + e.val < 512 by omega))]
  rw [canon_miss 1 (Or.inl (show 0 + e.val < 256 by omega))]
  rw [canon_hit (ix2 i e) (fun a => by
    match a with
    | ⟨0, _⟩ => exact (Nat.zero_add _).symm
    | ⟨1, _⟩ => rfl)]
  exact (on0 _ _ _ _ _ _ _ _ i e).trans (on_congr (congrArg (cut 0) (q_slot _ _)) (congrArg (cut 0) (k_slot _ _))
    (congrArg (cut 0) (v_slot _ _)) (funext fun i => funext fun j => ld3 ..) (funext fun j => ld3 ..)
    (funext fun d => funext fun e => stv_ld ..) (funext fun e => ld3 ..) i e)

theorem st1 (t : Fin cfg0.N) (d e : Fin 256) : (outsAt0 m c t).2 (ix4 0 1 d e) = stAt m c t 1 d e := by
  unfold outsAt0
  frame_out
  simp (disch := decide) only [↓ View.readCov_skip, ↓ View.readCov_cons_toLoadRect, ↓ View.readCov_fill, pay2_eq]
  rw [canon_miss 1 (Or.inl (show 1 < 7 by decide))]
  rw [canon_miss 1 (Or.inl (show 1 < 6 by decide))]
  rw [canon_miss 1 (Or.inl (show 1 < 5 by decide))]
  rw [canon_miss 1 (Or.inl (show 1 < 4 by decide))]
  rw [canon_miss 1 (Or.inl (show 1 < 3 by decide))]
  rw [canon_miss 1 (Or.inl (show 1 < 2 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s1 _ _ _ _ _ d e).trans (headS_congr (congrArg (cut 1) (k_slot _ _)) (congrArg (cut 1) (v_slot _ _)) (funext fun j => ld3 ..)
    (ld3 ..) (funext fun d => funext fun e => stv_ld ..) d e)

theorem onh1 (t : Fin cfg0.N) (i : Fin 8) (e : Fin 256) : (outsAt0 m c t).1 (ix2 i (hcol 1 e)) = onAt m c t 1 i e := by
  unfold outsAt0
  frame_out
  simp (disch := decide) only [↓ View.readCov_skip, ↓ View.readCov_cons_toLoadRect, ↓ View.readCov_fill, pay2_eq]
  rw [canon_miss 1 (Or.inl (show 256 + e.val < 1792 by omega))]
  rw [canon_miss 1 (Or.inl (show 256 + e.val < 1536 by omega))]
  rw [canon_miss 1 (Or.inl (show 256 + e.val < 1280 by omega))]
  rw [canon_miss 1 (Or.inl (show 256 + e.val < 1024 by omega))]
  rw [canon_miss 1 (Or.inl (show 256 + e.val < 768 by omega))]
  rw [canon_miss 1 (Or.inl (show 256 + e.val < 512 by omega))]
  rw [canon_hit (ix2 i e) (fun a => by
    match a with
    | ⟨0, _⟩ => exact (Nat.zero_add _).symm
    | ⟨1, _⟩ => rfl)]
  exact (on1 _ _ _ _ _ _ _ _ i e).trans (on_congr (congrArg (cut 1) (q_slot _ _)) (congrArg (cut 1) (k_slot _ _))
    (congrArg (cut 1) (v_slot _ _)) (funext fun i => funext fun j => ld3 ..) (funext fun j => ld3 ..)
    (funext fun d => funext fun e => stv_ld ..) (funext fun e => ld3 ..) i e)

theorem st2 (t : Fin cfg0.N) (d e : Fin 256) : (outsAt0 m c t).2 (ix4 0 2 d e) = stAt m c t 2 d e := by
  unfold outsAt0
  frame_out
  simp (disch := decide) only [↓ View.readCov_skip, ↓ View.readCov_cons_toLoadRect, ↓ View.readCov_fill, pay2_eq]
  rw [canon_miss 1 (Or.inl (show 2 < 7 by decide))]
  rw [canon_miss 1 (Or.inl (show 2 < 6 by decide))]
  rw [canon_miss 1 (Or.inl (show 2 < 5 by decide))]
  rw [canon_miss 1 (Or.inl (show 2 < 4 by decide))]
  rw [canon_miss 1 (Or.inl (show 2 < 3 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s2 _ _ _ _ _ d e).trans (headS_congr (congrArg (cut 2) (k_slot _ _)) (congrArg (cut 2) (v_slot _ _)) (funext fun j => ld3 ..)
    (ld3 ..) (funext fun d => funext fun e => stv_ld ..) d e)

theorem onh2 (t : Fin cfg0.N) (i : Fin 8) (e : Fin 256) : (outsAt0 m c t).1 (ix2 i (hcol 2 e)) = onAt m c t 2 i e := by
  unfold outsAt0
  frame_out
  simp (disch := decide) only [↓ View.readCov_skip, ↓ View.readCov_cons_toLoadRect, ↓ View.readCov_fill, pay2_eq]
  rw [canon_miss 1 (Or.inl (show 512 + e.val < 1792 by omega))]
  rw [canon_miss 1 (Or.inl (show 512 + e.val < 1536 by omega))]
  rw [canon_miss 1 (Or.inl (show 512 + e.val < 1280 by omega))]
  rw [canon_miss 1 (Or.inl (show 512 + e.val < 1024 by omega))]
  rw [canon_miss 1 (Or.inl (show 512 + e.val < 768 by omega))]
  rw [canon_hit (ix2 i e) (fun a => by
    match a with
    | ⟨0, _⟩ => exact (Nat.zero_add _).symm
    | ⟨1, _⟩ => rfl)]
  exact (on2 _ _ _ _ _ _ _ _ i e).trans (on_congr (congrArg (cut 2) (q_slot _ _)) (congrArg (cut 2) (k_slot _ _))
    (congrArg (cut 2) (v_slot _ _)) (funext fun i => funext fun j => ld3 ..) (funext fun j => ld3 ..)
    (funext fun d => funext fun e => stv_ld ..) (funext fun e => ld3 ..) i e)

theorem st3 (t : Fin cfg0.N) (d e : Fin 256) : (outsAt0 m c t).2 (ix4 0 3 d e) = stAt m c t 3 d e := by
  unfold outsAt0
  frame_out
  simp (disch := decide) only [↓ View.readCov_skip, ↓ View.readCov_cons_toLoadRect, ↓ View.readCov_fill, pay2_eq]
  rw [canon_miss 1 (Or.inl (show 3 < 7 by decide))]
  rw [canon_miss 1 (Or.inl (show 3 < 6 by decide))]
  rw [canon_miss 1 (Or.inl (show 3 < 5 by decide))]
  rw [canon_miss 1 (Or.inl (show 3 < 4 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s3 _ _ _ _ _ d e).trans (headS_congr (congrArg (cut 3) (k_slot _ _)) (congrArg (cut 3) (v_slot _ _)) (funext fun j => ld3 ..)
    (ld3 ..) (funext fun d => funext fun e => stv_ld ..) d e)

theorem onh3 (t : Fin cfg0.N) (i : Fin 8) (e : Fin 256) : (outsAt0 m c t).1 (ix2 i (hcol 3 e)) = onAt m c t 3 i e := by
  unfold outsAt0
  frame_out
  simp (disch := decide) only [↓ View.readCov_skip, ↓ View.readCov_cons_toLoadRect, ↓ View.readCov_fill, pay2_eq]
  rw [canon_miss 1 (Or.inl (show 768 + e.val < 1792 by omega))]
  rw [canon_miss 1 (Or.inl (show 768 + e.val < 1536 by omega))]
  rw [canon_miss 1 (Or.inl (show 768 + e.val < 1280 by omega))]
  rw [canon_miss 1 (Or.inl (show 768 + e.val < 1024 by omega))]
  rw [canon_hit (ix2 i e) (fun a => by
    match a with
    | ⟨0, _⟩ => exact (Nat.zero_add _).symm
    | ⟨1, _⟩ => rfl)]
  exact (on3 _ _ _ _ _ _ _ _ i e).trans (on_congr (congrArg (cut 3) (q_slot _ _)) (congrArg (cut 3) (k_slot _ _))
    (congrArg (cut 3) (v_slot _ _)) (funext fun i => funext fun j => ld3 ..) (funext fun j => ld3 ..)
    (funext fun d => funext fun e => stv_ld ..) (funext fun e => ld3 ..) i e)

theorem st4 (t : Fin cfg0.N) (d e : Fin 256) : (outsAt0 m c t).2 (ix4 0 4 d e) = stAt m c t 4 d e := by
  unfold outsAt0
  frame_out
  simp (disch := decide) only [↓ View.readCov_skip, ↓ View.readCov_cons_toLoadRect, ↓ View.readCov_fill, pay2_eq]
  rw [canon_miss 1 (Or.inl (show 4 < 7 by decide))]
  rw [canon_miss 1 (Or.inl (show 4 < 6 by decide))]
  rw [canon_miss 1 (Or.inl (show 4 < 5 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s4 _ _ _ _ _ d e).trans (headS_congr (congrArg (cut 4) (k_slot _ _)) (congrArg (cut 4) (v_slot _ _)) (funext fun j => ld3 ..)
    (ld3 ..) (funext fun d => funext fun e => stv_ld ..) d e)

theorem onh4 (t : Fin cfg0.N) (i : Fin 8) (e : Fin 256) : (outsAt0 m c t).1 (ix2 i (hcol 4 e)) = onAt m c t 4 i e := by
  unfold outsAt0
  frame_out
  simp (disch := decide) only [↓ View.readCov_skip, ↓ View.readCov_cons_toLoadRect, ↓ View.readCov_fill, pay2_eq]
  rw [canon_miss 1 (Or.inl (show 1024 + e.val < 1792 by omega))]
  rw [canon_miss 1 (Or.inl (show 1024 + e.val < 1536 by omega))]
  rw [canon_miss 1 (Or.inl (show 1024 + e.val < 1280 by omega))]
  rw [canon_hit (ix2 i e) (fun a => by
    match a with
    | ⟨0, _⟩ => exact (Nat.zero_add _).symm
    | ⟨1, _⟩ => rfl)]
  exact (on4 _ _ _ _ _ _ _ _ i e).trans (on_congr (congrArg (cut 4) (q_slot _ _)) (congrArg (cut 4) (k_slot _ _))
    (congrArg (cut 4) (v_slot _ _)) (funext fun i => funext fun j => ld3 ..) (funext fun j => ld3 ..)
    (funext fun d => funext fun e => stv_ld ..) (funext fun e => ld3 ..) i e)

theorem st5 (t : Fin cfg0.N) (d e : Fin 256) : (outsAt0 m c t).2 (ix4 0 5 d e) = stAt m c t 5 d e := by
  unfold outsAt0
  frame_out
  simp (disch := decide) only [↓ View.readCov_skip, ↓ View.readCov_cons_toLoadRect, ↓ View.readCov_fill, pay2_eq]
  rw [canon_miss 1 (Or.inl (show 5 < 7 by decide))]
  rw [canon_miss 1 (Or.inl (show 5 < 6 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s5 _ _ _ _ _ d e).trans (headS_congr (congrArg (cut 5) (k_slot _ _)) (congrArg (cut 5) (v_slot _ _)) (funext fun j => ld3 ..)
    (ld3 ..) (funext fun d => funext fun e => stv_ld ..) d e)

theorem onh5 (t : Fin cfg0.N) (i : Fin 8) (e : Fin 256) : (outsAt0 m c t).1 (ix2 i (hcol 5 e)) = onAt m c t 5 i e := by
  unfold outsAt0
  frame_out
  simp (disch := decide) only [↓ View.readCov_skip, ↓ View.readCov_cons_toLoadRect, ↓ View.readCov_fill, pay2_eq]
  rw [canon_miss 1 (Or.inl (show 1280 + e.val < 1792 by omega))]
  rw [canon_miss 1 (Or.inl (show 1280 + e.val < 1536 by omega))]
  rw [canon_hit (ix2 i e) (fun a => by
    match a with
    | ⟨0, _⟩ => exact (Nat.zero_add _).symm
    | ⟨1, _⟩ => rfl)]
  exact (on5 _ _ _ _ _ _ _ _ i e).trans (on_congr (congrArg (cut 5) (q_slot _ _)) (congrArg (cut 5) (k_slot _ _))
    (congrArg (cut 5) (v_slot _ _)) (funext fun i => funext fun j => ld3 ..) (funext fun j => ld3 ..)
    (funext fun d => funext fun e => stv_ld ..) (funext fun e => ld3 ..) i e)

theorem st6 (t : Fin cfg0.N) (d e : Fin 256) : (outsAt0 m c t).2 (ix4 0 6 d e) = stAt m c t 6 d e := by
  unfold outsAt0
  frame_out
  simp (disch := decide) only [↓ View.readCov_skip, ↓ View.readCov_cons_toLoadRect, ↓ View.readCov_fill, pay2_eq]
  rw [canon_miss 1 (Or.inl (show 6 < 7 by decide))]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s6 _ _ _ _ _ d e).trans (headS_congr (congrArg (cut 6) (k_slot _ _)) (congrArg (cut 6) (v_slot _ _)) (funext fun j => ld3 ..)
    (ld3 ..) (funext fun d => funext fun e => stv_ld ..) d e)

theorem onh6 (t : Fin cfg0.N) (i : Fin 8) (e : Fin 256) : (outsAt0 m c t).1 (ix2 i (hcol 6 e)) = onAt m c t 6 i e := by
  unfold outsAt0
  frame_out
  simp (disch := decide) only [↓ View.readCov_skip, ↓ View.readCov_cons_toLoadRect, ↓ View.readCov_fill, pay2_eq]
  rw [canon_miss 1 (Or.inl (show 1536 + e.val < 1792 by omega))]
  rw [canon_hit (ix2 i e) (fun a => by
    match a with
    | ⟨0, _⟩ => exact (Nat.zero_add _).symm
    | ⟨1, _⟩ => rfl)]
  exact (on6 _ _ _ _ _ _ _ _ i e).trans (on_congr (congrArg (cut 6) (q_slot _ _)) (congrArg (cut 6) (k_slot _ _))
    (congrArg (cut 6) (v_slot _ _)) (funext fun i => funext fun j => ld3 ..) (funext fun j => ld3 ..)
    (funext fun d => funext fun e => stv_ld ..) (funext fun e => ld3 ..) i e)

theorem st7 (t : Fin cfg0.N) (d e : Fin 256) : (outsAt0 m c t).2 (ix4 0 7 d e) = stAt m c t 7 d e := by
  unfold outsAt0
  frame_out
  simp (disch := decide) only [↓ View.readCov_skip, ↓ View.readCov_cons_toLoadRect, ↓ View.readCov_fill, pay2_eq]
  rw [canon_hit (ix4 0 0 d e) (fun a => by
    match a with
    | ⟨0, _⟩ => rfl
    | ⟨1, _⟩ => rfl
    | ⟨2, _⟩ => exact (Nat.zero_add _).symm
    | ⟨3, _⟩ => exact (Nat.zero_add _).symm)]
  exact (s7 _ _ _ _ _ d e).trans (headS_congr (congrArg (cut 7) (k_slot _ _)) (congrArg (cut 7) (v_slot _ _)) (funext fun j => ld3 ..)
    (ld3 ..) (funext fun d => funext fun e => stv_ld ..) d e)

theorem onh7 (t : Fin cfg0.N) (i : Fin 8) (e : Fin 256) : (outsAt0 m c t).1 (ix2 i (hcol 7 e)) = onAt m c t 7 i e := by
  unfold outsAt0
  frame_out
  simp (disch := decide) only [↓ View.readCov_skip, ↓ View.readCov_cons_toLoadRect, ↓ View.readCov_fill, pay2_eq]
  rw [canon_hit (ix2 i e) (fun a => by
    match a with
    | ⟨0, _⟩ => exact (Nat.zero_add _).symm
    | ⟨1, _⟩ => rfl)]
  exact (on7 _ _ _ _ _ _ _ _ i e).trans (on_congr (congrArg (cut 7) (q_slot _ _)) (congrArg (cut 7) (k_slot _ _))
    (congrArg (cut 7) (v_slot _ _)) (funext fun i => funext fun j => ld3 ..) (funext fun j => ld3 ..)
    (funext fun d => funext fun e => stv_ld ..) (funext fun e => ld3 ..) i e)

/-- After a grid point the state block holds, head by head, the updated states. -/
theorem st_pt (t : Fin cfg0.N) (h : Fin 8) (d e : Fin 256) : (outsAt0 m c t).2 (ix4 0 h d e) = stAt m c t h d e := by
  match h with
  | 0 => exact st0 m c t d e
  | 1 => exact st1 m c t d e
  | 2 => exact st2 m c t d e
  | 3 => exact st3 m c t d e
  | 4 => exact st4 m c t d e
  | 5 => exact st5 m c t d e
  | 6 => exact st6 m c t d e
  | 7 => exact st7 m c t d e

/-- After a grid point the result block holds, head by head, the gated norms. -/
theorem on_pt (t : Fin cfg0.N) (h : Fin 8) (i : Fin 8) (e : Fin 256) : (outsAt0 m c t).1 (ix2 i (hcol h e)) = onAt m c t h i e := by
  match h with
  | 0 => exact onh0 m c t i e
  | 1 => exact onh1 m c t i e
  | 2 => exact onh2 m c t i e
  | 3 => exact onh3 m c t i e
  | 4 => exact onh4 m c t i e
  | 5 => exact onh5 m c t i e
  | 6 => exact onh6 m c t i e
  | 7 => exact onh7 m c t i e

end Cert.Kernel6Ideal.Val

end
-- ==== Proof.RetSKernel.lean ====
/- The sample's retention kernel, read: what it stages at a grid point are the eight rows and the past states of one sequence,
   and its two result arrays are the chunk's outputs and states. -/
module

public import proofs.«01_k».proof.Proof.RetSBlock

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Own.Ret

variable (m : (ℓ : Loc nD τ sig) → Buf (Elt Ideal) ℓ) (c : Dev nD)

/-- The kernel's first argument: the projected rows. -/
abbrev zA : (⟨2, ![256, 15360]⟩ : Shape).Idx → EReal := m ((c.tc : Thread nD τ).loc main_arg0)

/-- The kernel's second argument: the past states. -/
abbrev sA : (⟨5, ![1, 32, 8, 256, 256]⟩ : Shape).Idx → EReal := m ((c.tc : Thread nD τ).loc main_arg1)

/-- The kernel's third argument: the gains. -/
abbrev gA : (⟨3, ![1, 8, 256]⟩ : Shape).Idx → EReal := m ((c.tc : Thread nD τ).loc main_arg2)

/-! ## The tables the host computes, where they meet the eight rows -/

/-- A position of the chunk is below the chunk's length, as floats too. -/
theorem num_lt8 (i : Fin 128) (hl : i.val < 8) : num i < Ideal.ofBits .f32 0x41000000#32 := by
  have h1 : Ideal.ofBits .f32 0x41000000#32 = ((8 : ℝ) : EReal) := by
    simp [Ideal.ofBits, Ideal.ieee, -EReal.coe_mul]; norm_num
  have h2 : (BitVec.ofNat 32 i.val).toInt = (i.val : ℤ) := by
    rw [BitVec.toInt_eq_toNat_of_lt] <;> simp <;> omega
  rw [h1]
  show (((BitVec.ofNat 32 i.val).toInt : ℝ) : EReal) < _
  rw [h2]
  have : (i.val : ℝ) < 8 := by exact_mod_cast hl
  exact_mod_cast this

theorem gain_eq (h : Fin 8) (e : Fin 256) : (V m c main_v1 : S8x1x256.Idx → EReal) (ix3 h 0 e) = gA m c (ix3 0 h e) := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise

theorem old_eq (b : Fin 32) (h : Fin 8) (d e : Fin 256) : (V m c main_v2 : S32x8x256x256.Idx → EReal) (ix4 b h d e) = sA m c (ix5 0 b h d e) := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise

theorem gc_eq (h : Fin 8) : (V m c main_v58 : S8x1x1.Idx → EReal) (ix3 h 0 0) = gcS h := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise
  rfl

theorem qd_eq (h : Fin 8) (i : Fin 128) : (V m c main_v56 : S8x128x1.Idx → EReal) (ix3 h i 0) = qdT h i := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  pointwise
  rfl

/-- The eight rows are live, so the mask of dead rows changes none of their keys' decays. -/
theorem kd_eq (h : Fin 8) (i : Fin 128) (hl : i.val < 8) : (V m c main_v57 : S8x128x1.Idx → EReal) (ix3 h i 0) = kdS h i.val := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_cast, cast_eq, id]
  pointwise
  have hi := num_lt8 i hl
  unfold num at hi
  rw [if_pos hi]
  rfl

/-- … and the causal mask is the comparison alone. -/
theorem dec_eq (h : Fin 8) (i j : Fin 128) (hli : i.val < 8) (hlj : j.val < 8) : (V m c main_v34 : S8x128x128.Idx → EReal) (ix3 h i j) = decT h i j := by
  show StableHlo.after _ _ _ _ = _
  simp only [hostOps0, hostOps0_1, hostOps0_2, hostOps0_3, hostOps0_4, hostOps0_5, hostOps0_6, List.flatten_cons, List.flatten_nil, List.append_nil, List.cons_append, List.nil_append]
  after_results
  simp only [StableHlo.TRef.ofBuf, StableHlo.TRef.toBuf, cast_cast, cast_eq, id]
  pointwise
  have hi := num_lt8 i hli
  have hj := num_lt8 j hlj
  unfold num at hi hj
  rw [decide_eq_true hi, decide_eq_true hj]
  unfold decT num
  by_cases hc : 0 ≤ (FloatOps.sitofp (F := Ideal) .f32 (BitVec.ofNat 32 i.val) : EReal) - FloatOps.sitofp (F := Ideal) .f32 (BitVec.ofNat 32 j.val)
  · rw [decide_eq_true hc, if_pos hc, if_pos hc]
    rfl
  · rw [decide_eq_false hc, if_neg hc]
    rfl

/-! ## The blocks of a grid point -/

/-- The sequence of a grid point. -/
def sB (t : Fin cfg0.N) : Fin 32 := ⟨t.val, lt_of_lt_of_eq t.isLt N_0⟩

theorem wz : ∀ t : Fin grid0.N,
    (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 3)
    ∧ (win0_10.index t 0 = t.val ∧ win0_10.index t 1 = 0) := by
  decide +kernel

theorem wt : ∀ t : Fin grid0.N,
    (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_4.index t 0 = t.val ∧ win0_4.index t 1 = 0 ∧ win0_4.index t 2 = 0 ∧ win0_4.index t 3 = 0)
    ∧ (win0_11.index t 0 = t.val ∧ win0_11.index t 1 = 0 ∧ win0_11.index t 2 = 0 ∧ win0_11.index t 3 = 0) := by
  decide +kernel

/-- The block of the queries. -/
theorem x_0 (t : Fin cfg0.N) (h : Fin 8) (i : Fin 8) (d : Fin 256) :
    (X0_0 m c t : S8x2048.Idx → EReal) (ix2 i (hcol h d)) = zcutS (zA m c) 0 (sB t) h i d := by
  unfold X0_0 Pipeline.Window.fill
  rw [dif_pos (moved0_0 t _)]
  unfold iblk zcutS
  rw [View.read_apply, show V m c (Pipeline.arrRef spec0 0) = V m c main_arg0 from rfl, V_main_arg0]
  show zA m c _ = _
  congr 1
  funext a
  refine Fin.ext ?_
  have hw := wz t
  match a with
  | ⟨0, _⟩ =>
    show win0_0.index t 0 * 8 + 1 * i.val = 8 * t.val + i.val
    omega
  | ⟨1, _⟩ =>
    show win0_0.index t 1 * 2048 + 1 * (256 * h.val + d.val) = 2048 * 0 + 256 * h.val + d.val
    omega

/-- The block of the keys. -/
theorem x_1 (t : Fin cfg0.N) (h : Fin 8) (i : Fin 8) (d : Fin 256) :
    (X0_1 m c t : S8x2048.Idx → EReal) (ix2 i (hcol h d)) = zcutS (zA m c) 1 (sB t) h i d := by
  unfold X0_1 Pipeline.Window.fill
  rw [dif_pos (moved0_1 t _)]
  unfold iblk zcutS
  rw [View.read_apply, show V m c (Pipeline.arrRef spec0 1) = V m c main_arg0 from rfl, V_main_arg0]
  show zA m c _ = _
  congr 1
  funext a
  refine Fin.ext ?_
  have hw := wz t
  match a with
  | ⟨0, _⟩ =>
    show win0_1.index t 0 * 8 + 1 * i.val = 8 * t.val + i.val
    omega
  | ⟨1, _⟩ =>
    show win0_1.index t 1 * 2048 + 1 * (256 * h.val + d.val) = 2048 * 1 + 256 * h.val + d.val
    omega

/-- The block of the values. -/
theorem x_2 (t : Fin cfg0.N) (h : Fin 8) (i : Fin 8) (d : Fin 256) :
    (X0_2 m c t : S8x2048.Idx → EReal) (ix2 i (hcol h d)) = zcutS (zA m c) 2 (sB t) h i d := by
  unfold X0_2 Pipeline.Window.fill
  rw [dif_pos (moved0_2 t _)]
  unfold iblk zcutS
  rw [View.read_apply, show V m c (Pipeline.arrRef spec0 2) = V m c main_arg0 from rfl, V_main_arg0]
  show zA m c _ = _
  congr 1
  funext a
  refine Fin.ext ?_
  have hw := wz t
  match a with
  | ⟨0, _⟩ =>
    show win0_2.index t 0 * 8 + 1 * i.val = 8 * t.val + i.val
    omega
  | ⟨1, _⟩ =>
    show win0_2.index t 1 * 2048 + 1 * (256 * h.val + d.val) = 2048 * 2 + 256 * h.val + d.val
    omega

/-- The block of the gates. -/
theorem x_3 (t : Fin cfg0.N) (h : Fin 8) (i : Fin 8) (d : Fin 256) :
    (X0_3 m c t : S8x2048.Idx → EReal) (ix2 i (hcol h d)) = zcutS (zA m c) 3 (sB t) h i d := by
  unfold X0_3 Pipeline.Window.fill
  rw [dif_pos (moved0_3 t _)]
  unfold iblk zcutS
  rw [View.read_apply, show V m c (Pipeline.arrRef spec0 3) = V m c main_arg0 from rfl, V_main_arg0]
  show zA m c _ = _
  congr 1
  funext a
  refine Fin.ext ?_
  have hw := wz t
  match a with
  | ⟨0, _⟩ =>
    show win0_3.index t 0 * 8 + 1 * i.val = 8 * t.val + i.val
    omega
  | ⟨1, _⟩ =>
    show win0_3.index t 1 * 2048 + 1 * (256 * h.val + d.val) = 2048 * 3 + 256 * h.val + d.val
    omega

theorem blk_dec (t : Fin cfg0.N) (h i j : Fin 8) : (iblk m c 5 t : S8x128x128.Idx → EReal) (ix3 h (up i) (up j)) = decT h (up i) (up j) := by
  rw [← dec_eq m c h (up i) (up j) i.isLt j.isLt]
  unfold iblk
  rw [View.read_apply]
  show (V m c main_v34 : S8x128x128.Idx → EReal) _ = _
  congr 1
  funext a
  refine Fin.ext ?_
  have hw := wt t
  match a with
  | ⟨0, _⟩ =>
    show win0_5.index t 0 * 8 + 1 * h.val = h.val
    omega
  | ⟨1, _⟩ =>
    show win0_5.index t 1 * 128 + 1 * i.val = i.val
    omega
  | ⟨2, _⟩ =>
    show win0_5.index t 2 * 128 + 1 * j.val = j.val
    omega

theorem blk_qd (t : Fin cfg0.N) (h : Fin 8) (i : Fin 128) : (iblk m c 6 t : S8x128x1.Idx → EReal) (ix3 h i 0) = qdT h i := by
  rw [← qd_eq m c h i]
  unfold iblk
  rw [View.read_apply]
  show (V m c main_v56 : S8x128x1.Idx → EReal) _ = _
  congr 1
  funext a
  refine Fin.ext ?_
  have hw := wt t
  match a with
  | ⟨0, _⟩ =>
    show win0_6.index t 0 * 8 + 1 * h.val = h.val
    omega
  | ⟨1, _⟩ =>
    show win0_6.index t 1 * 128 + 1 * i.val = i.val
    omega
  | ⟨2, _⟩ =>
    show win0_6.index t 2 * 1 + 1 * 0 = 0
    omega

theorem blk_kd (t : Fin cfg0.N) (h i : Fin 8) : (iblk m c 7 t : S8x128x1.Idx → EReal) (ix3 h (up i) 0) = kdS h (up i).val := by
  rw [← kd_eq m c h (up i) i.isLt]
  unfold iblk
  rw [View.read_apply]
  show (V m c main_v57 : S8x128x1.Idx → EReal) _ = _
  congr 1
  funext a
  refine Fin.ext ?_
  have hw := wt t
  match a with
  | ⟨0, _⟩ =>
    show win0_7.index t 0 * 8 + 1 * h.val = h.val
    omega
  | ⟨1, _⟩ =>
    show win0_7.index t 1 * 128 + 1 * i.val = i.val
    omega
  | ⟨2, _⟩ =>
    show win0_7.index t 2 * 1 + 1 * 0 = 0
    omega

theorem blk_gc (t : Fin cfg0.N) (h : Fin 8) : (iblk m c 8 t : S8x1x1.Idx → EReal) (ix3 h 0 0) = gcS h := by
  rw [← gc_eq m c h]
  unfold iblk
  rw [View.read_apply]
  show (V m c main_v58 : S8x1x1.Idx → EReal) _ = _
  congr 1
  funext a
  refine Fin.ext ?_
  have hw := wt t
  match a with
  | ⟨0, _⟩ =>
    show win0_8.index t 0 * 8 + 1 * h.val = h.val
    omega
  | ⟨1, _⟩ =>
    show win0_8.index t 1 * 1 + 1 * 0 = 0
    omega
  | ⟨2, _⟩ =>
    show win0_8.index t 2 * 1 + 1 * 0 = 0
    omega

theorem blk_gain (t : Fin cfg0.N) (h : Fin 8) (e : Fin 256) : (iblk m c 9 t : S8x1x256.Idx → EReal) (ix3 h 0 e) = gA m c (ix3 0 h e) := by
  rw [← gain_eq m c h e]
  unfold iblk
  rw [View.read_apply]
  show (V m c main_v1 : S8x1x256.Idx → EReal) _ = _
  congr 1
  funext a
  refine Fin.ext ?_
  have hw := wt t
  match a with
  | ⟨0, _⟩ =>
    show win0_9.index t 0 * 8 + 1 * h.val = h.val
    omega
  | ⟨1, _⟩ =>
    show win0_9.index t 1 * 1 + 1 * 0 = 0
    omega
  | ⟨2, _⟩ =>
    show win0_9.index t 2 * 256 + 1 * e.val = e.val
    omega

theorem blk_old (t : Fin cfg0.N) (h : Fin 8) (d e : Fin 256) : (iblk m c 4 t : S1x8x256x256.Idx → EReal) (ix4 0 h d e) = sA m c (ix5 0 (sB t) h d e) := by
  rw [← old_eq m c (sB t) h d e]
  unfold iblk
  rw [View.read_apply]
  show (V m c main_v2 : S32x8x256x256.Idx → EReal) _ = _
  congr 1
  funext a
  refine Fin.ext ?_
  have hw := wt t
  match a with
  | ⟨0, _⟩ =>
    show win0_4.index t 0 * 1 + 1 * 0 = t.val
    omega
  | ⟨1, _⟩ =>
    show win0_4.index t 1 * 8 + 1 * h.val = h.val
    omega
  | ⟨2, _⟩ =>
    show win0_4.index t 2 * 256 + 1 * d.val = d.val
    omega
  | ⟨3, _⟩ =>
    show win0_4.index t 3 * 256 + 1 * e.val = e.val
    omega

/-! ## The states and the results -/

/-- The padded values are nothing from the ninth row on. -/
theorem v_dead (t : Fin cfg0.N) (h : Fin 8) (j : Fin 128) (e : Fin 256) (hj : ¬j.val < 8) : cut h (pv m c t) j e = 0 :=
  padded_hi _ j _ hj

/-- The first eight rows of the padded blocks. -/
theorem q_live (t : Fin cfg0.N) (h : Fin 8) : (fun j => cut h (pq m c t) (up j)) = zcutS (zA m c) 0 (sB t) h :=
  funext fun j => funext fun d => (padded_lo _ j (hcol h d)).trans (x_0 m c t h j d)
theorem k_live (t : Fin cfg0.N) (h : Fin 8) : (fun j => cut h (pk m c t) (up j)) = zcutS (zA m c) 1 (sB t) h :=
  funext fun j => funext fun d => (padded_lo _ j (hcol h d)).trans (x_1 m c t h j d)
theorem v_live (t : Fin cfg0.N) (h : Fin 8) : (fun j => cut h (pv m c t) (up j)) = zcutS (zA m c) 2 (sB t) h :=
  funext fun j => funext fun d => (padded_lo _ j (hcol h d)).trans (x_2 m c t h j d)

/-- What a grid point leaves in its heads' states. -/
theorem st_out (t : Fin cfg0.N) (h : Fin 8) (d e : Fin 256) : (outsAt0 m c t).2 (ix4 0 h d e) = stS (zA m c) (sA m c) (sB t) h d e := by
  rw [st_pt]
  unfold stAt stS
  rw [headS_up _ _ _ _ _ (v_dead m c t h), k_live, v_live, blk_gc]
  simp only [blk_kd, blk_old]
  rfl

/-- What a grid point leaves in its result block. -/
theorem on_out (t : Fin cfg0.N) (h : Fin 8) (i : Fin 8) (e : Fin 256) :
    (outsAt0 m c t).1 (ix2 i (hcol h e)) = yS (zA m c) (sA m c) (gA m c) (sB t) h i e := by
  rw [on_pt]
  unfold onAt yS outS
  rw [headO_up _ _ _ _ _ _ (v_dead m c t h), q_live, k_live, v_live]
  simp only [blk_dec, blk_qd, blk_old, blk_gain]
  rw [show gcut h (X0_3 m c t) i = zcutS (zA m c) 3 (sB t) h i from funext fun d => x_3 m c t h i d]

theorem flushed_y (t : Fin cfg0.N) (hf : (cfg0.win 10).flush t = true) :
    (dats m 0 c).flushed 10 t = ((cfg0.win 10).blk t).view.read (Elt Ideal) (resYS (zA m c) (sA m c) (gA m c)) := by
  rw [Value.flushed10]
  funext x
  obtain ⟨i, q, rfl⟩ : ∃ (i : Fin 8) (q : Fin 2048), x = ix2 i q := ⟨x 0, x 1, eq_ix2 x⟩
  rw [View.read_apply]
  show (outsAt0 m c t).1 (ix2 i q) = resYS (zA m c) (sA m c) (gA m c) _
  have hq : q = hcol ⟨q.val / 256, by omega⟩ ⟨q.val % 256, Nat.mod_lt _ (by decide)⟩ := Fin.ext (by show q.val = 256 * (q.val / 256) + q.val % 256; omega)
  have hw := wz t
  conv_lhs => rw [hq]
  rw [on_out]
  refine (resYS_at _ _ _ (sB t) i ⟨q.val / 256, by omega⟩ ⟨q.val % 256, Nat.mod_lt _ (by decide)⟩ _ _ ?_ ?_).symm
  · show win0_10.index t 0 * 8 + 1 * i.val = 8 * t.val + i.val
    omega
  · show win0_10.index t 1 * 2048 + 1 * q.val = 256 * (q.val / 256) + q.val % 256
    omega

theorem final_y : (dats m 0 c).arrAt 10 cfg0.N = resYS (zA m c) (sA m c) (gA m c) :=
  (dats m 0 c).arrAt_eq_of_cover 10 (resYS (zA m c) (sA m c) (gA m c)) (flushed_y m c) fun x => by
    obtain ⟨r, q, rfl⟩ : ∃ (r : Fin 256) (q : Fin 2048), x = ix2 r q := ⟨x 0, x 1, eq_ix2 x⟩
    have hN : cfg0.N = 32 := N_0
    obtain ⟨t, ht⟩ : ∃ t : Fin cfg0.N, t.val = r.val / 8 := ⟨⟨_, by omega⟩, rfl⟩
    have hw := wz t
    refine ⟨t, flush0_10 t, ?_⟩
    show ix2 r q ∈ ((View.whole main_v59_0).slice (win0_10.rect t)).set
    rw [View.set_slice_whole, Rect.mem_set_unit]
    intro a
    match a with
    | ⟨0, _⟩ =>
      show win0_10.index t 0 * 8 ≤ r.val ∧ r.val < win0_10.index t 0 * 8 + 8
      omega
    | ⟨1, _⟩ =>
      show win0_10.index t 1 * 2048 ≤ q.val ∧ q.val < win0_10.index t 1 * 2048 + 2048
      omega

theorem flushed_s (t : Fin cfg0.N) (hf : (cfg0.win 11).flush t = true) :
    (dats m 0 c).flushed 11 t = ((cfg0.win 11).blk t).view.read (Elt Ideal) (resSS (zA m c) (sA m c)) := by
  rw [Value.flushed11]
  funext x
  obtain ⟨a, h, d, e, rfl⟩ : ∃ (a : Fin 1) (h : Fin 8) (d e : Fin 256), x = ix4 a h d e := ⟨x 0, x 1, x 2, x 3, eq_ix4 x⟩
  obtain rfl : a = 0 := Subsingleton.elim _ _
  rw [View.read_apply]
  show (outsAt0 m c t).2 (ix4 0 h d e) = resSS (zA m c) (sA m c) _
  have hw := wt t
  rw [st_out]
  have he : ((cfg0.win 11).blk t).view.emb (ix4 0 h d e) = (ix4 (sB t) h d e : S32x8x256x256.Idx) := by
    refine (funext fun a => Fin.ext ?_ : (ix4 (sB t) h d e : S32x8x256x256.Idx) = _).symm
    match a with
    | ⟨0, _⟩ =>
      show t.val = win0_11.index t 0 * 1 + 1 * 0
      omega
    | ⟨1, _⟩ =>
      show h.val = win0_11.index t 1 * 8 + 1 * h.val
      omega
    | ⟨2, _⟩ =>
      show d.val = win0_11.index t 2 * 256 + 1 * d.val
      omega
    | ⟨3, _⟩ =>
      show e.val = win0_11.index t 3 * 256 + 1 * e.val
      omega
  rw [he]
  rfl

theorem final_s : (dats m 0 c).arrAt 11 cfg0.N = resSS (zA m c) (sA m c) :=
  (dats m 0 c).arrAt_eq_of_cover 11 (resSS (zA m c) (sA m c)) (flushed_s m c) fun x => by
    obtain ⟨b, h, d, e, rfl⟩ : ∃ (b : Fin 32) (h : Fin 8) (d e : Fin 256), x = ix4 b h d e := ⟨x 0, x 1, x 2, x 3, eq_ix4 x⟩
    have hN : cfg0.N = 32 := N_0
    obtain ⟨t, ht⟩ : ∃ t : Fin cfg0.N, t.val = b.val := ⟨⟨_, by omega⟩, rfl⟩
    have hw := wt t
    refine ⟨t, flush0_11 t, ?_⟩
    show ix4 b h d e ∈ ((View.whole main_v59_1).slice (win0_11.rect t)).set
    rw [View.set_slice_whole, Rect.mem_set_unit]
    intro a
    match a with
    | ⟨0, _⟩ =>
      show win0_11.index t 0 * 1 ≤ b.val ∧ b.val < win0_11.index t 0 * 1 + 1
      omega
    | ⟨1, _⟩ =>
      show win0_11.index t 1 * 8 ≤ h.val ∧ h.val < win0_11.index t 1 * 8 + 8
      omega
    | ⟨2, _⟩ =>
      show win0_11.index t 2 * 256 ≤ d.val ∧ d.val < win0_11.index t 2 * 256 + 256
      omega
    | ⟨3, _⟩ =>
      show win0_11.index t 3 * 256 ≤ e.val ∧ e.val < win0_11.index t 3 * 256 + 256
      omega

/-- The kernel's run: both results as the chunk's, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v59_0) = resYS (zA m c) (sA m c) (gA m c)
      ∧ r.2.mem ((c.tc : Thread nD τ).loc main_v59_1) = resSS (zA m c) (sA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_y m c), (h c).2.1.trans (final_s m c), (h c).2.2.1, (h c).2.2.2.1, (h c).2.2.2.2⟩)
    (Value.run_blocks m ρ)

end Cert.Kernel6Ideal.Val

end
-- ==== Proof.RetSRef.lean ====
/- The reference of the sample's retention, read: its states and its normalised, gated outputs are the ones of `RetSSpec`. -/
module

public import proofs.«01_k».proof.Proof.RetSSpec
public import proofs.«01_k».proof.Proof.Gen.Reference6Ideal.Run
public import Idealize.ShloMosaic.Lib.Pointwise

@[expose] public section

set_option maxRecDepth 16384

noncomputable section

namespace Cert.Own.RetSRef

open Idealize.ShloMosaic Idealize.ShloMosaic.TcCoe Idealize.SL.Sem
open Cert.Reference6Ideal Cert.Reference6Ideal.Gen Cert.Reference6Ideal.Value Cert.Own.Ret

/-- The logarithms of the decay rates. -/
def lgT : FVec Ideal S8 .f32 :=
  Host.log1p (Host.negf (Host.exp (mulf (broadcastInDim S8 ![] bcast_S_S8 (constant S_ .f32 0x3F317218#32)) (subf (broadcastInDim S8 ![] bcast_S_S8
    (constant S_ .f32 0xC0A00000#32)) (sitofp .f32 (iotaInDim S8 32 0))))))

/-- The decays between two positions. -/
def dcT : FVec Ideal S8x8x8 .f32 :=
  select (broadcastInDim S8x8x8 ![1, 2] bcast_S8x8_S8x8x8_1_2 (cmpf (F := Ideal) (φ := .f32) .oge (subf (broadcastInDim S8x8 ![0, 1]
    bcast_S8x1_S8x8_0_1 (broadcastInDim S8x1 ![0] bcast_S8_S8x1_0 (sitofp .f32 (iotaInDim S8 32 0)))) (broadcastInDim S8x8 ![0, 1] bcast_S1x8_S8x8_0_1
    (broadcastInDim S1x8 ![1] bcast_S8_S1x8_1 (sitofp .f32 (iotaInDim S8 32 0))))) (broadcastInDim S8x8 ![] bcast_S_S8x8 (constant S_ .f32
    0x00000000#32)))) (Host.exp (mulf (broadcastInDim S8x8x8 ![0, 1, 2] bcast_S8x1x1_S8x8x8_0_1_2 (broadcastInDim S8x1x1 ![0] bcast_S8_S8x1x1_0 lgT))
    (broadcastInDim S8x8x8 ![0, 1, 2] bcast_S1x8x8_S8x8x8_0_1_2 (broadcastInDim S1x8x8 ![1, 2] bcast_S8x8_S1x8x8_1_2 (select (cmpf (F := Ideal) (φ :=
    .f32) .oge (subf (broadcastInDim S8x8 ![0, 1] bcast_S8x1_S8x8_0_1 (broadcastInDim S8x1 ![0] bcast_S8_S8x1_0 (sitofp .f32 (iotaInDim S8 32 0))))
    (broadcastInDim S8x8 ![0, 1] bcast_S1x8_S8x8_0_1 (broadcastInDim S1x8 ![1] bcast_S8_S1x8_1 (sitofp .f32 (iotaInDim S8 32 0))))) (broadcastInDim
    S8x8 ![] bcast_S_S8x8 (constant S_ .f32 0x00000000#32))) (subf (broadcastInDim S8x8 ![0, 1] bcast_S8x1_S8x8_0_1 (broadcastInDim S8x1 ![0]
    bcast_S8_S8x1_0 (sitofp .f32 (iotaInDim S8 32 0)))) (broadcastInDim S8x8 ![0, 1] bcast_S1x8_S8x8_0_1 (broadcastInDim S1x8 ![1] bcast_S8_S1x8_1
    (sitofp .f32 (iotaInDim S8 32 0))))) (broadcastInDim S8x8 ![] bcast_S_S8x8 (constant S_ .f32 0x00000000#32))))))) (broadcastInDim S8x8x8 ![]
    bcast_S_S8x8x8 (constant S_ .f32 0x00000000#32))

/-- The state's decays as a position sees them. -/
def qdt : FVec Ideal S8x8 .f32 :=
  Host.exp (mulf (broadcastInDim S8x8 ![0, 1] bcast_S1x8_S8x8_0_1 (broadcastInDim S1x8 ![1] bcast_S8_S1x8_1 lgT)) (broadcastInDim S8x8 ![0, 1]
    bcast_S8x1_S8x8_0_1 (addf (broadcastInDim S8x1 ![0] bcast_S8_S8x1_0 (sitofp .f32 (iotaInDim S8 32 0))) (broadcastInDim S8x1 ![] bcast_S_S8x1
    (constant S_ .f32 0x3F800000#32)))))

/-- The keys' decays at the end of the chunk. -/
def kdt : FVec Ideal S8x8 .f32 :=
  Host.exp (mulf (broadcastInDim S8x8 ![0, 1] bcast_S1x8_S8x8_0_1 (broadcastInDim S1x8 ![1] bcast_S8_S1x8_1 lgT)) (broadcastInDim S8x8 ![0, 1]
    bcast_S8x1_S8x8_0_1 (subf (broadcastInDim S8x1 ![] bcast_S_S8x1 (constant S_ .f32 0x40E00000#32)) (broadcastInDim S8x1 ![0] bcast_S8_S8x1_0
    (sitofp .f32 (iotaInDim S8 32 0))))))

/-- The state's decays over the chunk. -/
def gct : FVec Ideal S8 .f32 :=
  Host.exp (mulf lgT (broadcastInDim S8 ![] bcast_S_S8 (constant S_ .f32 0x41000000#32)))

/-- The outputs before their norm. -/
def outT (x0 : Vec Ideal S256x15360 .f32) (x1 : Vec Ideal S1x32x8x256x256 .f32) : FVec Ideal S32x8x8x256 .f32 :=
  addf (transpose S32x8x8x256 [0, 3, 1, 2] (Host.dotGeneral (φ₁ := .f32) (φ₂ := .f32) dot_S32x8x8x256_S32x8x8x8_S32x8x256x8_1_3_3_2_02_01 none
    (shapeCast _ (extractStridedSlice S256x2048 ![0, 4096] x0 slices_S256x15360_S256x2048_0_4096) shapeCasts_S256x2048_S32x8x8x256) (mulf
    (Host.dotGeneral (φ₁ := .f32) (φ₂ := .f32) dot_S32x8x8x256_S32x8x8x256_S32x8x8x8_3_3_1_1_02_02 none (shapeCast _ (extractStridedSlice S256x2048
    ![0, 0] x0 slices_S256x15360_S256x2048_0_0) shapeCasts_S256x2048_S32x8x8x256) (shapeCast _ (extractStridedSlice S256x2048 ![0, 2048] x0
    slices_S256x15360_S256x2048_0_2048) shapeCasts_S256x2048_S32x8x8x256)) (broadcastInDim S32x8x8x8 ![0, 1, 2, 3] bcast_S1x8x8x8_S32x8x8x8_0_1_2_3
    (broadcastInDim S1x8x8x8 ![1, 2, 3] bcast_S8x8x8_S1x8x8x8_1_2_3 dcT)))) transposes_S32x8x256x8_S32x8x8x256_0_3_1_2) (mulf (transpose S32x8x8x256
    [0, 3, 1, 2] (Host.dotGeneral (φ₁ := .f32) (φ₂ := .f32) dot_S32x8x256x256_S32x8x8x256_S32x8x256x8_2_3_3_1_01_02 none (shapeCast _ x1
    shapeCasts_S1x32x8x256x256_S32x8x256x256) (shapeCast _ (extractStridedSlice S256x2048 ![0, 0] x0 slices_S256x15360_S256x2048_0_0)
    shapeCasts_S256x2048_S32x8x8x256)) transposes_S32x8x256x8_S32x8x8x256_0_3_1_2) (broadcastInDim S32x8x8x256 ![0, 1, 2, 3]
    bcast_S1x8x8x1_S32x8x8x256_0_1_2_3 (broadcastInDim S1x8x8x1 ![1, 2] bcast_S8x8_S1x8x8x1_1_2 qdt)))

/-- The new states. -/
def stT (x0 : Vec Ideal S256x15360 .f32) (x1 : Vec Ideal S1x32x8x256x256 .f32) : FVec Ideal S32x8x256x256 .f32 :=
  addf (mulf (broadcastInDim S32x8x256x256 ![0, 1, 2, 3] bcast_S1x8x1x1_S32x8x256x256_0_1_2_3 (broadcastInDim S1x8x1x1 ![1] bcast_S8_S1x8x1x1_1 gct))
    (shapeCast _ x1 shapeCasts_S1x32x8x256x256_S32x8x256x256)) (Host.dotGeneral (φ₁ := .f32) (φ₂ := .f32)
    dot_S32x8x8x256_S32x8x8x256_S32x8x256x256_1_1_3_3_02_02 none (mulf (shapeCast _ (extractStridedSlice S256x2048 ![0, 2048] x0
    slices_S256x15360_S256x2048_0_2048) shapeCasts_S256x2048_S32x8x8x256) (broadcastInDim S32x8x8x256 ![0, 1, 2, 3] bcast_S1x8x8x1_S32x8x8x256_0_1_2_3
    (broadcastInDim S1x8x8x1 ![1, 2] bcast_S8x8_S1x8x8x1_1_2 kdt))) (shapeCast _ (extractStridedSlice S256x2048 ![0, 4096] x0
    slices_S256x15360_S256x2048_0_4096) shapeCasts_S256x2048_S32x8x8x256))

/-- A tensor less its heads' means. -/
def cenT (o : FVec Ideal S32x8x8x256 .f32) : FVec Ideal S32x8x8x256 .f32 :=
  subf o (broadcastInDim S32x8x8x256 ![0, 1, 2, 3] bcast_S32x8x8x1_S32x8x8x256_0_1_2_3 (Host.divf (broadcastInDim S32x8x8x1 ![0, 1, 2]
    bcast_S32x8x8_S32x8x8x1_0_1_2 (Host.reduceAdd o (constant S_ .f32 0x00000000#32) reducesTo_S32x8x8x256_S32x8x8_d3 h_S_)) (broadcastInDim S32x8x8x1
    ![] bcast_S_S32x8x8x1 (constant S_ .f32 0x43800000#32))))

/-- The normalised, gated outputs of centred heads. -/
def yT (x0 : Vec Ideal S256x15360 .f32) (w : FVec Ideal S32x8x8x256 .f32) (x2 : Vec Ideal S1x8x256 .f32) : FVec Ideal S256x2048 .f32 :=
  shapeCast _ (mulf (shapeCast _ (mulf (mulf w (broadcastInDim S32x8x8x256 ![0, 1, 2, 3] bcast_S32x8x8x1_S32x8x8x256_0_1_2_3 (Host.rsqrt (addf
    (Host.divf (broadcastInDim S32x8x8x1 ![0, 1, 2] bcast_S32x8x8_S32x8x8x1_0_1_2 (Host.reduceAdd (mulf w w) (constant S_ .f32 0x00000000#32)
    reducesTo_S32x8x8x256_S32x8x8_d3 h_S_)) (broadcastInDim S32x8x8x1 ![] bcast_S_S32x8x8x1 (constant S_ .f32 0x43800000#32))) (broadcastInDim
    S32x8x8x1 ![] bcast_S_S32x8x8x1 (constant S_ .f32 0x3727C5AC#32)))))) (broadcastInDim S32x8x8x256 ![0, 1, 2, 3]
    bcast_S1x1x8x256_S32x8x8x256_0_1_2_3 (broadcastInDim S1x1x8x256 ![2, 3] bcast_S8x256_S1x1x8x256_2_3 (shapeCast _ x2 shapeCasts_S1x8x256_S8x256))))
    shapeCasts_S32x8x8x256_S32x8x2048) (mulf (shapeCast _ (extractStridedSlice S256x2048 ![0, 6144] x0 slices_S256x15360_S256x2048_0_6144)
    shapeCasts_S256x2048_S32x8x2048) (Host.divf (broadcastInDim S32x8x2048 ![] bcast_S_S32x8x2048 (constant S_ .f32 0x3F800000#32)) (addf
    (broadcastInDim S32x8x2048 ![] bcast_S_S32x8x2048 (constant S_ .f32 0x3F800000#32)) (Host.exp (Host.negf (shapeCast _ (extractStridedSlice
    S256x2048 ![0, 6144] x0 slices_S256x15360_S256x2048_0_6144) shapeCasts_S256x2048_S32x8x2048))))))) shapeCasts_S32x8x2048_S256x2048

theorem lg_eq (h : Fin 8) : lgT (ix1 h) = lg h := by
  unfold lgT
  pointwise
  rfl

theorem dec_eq (h : Fin 8) (i j : Fin 8) : dcT (ix3 h i j) = decT h (up i) (up j) := by
  unfold dcT
  pointwise
  rw [lg_eq]
  rfl

theorem qd_eq (h : Fin 8) (i : Fin 8) : qdt (ix2 i h) = qdT h (up i) := by
  unfold qdt
  pointwise
  rw [lg_eq]
  rfl

theorem kd_eq (h : Fin 8) (i : Fin 8) : kdt (ix2 i h) = kdS h i.val := by
  unfold kdt
  pointwise
  rw [lg_eq]
  rfl

theorem gc_eq (h : Fin 8) : gct (ix1 h) = gcS h := by
  unfold gct
  pointwise
  rw [lg_eq]
  rfl

/-- Equal places of the projected rows. -/
theorem zs_ix (Z : (⟨2, ![256, 15360]⟩ : Shape).Idx → EReal) {r r' : Fin 256} {q q' : Fin 15360} (hr : r.val = r'.val) (hq : q.val = q'.val) :
    Z (ix2 r q) = Z (ix2 r' q') := by
  rw [Fin.ext hr, Fin.ext hq]

variable (x0 : Vec Ideal S256x15360 .f32) (x1 : Vec Ideal S1x32x8x256x256 .f32) (x2 : Vec Ideal S1x8x256 .f32)

theorem st_at (b : Fin 32) (h : Fin 8) (d e : Fin 256) : stT x0 x1 (ix4 b h d e) = stS x0 x1 b h d e := by
  unfold stT
  pointwise
  rw [gc_eq]
  unfold stS headS8 zcutS
  congr 1
  refine Finset.sum_congr rfl fun j _ => ?_
  rw [kd_eq]
  congr 1
  · congr 1
    exact zs_ix x0 (by first | omega | (dsimp only <;> omega)) (by first | omega | (dsimp only <;> omega))
  · exact zs_ix x0 (by first | omega | (dsimp only <;> omega)) (by first | omega | (dsimp only <;> omega))

theorem out_at (b : Fin 32) (i : Fin 8) (h : Fin 8) (e : Fin 256) : outT x0 x1 (ix4 b i h e) = outS x0 x1 b h i e := by
  unfold outT
  pointwise
  rw [qd_eq]
  unfold outS headO8 zcutS
  congr 1
  · refine Finset.sum_congr rfl fun j _ => ?_
    rw [mul_comm, dec_eq]
    congr 1
    · congr 1
      refine Finset.sum_congr rfl fun d _ => ?_
      congr 1
      · exact zs_ix x0 (by first | omega | (dsimp only <;> omega)) (by first | omega | (dsimp only <;> omega))
      · exact zs_ix x0 (by first | omega | (dsimp only <;> omega)) (by first | omega | (dsimp only <;> omega))
    · exact zs_ix x0 (by first | omega | (dsimp only <;> omega)) (by first | omega | (dsimp only <;> omega))
  · congr 1
    refine Finset.sum_congr rfl fun d _ => ?_
    rw [mul_comm]
    congr 1
    exact zs_ix x0 (by first | omega | (dsimp only <;> omega)) (by first | omega | (dsimp only <;> omega))

theorem cen_at (o : FVec Ideal S32x8x8x256 .f32) (b : Fin 32) (i : Fin 8) (h : Fin 8) (e : Fin 256) :
    cenT o (ix4 b i h e) = o (ix4 b i h e) - mean (fun x => o (ix4 b i h x)) := by
  unfold cenT
  pointwise
  simp only [mean]

theorem y_at (w : FVec Ideal S32x8x8x256 .f32) (r : Fin 256) (q : Fin 2048) (b : Fin 32) (i : Fin 8) (h : Fin 8) (e : Fin 256)
    (hr : r.val = 8 * b.val + i.val) (hq : q.val = 256 * h.val + e.val) :
    yT x0 w x2 (ix2 r q) = w (ix4 b i h e) * Ideal.rsqrt (mean (fun x => w (ix4 b i h x) * w (ix4 b i h x)) + Ideal.ofBits .f32 0x3727C5AC#32)
      * x2 (ix3 0 h e) * (zcutS x0 3 b h i e * Ideal.div 1 (1 + Ideal.exp (-zcutS x0 3 b h i e))) := by
  unfold yT
  pointwise
  have fb : (⟨r.val / 8, by omega⟩ : Fin 32) = b := Fin.ext (by dsimp only; omega)
  have fi : (⟨r.val % 8, by omega⟩ : Fin 8) = i := Fin.ext (by dsimp only; omega)
  have fh : (⟨q.val / 256, by omega⟩ : Fin 8) = h := Fin.ext (by dsimp only; omega)
  have fe : (⟨q.val % 256, by omega⟩ : Fin 256) = e := Fin.ext (by dsimp only; omega)
  simp only [fb, fi, fh, fe]
  have hz : x0 (ix2 r ⟨6144 + q.val, by omega⟩) = zcutS x0 3 b h i e := by
    unfold zcutS
    exact zs_ix x0 hr (by show 6144 + q.val = 2048 * 3 + 256 * h.val + e.val; omega)
  rw [hz]
  rfl

/-- The first result's term is the chunk's outputs. -/
theorem y_eq : yT x0 (cenT (outT x0 x1)) x2 = resYS x0 x1 x2 := by
  funext x
  obtain ⟨r, q, rfl⟩ : ∃ (r : Fin 256) (q : Fin 2048), x = ix2 r q := ⟨x 0, x 1, eq_ix2 x⟩
  obtain ⟨b, hb⟩ : ∃ b : Fin 32, r.val / 8 = b.val := ⟨⟨_, by omega⟩, rfl⟩
  obtain ⟨i, hi⟩ : ∃ i : Fin 8, r.val % 8 = i.val := ⟨⟨_, by omega⟩, rfl⟩
  obtain ⟨h, hh⟩ : ∃ h : Fin 8, q.val / 256 = h.val := ⟨⟨_, by omega⟩, rfl⟩
  obtain ⟨e, he⟩ : ∃ e : Fin 256, q.val % 256 = e.val := ⟨⟨_, by omega⟩, rfl⟩
  rw [y_at x0 x2 _ r q b i h e (by omega) (by omega), resYS_at x0 x1 x2 b i h e r q (by omega) (by omega)]
  simp only [cen_at, out_at]
  rfl

/-- The second result's term is the chunk's states. -/
theorem s_eq : stT x0 x1 = resSS x0 x1 := by
  funext x
  obtain ⟨b, h, d, e, rfl⟩ : ∃ (b : Fin 32) (h : Fin 8) (d e : Fin 256), x = ix4 b h d e := ⟨x 0, x 1, x 2, x 3, eq_ix4 x⟩
  exact st_at x0 x1 b h d e

variable (m : (ℓ : Loc nD τ sig) → Buf (Elt Ideal) ℓ) (ρ : Dev nD → PrngReg)

theorem res_y (c : Dev nD) : res_main_v97 m c = yT (m ((c.tc : Thread nD τ).loc main_arg0))
    (cenT (outT (m ((c.tc : Thread nD τ).loc main_arg0)) (m ((c.tc : Thread nD τ).loc main_arg1)))) (m ((c.tc : Thread nD τ).loc main_arg2)) := by
  unfold res_main_v97 yT cenT outT dcT qdt lgT
  rfl

/-- The reference's run: both results as the chunk's, the arguments unchanged. -/
theorem run : θ_run (defs (F := Ideal)) (onTc (τ := τ) (main (F := Ideal))) ⟨m, fun _ => 0, ρ⟩ fun r => ∀ c : Dev nD,
      r.2.mem ((c.tc : Thread nD τ).loc main_v97) = resYS (m ((c.tc : Thread nD τ).loc main_arg0)) (m ((c.tc : Thread nD τ).loc main_arg1))
          (m ((c.tc : Thread nD τ).loc main_arg2))
      ∧ r.2.mem ((c.tc : Thread nD τ).loc main_v68) = resSS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((res_y m c).trans (y_eq _ _ _)),
      (h c).2.1.trans ((show _ = stT _ _ by unfold stT gct kdt lgT; rfl).trans (s_eq _ _)), (h c).2.2⟩)
    (Cert.Reference6Ideal.Value.run m ρ)

end Cert.Own.RetSRef

end
-- ==== Proof.MixSPay.lean ====
/- What the mixing kernel's body computes on the sample's rows from the blocks it loads, read at an index. -/
module

public import proofs.«01_k».proof.Proof.LaySpec
public import proofs.«01_k».proof.Proof.Gen.Kernel7Ideal.Skeleton
public import Idealize.ShloMosaic.Lib.Pointwise

@[expose] public section

set_option maxRecDepth 16384

noncomputable section

namespace Cert.Kernel7Ideal.Val

open Idealize.ShloMosaic Idealize.ShloMosaic.TcCoe Idealize.SL.Sem
open Cert.Kernel7Ideal Cert.Kernel7Ideal.Gen Cert.Own.Lay

section mix
variable (v0 : Vec Ideal S256x2048 .f32) (v1 : Vec Ideal S256x1024 .f32) (v2 : Vec Ideal S2048x512 .bf16)
  (v5 : Vec Ideal S1024x512 .bf16) (v8 v18 : Vec Ideal S256x512 .f32) (i : Fin 256) (q : Fin 512)

/-- One entry of the gated mix over the loaded blocks. -/
def mx : EReal := logi (v8 (ix2 i q)) * (∑ k : Fin 2048, v0 (ix2 i k) * v2 (ix2 k q))
  + logi (v18 (ix2 i q)) * (∑ k : Fin 1024, v1 (ix2 i k) * v5 (ix2 k q))

/-! The four column slices the body stores one after another hold that entry. -/

theorem col0_at : k0_pay5 v0 v1 v2 v5 v8 v18 (ix2 i q) = mx v0 v1 v2 v5 v8 v18 i q := by
  unfold k0_pay5 k0_pay3 k0_pay4
  pointwise
  simp only [mx, logi, zero_sub]

theorem col1_at : k0_pay6 (k0_pay3 v0) (k0_pay4 v1) v2 v5 v8 v18 (ix2 i q) = mx v0 v1 v2 v5 v8 v18 i q := by
  unfold k0_pay6 k0_pay3 k0_pay4
  pointwise
  simp only [mx, logi, zero_sub]

theorem col2_at : k0_pay9 (k0_pay7 (k0_pay3 v0) v2) (k0_pay8 (k0_pay4 v1) v5) v8 v18 (ix2 i q)
    = mx v0 v1 v2 v5 v8 v18 i q := by
  unfold k0_pay9 k0_pay7 k0_pay8 k0_pay3 k0_pay4
  pointwise
  simp only [mx, logi, zero_sub]

theorem col3_at : k0_pay12 (k0_pay10 (k0_pay4 v1) v5) (k0_pay11 (k0_pay3 v0) v2 v8) v18 (ix2 i q)
    = mx v0 v1 v2 v5 v8 v18 i q := by
  unfold k0_pay12 k0_pay10 k0_pay11 k0_pay3 k0_pay4
  pointwise
  simp only [mx, logi, zero_sub]

end mix

section norm
variable (g b : Vec Ideal S1x2048 .f32) (x w : Vec Ideal S256x2048 .f32) (mm : Vec Ideal S256x2048 .bf16)
  (wo : Vec Ideal S2048x2048 .bf16) (i : Fin 256) (e : Fin 2048)

/-- The centred row before the norm's scale. -/
theorem pay15_at : k0_pay15 x mm wo (ix2 i e)
    = (fun y => al * x (ix2 i y) + ∑ d, mm (ix2 i d) * wo (ix2 d y)) e
      - mean (fun y => al * x (ix2 i y) + ∑ d, mm (ix2 i d) * wo (ix2 d y)) := by
  unfold k0_pay15
  pointwise
  simp only [mean, al]

/-- The sum of the centred row's squares. -/
theorem pay16_at : k0_pay16 x mm wo (ix2 i 0) = ∑ y, k0_pay15 x mm wo (ix2 i y) * k0_pay15 x mm wo (ix2 i y) := by
  unfold k0_pay16
  pointwise

/-- The norm's scale, gain and offset on a centred row `w` with its sum of squares `s`. -/
theorem pay1_at (s : FVec Ideal S256x1 .f32) : k0_pay1 (k0_pay13 g) (k0_pay14 b) w s k0_pay17 (ix2 i e)
    = w (ix2 i e) * Ideal.rsqrt (Ideal.div (s (ix2 i 0)) (Ideal.ofBits .f32 0x45000000#32) + Ideal.ofBits .f32 0x3727C5AC#32) * g (ix2 0 e)
      + b (ix2 0 e) := by
  unfold k0_pay13 k0_pay14 k0_pay17
  unfold k0_pay1
  pointwise

/-- The row the body stores as its first result … -/
theorem h_pay : k0_pay1 (k0_pay13 g) (k0_pay14 b) (k0_pay15 x mm wo) (k0_pay16 x mm wo) k0_pay17 (ix2 i e)
    = hRow (fun y => x (ix2 i y)) (fun y => mm (ix2 i y)) (fun d y => wo (ix2 d y)) (fun y => g (ix2 0 y)) (fun y => b (ix2 0 y)) e := by
  rw [pay1_at, pay16_at]
  simp only [pay15_at]
  rfl

/-- … and as its second: over the extended reals rounding leaves it the same row. -/
theorem hb_pay : k0_pay2 (k0_pay13 g) (k0_pay14 b) (k0_pay15 x mm wo) (k0_pay16 x mm wo) k0_pay17 (ix2 i e)
    = hRow (fun y => x (ix2 i y)) (fun y => mm (ix2 i y)) (fun d y => wo (ix2 d y)) (fun y => g (ix2 0 y)) (fun y => b (ix2 0 y)) e := by
  rw [← h_pay]
  rfl

end norm

end Cert.Kernel7Ideal.Val

end
-- ==== Proof.MixSKernel.lean ====
/- The mixing kernel on the sample, read: the one grid point takes the 256 rows, fills its scratch with their gated mix, and stores the rows'
   normalised sums in both results. -/
module

public import proofs.«01_k».proof.Proof.MixSPay
public import proofs.«01_k».proof.Proof.MixKernel
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.Kernel7Ideal.Val

open Idealize.ShloMosaic Idealize.ShloMosaic.TcCoe Idealize.SL.Sem
open Cert.Kernel7Ideal Cert.Kernel7Ideal.Gen Cert.Own.Lay
open Cert.KernelIdeal.Val (canon_hit canon_miss)
open Cert.Kernel2Ideal.Val (ld2)

variable (m : (ℓ : Loc nD τ sig) → Buf (Elt Ideal) ℓ) (c : Dev nD)

/-! The kernel's arguments: the residual rows, the projected rows, the two branches' rows, the three matrices, the gains and
    the offsets. -/

abbrev xA : S32x8x2048.Idx → EReal := m ((c.tc : Thread nD τ).loc main_arg0)
abbrev zA : S256x15360.Idx → EReal := m ((c.tc : Thread nD τ).loc main_arg1)
abbrev onA : S256x2048.Idx → EReal := m ((c.tc : Thread nD τ).loc main_arg2)
abbrev oaA : S256x1024.Idx → EReal := m ((c.tc : Thread nD τ).loc main_arg3)
abbrev wrA : S1x2048x2048.Idx → EReal := m ((c.tc : Thread nD τ).loc main_arg4)
abbrev waA : S1x1024x2048.Idx → EReal := m ((c.tc : Thread nD τ).loc main_arg5)
abbrev woA : S1x2048x2048.Idx → EReal := m ((c.tc : Thread nD τ).loc main_arg6)
abbrev gA : S1x2048.Idx → EReal := m ((c.tc : Thread nD τ).loc main_arg7)
abbrev bA : S1x2048.Idx → EReal := m ((c.tc : Thread nD τ).loc main_arg8)

/-! ## The tables the host computes -/

theorem x_eq (r : Fin 256) (e : Fin 2048) : (V m c main_v6 : S256x2048.Idx → EReal) (ix2 r e) = resXS (xA m c) r e := by
  show StableHlo.after _ _ _ _ = _
  simp only [hostOps0]
  after_results
  pointwise
  try rfl

theorem wr_eq (k e : Fin 2048) : (V m c main_v1 : S2048x2048.Idx → EReal) (ix2 k e) = wrA m c (ix3 0 k e) := by
  show StableHlo.after _ _ _ _ = _
  simp only [hostOps0]
  after_results
  pointwise
  try rfl

theorem wa_eq (k : Fin 1024) (e : Fin 2048) : (V m c main_v3 : S1024x2048.Idx → EReal) (ix2 k e) = waA m c (ix3 0 k e) := by
  show StableHlo.after _ _ _ _ = _
  simp only [hostOps0]
  after_results
  pointwise
  try rfl

theorem wo_eq (k e : Fin 2048) : (V m c main_v5 : S2048x2048.Idx → EReal) (ix2 k e) = woA m c (ix3 0 k e) := by
  show StableHlo.after _ _ _ _ = _
  simp only [hostOps0]
  after_results
  pointwise
  try rfl

theorem g_eq (e : Fin 2048) : (V m c main_v8 : S1x2048.Idx → EReal) (ix2 0 e) = gA m c (ix2 0 e) := by
  show StableHlo.after _ _ _ _ = _
  simp only [hostOps0]
  after_results
  pointwise
  try rfl

theorem b_eq (e : Fin 2048) : (V m c main_v10 : S1x2048.Idx → EReal) (ix2 0 e) = bA m c (ix2 0 e) := by
  show StableHlo.after _ _ _ _ = _
  simp only [hostOps0]
  after_results
  pointwise
  try rfl

/-! ## The blocks of a grid point -/

/-- A row of a grid point. -/
def rB (t : Fin cfg0.N) (i : Fin 256) : Fin 256 := ⟨256 * t.val + i.val, by have h : t.val < 1 := lt_of_lt_of_eq t.isLt N_0; omega⟩

theorem wz : ∀ t : Fin grid0.N,
    (win0_0.index t 0 = t.val ∧ win0_0.index t 1 = 0) ∧ (win0_1.index t 0 = t.val ∧ win0_1.index t 1 = 0)
    ∧ (win0_4.index t 0 = t.val ∧ win0_4.index t 1 = 11) ∧ (win0_5.index t 0 = t.val ∧ win0_5.index t 1 = 12)
    ∧ (win0_6.index t 0 = t.val ∧ win0_6.index t 1 = 13) ∧ (win0_7.index t 0 = t.val ∧ win0_7.index t 1 = 14)
    ∧ (win0_9.index t 0 = t.val ∧ win0_9.index t 1 = 0) := by
  decide +kernel

theorem wt : ∀ t : Fin grid0.N,
    (win0_2.index t 0 = 0 ∧ win0_2.index t 1 = 0) ∧ (win0_3.index t 0 = 0 ∧ win0_3.index t 1 = 0)
    ∧ (win0_8.index t 0 = 0 ∧ win0_8.index t 1 = 0) ∧ (win0_10.index t 0 = 0 ∧ win0_10.index t 1 = 0)
    ∧ (win0_11.index t 0 = 0 ∧ win0_11.index t 1 = 0)
    ∧ (win0_12.index t 0 = t.val ∧ win0_12.index t 1 = 0) ∧ (win0_13.index t 0 = t.val ∧ win0_13.index t 1 = 0) := by
  decide +kernel

theorem blk_on (t : Fin cfg0.N) (i : Fin 256) (k : Fin 2048) : (iblk m c 0 t : S256x2048.Idx → EReal) (ix2 i k) = onA m c (ix2 (rB t i) k) := by
  unfold iblk
  rw [View.read_apply, show V m c (Pipeline.arrRef spec0 0) = V m c main_arg2 from rfl, V_main_arg2]
  show onA m c _ = _
  congr 1
  funext a
  refine Fin.ext ?_
  have hw := wz t
  match a with
  | ⟨0, _⟩ =>
    show win0_0.index t 0 * 256 + 1 * i.val = 256 * t.val + i.val
    omega
  | ⟨1, _⟩ =>
    show win0_0.index t 1 * 2048 + 1 * k.val = k.val
    omega

theorem blk_oa (t : Fin cfg0.N) (i : Fin 256) (k : Fin 1024) : (iblk m c 1 t : S256x1024.Idx → EReal) (ix2 i k) = oaA m c (ix2 (rB t i) k) := by
  unfold iblk
  rw [View.read_apply, show V m c (Pipeline.arrRef spec0 1) = V m c main_arg3 from rfl, V_main_arg3]
  show oaA m c _ = _
  congr 1
  funext a
  refine Fin.ext ?_
  have hw := wz t
  match a with
  | ⟨0, _⟩ =>
    show win0_1.index t 0 * 256 + 1 * i.val = 256 * t.val + i.val
    omega
  | ⟨1, _⟩ =>
    show win0_1.index t 1 * 1024 + 1 * k.val = k.val
    omega

theorem blk_wr (t : Fin cfg0.N) (k e : Fin 2048) : (iblk m c 2 t : S2048x2048.Idx → EReal) (ix2 k e) = wrA m c (ix3 0 k e) := by
  rw [← wr_eq m c k e]
  unfold iblk
  rw [View.read_apply]
  show (V m c main_v1 : S2048x2048.Idx → EReal) _ = _
  congr 1
  funext a
  refine Fin.ext ?_
  have hw := wt t
  match a with
  | ⟨0, _⟩ =>
    show win0_2.index t 0 * 2048 + 1 * k.val = k.val
    omega
  | ⟨1, _⟩ =>
    show win0_2.index t 1 * 2048 + 1 * e.val = e.val
    omega

theorem blk_wa (t : Fin cfg0.N) (k : Fin 1024) (e : Fin 2048) : (iblk m c 3 t : S1024x2048.Idx → EReal) (ix2 k e) = waA m c (ix3 0 k e) := by
  rw [← wa_eq m c k e]
  unfold iblk
  rw [View.read_apply]
  show (V m c main_v3 : S1024x2048.Idx → EReal) _ = _
  congr 1
  funext a
  refine Fin.ext ?_
  have hw := wt t
  match a with
  | ⟨0, _⟩ =>
    show win0_3.index t 0 * 1024 + 1 * k.val = k.val
    omega
  | ⟨1, _⟩ =>
    show win0_3.index t 1 * 2048 + 1 * e.val = e.val
    omega

theorem blk_gr0 (t : Fin cfg0.N) (i : Fin 256) (q : Fin 1024) (e : Fin 2048) (he : e.val = 0 + q.val) : (iblk m c 4 t : S256x1024.Idx → EReal) (ix2 i q) = zA m c (ix2 (rB t i) (zc 11264 (by decide) e)) := by
  unfold iblk
  rw [View.read_apply, show V m c (Pipeline.arrRef spec0 4) = V m c main_arg1 from rfl, V_main_arg1]
  show zA m c _ = _
  congr 1
  funext a
  refine Fin.ext ?_
  have hw := wz t
  match a with
  | ⟨0, _⟩ =>
    show win0_4.index t 0 * 256 + 1 * i.val = 256 * t.val + i.val
    omega
  | ⟨1, _⟩ =>
    show win0_4.index t 1 * 1024 + 1 * q.val = 11264 + e.val
    omega

theorem blk_gr1 (t : Fin cfg0.N) (i : Fin 256) (q : Fin 1024) (e : Fin 2048) (he : e.val = 1024 + q.val) : (iblk m c 5 t : S256x1024.Idx → EReal) (ix2 i q) = zA m c (ix2 (rB t i) (zc 11264 (by decide) e)) := by
  unfold iblk
  rw [View.read_apply, show V m c (Pipeline.arrRef spec0 5) = V m c main_arg1 from rfl, V_main_arg1]
  show zA m c _ = _
  congr 1
  funext a
  refine Fin.ext ?_
  have hw := wz t
  match a with
  | ⟨0, _⟩ =>
    show win0_5.index t 0 * 256 + 1 * i.val = 256 * t.val + i.val
    omega
  | ⟨1, _⟩ =>
    show win0_5.index t 1 * 1024 + 1 * q.val = 11264 + e.val
    omega

theorem blk_ga0 (t : Fin cfg0.N) (i : Fin 256) (q : Fin 1024) (e : Fin 2048) (he : e.val = 0 + q.val) : (iblk m c 6 t : S256x1024.Idx → EReal) (ix2 i q) = zA m c (ix2 (rB t i) (zc 13312 (by decide) e)) := by
  unfold iblk
  rw [View.read_apply, show V m c (Pipeline.arrRef spec0 6) = V m c main_arg1 from rfl, V_main_arg1]
  show zA m c _ = _
  congr 1
  funext a
  refine Fin.ext ?_
  have hw := wz t
  match a with
  | ⟨0, _⟩ =>
    show win0_6.index t 0 * 256 + 1 * i.val = 256 * t.val + i.val
    omega
  | ⟨1, _⟩ =>
    show win0_6.index t 1 * 1024 + 1 * q.val = 13312 + e.val
    omega

theorem blk_ga1 (t : Fin cfg0.N) (i : Fin 256) (q : Fin 1024) (e : Fin 2048) (he : e.val = 1024 + q.val) : (iblk m c 7 t : S256x1024.Idx → EReal) (ix2 i q) = zA m c (ix2 (rB t i) (zc 13312 (by decide) e)) := by
  unfold iblk
  rw [View.read_apply, show V m c (Pipeline.arrRef spec0 7) = V m c main_arg1 from rfl, V_main_arg1]
  show zA m c _ = _
  congr 1
  funext a
  refine Fin.ext ?_
  have hw := wz t
  match a with
  | ⟨0, _⟩ =>
    show win0_7.index t 0 * 256 + 1 * i.val = 256 * t.val + i.val
    omega
  | ⟨1, _⟩ =>
    show win0_7.index t 1 * 1024 + 1 * q.val = 13312 + e.val
    omega

theorem blk_wo (t : Fin cfg0.N) (k e : Fin 2048) : (iblk m c 8 t : S2048x2048.Idx → EReal) (ix2 k e) = woA m c (ix3 0 k e) := by
  rw [← wo_eq m c k e]
  unfold iblk
  rw [View.read_apply]
  show (V m c main_v5 : S2048x2048.Idx → EReal) _ = _
  congr 1
  funext a
  refine Fin.ext ?_
  have hw := wt t
  match a with
  | ⟨0, _⟩ =>
    show win0_8.index t 0 * 2048 + 1 * k.val = k.val
    omega
  | ⟨1, _⟩ =>
    show win0_8.index t 1 * 2048 + 1 * e.val = e.val
    omega

theorem blk_x (t : Fin cfg0.N) (i : Fin 256) (e : Fin 2048) : (iblk m c 9 t : S256x2048.Idx → EReal) (ix2 i e) = resXS (xA m c) (rB t i) e := by
  rw [← x_eq m c (rB t i) e]
  unfold iblk
  rw [View.read_apply]
  show (V m c main_v6 : S256x2048.Idx → EReal) _ = _
  congr 1
  funext a
  refine Fin.ext ?_
  have hw := wz t
  match a with
  | ⟨0, _⟩ =>
    show win0_9.index t 0 * 256 + 1 * i.val = 256 * t.val + i.val
    omega
  | ⟨1, _⟩ =>
    show win0_9.index t 1 * 2048 + 1 * e.val = e.val
    omega

theorem blk_g (t : Fin cfg0.N) (e : Fin 2048) : (iblk m c 10 t : S1x2048.Idx → EReal) (ix2 0 e) = gA m c (ix2 0 e) := by
  rw [← g_eq m c e]
  unfold iblk
  rw [View.read_apply]
  show (V m c main_v8 : S1x2048.Idx → EReal) _ = _
  congr 1
  funext a
  refine Fin.ext ?_
  have hw := wt t
  match a with
  | ⟨0, _⟩ =>
    show win0_10.index t 0 * 1 + 1 * 0 = 0
    omega
  | ⟨1, _⟩ =>
    show win0_10.index t 1 * 2048 + 1 * e.val = e.val
    omega

theorem blk_b (t : Fin cfg0.N) (e : Fin 2048) : (iblk m c 11 t : S1x2048.Idx → EReal) (ix2 0 e) = bA m c (ix2 0 e) := by
  rw [← b_eq m c e]
  unfold iblk
  rw [View.read_apply]
  show (V m c main_v10 : S1x2048.Idx → EReal) _ = _
  congr 1
  funext a
  refine Fin.ext ?_
  have hw := wt t
  match a with
  | ⟨0, _⟩ =>
    show win0_11.index t 0 * 1 + 1 * 0 = 0
    omega
  | ⟨1, _⟩ =>
    show win0_11.index t 1 * 2048 + 1 * e.val = e.val
    omega

/-! ## The mix in the scratch -/

/-- A row of the gated mix of the arguments. -/
abbrev mixA (r : Fin 256) : Fin 2048 → EReal :=
  mixR (fun e => zA m c (ix2 r (zc 11264 (by decide) e))) (fun e => zA m c (ix2 r (zc 13312 (by decide) e)))
    (fun k => onA m c (ix2 r k)) (fun k => oaA m c (ix2 r k)) (fun k e => wrA m c (ix3 0 k e)) (fun k e => waA m c (ix3 0 k e))

/-- A row of the first result. -/
abbrev hA (r : Fin 256) : Fin 2048 → EReal :=
  hRow (resXS (xA m c) r) (mixA m c r) (fun d e => woA m c (ix3 0 d e)) (fun e => gA m c (ix2 0 e)) (fun e => bA m c (ix2 0 e))

/-- One slice's entry: the loaded blocks' entry is the mix's, where the gates' slices hold the gates of its column. -/
theorem mx_eq (t : Fin cfg0.N) (i : Fin 256) (q : Fin 512) (o : ℕ) (inb1 inb2) (G H : Vec Ideal S256x512 .f32) (e : Fin 2048)
    (he : e.val = o + q.val) (hG : G (ix2 i q) = zA m c (ix2 (rB t i) (zc 11264 (by decide) e)))
    (hH : H (ix2 i q) = zA m c (ix2 (rB t i) (zc 13312 (by decide) e))) :
    mx (iblk m c 0 t) (iblk m c 1 t) (View.ld (iblk m c 2 t) (Rect.unit ![0, o] ![2048, 512] inb1))
      (View.ld (iblk m c 3 t) (Rect.unit ![0, o] ![1024, 512] inb2)) G H i q = mixA m c (rB t i) e := by
  have h1 : ∀ k : Fin 2048, View.ld (iblk m c 2 t) (Rect.unit ![0, o] ![2048, 512] inb1) (ix2 k q) = wrA m c (ix3 0 k e) := fun k => by
    rw [← blk_wr m c t k e]
    refine (ld2 (iblk m c 2 t) o inb1 k q).trans ?_
    congr 2
    exact Fin.ext he.symm
  have h2 : ∀ k : Fin 1024, View.ld (iblk m c 3 t) (Rect.unit ![0, o] ![1024, 512] inb2) (ix2 k q) = waA m c (ix3 0 k e) := fun k => by
    rw [← blk_wa m c t k e]
    refine (ld2 (iblk m c 3 t) o inb2 k q).trans ?_
    congr 2
    exact Fin.ext he.symm
  unfold mx
  simp only [h1, h2, hG, hH, blk_on, blk_oa]
  rfl

/-- The four stores of the mix. -/
abbrev mixL (t : Fin cfg0.N) : List (View.Piece (Elt Ideal) S256x2048 .bf16) :=
  [⟨Rect.unit ![0, 1536] ![256, 512] inb_S256x2048_S256x512_0_1536,
      k0_pay12 (k0_pay10 (k0_pay4 (iblk m c 1 t)) (View.ld (iblk m c 3 t) (Rect.unit ![0, 1536] ![1024, 512] inb_S1024x2048_S1024x512_0_1536)))
        (k0_pay11 (k0_pay3 (iblk m c 0 t)) (View.ld (iblk m c 2 t) (Rect.unit ![0, 1536] ![2048, 512] inb_S2048x2048_S2048x512_0_1536)) (View.ld (iblk m c 5 t) (Rect.unit ![0, 512] ![256, 512] inb_S256x1024_S256x512_0_512)))
        (View.ld (iblk m c 7 t) (Rect.unit ![0, 512] ![256, 512] inb_S256x1024_S256x512_0_512))⟩,
    ⟨Rect.unit ![0, 1024] ![256, 512] inb_S256x2048_S256x512_0_1024,
      k0_pay9 (k0_pay7 (k0_pay3 (iblk m c 0 t)) (View.ld (iblk m c 2 t) (Rect.unit ![0, 1024] ![2048, 512] inb_S2048x2048_S2048x512_0_1024)))
        (k0_pay8 (k0_pay4 (iblk m c 1 t)) (View.ld (iblk m c 3 t) (Rect.unit ![0, 1024] ![1024, 512] inb_S1024x2048_S1024x512_0_1024)))
        (View.ld (iblk m c 5 t) (Rect.unit ![0, 0] ![256, 512] inb_S256x1024_S256x512_0_0))
        (View.ld (iblk m c 7 t) (Rect.unit ![0, 0] ![256, 512] inb_S256x1024_S256x512_0_0))⟩,
    ⟨Rect.unit ![0, 512] ![256, 512] inb_S256x2048_S256x512_0_512,
      k0_pay6 (k0_pay3 (iblk m c 0 t)) (k0_pay4 (iblk m c 1 t)) (View.ld (iblk m c 2 t) (Rect.unit ![0, 512] ![2048, 512] inb_S2048x2048_S2048x512_0_512))
        (View.ld (iblk m c 3 t) (Rect.unit ![0, 512] ![1024, 512] inb_S1024x2048_S1024x512_0_512))
        (View.ld (iblk m c 4 t) (Rect.unit ![0, 512] ![256, 512] inb_S256x1024_S256x512_0_512)) (View.ld (iblk m c 6 t) (Rect.unit ![0, 512] ![256, 512] inb_S256x1024_S256x512_0_512))⟩,
    ⟨Rect.unit ![0, 0] ![256, 512] inb_S256x2048_S256x512_0_0,
      k0_pay5 (iblk m c 0 t) (iblk m c 1 t) (View.ld (iblk m c 2 t) (Rect.unit ![0, 0] ![2048, 512] inb_S2048x2048_S2048x512_0_0))
        (View.ld (iblk m c 3 t) (Rect.unit ![0, 0] ![1024, 512] inb_S1024x2048_S1024x512_0_0))
        (View.ld (iblk m c 4 t) (Rect.unit ![0, 0] ![256, 512] inb_S256x1024_S256x512_0_0)) (View.ld (iblk m c 6 t) (Rect.unit ![0, 0] ![256, 512] inb_S256x1024_S256x512_0_0))⟩]

theorem mixL_at (t : Fin cfg0.N) (i : Fin 256) (e : Fin 2048) :
    View.canon (mixL m c t) (ix2 i e) = mixA m c (rB t i) e := by
  by_cases h3 : 1536 ≤ e.val
  · obtain ⟨q, hq⟩ : ∃ q : Fin 512, e.val = 1536 + q.val := ⟨⟨e.val - 1536, by omega⟩, by dsimp only; omega⟩
    refine (canon_hit (ix2 i q) fun a => by
      match a with
      | ⟨0, _⟩ => show i.val = 0 + i.val; omega
      | ⟨1, _⟩ => exact hq).trans ?_
    refine (col3_at ..).trans (mx_eq m c t i q 1536 _ _ _ _ e hq ?_ ?_)
    · exact (ld2 (iblk m c 5 t) 512 _ i q).trans (blk_gr1 m c t i _ e (by dsimp only; omega))
    · exact (ld2 (iblk m c 7 t) 512 _ i q).trans (blk_ga1 m c t i _ e (by dsimp only; omega))
  refine (canon_miss ⟨1, by decide⟩ (.inl (by show e.val < 1536; omega))).trans ?_
  by_cases h2 : 1024 ≤ e.val
  · obtain ⟨q, hq⟩ : ∃ q : Fin 512, e.val = 1024 + q.val := ⟨⟨e.val - 1024, by omega⟩, by dsimp only; omega⟩
    refine (canon_hit (ix2 i q) fun a => by
      match a with
      | ⟨0, _⟩ => show i.val = 0 + i.val; omega
      | ⟨1, _⟩ => exact hq).trans ?_
    refine (col2_at ..).trans (mx_eq m c t i q 1024 _ _ _ _ e hq ?_ ?_)
    · exact (ld2 (iblk m c 5 t) 0 _ i q).trans (blk_gr1 m c t i _ e (by dsimp only; omega))
    · exact (ld2 (iblk m c 7 t) 0 _ i q).trans (blk_ga1 m c t i _ e (by dsimp only; omega))
  refine (canon_miss ⟨1, by decide⟩ (.inl (by show e.val < 1024; omega))).trans ?_
  by_cases h1 : 512 ≤ e.val
  · obtain ⟨q, hq⟩ : ∃ q : Fin 512, e.val = 512 + q.val := ⟨⟨e.val - 512, by omega⟩, by dsimp only; omega⟩
    refine (canon_hit (ix2 i q) fun a => by
      match a with
      | ⟨0, _⟩ => show i.val = 0 + i.val; omega
      | ⟨1, _⟩ => exact hq).trans ?_
    refine (col1_at ..).trans (mx_eq m c t i q 512 _ _ _ _ e hq ?_ ?_)
    · exact (ld2 (iblk m c 4 t) 512 _ i q).trans (blk_gr0 m c t i _ e (by dsimp only; omega))
    · exact (ld2 (iblk m c 6 t) 512 _ i q).trans (blk_ga0 m c t i _ e (by dsimp only; omega))
  refine (canon_miss ⟨1, by decide⟩ (.inl (by show e.val < 512; omega))).trans ?_
  obtain ⟨q, hq⟩ : ∃ q : Fin 512, e.val = 0 + q.val := ⟨⟨e.val, by omega⟩, by dsimp only; omega⟩
  refine (canon_hit (ix2 i q) fun a => by
    match a with
    | ⟨0, _⟩ => show i.val = 0 + i.val; omega
    | ⟨1, _⟩ => exact hq).trans ?_
  refine (col0_at ..).trans (mx_eq m c t i q 0 _ _ _ _ e hq ?_ ?_)
  · exact (ld2 (iblk m c 4 t) 0 _ i q).trans (blk_gr0 m c t i _ e (by dsimp only; omega))
  · exact (ld2 (iblk m c 6 t) 0 _ i q).trans (blk_ga0 m c t i _ e (by dsimp only; omega))

/-- The four stores cover the scratch. -/
theorem mixL_cover (t : Fin cfg0.N) (y : S256x2048.Idx) : ∃ p ∈ mixL m c t, y ∈ p.fst.set := by
  obtain ⟨i, e, rfl⟩ : ∃ (i : Fin 256) (e : Fin 2048), y = ix2 i e := ⟨y 0, y 1, eq_ix2 y⟩
  have key : ∀ o : ℕ, ∀ inb, o ≤ e.val → e.val < o + 512 →
      ix2 i e ∈ (Rect.unit (s := S256x2048) ![0, o] ![256, 512] inb).set := fun o inb h1 h2 => by
    rw [Rect.mem_set_unit]
    intro a
    match a with
    | ⟨0, _⟩ => show 0 ≤ i.val ∧ i.val < 0 + 256; omega
    | ⟨1, _⟩ => show o ≤ e.val ∧ e.val < o + 512; omega
  by_cases h3 : 1536 ≤ e.val
  · exact ⟨_, .head _, key 1536 inb_S256x2048_S256x512_0_1536 h3 (by omega)⟩
  by_cases h2 : 1024 ≤ e.val
  · exact ⟨_, .tail _ (.head _), key 1024 inb_S256x2048_S256x512_0_1024 h2 (by omega)⟩
  by_cases h1 : 512 ≤ e.val
  · exact ⟨_, .tail _ (.tail _ (.head _)), key 512 inb_S256x2048_S256x512_0_512 h1 (by omega)⟩
  exact ⟨_, .tail _ (.tail _ (.tail _ (.head _))), key 0 inb_S256x2048_S256x512_0_0 (by omega) (by omega)⟩

/-- The whole scratch, loaded after the four stores. -/
theorem scr_at (t : Fin cfg0.N) (i : Fin 256) (e : Fin 2048) :
    View.ld (View.canon (mixL m c t)) (Rect.unit (s := S256x2048) ![0, 0] ![256, 2048] inb_S256x2048_S256x2048_0_0) (ix2 i e)
      = mixA m c (rB t i) e := by
  refine (ld2 (View.canon (mixL m c t)) 0 inb_S256x2048_S256x2048_0_0 i e).trans ?_
  rw [← mixL_at m c t i e]
  congr 2
  exact Fin.ext (Nat.zero_add _)

/-! ## The results -/

theorem h_row (t : Fin cfg0.N) (i : Fin 256) (e : Fin 2048) (X : Vec Ideal S256x2048 .bf16)
    (hX : ∀ y, X (ix2 i y) = mixA m c (rB t i) y) :
    hRow (fun y => (iblk m c 9 t : S256x2048.Idx → EReal) (ix2 i y)) (fun y => X (ix2 i y)) (fun d y => (iblk m c 8 t : S2048x2048.Idx → EReal) (ix2 d y))
      (fun y => (iblk m c 10 t : S1x2048.Idx → EReal) (ix2 0 y)) (fun y => (iblk m c 11 t : S1x2048.Idx → EReal) (ix2 0 y)) e = hA m c (rB t i) e := by
  simp only [blk_x, blk_wo, blk_g, blk_b, hX]

/-- What a grid point leaves in its first result block … -/
theorem h_out (t : Fin cfg0.N) (i : Fin 256) (e : Fin 2048) : (outsAt0 m c t).1 (ix2 i e) = hA m c (rB t i) e := by
  unfold outsAt0
  frame_out
  have hc := fun L => View.readCov_eq_canon_ld (Val := Elt Ideal) (View.whole cc0_scratch0) L
    (Rect.unit ![0, 0] ![256, 2048] inb_S256x2048_S256x2048_0_0)
  rw [h_pay, hc]
  · exact h_row m c t i e _ fun y => scr_at m c t i y
  · exact mixL_cover m c t

/-- … and in its second. -/
theorem hb_out (t : Fin cfg0.N) (i : Fin 256) (e : Fin 2048) : (outsAt0 m c t).2 (ix2 i e) = hA m c (rB t i) e := by
  unfold outsAt0
  frame_out
  have hc := fun L => View.readCov_eq_canon_ld (Val := Elt Ideal) (View.whole cc0_scratch0) L
    (Rect.unit ![0, 0] ![256, 2048] inb_S256x2048_S256x2048_0_0)
  rw [hb_pay, hc]
  · exact h_row m c t i e _ fun y => scr_at m c t i y
  · exact mixL_cover m c t

/-- The results' array. -/
def res : S256x2048.Idx → EReal :=
  hMS (xA m c) (zA m c) (onA m c) (oaA m c) (wrA m c) (waA m c) (woA m c) (gA m c) (bA m c)

theorem flushed_h (t : Fin cfg0.N) (hf : (cfg0.win 12).flush t = true) :
    (dats m 0 c).flushed 12 t = ((cfg0.win 12).blk t).view.read (Elt Ideal) (res m c) := by
  rw [Value.flushed12]
  funext x
  obtain ⟨i, q, rfl⟩ : ∃ (i : Fin 256) (q : Fin 2048), x = ix2 i q := ⟨x 0, x 1, eq_ix2 x⟩
  rw [View.read_apply]
  show (outsAt0 m c t).1 (ix2 i q) = res m c _
  rw [h_out]
  have hw := wt t
  have he : ((cfg0.win 12).blk t).view.emb (ix2 i q) = (ix2 (rB t i) q : S256x2048.Idx) := by
    refine (funext fun a => Fin.ext ?_ : (ix2 (rB t i) q : S256x2048.Idx) = _).symm
    match a with
    | ⟨0, _⟩ =>
      show 256 * t.val + i.val = win0_12.index t 0 * 256 + 1 * i.val
      omega
    | ⟨1, _⟩ =>
      show q.val = win0_12.index t 1 * 2048 + 1 * q.val
      omega
  rw [he]
  rfl

theorem final_h : (dats m 0 c).arrAt 12 cfg0.N = res m c :=
  (dats m 0 c).arrAt_eq_of_cover 12 (res m c) (flushed_h m c) fun x => by
    obtain ⟨r, q, rfl⟩ : ∃ (r : Fin 256) (q : Fin 2048), x = ix2 r q := ⟨x 0, x 1, eq_ix2 x⟩
    have hN : cfg0.N = 1 := N_0
    obtain ⟨t, ht⟩ : ∃ t : Fin cfg0.N, t.val = r.val / 256 := ⟨⟨_, by omega⟩, rfl⟩
    have hw := wt t
    refine ⟨t, flush0_12 t, ?_⟩
    show ix2 r q ∈ ((View.whole main_v11_0).slice (win0_12.rect t)).set
    rw [View.set_slice_whole, Rect.mem_set_unit]
    intro a
    match a with
    | ⟨0, _⟩ =>
      show win0_12.index t 0 * 256 ≤ r.val ∧ r.val < win0_12.index t 0 * 256 + 256
      omega
    | ⟨1, _⟩ =>
      show win0_12.index t 1 * 2048 ≤ q.val ∧ q.val < win0_12.index t 1 * 2048 + 2048
      omega

theorem flushed_hb (t : Fin cfg0.N) (hf : (cfg0.win 13).flush t = true) :
    (dats m 0 c).flushed 13 t = ((cfg0.win 13).blk t).view.read (Elt Ideal) (res m c) := by
  rw [Value.flushed13]
  funext x
  obtain ⟨i, q, rfl⟩ : ∃ (i : Fin 256) (q : Fin 2048), x = ix2 i q := ⟨x 0, x 1, eq_ix2 x⟩
  rw [View.read_apply]
  show (outsAt0 m c t).2 (ix2 i q) = res m c _
  rw [hb_out]
  have hw := wt t
  have he : ((cfg0.win 13).blk t).view.emb (ix2 i q) = (ix2 (rB t i) q : S256x2048.Idx) := by
    refine (funext fun a => Fin.ext ?_ : (ix2 (rB t i) q : S256x2048.Idx) = _).symm
    match a with
    | ⟨0, _⟩ =>
      show 256 * t.val + i.val = win0_13.index t 0 * 256 + 1 * i.val
      omega
    | ⟨1, _⟩ =>
      show q.val = win0_13.index t 1 * 2048 + 1 * q.val
      omega
  rw [he]
  rfl

theorem final_hb : (dats m 0 c).arrAt 13 cfg0.N = res m c :=
  (dats m 0 c).arrAt_eq_of_cover 13 (res m c) (flushed_hb m c) fun x => by
    obtain ⟨r, q, rfl⟩ : ∃ (r : Fin 256) (q : Fin 2048), x = ix2 r q := ⟨x 0, x 1, eq_ix2 x⟩
    have hN : cfg0.N = 1 := N_0
    obtain ⟨t, ht⟩ : ∃ t : Fin cfg0.N, t.val = r.val / 256 := ⟨⟨_, by omega⟩, rfl⟩
    have hw := wt t
    refine ⟨t, flush0_13 t, ?_⟩
    show ix2 r q ∈ ((View.whole main_v11_1).slice (win0_13.rect t)).set
    rw [View.set_slice_whole, Rect.mem_set_unit]
    intro a
    match a with
    | ⟨0, _⟩ =>
      show win0_13.index t 0 * 256 ≤ r.val ∧ r.val < win0_13.index t 0 * 256 + 256
      omega
    | ⟨1, _⟩ =>
      show win0_13.index t 1 * 2048 ≤ q.val ∧ q.val < win0_13.index t 1 * 2048 + 2048
      omega

/-- The kernel's run: both results hold the normalised rows, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v11_0) = res m c
      ∧ r.2.mem ((c.tc : Thread nD τ).loc main_v11_1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final_h m c), (h c).2.1.trans (final_hb m c), (h c).2.2⟩)
    (Value.run_blocks m ρ)

end Cert.Kernel7Ideal.Val

end
-- ==== Proof.MixSRef.lean ====
/- The reference of the mix and the first norm, read. -/
module

public import proofs.«01_k».proof.Proof.LaySpec
public import proofs.«01_k».proof.Proof.Gen.Reference7Ideal.Run
public import Idealize.ShloMosaic.Lib.Pointwise

@[expose] public section

set_option maxRecDepth 16384

noncomputable section

namespace Cert.Own.MixSRef

open Idealize.ShloMosaic Idealize.ShloMosaic.TcCoe Idealize.SL.Sem
open Cert.Reference7Ideal Cert.Reference7Ideal.Gen Cert.Reference7Ideal.Value Cert.Own.Lay

/-- A tensor less its rows' means. -/
def cenT (u : FVec Ideal S256x2048 .f32) : FVec Ideal S256x2048 .f32 :=
  subf u (broadcastInDim S256x2048 ![0, 1] bcast_S256x1_S256x2048_0_1 (Host.divf (broadcastInDim S256x1 ![0]
    bcast_S256_S256x1_0 (Host.reduceAdd u (constant S_ .f32 0x00000000#32) reducesTo_S256x2048_S256_d1 h_S_))
    (broadcastInDim S256x1 ![] bcast_S_S256x1 (constant S_ .f32 0x45000000#32))))

/-- Centred rows, scaled, times the gain, plus the offset. -/
def nrmT (w : FVec Ideal S256x2048 .f32) (g b : Vec Ideal S1x2048 .f32) : FVec Ideal S256x2048 .f32 :=
  addf (mulf (mulf w (broadcastInDim S256x2048 ![0, 1] bcast_S256x1_S256x2048_0_1 (Host.rsqrt (addf (Host.divf
    (broadcastInDim S256x1 ![0] bcast_S256_S256x1_0 (Host.reduceAdd (mulf w w) (constant S_ .f32 0x00000000#32)
    reducesTo_S256x2048_S256_d1 h_S_)) (broadcastInDim S256x1 ![] bcast_S_S256x1 (constant S_ .f32
    0x45000000#32))) (broadcastInDim S256x1 ![] bcast_S_S256x1 (constant S_ .f32 0x3727C5AC#32))))))
    (broadcastInDim S256x2048 ![0, 1] bcast_S1x2048_S256x2048_0_1 (broadcastInDim S1x2048 ![1]
    bcast_S2048_S1x2048_1 (shapeCast _ g shapeCasts_S1x2048_S2048)))) (broadcastInDim S256x2048 ![0, 1]
    bcast_S1x2048_S256x2048_0_1 (broadcastInDim S1x2048 ![1] bcast_S2048_S1x2048_1 (shapeCast _ b
    shapeCasts_S1x2048_S2048)))

theorem cenT_at (u : FVec Ideal S256x2048 .f32) (r : Fin 256) (e : Fin 2048) :
    cenT u (ix2 r e) = u (ix2 r e) - mean (fun y => u (ix2 r y)) := by
  unfold cenT
  pointwise
  simp only [mean]

theorem nrmT_at (w : FVec Ideal S256x2048 .f32) (g b : Vec Ideal S1x2048 .f32) (r : Fin 256) (e : Fin 2048) :
    nrmT w g b (ix2 r e)
      = w (ix2 r e) * Ideal.rsqrt (mean (fun y => w (ix2 r y) * w (ix2 r y)) + Ideal.ofBits .f32 0x3727C5AC#32) * g (ix2 0 e)
        + b (ix2 0 e) := by
  unfold nrmT
  pointwise
  simp only [mean]

/-- The gated mix. -/
def mixT (z : Vec Ideal S256x15360 .f32) (on : Vec Ideal S256x2048 .f32) (oa : Vec Ideal S256x1024 .f32)
    (wr : Vec Ideal S1x2048x2048 .f32) (wa : Vec Ideal S1x1024x2048 .f32) : FVec Ideal S256x2048 .f32 :=
  addf (mulf (Host.divf (broadcastInDim S256x2048 ![] bcast_S_S256x2048 (constant S_ .f32 0x3F800000#32)) (addf
    (broadcastInDim S256x2048 ![] bcast_S_S256x2048 (constant S_ .f32 0x3F800000#32)) (Host.exp (Host.negf (extractStridedSlice S256x2048 ![0, 11264] z slices_S256x15360_S256x2048_0_11264)))))
    (Host.dotGeneral (φ₁ := .f32) (φ₂ := .f32) dot_S256x2048_S2048x2048_S256x2048_1_0_0_1_n_n none on (shapeCast _ wr shapeCasts_S1x2048x2048_S2048x2048))) (mulf (Host.divf (broadcastInDim
    S256x2048 ![] bcast_S_S256x2048 (constant S_ .f32 0x3F800000#32)) (addf (broadcastInDim S256x2048 ![]
    bcast_S_S256x2048 (constant S_ .f32 0x3F800000#32)) (Host.exp (Host.negf (extractStridedSlice
    S256x2048 ![0, 13312] z slices_S256x15360_S256x2048_0_13312))))) (Host.dotGeneral (φ₁ := .f32) (φ₂ := .f32) dot_S256x1024_S1024x2048_S256x2048_1_0_0_1_n_n none oa (shapeCast _ wa
    shapeCasts_S1x1024x2048_S1024x2048)))

/-- The mix through the output matrix, added to the scaled residual. -/
def sumT (x : Vec Ideal S32x8x2048 .f32) (mm : FVec Ideal S256x2048 .f32) (wo : Vec Ideal S1x2048x2048 .f32) : FVec Ideal S256x2048 .f32 :=
  addf (mulf (broadcastInDim S256x2048 ![] bcast_S_S256x2048 (constant S_ .f32 0x3F9837F0#32)) (shapeCast _ x
    shapeCasts_S32x8x2048_S256x2048)) (Host.dotGeneral (φ₁ := .f32) (φ₂ := .f32)
    dot_S256x2048_S2048x2048_S256x2048_1_0_0_1_n_n none mm (shapeCast _ wo shapeCasts_S1x2048x2048_S2048x2048))

theorem mixT_at (z : Vec Ideal S256x15360 .f32) (on : Vec Ideal S256x2048 .f32) (oa : Vec Ideal S256x1024 .f32)
    (wr : Vec Ideal S1x2048x2048 .f32) (wa : Vec Ideal S1x1024x2048 .f32) (r : Fin 256) (e : Fin 2048) :
    mixT z on oa wr wa (ix2 r e)
      = mixR (fun e => z (ix2 r (zc 11264 (by decide) e))) (fun e => z (ix2 r (zc 13312 (by decide) e)))
        (fun k => on (ix2 r k)) (fun k => oa (ix2 r k)) (fun k e => wr (ix3 0 k e)) (fun k e => wa (ix3 0 k e)) e := by
  unfold mixT
  pointwise
  simp only [mixR, logi, zc]

theorem sumT_at (x : Vec Ideal S32x8x2048 .f32) (mm : FVec Ideal S256x2048 .f32) (wo : Vec Ideal S1x2048x2048 .f32)
    (r : Fin 256) (e : Fin 2048) : sumT x mm wo (ix2 r e) = al * resXS x r e + ∑ d, mm (ix2 r d) * wo (ix3 0 d e) := by
  unfold sumT
  pointwise
  simp only [al, resXS]

variable (m : (ℓ : Loc nD τ sig) → Buf (Elt Ideal) ℓ) (c : Dev nD)

theorem res_h_at (r : Fin 256) (e : Fin 2048) :
    (res_main_v52 m c : S256x2048.Idx → EReal) (ix2 r e)
      = hMS (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (ix2 r e) := by
  have h : res_main_v52 m c = nrmT (cenT (sumT (m ((c.tc : Thread nD τ).loc main_arg0)) (mixT (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) (m ((c.tc : Thread nD τ).loc main_arg6)))) (m ((c.tc : Thread nD τ).loc main_arg7))
      (m ((c.tc : Thread nD τ).loc main_arg8)) := by
    unfold res_main_v52 nrmT cenT sumT mixT
    rfl
  refine (congrFun h (ix2 r e)).trans ?_
  rw [nrmT_at]
  simp only [cenT_at, sumT_at, mixT_at]
  rfl

theorem res_h : res_main_v52 m c = hMS (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  funext x
  obtain ⟨r, q, rfl⟩ : ∃ (r : Fin 256) (q : Fin 2048), x = ix2 r q := ⟨x 0, x 1, eq_ix2 x⟩
  exact res_h_at m c r q

theorem res_hb : res_main_v53 m c = hMS (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  have h : res_main_v53 m c = truncf (F := Ideal) .bf16 (res_main_v52 m c) bitsLt_bf16_f32 := by
    unfold res_main_v53 res_main_v52
    rfl
  funext x
  obtain ⟨r, q, rfl⟩ : ∃ (r : Fin 256) (q : Fin 2048), x = ix2 r q := ⟨x 0, x 1, eq_ix2 x⟩
  refine (congrFun h (ix2 r q)).trans ?_
  exact res_h_at m c r q

end Cert.Own.MixSRef

end
-- ==== Proof.MlpSPay.lean ====
/- What the network kernel's body computes from the blocks it loads, read at an index, and the sum over the hidden units
   in eight blocks. -/
module

public import proofs.«01_k».proof.Proof.LaySpec
public import proofs.«01_k».proof.Proof.Gen.Kernel8Ideal.Skeleton
public import Idealize.ShloMosaic.Lib.Pointwise

@[expose] public section

set_option maxRecDepth 16384

noncomputable section

namespace Cert.Kernel8Ideal.Val

open Idealize.ShloMosaic Idealize.ShloMosaic.TcCoe Idealize.SL.Sem
open Cert.Kernel8Ideal Cert.Kernel8Ideal.Gen Cert.Own.Lay

section acc
variable (v3 : Vec Ideal S256x2048 .bf16) (v4 v11 : Vec Ideal S2048x512 .bf16) (v18 : FVec Ideal S256x1024 .bf16)
  (s : Vec Ideal S256x512 .f32) (w : Vec Ideal S1024x512 .bf16) (i : Fin 256) (q : Fin 512)

theorem pay3_at : k0_pay3 v18 s w (ix2 i q) = s (ix2 i q) + ∑ k : Fin 1024, v18 (ix2 i k) * w (ix2 k q) := by
  unfold k0_pay3
  pointwise

theorem pay2_at : k0_pay2 v18 s w (ix2 i q) = s (ix2 i q) + ∑ k : Fin 1024, v18 (ix2 i k) * w (ix2 k q) := by
  unfold k0_pay2
  pointwise

theorem pay1_at : k0_pay1 (k0_pay8 v3 v4 v11 s w) (ix2 i q)
    = s (ix2 i q) + ∑ k : Fin 1024, k0_pay6 v3 v4 v11 (ix2 i k) * w (ix2 k q) := by
  unfold k0_pay1 k0_pay8
  generalize k0_pay6 v3 v4 v11 = u
  pointwise

theorem pay7_at : k0_pay7 v3 v4 v11 s w (ix2 i q)
    = s (ix2 i q) + ∑ k : Fin 1024, k0_pay6 v3 v4 v11 (ix2 i k) * w (ix2 k q) := by
  unfold k0_pay7
  generalize k0_pay6 v3 v4 v11 = u
  pointwise

/-- The hidden units, whose two halves are computed apart. -/
theorem pay6_at (k : Fin 1024) : k0_pay6 v3 v4 v11 (ix2 i k)
    = relu2 (∑ d : Fin 2048, v3 (ix2 i d) * (if h : k.val < 512 then v4 (ix2 d ⟨k.val, h⟩) else v11 (ix2 d ⟨k.val - 512, by omega⟩))) := by
  unfold k0_pay6
  pointwise
  by_cases h : k.val < 512
  · simp only [h, dif_pos, relu2]
    try rfl
  · simp only [h, relu2]
    try rfl

end acc

section norm
variable (g b : Vec Ideal S1x2048 .f32) (s : Vec Ideal S256x2048 .f32) (i : Fin 256) (e : Fin 2048)

theorem pay4_at : k0_pay4 s g b (ix2 i e)
    = lnorm (fun y => s (ix2 i y)) (fun y => g (ix2 0 y)) (fun y => b (ix2 0 y)) e := by
  unfold k0_pay4
  pointwise
  simp only [lnorm, mean]

theorem pay5_at : k0_pay5 s (ix2 i e) = al * s (ix2 i e) := by
  unfold k0_pay5
  pointwise
  rfl

end norm

end Cert.Kernel8Ideal.Val

end
-- ==== Proof.MlpSKernel.lean ====
/- The network kernel on the sample, read: over the eight grid points of its 256 rows its scratch runs from the scaled residual to
   the sum with all hidden units, and the last of them stores the normalised rows. -/
module

public import proofs.«01_k».proof.Proof.MlpSPay
public import proofs.«01_k».proof.Proof.MlpKernel
public import proofs.«01_k».proof.Proof.Gen.Kernel8Ideal.Value

@[expose] public section

set_option maxRecDepth 16384

noncomputable section

namespace Cert.Kernel8Ideal.Val

open Idealize.ShloMosaic Idealize.ShloMosaic.TcCoe Idealize.SL.Sem
open Cert.Kernel8Ideal Cert.Kernel8Ideal.Gen Cert.Own.Lay
open Cert.KernelIdeal.Val (canon_hit canon_miss)
open Cert.Kernel2Ideal.Val (ld2)
open Cert.Kernel3Ideal.Val (blkS accN accN_eight)

variable (m : (ℓ : Loc nD τ sig) → Buf (Elt Ideal) ℓ) (c : Dev nD)

/-! The kernel's arguments: the rows, their rounded copy, the two matrices, the gains and the offsets. -/

abbrev hA : S256x2048.Idx → EReal := m ((c.tc : Thread nD τ).loc main_arg0)
abbrev hbA : S256x2048.Idx → EReal := m ((c.tc : Thread nD τ).loc main_arg1)
abbrev wuA : S1x2048x8192.Idx → EReal := m ((c.tc : Thread nD τ).loc main_arg2)
abbrev wdA : S1x8192x2048.Idx → EReal := m ((c.tc : Thread nD τ).loc main_arg3)
abbrev gA : S1x2048.Idx → EReal := m ((c.tc : Thread nD τ).loc main_arg4)
abbrev bA : S1x2048.Idx → EReal := m ((c.tc : Thread nD τ).loc main_arg5)

/-! ## The tables the host computes -/

theorem wu_eq (k : Fin 2048) (f : Fin 8192) : (V m c main_v1 : S2048x8192.Idx → EReal) (ix2 k f) = wuA m c (ix3 0 k f) := by
  show StableHlo.after _ _ _ _ = _
  simp only [hostOps0]
  after_results
  pointwise
  try rfl

theorem wd_eq (f : Fin 8192) (e : Fin 2048) : (V m c main_v3 : S8192x2048.Idx → EReal) (ix2 f e) = wdA m c (ix3 0 f e) := by
  show StableHlo.after _ _ _ _ = _
  simp only [hostOps0]
  after_results
  pointwise
  try rfl

theorem g_eq (e : Fin 2048) : (V m c main_v5 : S1x2048.Idx → EReal) (ix2 0 e) = gA m c (ix2 0 e) := by
  show StableHlo.after _ _ _ _ = _
  simp only [hostOps0]
  after_results
  pointwise
  try rfl

theorem b_eq (e : Fin 2048) : (V m c main_v7 : S1x2048.Idx → EReal) (ix2 0 e) = bA m c (ix2 0 e) := by
  show StableHlo.after _ _ _ _ = _
  simp only [hostOps0]
  after_results
  pointwise
  try rfl

/-! ## The blocks of a grid point -/

/-- A row of a grid point, and a hidden unit of it. -/
def rB (t : Fin cfg0.N) (i : Fin 256) : Fin 256 := ⟨256 * (t.val / 8) + i.val, by have h : t.val < 8 := lt_of_lt_of_eq t.isLt N_0; omega⟩
def fB (t : Fin cfg0.N) (f : Fin 1024) : Fin 8192 := ⟨1024 * (t.val % 8) + f.val, by omega⟩

theorem wz : ∀ t : Fin grid0.N,
    (win0_0.index t 0 = t.val / 8 ∧ win0_0.index t 1 = 0) ∧ (win0_1.index t 0 = t.val / 8 ∧ win0_1.index t 1 = 0)
    ∧ (win0_2.index t 0 = 0 ∧ win0_2.index t 1 = t.val % 8) ∧ (win0_3.index t 0 = t.val % 8 ∧ win0_3.index t 1 = 0)
    ∧ (win0_4.index t 0 = 0 ∧ win0_4.index t 1 = 0) ∧ (win0_5.index t 0 = 0 ∧ win0_5.index t 1 = 0)
    ∧ (win0_6.index t 0 = t.val / 8 ∧ win0_6.index t 1 = 0) := by
  decide +kernel

theorem blk_h (t : Fin cfg0.N) (i : Fin 256) (e : Fin 2048) : (iblk m c 0 t : S256x2048.Idx → EReal) (ix2 i e) = hA m c (ix2 (rB t i) e) := by
  unfold iblk
  rw [View.read_apply, show V m c (Pipeline.arrRef spec0 0) = V m c main_arg0 from rfl, V_main_arg0]
  show hA m c _ = _
  congr 1
  funext a
  refine Fin.ext ?_
  have hw := wz t
  match a with
  | ⟨0, _⟩ =>
    show win0_0.index t 0 * 256 + 1 * i.val = 256 * (t.val / 8) + i.val
    omega
  | ⟨1, _⟩ =>
    show win0_0.index t 1 * 2048 + 1 * e.val = e.val
    omega

theorem blk_hb (t : Fin cfg0.N) (i : Fin 256) (e : Fin 2048) : (iblk m c 1 t : S256x2048.Idx → EReal) (ix2 i e) = hbA m c (ix2 (rB t i) e) := by
  unfold iblk
  rw [View.read_apply, show V m c (Pipeline.arrRef spec0 1) = V m c main_arg1 from rfl, V_main_arg1]
  show hbA m c _ = _
  congr 1
  funext a
  refine Fin.ext ?_
  have hw := wz t
  match a with
  | ⟨0, _⟩ =>
    show win0_1.index t 0 * 256 + 1 * i.val = 256 * (t.val / 8) + i.val
    omega
  | ⟨1, _⟩ =>
    show win0_1.index t 1 * 2048 + 1 * e.val = e.val
    omega

theorem blk_wu (t : Fin cfg0.N) (d : Fin 2048) (f : Fin 1024) : (iblk m c 2 t : S2048x1024.Idx → EReal) (ix2 d f) = wuA m c (ix3 0 d (fB t f)) := by
  rw [← wu_eq m c d (fB t f)]
  unfold iblk
  rw [View.read_apply]
  show (V m c main_v1 : S2048x8192.Idx → EReal) _ = _
  congr 1
  funext a
  refine Fin.ext ?_
  have hw := wz t
  match a with
  | ⟨0, _⟩ =>
    show win0_2.index t 0 * 2048 + 1 * d.val = d.val
    omega
  | ⟨1, _⟩ =>
    show win0_2.index t 1 * 1024 + 1 * f.val = 1024 * (t.val % 8) + f.val
    omega

theorem blk_wd (t : Fin cfg0.N) (f : Fin 1024) (e : Fin 2048) : (iblk m c 3 t : S1024x2048.Idx → EReal) (ix2 f e) = wdA m c (ix3 0 (fB t f) e) := by
  rw [← wd_eq m c (fB t f) e]
  unfold iblk
  rw [View.read_apply]
  show (V m c main_v3 : S8192x2048.Idx → EReal) _ = _
  congr 1
  funext a
  refine Fin.ext ?_
  have hw := wz t
  match a with
  | ⟨0, _⟩ =>
    show win0_3.index t 0 * 1024 + 1 * f.val = 1024 * (t.val % 8) + f.val
    omega
  | ⟨1, _⟩ =>
    show win0_3.index t 1 * 2048 + 1 * e.val = e.val
    omega

theorem blk_g (t : Fin cfg0.N) (e : Fin 2048) : (iblk m c 4 t : S1x2048.Idx → EReal) (ix2 0 e) = gA m c (ix2 0 e) := by
  rw [← g_eq m c e]
  unfold iblk
  rw [View.read_apply]
  show (V m c main_v5 : S1x2048.Idx → EReal) _ = _
  congr 1
  funext a
  refine Fin.ext ?_
  have hw := wz t
  match a with
  | ⟨0, _⟩ =>
    show win0_4.index t 0 * 1 + 1 * 0 = 0
    omega
  | ⟨1, _⟩ =>
    show win0_4.index t 1 * 2048 + 1 * e.val = e.val
    omega

theorem blk_b (t : Fin cfg0.N) (e : Fin 2048) : (iblk m c 5 t : S1x2048.Idx → EReal) (ix2 0 e) = bA m c (ix2 0 e) := by
  rw [← b_eq m c e]
  unfold iblk
  rw [View.read_apply]
  show (V m c main_v7 : S1x2048.Idx → EReal) _ = _
  congr 1
  funext a
  refine Fin.ext ?_
  have hw := wz t
  match a with
  | ⟨0, _⟩ =>
    show win0_5.index t 0 * 1 + 1 * 0 = 0
    omega
  | ⟨1, _⟩ =>
    show win0_5.index t 1 * 2048 + 1 * e.val = e.val
    omega

/-! ## The running sum in the scratch -/

/-- The term of a hidden unit in a row's sum. -/
abbrev term (r : Fin 256) (e : Fin 2048) : Fin 8192 → EReal := fun f =>
  upR (fun d => hbA m c (ix2 r d)) (fun d f => wuA m c (ix3 0 d f)) f * wdA m c (ix3 0 f e)

/-- The four stores of a grid point over the scratch it found, with what was stored before. -/
abbrev accL (t : Fin cfg0.N) (s : Vec Ideal S256x2048 .f32) (T : List (View.Piece (Elt Ideal) S256x2048 .f32)) :
    List (View.Piece (Elt Ideal) S256x2048 .f32) :=
  ⟨Rect.unit ![0, 1536] ![256, 512] inb_S256x2048_S256x512_0_1536, k0_pay3 (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512)))
      (View.ld s (Rect.unit ![0, 1536] ![256, 512] inb_S256x2048_S256x512_0_1536))
      (View.ld (iblk m c 3 t) (Rect.unit ![0, 1536] ![1024, 512] inb_S1024x2048_S1024x512_0_1536))⟩ ::
  ⟨Rect.unit ![0, 1024] ![256, 512] inb_S256x2048_S256x512_0_1024, k0_pay2 (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512)))
      (View.ld s (Rect.unit ![0, 1024] ![256, 512] inb_S256x2048_S256x512_0_1024))
      (View.ld (iblk m c 3 t) (Rect.unit ![0, 1024] ![1024, 512] inb_S1024x2048_S1024x512_0_1024))⟩ ::
  ⟨Rect.unit ![0, 512] ![256, 512] inb_S256x2048_S256x512_0_512, k0_pay1 (k0_pay8 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))
      (View.ld s (Rect.unit ![0, 512] ![256, 512] inb_S256x2048_S256x512_0_512))
      (View.ld (iblk m c 3 t) (Rect.unit ![0, 512] ![1024, 512] inb_S1024x2048_S1024x512_0_512)))⟩ ::
  ⟨Rect.unit ![0, 0] ![256, 512] inb_S256x2048_S256x512_0_0, k0_pay7 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))
      (View.ld s (Rect.unit ![0, 0] ![256, 512] inb_S256x2048_S256x512_0_0))
      (View.ld (iblk m c 3 t) (Rect.unit ![0, 0] ![1024, 512] inb_S1024x2048_S1024x512_0_0))⟩ :: T

/-- The hidden units of a grid point. -/
theorem up_at (t : Fin cfg0.N) (i : Fin 256) (k : Fin 1024) :
    (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))) (ix2 i k)
      = upR (fun d => hbA m c (ix2 (rB t i) d)) (fun d f => wuA m c (ix3 0 d f)) (fB t k) := by
  rw [pay6_at]
  unfold upR
  congr 1
  refine Finset.sum_congr rfl fun d _ => ?_
  have h1 := blk_hb m c t i d
  have h2 := blk_wu m c t d k
  by_cases h : k.val < 512
  · rw [dif_pos h]
    have h3 : View.ld (iblk m c 2 t) (Rect.unit ![0, 0] ![2048, 512] inb_S2048x1024_S2048x512_0_0) (ix2 d ⟨k.val, h⟩) = wuA m c (ix3 0 d (fB t k)) := by
      refine (ld2 (iblk m c 2 t) 0 _ d ⟨k.val, h⟩).trans (Eq.trans ?_ h2)
      congr 2
      exact Fin.ext (Nat.zero_add _)
    rw [h1, h3]
  · rw [dif_neg h]
    have h3 : View.ld (iblk m c 2 t) (Rect.unit ![0, 512] ![2048, 512] inb_S2048x1024_S2048x512_0_512) (ix2 d ⟨k.val - 512, by omega⟩) = wuA m c (ix3 0 d (fB t k)) := by
      refine (ld2 (iblk m c 2 t) 512 _ d ⟨k.val - 512, by omega⟩).trans (Eq.trans ?_ h2)
      congr 2
      exact Fin.ext (by dsimp only; omega)
    rw [h1, h3]

/-- One slice's entry adds the point's block of hidden units. -/
theorem slice_eq (t : Fin cfg0.N) (s : Vec Ideal S256x2048 .f32) (i : Fin 256) (q : Fin 512) (o : ℕ) (inb1 inb2) (e : Fin 2048) (he : e.val = o + q.val) :
    View.ld s (Rect.unit ![0, o] ![256, 512] inb1) (ix2 i q) + ∑ k : Fin 1024, (k0_pay6 (iblk m c 1 t)
        (View.ld (iblk m c 2 t) (Rect.unit ![0, 0] ![2048, 512] inb_S2048x1024_S2048x512_0_0))
        (View.ld (iblk m c 2 t) (Rect.unit ![0, 512] ![2048, 512] inb_S2048x1024_S2048x512_0_512))) (ix2 i k)
        * View.ld (iblk m c 3 t) (Rect.unit ![0, o] ![1024, 512] inb2) (ix2 k q)
      = s (ix2 i e) + blkS (term m c (rB t i) e) ⟨t.val % 8, Nat.mod_lt _ (by decide)⟩ := by
  have h1 : View.ld s (Rect.unit ![0, o] ![256, 512] inb1) (ix2 i q) = s (ix2 i e) := by
    refine (ld2 s o inb1 i q).trans ?_
    congr 2
    exact Fin.ext he.symm
  have h2 : ∀ k : Fin 1024, View.ld (iblk m c 3 t) (Rect.unit ![0, o] ![1024, 512] inb2) (ix2 k q) = wdA m c (ix3 0 (fB t k) e) := fun k => by
    rw [← blk_wd m c t k e]
    refine (ld2 (iblk m c 3 t) o inb2 k q).trans ?_
    congr 2
    exact Fin.ext he.symm
  simp only [h1, h2, up_at]
  rfl

/-- The scratch after a grid point, over the scratch it found. -/
theorem accL_at (t : Fin cfg0.N) (s : Vec Ideal S256x2048 .f32) (T : List (View.Piece (Elt Ideal) S256x2048 .f32)) (i : Fin 256) (e : Fin 2048) :
    View.canon (accL m c t s T) (ix2 i e) = s (ix2 i e) + blkS (term m c (rB t i) e) ⟨t.val % 8, Nat.mod_lt _ (by decide)⟩ := by
  by_cases h1536 : 1536 ≤ e.val
  · obtain ⟨q, hq⟩ : ∃ q : Fin 512, e.val = 1536 + q.val := ⟨⟨e.val - 1536, by omega⟩, by dsimp only; omega⟩
    refine (canon_hit (ix2 i q) fun a => by
      match a with
      | ⟨0, _⟩ => show i.val = 0 + i.val; omega
      | ⟨1, _⟩ => exact hq).trans ?_
    exact (pay3_at ..).trans (slice_eq m c t s i q 1536 _ _ e hq)
  refine (canon_miss ⟨1, by decide⟩ (.inl (by show e.val < 1536; omega))).trans ?_
  by_cases h1024 : 1024 ≤ e.val
  · obtain ⟨q, hq⟩ : ∃ q : Fin 512, e.val = 1024 + q.val := ⟨⟨e.val - 1024, by omega⟩, by dsimp only; omega⟩
    refine (canon_hit (ix2 i q) fun a => by
      match a with
      | ⟨0, _⟩ => show i.val = 0 + i.val; omega
      | ⟨1, _⟩ => exact hq).trans ?_
    exact (pay2_at ..).trans (slice_eq m c t s i q 1024 _ _ e hq)
  refine (canon_miss ⟨1, by decide⟩ (.inl (by show e.val < 1024; omega))).trans ?_
  by_cases h512 : 512 ≤ e.val
  · obtain ⟨q, hq⟩ : ∃ q : Fin 512, e.val = 512 + q.val := ⟨⟨e.val - 512, by omega⟩, by dsimp only; omega⟩
    refine (canon_hit (ix2 i q) fun a => by
      match a with
      | ⟨0, _⟩ => show i.val = 0 + i.val; omega
      | ⟨1, _⟩ => exact hq).trans ?_
    exact (pay1_at ..).trans (slice_eq m c t s i q 512 _ _ e hq)
  refine (canon_miss ⟨1, by decide⟩ (.inl (by show e.val < 512; omega))).trans ?_
  obtain ⟨q, hq⟩ : ∃ q : Fin 512, e.val = 0 + q.val := ⟨⟨e.val, by omega⟩, by dsimp only; omega⟩
  refine (canon_hit (ix2 i q) fun a => by
    match a with
    | ⟨0, _⟩ => show i.val = 0 + i.val; omega
    | ⟨1, _⟩ => exact hq).trans ?_
  exact (pay7_at ..).trans (slice_eq m c t s i q 0 _ _ e hq)

/-- The four stores cover the scratch. -/
theorem accL_cover (t : Fin cfg0.N) (s : Vec Ideal S256x2048 .f32) (y : S256x2048.Idx) : ∃ p ∈ accL m c t s [], y ∈ p.fst.set := by
  obtain ⟨i, e, rfl⟩ : ∃ (i : Fin 256) (e : Fin 2048), y = ix2 i e := ⟨y 0, y 1, eq_ix2 y⟩
  have key : ∀ o : ℕ, ∀ inb, o ≤ e.val → e.val < o + 512 →
      ix2 i e ∈ (Rect.unit (s := S256x2048) ![0, o] ![256, 512] inb).set := fun o inb h1 h2 => by
    rw [Rect.mem_set_unit]
    intro a
    match a with
    | ⟨0, _⟩ => show 0 ≤ i.val ∧ i.val < 0 + 256; omega
    | ⟨1, _⟩ => show o ≤ e.val ∧ e.val < o + 512; omega
  by_cases h3 : 1536 ≤ e.val
  · exact ⟨_, .head _, key 1536 inb_S256x2048_S256x512_0_1536 h3 (by omega)⟩
  by_cases h2 : 1024 ≤ e.val
  · exact ⟨_, .tail _ (.head _), key 1024 inb_S256x2048_S256x512_0_1024 h2 (by omega)⟩
  by_cases h1 : 512 ≤ e.val
  · exact ⟨_, .tail _ (.tail _ (.head _)), key 512 inb_S256x2048_S256x512_0_512 h1 (by omega)⟩
  exact ⟨_, .tail _ (.tail _ (.tail _ (.head _))), key 0 inb_S256x2048_S256x512_0_0 (by omega) (by omega)⟩

/-- What the point before left in the scratch. -/
abbrev prev (t : Fin cfg0.N) : Vec Ideal S256x2048 .f32 := (outsAt0 m c (t.val - 1) (Nat.lt_of_le_of_lt (Nat.sub_le _ _) t.isLt)).2

theorem scrA (t : Fin cfg0.N) (h0 : t.val % 8 = 0) (i : Fin 256) (e : Fin 2048) :
    (outsAt0 m c t.val t.isLt).2 (ix2 i e)
      = al * hA m c (ix2 (rB t i) e) + blkS (term m c (rB t i) e) ⟨t.val % 8, Nat.mod_lt _ (by decide)⟩ := by
  rw [outsAt0_A m c t h0 (by omega)]
  frame_out
  simp (disch := decide) only [↓ View.readCov_skip, ↓ View.readCov_cons_toLoadRect, ↓ View.readCov_fill]
  refine (accL_at m c t (k0_pay5 (iblk m c 0 t)) _ i e).trans ?_
  rw [pay5_at, blk_h]

theorem scrB (t : Fin cfg0.N) (h0 : ¬t.val % 8 = 0) (h1 : ¬t.val % 8 = 7) (i : Fin 256) (e : Fin 2048) :
    (outsAt0 m c t.val t.isLt).2 (ix2 i e)
      = prev m c t (ix2 i e) + blkS (term m c (rB t i) e) ⟨t.val % 8, Nat.mod_lt _ (by decide)⟩ := by
  rw [outsAt0_B m c t h0 h1]
  frame_out
  simp only [read_unread_whole]
  exact accL_at m c t (prev m c t) _ i e

/-- The last point's block, over the scratch it found. -/
theorem outC (t : Fin cfg0.N) (h1 : t.val % 8 = 7) (i : Fin 256) (e : Fin 2048) :
    (outsAt0 m c t.val t.isLt).1 (ix2 i e)
      = lnorm (fun y => prev m c t (ix2 i y) + blkS (term m c (rB t i) y) ⟨t.val % 8, Nat.mod_lt _ (by decide)⟩)
          (fun y => gA m c (ix2 0 y)) (fun y => bA m c (ix2 0 y)) e := by
  rw [outsAt0_C m c t (by omega) h1]
  frame_out
  simp only [read_unread_whole]
  have hc := fun L => View.readCov_eq_canon_ld (Val := Elt Ideal) (View.whole cc0_scratch0) L
    (Rect.unit ![0, 0] ![256, 2048] inb_S256x2048_S256x2048_0_0)
  rw [pay4_at, hc]
  · have hs : ∀ y : Fin 2048, View.ld (View.canon (accL m c t (prev m c t) [])) (Rect.unit (s := S256x2048) ![0, 0] ![256, 2048] inb_S256x2048_S256x2048_0_0) (ix2 i y)
        = prev m c t (ix2 i y) + blkS (term m c (rB t i) y) ⟨t.val % 8, Nat.mod_lt _ (by decide)⟩ := fun y => by
      refine (ld2 (View.canon (accL m c t (prev m c t) [])) 0 inb_S256x2048_S256x2048_0_0 i y).trans ?_
      rw [← accL_at m c t (prev m c t) [] i y]
      congr 2
      exact Fin.ext (Nat.zero_add _)
    have hl : ∀ {s s' g g' b b' : Fin 2048 → EReal}, (∀ y, s y = s' y) → (∀ y, g y = g' y) → (∀ y, b y = b' y) → lnorm s g b e = lnorm s' g' b' e :=
      fun h1 h2 h3 => by rw [funext h1, funext h2, funext h3]
    exact hl hs (blk_g m c t) (blk_b m c t)
  · exact accL_cover m c t (prev m c t)

/-- The scratch after a grid point that is not a row block's last: the running sum after the point's block. -/
theorem scr_eq : ∀ (n : ℕ) (hn : n < cfg0.N) (h1 : ¬n % 8 = 7) (i : Fin 256) (e : Fin 2048),
    (outsAt0 m c n hn).2 (ix2 i e)
      = accN (al * hA m c (ix2 (rB ⟨n, hn⟩ i) e)) (term m c (rB ⟨n, hn⟩ i) e) (n % 8 + 1) := by
  intro n
  induction n with
  | zero =>
    intro hn h1 i e
    exact scrA m c ⟨0, hn⟩ rfl i e
  | succ n ih =>
    intro hn h1 i e
    by_cases h0 : (n + 1) % 8 = 0
    · refine (scrA m c ⟨n + 1, hn⟩ h0 i e).trans ?_
      simp only [h0]
      rfl
    · refine (scrB m c ⟨n + 1, hn⟩ h0 h1 i e).trans ?_
      have hr : rB ⟨n, Nat.lt_of_succ_lt hn⟩ i = rB ⟨n + 1, hn⟩ i := Fin.ext (by show 256 * (n / 8) + i.val = 256 * ((n + 1) / 8) + i.val; omega)
      have hp := ih (Nat.lt_of_succ_lt hn) (by omega) i e
      rw [hr, show n % 8 + 1 = (n + 1) % 8 by omega] at hp
      show (outsAt0 m c n _).2 (ix2 i e) + _ = accN _ _ _ + blkS _ _
      rw [hp]
      congr 2
      exact Fin.ext (by show (n + 1) % 8 = (n + 1) % 8 % 8; omega)

/-- What a row block's last grid point leaves in its result block. -/
theorem y_out (t : Fin cfg0.N) (h1 : t.val % 8 = 7) (i : Fin 256) (e : Fin 2048) :
    (outsAt0 m c t.val t.isLt).1 (ix2 i e)
      = mlpR (fun d => hA m c (ix2 (rB t i) d)) (fun d => hbA m c (ix2 (rB t i) d)) (fun d f => wuA m c (ix3 0 d f)) (fun f e => wdA m c (ix3 0 f e))
          (fun y => gA m c (ix2 0 y)) (fun y => bA m c (ix2 0 y)) e := by
  rw [outC m c t h1]
  unfold mlpR
  have hl : ∀ {s s' g b : Fin 2048 → EReal}, (∀ y, s y = s' y) → lnorm s g b e = lnorm s' g b e := fun h1 => by rw [funext h1]
  refine hl fun y => ?_
  refine Eq.trans ?_ (accN_eight (al * hA m c (ix2 (rB t i) y)) (term m c (rB t i) y))
  have hn : t.val - 1 < cfg0.N := Nat.lt_of_le_of_lt (Nat.sub_le _ _) t.isLt
  have hr : rB ⟨t.val - 1, hn⟩ i = rB t i := Fin.ext (by show 256 * ((t.val - 1) / 8) + i.val = 256 * (t.val / 8) + i.val; omega)
  have hp := scr_eq m c (t.val - 1) hn (by omega) i y
  rw [hr, show (t.val - 1) % 8 + 1 = 7 by omega] at hp
  show (outsAt0 m c (t.val - 1) _).2 (ix2 i y) + _ = accN _ _ 7 + blkS _ _
  rw [hp]
  congr 2
  exact Fin.ext (by show t.val % 8 = 7 % 8; omega)

/-- The result's array. -/
def res : S256x2048.Idx → EReal := yM (hA m c) (hbA m c) (wuA m c) (wdA m c) (gA m c) (bA m c)

theorem flushed_y (t : Fin cfg0.N) (hf : (cfg0.win 6).flush t = true) :
    (dats m 0 c).flushed 6 t = ((cfg0.win 6).blk t).view.read (Elt Ideal) (res m c) := by
  rw [Value.flushed6]
  funext x
  obtain ⟨i, q, rfl⟩ : ∃ (i : Fin 256) (q : Fin 2048), x = ix2 i q := ⟨x 0, x 1, eq_ix2 x⟩
  rw [View.read_apply]
  show (outsAt0 m c t.val t.isLt).1 (ix2 i q) = res m c _
  rw [y_out m c t ((flush0_6 t).mp hf)]
  have hw := wz t
  have he : ((cfg0.win 6).blk t).view.emb (ix2 i q) = (ix2 (rB t i) q : S256x2048.Idx) := by
    refine (funext fun a => Fin.ext ?_ : (ix2 (rB t i) q : S256x2048.Idx) = _).symm
    match a with
    | ⟨0, _⟩ =>
      show 256 * (t.val / 8) + i.val = win0_6.index t 0 * 256 + 1 * i.val
      omega
    | ⟨1, _⟩ =>
      show q.val = win0_6.index t 1 * 2048 + 1 * q.val
      omega
  rw [he]
  rfl

theorem final_y : (dats m 0 c).arrAt 6 cfg0.N = res m c :=
  (dats m 0 c).arrAt_eq_of_cover 6 (res m c) (flushed_y m c) fun x => by
    obtain ⟨r, q, rfl⟩ : ∃ (r : Fin 256) (q : Fin 2048), x = ix2 r q := ⟨x 0, x 1, eq_ix2 x⟩
    have hN : cfg0.N = 8 := N_0
    obtain ⟨t, ht⟩ : ∃ t : Fin cfg0.N, t.val = 8 * (r.val / 256) + 7 := ⟨⟨_, by omega⟩, rfl⟩
    have hw := wz t
    refine ⟨t, (flush0_6 t).mpr (by omega), ?_⟩
    show ix2 r q ∈ ((View.whole main_v8).slice (win0_6.rect t)).set
    rw [View.set_slice_whole, Rect.mem_set_unit]
    intro a
    match a with
    | ⟨0, _⟩ =>
      show win0_6.index t 0 * 256 ≤ r.val ∧ r.val < win0_6.index t 0 * 256 + 256
      omega
    | ⟨1, _⟩ =>
      show win0_6.index t 1 * 2048 ≤ q.val ∧ q.val < win0_6.index t 1 * 2048 + 2048
      omega

/-- The kernel's run: the result holds the network's normalised rows, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_y m c), (h c).2⟩)
    (Value.run_blocks m ρ)

end Cert.Kernel8Ideal.Val

end
-- ==== Proof.MlpSRef.lean ====
/- The reference of the sample's network and the second norm, read. -/
module

public import proofs.«01_k».proof.Proof.LaySpec
public import proofs.«01_k».proof.Proof.Gen.Reference8Ideal.Run
public import Idealize.ShloMosaic.Lib.Pointwise

@[expose] public section

set_option maxRecDepth 16384

noncomputable section

namespace Cert.Own.MlpSRef

open Idealize.ShloMosaic Idealize.ShloMosaic.TcCoe Idealize.SL.Sem
open Cert.Reference8Ideal Cert.Reference8Ideal.Gen Cert.Reference8Ideal.Value Cert.Own.Lay

/-- A tensor less its rows' means. -/
def cenT (u : FVec Ideal S256x2048 .f32) : FVec Ideal S256x2048 .f32 :=
  subf u (broadcastInDim S256x2048 ![0, 1] bcast_S256x1_S256x2048_0_1 (Host.divf (broadcastInDim S256x1 ![0]
    bcast_S256_S256x1_0 (Host.reduceAdd u (constant S_ .f32 0x00000000#32) reducesTo_S256x2048_S256_d1 h_S_))
    (broadcastInDim S256x1 ![] bcast_S_S256x1 (constant S_ .f32 0x45000000#32))))

/-- Centred rows, scaled, times the gain, plus the offset. -/
def nrmT (w : FVec Ideal S256x2048 .f32) (g b : Vec Ideal S1x2048 .f32) : FVec Ideal S256x2048 .f32 :=
  addf (mulf (mulf w (broadcastInDim S256x2048 ![0, 1] bcast_S256x1_S256x2048_0_1 (Host.rsqrt (addf (Host.divf
    (broadcastInDim S256x1 ![0] bcast_S256_S256x1_0 (Host.reduceAdd (mulf w w) (constant S_ .f32 0x00000000#32)
    reducesTo_S256x2048_S256_d1 h_S_)) (broadcastInDim S256x1 ![] bcast_S_S256x1 (constant S_ .f32
    0x45000000#32))) (broadcastInDim S256x1 ![] bcast_S_S256x1 (constant S_ .f32 0x3727C5AC#32))))))
    (broadcastInDim S256x2048 ![0, 1] bcast_S1x2048_S256x2048_0_1 (broadcastInDim S1x2048 ![1]
    bcast_S2048_S1x2048_1 (shapeCast _ g shapeCasts_S1x2048_S2048)))) (broadcastInDim S256x2048 ![0, 1]
    bcast_S1x2048_S256x2048_0_1 (broadcastInDim S1x2048 ![1] bcast_S2048_S1x2048_1 (shapeCast _ b
    shapeCasts_S1x2048_S2048)))

theorem cenT_at (u : FVec Ideal S256x2048 .f32) (r : Fin 256) (e : Fin 2048) :
    cenT u (ix2 r e) = u (ix2 r e) - mean (fun y => u (ix2 r y)) := by
  unfold cenT
  pointwise
  simp only [mean]

theorem nrmT_at (w : FVec Ideal S256x2048 .f32) (g b : Vec Ideal S1x2048 .f32) (r : Fin 256) (e : Fin 2048) :
    nrmT w g b (ix2 r e)
      = w (ix2 r e) * Ideal.rsqrt (mean (fun y => w (ix2 r y) * w (ix2 r y)) + Ideal.ofBits .f32 0x3727C5AC#32) * g (ix2 0 e)
        + b (ix2 0 e) := by
  unfold nrmT
  pointwise
  simp only [mean]

/-- The hidden units. -/
def upT (hb : Vec Ideal S256x2048 .bf16) (wu : Vec Ideal S1x2048x8192 .f32) : FVec Ideal S256x8192 .f32 :=
  mulf (maximumf (Host.dotGeneral (φ₂ := .f32) dot_S256x2048_S2048x8192_S256x8192_1_0_0_1_n_n none (extf .f32 hb
    bitsLt_bf16_f32) (shapeCast _ wu shapeCasts_S1x2048x8192_S2048x8192)) (broadcastInDim S256x8192 ![]
    bcast_S_S256x8192 (constant S_ .f32 0x00000000#32))) (maximumf (Host.dotGeneral (φ₂ := .f32)
    dot_S256x2048_S2048x8192_S256x8192_1_0_0_1_n_n none (extf .f32 hb bitsLt_bf16_f32) (shapeCast _ wu
    shapeCasts_S1x2048x8192_S2048x8192)) (broadcastInDim S256x8192 ![] bcast_S_S256x8192 (constant S_ .f32
    0x00000000#32)))

/-- The hidden units through the second matrix, added to the scaled residual. -/
def sumT (h : Vec Ideal S256x2048 .f32) (uu : FVec Ideal S256x8192 .f32) (wd : Vec Ideal S1x8192x2048 .f32) : FVec Ideal S256x2048 .f32 :=
  addf (mulf (broadcastInDim S256x2048 ![] bcast_S_S256x2048 (constant S_ .f32 0x3F9837F0#32)) h) (Host.dotGeneral
    (φ₂ := .f32) dot_S256x8192_S8192x2048_S256x2048_1_0_0_1_n_n none uu (shapeCast _ wd
    shapeCasts_S1x8192x2048_S8192x2048))

theorem upT_at (hb : Vec Ideal S256x2048 .bf16) (wu : Vec Ideal S1x2048x8192 .f32) (r : Fin 256) (f : Fin 8192) :
    upT hb wu (ix2 r f) = upR (fun d => hb (ix2 r d)) (fun d f => wu (ix3 0 d f)) f := by
  unfold upT
  pointwise
  simp only [upR, relu2]

theorem sumT_at (h : Vec Ideal S256x2048 .f32) (uu : FVec Ideal S256x8192 .f32) (wd : Vec Ideal S1x8192x2048 .f32)
    (r : Fin 256) (e : Fin 2048) : sumT h uu wd (ix2 r e) = al * h (ix2 r e) + ∑ f, uu (ix2 r f) * wd (ix3 0 f e) := by
  unfold sumT
  pointwise
  simp only [al]

variable (m : (ℓ : Loc nD τ sig) → Buf (Elt Ideal) ℓ) (c : Dev nD)

theorem res_eq : res_main_v35 m c = yM (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  have h : res_main_v35 m c = nrmT (cenT (sumT (m ((c.tc : Thread nD τ).loc main_arg0)) (upT (m ((c.tc : Thread nD τ).loc main_arg1))
      (m ((c.tc : Thread nD τ).loc main_arg2))) (m ((c.tc : Thread nD τ).loc main_arg3)))) (m ((c.tc : Thread nD τ).loc main_arg4))
      (m ((c.tc : Thread nD τ).loc main_arg5)) := by
    unfold res_main_v35 nrmT cenT sumT upT
    rfl
  funext x
  obtain ⟨r, e, rfl⟩ : ∃ (r : Fin 256) (q : Fin 2048), x = ix2 r q := ⟨x 0, x 1, eq_ix2 x⟩
  refine (congrFun h (ix2 r e)).trans ?_
  rw [nrmT_at]
  simp only [cenT_at, sumT_at, upT_at]
  rfl

end Cert.Own.MlpSRef

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4Ideal.Skeleton
public import proofs.«01_k».proof.Proof.Gen.Kernel4.Skeleton
public import proofs.«01_k».proof.Proof.Gen.Reference4Ideal.Run
public import proofs.«01_k».proof.Proof.Gen.Reference4Ideal
public import proofs.«01_k».proof.Proof.Gen.Kernel4Ideal.Frame
public import proofs.«01_k».proof.Proof.Gen.Kernel4Ideal
public import proofs.«01_k».proof.Proof.Gen.Kernel4.Frame
public import proofs.«01_k».proof.Proof.Gen.Kernel4
public import proofs.«01_k».proof.Proof.Gen.Kernel5
public import proofs.«01_k».proof.Proof.Gen.Kernel5.Frame
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6.Skeleton
public import proofs.«01_k».proof.Proof.Gen.Kernel6Ideal
public import proofs.«01_k».proof.Proof.Gen.Kernel6Ideal.Frame
public import proofs.«01_k».proof.Proof.Gen.Kernel6Ideal.Skeleton
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7.Skeleton
public import proofs.«01_k».proof.Proof.Gen.Kernel7Ideal
public import proofs.«01_k».proof.Proof.Gen.Kernel7Ideal.Frame
public import proofs.«01_k».proof.Proof.Gen.Kernel7Ideal.Skeleton
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8.Skeleton
public import proofs.«01_k».proof.Proof.Gen.Kernel8Ideal
public import proofs.«01_k».proof.Proof.Gen.Kernel8Ideal.Frame
public import proofs.«01_k».proof.Proof.Gen.Kernel8Ideal.Skeleton
public import proofs.«01_k».proof.Proof.Gen.Kernel8Ideal.Value
public import proofs.«01_k».proof.Proof.Gen.Reference8Ideal
public import proofs.«01_k».proof.Proof.Gen.Reference8Ideal.Run
public import proofs.«01_k».proof.Proof.RetKernel
public import proofs.«01_k».proof.Proof.RetRef
public import proofs.«01_k».proof.Proof.MixKernel
public import proofs.«01_k».proof.Proof.MixRef
public import proofs.«01_k».proof.Proof.MlpKernel
public import proofs.«01_k».proof.Proof.MlpRef
public import proofs.«01_k».proof.Proof.ProjFrame
public import proofs.«01_k».proof.Proof.ProjKernel
public import proofs.«01_k».proof.Proof.ProjRef
public import proofs.«01_k».proof.Proof.PrjSFrame
public import proofs.«01_k».proof.Proof.PrjSKernel
public import proofs.«01_k».proof.Proof.PrjSRef
public import proofs.«01_k».proof.Proof.RetSKernel
public import proofs.«01_k».proof.Proof.RetSRef
public import proofs.«01_k».proof.Proof.MixSKernel
public import proofs.«01_k».proof.Proof.MixSRef
public import proofs.«01_k».proof.Proof.MlpSKernel
public import proofs.«01_k».proof.Proof.MlpSRef
public import Idealize.ShloMosaic.Lib.Quiescent
public import Idealize.ShloMosaic.Adequacy
public import Idealize.ShloMosaic.Init

@[expose] public section

noncomputable section

namespace Cert.Proof

open Idealize.ShloMosaic Idealize.SL.Sem

/-- The looped reference leaves its arguments as they were; it declares no semaphore, so every counter is zero. -/
theorem frame_ret_ref : Cert.quiescent_ReferenceIdeal := fun m ρ _ =>
  (θ_run Cert.ReferenceIdeal.defs _ _).mono (fun r h => ⟨fun c => (h c).2.2,
      sem_eq_zero_of_no_sems (by decide) r.2⟩)
    (Cert.Own.RetRef.run m ρ)

/-- From memories that agree on the arguments the kernel and the reference end at the same gated rows and the same
    states. -/
theorem algebraic_ret : Cert.algebraic_KernelIdeal_ReferenceIdeal := fun m ρ m' ρ' _ hag =>
  ⟨_, _, Cert.KernelIdeal.Val.run m ρ,
    (θ_run Cert.ReferenceIdeal.defs _ _).mono (fun _ h c => ⟨(h c).1.trans (by rw [(hag c).1, (hag c).2]),
      (h c).2.1.trans (by rw [(hag c).1]), (h c).2.2⟩)
    (Cert.Own.RetRef.run m' ρ')⟩

/-- The reference of the mix leaves its arguments as they were. -/
theorem frame_mix_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- From memories that agree on the arguments the mix's kernel and reference end at the same normalised rows, in both
    results. -/
theorem algebraic_mix : Cert.algebraic_Kernel2Ideal_Reference2Ideal := fun m ρ m' ρ' _ hag =>
  ⟨_, _, Cert.Kernel2Ideal.Val.run m ρ,
    (θ_run Cert.Reference2Ideal.defs _ _).mono (fun _ h c => by
      obtain ⟨h0, h1, h2, h3, h4, h5, h6, h7, h8⟩ := hag c
      refine ⟨(h c).1.trans ?_, (h c).2.1.trans ?_, (h c).2.2⟩
      · rw [Cert.Own.MixRef.res_h, h0, h1, h2, h3, h4, h5, h6, h7, h8]
        rfl
      · rw [Cert.Own.MixRef.res_hb, h0, h1, h2, h3, h4, h5, h6, h7, h8]
        rfl)
    (Cert.Reference2Ideal.Value.run m' ρ')⟩

/-- The reference of the network leaves its arguments as they were. -/
theorem frame_mlp_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- From memories that agree on the arguments the network's kernel and reference end at the same rows. -/
theorem algebraic_mlp : Cert.algebraic_Kernel3Ideal_Reference3Ideal := fun m ρ m' ρ' _ hag =>
  ⟨_, Cert.Kernel3Ideal.Val.run m ρ,
    (θ_run Cert.Reference3Ideal.defs _ _).mono (fun _ h c => by
      obtain ⟨h0, h1, h2, h3, h4, h5⟩ := hag c
      refine ⟨(h c).1.trans ?_, (h c).2⟩
      rw [Cert.Own.MlpRef.res_eq, h0, h1, h2, h3, h4, h5]
      rfl)
    (Cert.Reference3Ideal.Value.run m' ρ')⟩

/-- The reference of the projection leaves its arguments as they were. -/
theorem frame_proj_ref : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

/-- From memories that agree on the arguments the projection's kernel and reference end at the same projected rows, keys and
    values. -/
theorem algebraic_proj : Cert.algebraic_Kernel4Ideal_Reference4Ideal := fun m ρ m' ρ' _ hag =>
  ⟨_, _, _, Cert.Kernel4Ideal.Val.run m ρ,
    (θ_run Cert.Reference4Ideal.defs _ _).mono (fun _ h c => by
      obtain ⟨h0, h1⟩ := hag c
      refine ⟨(h c).1.trans ?_, (h c).2.1.trans ?_, (h c).2.2.1.trans ?_, (h c).2.2.2⟩
      · rw [Cert.Own.PrjRef.res_eq, h0, h1]
        rfl
      · rw [h0, h1]
        exact Cert.Own.PrjRef.kT_eq _ _
      · rw [h0, h1]
        exact Cert.Own.PrjRef.vT_eq _ _)
    (Cert.Reference4Ideal.Value.run m' ρ')⟩

/-- The sample's reference of the projection leaves its arguments as they were. -/
theorem frame_proj_s_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run m ρ)

/-- From memories that agree on the arguments, for the sample, the projection's kernel and reference end at the same projected rows, keys and
    values. -/
theorem algebraic_proj_s : Cert.algebraic_Kernel5Ideal_Reference5Ideal := fun m ρ m' ρ' _ hag =>
  ⟨_, _, _, Cert.Kernel5Ideal.Val.run m ρ,
    (θ_run Cert.Reference5Ideal.defs _ _).mono (fun _ h c => by
      obtain ⟨h0, h1⟩ := hag c
      refine ⟨(h c).1.trans ?_, (h c).2.1.trans ?_, (h c).2.2.1.trans ?_, (h c).2.2.2⟩
      · rw [Cert.Own.PrjSRef.res_eq, h0, h1]
        rfl
      · rw [h0, h1]
        exact Cert.Own.PrjSRef.kT_eq _ _
      · rw [h0, h1]
        exact Cert.Own.PrjSRef.vT_eq _ _)
    (Cert.Reference5Ideal.Value.run m' ρ')⟩

/-- The reference of the sample's retention leaves its arguments as they were. -/
theorem frame_ret_s_ref : Cert.quiescent_Reference6Ideal := fun m ρ _ =>
  (θ_run Cert.Reference6Ideal.defs _ _).mono (fun r h => ⟨fun c => (h c).2.2, sem_eq_zero_of_no_sems (by decide) r.2⟩)
    (Cert.Own.RetSRef.run m ρ)

/-- On memories that agree on the projection's rows, the state before and the gate weights, kernel and reference of the
    sample's retention return the same gated rows and the same state. -/
theorem algebraic_ret_s : Cert.algebraic_Kernel6Ideal_Reference6Ideal := fun m ρ m' ρ' _ hag =>
  ⟨_, _, Cert.Kernel6Ideal.Val.run m ρ,
    (θ_run Cert.Reference6Ideal.defs _ _).mono (fun _ h c => by
      obtain ⟨h0, h1, h2⟩ := hag c
      exact ⟨(h c).1.trans (by rw [h0, h1, h2]), (h c).2.1.trans (by rw [h0, h1]), (h c).2.2⟩)
    (Cert.Own.RetSRef.run m' ρ')⟩

/-- The sample's reference of the mix leaves its arguments as they were. -/
theorem frame_mix_s_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

/-- From memories that agree on the arguments, for the sample, the mix's kernel and reference end at the same normalised rows, in both
    results. -/
theorem algebraic_mix_s : Cert.algebraic_Kernel7Ideal_Reference7Ideal := fun m ρ m' ρ' _ hag =>
  ⟨_, _, Cert.Kernel7Ideal.Val.run m ρ,
    (θ_run Cert.Reference7Ideal.defs _ _).mono (fun _ h c => by
      obtain ⟨h0, h1, h2, h3, h4, h5, h6, h7, h8⟩ := hag c
      refine ⟨(h c).1.trans ?_, (h c).2.1.trans ?_, (h c).2.2⟩
      · rw [Cert.Own.MixSRef.res_h, h0, h1, h2, h3, h4, h5, h6, h7, h8]
        rfl
      · rw [Cert.Own.MixSRef.res_hb, h0, h1, h2, h3, h4, h5, h6, h7, h8]
        rfl)
    (Cert.Reference7Ideal.Value.run m' ρ')⟩

/-- The sample's reference of the network leaves its arguments as they were. -/
theorem frame_mlp_s_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- From memories that agree on the arguments, for the sample, the network's kernel and reference end at the same rows. -/
theorem algebraic_mlp_s : Cert.algebraic_Kernel8Ideal_Reference8Ideal := fun m ρ m' ρ' _ hag =>
  ⟨_, Cert.Kernel8Ideal.Val.run m ρ,
    (θ_run Cert.Reference8Ideal.defs _ _).mono (fun _ h c => by
      obtain ⟨h0, h1, h2, h3, h4, h5⟩ := hag c
      refine ⟨(h c).1.trans ?_, (h c).2⟩
      rw [Cert.Own.MlpSRef.res_eq, h0, h1, h2, h3, h4, h5]
      rfl)
    (Cert.Reference8Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, frame_ret_ref,
  fun m ρ _ => Cert.Kernel2.Gen.frame m ρ, fun m ρ _ => Cert.Kernel2Ideal.Gen.frame m ρ, frame_mix_ref,
  fun m ρ _ => Cert.Kernel3.Gen.frame m ρ, fun m ρ _ => Cert.Kernel3Ideal.Gen.frame m ρ, frame_mlp_ref,
  fun m ρ _ => Cert.Kernel4.Proj.frame m ρ, fun m ρ _ => Cert.Kernel4Ideal.Proj.frame m ρ, frame_proj_ref,
  fun m ρ _ => Cert.Kernel5.Proj.frame m ρ, fun m ρ _ => Cert.Kernel5Ideal.Proj.frame m ρ, frame_proj_s_ref,
  fun m ρ _ => Cert.Kernel6.Gen.frame m ρ, fun m ρ _ => Cert.Kernel6Ideal.Gen.frame m ρ, frame_ret_s_ref,
  fun m ρ _ => Cert.Kernel7.Gen.frame m ρ, fun m ρ _ => Cert.Kernel7Ideal.Gen.frame m ρ, frame_mix_s_ref,
  fun m ρ _ => Cert.Kernel8.Gen.frame m ρ, fun m ρ _ => Cert.Kernel8Ideal.Gen.frame m ρ, frame_mlp_s_ref,
  trivial, algebraic_ret, trivial, algebraic_mix, trivial, algebraic_mlp, trivial, algebraic_proj,
  trivial, algebraic_proj_s, trivial, algebraic_ret_s, trivial, algebraic_mix_s, trivial, algebraic_mlp_s⟩

end Cert.Proof

end
